-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_finite_mla [hPre_finite_mla : Cert.Pre_finite_mla.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_finite_mla.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2)) (m ((c.tc : Thread Cert.KernelMlaIdeal.nD Cert.KernelMlaIdeal.τ).loc Cert.KernelMlaIdeal.main_arg3)) (m ((c.tc : Thread Cert.KernelMlaIdeal.nD Cert.KernelMlaIdeal.τ).loc Cert.KernelMlaIdeal.main_arg4))) = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_finite_mla [hPre_finite_mla : Cert.Pre_finite_mla.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_finite_mla.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2)) (m ((c.tc : Thread Cert.ReferenceMlaIdeal.nD Cert.ReferenceMlaIdeal.τ).loc Cert.ReferenceMlaIdeal.main_arg3)) (m ((c.tc : Thread Cert.ReferenceMlaIdeal.nD Cert.ReferenceMlaIdeal.τ).loc Cert.ReferenceMlaIdeal.main_arg4))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))) = (fun _ => 1#1)

def Pre_KernelQk (m : (ℓ : Loc Cert.KernelQk.nD Cert.KernelQk.τ Cert.KernelQk.sig) → Buf (Elt Bits) ℓ) : Prop :=
  True

def Pre_KernelQkIdeal (m : (ℓ : Loc Cert.KernelQkIdeal.nD Cert.KernelQkIdeal.τ Cert.KernelQkIdeal.sig) → Buf (Elt Ideal) ℓ) : Prop :=
  True

def Pre_KernelQkIdeal_finite_qk [hPre_finite_qk : Cert.Pre_finite_qk.Facts] (m : (ℓ : Loc Cert.KernelQkIdeal.nD Cert.KernelQkIdeal.τ Cert.KernelQkIdeal.sig) → Buf (Elt Ideal) ℓ) : Prop :=
  ∀ c : Dev Cert.KernelQkIdeal.nD,
    (Cert.Pre_finite_qk.fn (F := Ideal) (m ((c.tc : Thread Cert.KernelQkIdeal.nD Cert.KernelQkIdeal.τ).loc Cert.KernelQkIdeal.main_arg0)) (m ((c.tc : Thread Cert.KernelQkIdeal.nD Cert.KernelQkIdeal.τ).loc Cert.KernelQkIdeal.main_arg1)) (m ((c.tc : Thread Cert.KernelQkIdeal.nD Cert.KernelQkIdeal.τ).loc Cert.KernelQkIdeal.main_arg2)) (m ((c.tc : Thread Cert.KernelQkIdeal.nD Cert.KernelQkIdeal.τ).loc Cert.KernelQkIdeal.main_arg3)) (m ((c.tc : Thread Cert.KernelQkIdeal.nD Cert.KernelQkIdeal.τ).loc Cert.KernelQkIdeal.main_arg4)) (m ((c.tc : Thread Cert.KernelQkIdeal.nD Cert.KernelQkIdeal.τ).loc Cert.KernelQkIdeal.main_arg5)) (m ((c.tc : Thread Cert.KernelQkIdeal.nD Cert.KernelQkIdeal.τ).loc Cert.KernelQkIdeal.main_arg6)) (m ((c.tc : Thread Cert.KernelQkIdeal.nD Cert.KernelQkIdeal.τ).loc Cert.KernelQkIdeal.main_arg7))) = (fun _ => 1#1)

def Pre_ReferenceQkIdeal (m : (ℓ : Loc Cert.ReferenceQkIdeal.nD Cert.ReferenceQkIdeal.τ Cert.ReferenceQkIdeal.sig) → Buf (Elt Ideal) ℓ) : Prop :=
  True

def Pre_ReferenceQkIdeal_finite_qk [hPre_finite_qk : Cert.Pre_finite_qk.Facts] (m : (ℓ : Loc Cert.ReferenceQkIdeal.nD Cert.ReferenceQkIdeal.τ Cert.ReferenceQkIdeal.sig) → Buf (Elt Ideal) ℓ) : Prop :=
  ∀ c : Dev Cert.ReferenceQkIdeal.nD,
    (Cert.Pre_finite_qk.fn (F := Ideal) (m ((c.tc : Thread Cert.ReferenceQkIdeal.nD Cert.ReferenceQkIdeal.τ).loc Cert.ReferenceQkIdeal.main_arg0)) (m ((c.tc : Thread Cert.ReferenceQkIdeal.nD Cert.ReferenceQkIdeal.τ).loc Cert.ReferenceQkIdeal.main_arg1)) (m ((c.tc : Thread Cert.ReferenceQkIdeal.nD Cert.ReferenceQkIdeal.τ).loc Cert.ReferenceQkIdeal.main_arg2)) (m ((c.tc : Thread Cert.ReferenceQkIdeal.nD Cert.ReferenceQkIdeal.τ).loc Cert.ReferenceQkIdeal.main_arg3)) (m ((c.tc : Thread Cert.ReferenceQkIdeal.nD Cert.ReferenceQkIdeal.τ).loc Cert.ReferenceQkIdeal.main_arg4)) (m ((c.tc : Thread Cert.ReferenceQkIdeal.nD Cert.ReferenceQkIdeal.τ).loc Cert.ReferenceQkIdeal.main_arg5)) (m ((c.tc : Thread Cert.ReferenceQkIdeal.nD Cert.ReferenceQkIdeal.τ).loc Cert.ReferenceQkIdeal.main_arg6)) (m ((c.tc : Thread Cert.ReferenceQkIdeal.nD Cert.ReferenceQkIdeal.τ).loc Cert.ReferenceQkIdeal.main_arg7))) = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2)
      ∧ r.2.mem ((c.tc : Thread Cert.KernelMla.nD Cert.KernelMla.τ).loc Cert.KernelMla.main_arg3) = m ((c.tc : Thread Cert.KernelMla.nD Cert.KernelMla.τ).loc Cert.KernelMla.main_arg3)
      ∧ r.2.mem ((c.tc : Thread Cert.KernelMla.nD Cert.KernelMla.τ).loc Cert.KernelMla.main_arg4) = m ((c.tc : Thread Cert.KernelMla.nD Cert.KernelMla.τ).loc Cert.KernelMla.main_arg4))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
      ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
      ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ r.2.sem = fun _ => 0)

def quiescent_KernelMlaIdeal_pre_finite_mla [hKernelMlaIdeal : Cert.KernelMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_finite_mla m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
      ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
      ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2)
      ∧ r.2.mem ((c.tc : Thread Cert.ReferenceMlaIdeal.nD Cert.ReferenceMlaIdeal.τ).loc Cert.ReferenceMlaIdeal.main_arg3) = m ((c.tc : Thread Cert.ReferenceMlaIdeal.nD Cert.ReferenceMlaIdeal.τ).loc Cert.ReferenceMlaIdeal.main_arg3)
      ∧ r.2.mem ((c.tc : Thread Cert.ReferenceMlaIdeal.nD Cert.ReferenceMlaIdeal.τ).loc Cert.ReferenceMlaIdeal.main_arg4) = m ((c.tc : Thread Cert.ReferenceMlaIdeal.nD Cert.ReferenceMlaIdeal.τ).loc Cert.ReferenceMlaIdeal.main_arg4))
      ∧ r.2.sem = fun _ => 0)

def quiescent_ReferenceMlaIdeal_pre_finite_mla [hReferenceMlaIdeal : Cert.ReferenceMlaIdeal.Facts] [hPre_finite_mla : Cert.Pre_finite_mla.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_finite_mla m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2)
      ∧ r.2.mem ((c.tc : Thread Cert.ReferenceMlaIdeal.nD Cert.ReferenceMlaIdeal.τ).loc Cert.ReferenceMlaIdeal.main_arg3) = m ((c.tc : Thread Cert.ReferenceMlaIdeal.nD Cert.ReferenceMlaIdeal.τ).loc Cert.ReferenceMlaIdeal.main_arg3)
      ∧ r.2.mem ((c.tc : Thread Cert.ReferenceMlaIdeal.nD Cert.ReferenceMlaIdeal.τ).loc Cert.ReferenceMlaIdeal.main_arg4) = m ((c.tc : Thread Cert.ReferenceMlaIdeal.nD Cert.ReferenceMlaIdeal.τ).loc Cert.ReferenceMlaIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelQk [hKernelQk : Cert.KernelQk.Facts] : Prop :=
  ∀ (m : (ℓ : Loc Cert.KernelQk.nD Cert.KernelQk.τ Cert.KernelQk.sig) → Buf (Elt Bits) ℓ) (g : Dev Cert.KernelQk.nD → PrngReg), Pre_KernelQk m →
    θ_run (Cert.KernelQk.defs (F := Bits)) (onTc (τ := Cert.KernelQk.τ) (Cert.KernelQk.main (F := Bits))) ⟨m, fun _ => 0, g⟩ (fun r => (∀ c : Dev Cert.KernelQk.nD,
      r.2.mem ((c.tc : Thread Cert.KernelQk.nD Cert.KernelQk.τ).loc Cert.KernelQk.main_arg0) = m ((c.tc : Thread Cert.KernelQk.nD Cert.KernelQk.τ).loc Cert.KernelQk.main_arg0)
      ∧ r.2.mem ((c.tc : Thread Cert.KernelQk.nD Cert.KernelQk.τ).loc Cert.KernelQk.main_arg1) = m ((c.tc : Thread Cert.KernelQk.nD Cert.KernelQk.τ).loc Cert.KernelQk.main_arg1)
      ∧ r.2.mem ((c.tc : Thread Cert.KernelQk.nD Cert.KernelQk.τ).loc Cert.KernelQk.main_arg2) = m ((c.tc : Thread Cert.KernelQk.nD Cert.KernelQk.τ).loc Cert.KernelQk.main_arg2)
      ∧ r.2.mem ((c.tc : Thread Cert.KernelQk.nD Cert.KernelQk.τ).loc Cert.KernelQk.main_arg3) = m ((c.tc : Thread Cert.KernelQk.nD Cert.KernelQk.τ).loc Cert.KernelQk.main_arg3)
      ∧ r.2.mem ((c.tc : Thread Cert.KernelQk.nD Cert.KernelQk.τ).loc Cert.KernelQk.main_arg4) = m ((c.tc : Thread Cert.KernelQk.nD Cert.KernelQk.τ).loc Cert.KernelQk.main_arg4)
      ∧ r.2.mem ((c.tc : Thread Cert.KernelQk.nD Cert.KernelQk.τ).loc Cert.KernelQk.main_arg5) = m ((c.tc : Thread Cert.KernelQk.nD Cert.KernelQk.τ).loc Cert.KernelQk.main_arg5)
      ∧ r.2.mem ((c.tc : Thread Cert.KernelQk.nD Cert.KernelQk.τ).loc Cert.KernelQk.main_arg6) = m ((c.tc : Thread Cert.KernelQk.nD Cert.KernelQk.τ).loc Cert.KernelQk.main_arg6)
      ∧ r.2.mem ((c.tc : Thread Cert.KernelQk.nD Cert.KernelQk.τ).loc Cert.KernelQk.main_arg7) = m ((c.tc : Thread Cert.KernelQk.nD Cert.KernelQk.τ).loc Cert.KernelQk.main_arg7))
      ∧ r.2.sem = fun _ => 0)

def quiescent_KernelQkIdeal [hKernelQkIdeal : Cert.KernelQkIdeal.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
      ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
      ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
      ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
      ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
      ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7))
      ∧ r.2.sem = fun _ => 0)

def quiescent_KernelQkIdeal_pre_finite_qk [hKernelQkIdeal : Cert.KernelQkIdeal.Facts] [hPre_finite_qk : Cert.Pre_finite_qk.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal_finite_qk m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
      ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
      ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
      ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
      ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
      ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7))
      ∧ r.2.sem = fun _ => 0)

def quiescent_ReferenceQkIdeal [hReferenceQkIdeal : Cert.ReferenceQkIdeal.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2)
      ∧ r.2.mem ((c.tc : Thread Cert.ReferenceQkIdeal.nD Cert.ReferenceQkIdeal.τ).loc Cert.ReferenceQkIdeal.main_arg3) = m ((c.tc : Thread Cert.ReferenceQkIdeal.nD Cert.ReferenceQkIdeal.τ).loc Cert.ReferenceQkIdeal.main_arg3)
      ∧ r.2.mem ((c.tc : Thread Cert.ReferenceQkIdeal.nD Cert.ReferenceQkIdeal.τ).loc Cert.ReferenceQkIdeal.main_arg4) = m ((c.tc : Thread Cert.ReferenceQkIdeal.nD Cert.ReferenceQkIdeal.τ).loc Cert.ReferenceQkIdeal.main_arg4)
      ∧ r.2.mem ((c.tc : Thread Cert.ReferenceQkIdeal.nD Cert.ReferenceQkIdeal.τ).loc Cert.ReferenceQkIdeal.main_arg5) = m ((c.tc : Thread Cert.ReferenceQkIdeal.nD Cert.ReferenceQkIdeal.τ).loc Cert.ReferenceQkIdeal.main_arg5)
      ∧ r.2.mem ((c.tc : Thread Cert.ReferenceQkIdeal.nD Cert.ReferenceQkIdeal.τ).loc Cert.ReferenceQkIdeal.main_arg6) = m ((c.tc : Thread Cert.ReferenceQkIdeal.nD Cert.ReferenceQkIdeal.τ).loc Cert.ReferenceQkIdeal.main_arg6)
      ∧ r.2.mem ((c.tc : Thread Cert.ReferenceQkIdeal.nD Cert.ReferenceQkIdeal.τ).loc Cert.ReferenceQkIdeal.main_arg7) = m ((c.tc : Thread Cert.ReferenceQkIdeal.nD Cert.ReferenceQkIdeal.τ).loc Cert.ReferenceQkIdeal.main_arg7))
      ∧ r.2.sem = fun _ => 0)

def quiescent_ReferenceQkIdeal_pre_finite_qk [hReferenceQkIdeal : Cert.ReferenceQkIdeal.Facts] [hPre_finite_qk : Cert.Pre_finite_qk.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal_finite_qk m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2)
      ∧ r.2.mem ((c.tc : Thread Cert.ReferenceQkIdeal.nD Cert.ReferenceQkIdeal.τ).loc Cert.ReferenceQkIdeal.main_arg3) = m ((c.tc : Thread Cert.ReferenceQkIdeal.nD Cert.ReferenceQkIdeal.τ).loc Cert.ReferenceQkIdeal.main_arg3)
      ∧ r.2.mem ((c.tc : Thread Cert.ReferenceQkIdeal.nD Cert.ReferenceQkIdeal.τ).loc Cert.ReferenceQkIdeal.main_arg4) = m ((c.tc : Thread Cert.ReferenceQkIdeal.nD Cert.ReferenceQkIdeal.τ).loc Cert.ReferenceQkIdeal.main_arg4)
      ∧ r.2.mem ((c.tc : Thread Cert.ReferenceQkIdeal.nD Cert.ReferenceQkIdeal.τ).loc Cert.ReferenceQkIdeal.main_arg5) = m ((c.tc : Thread Cert.ReferenceQkIdeal.nD Cert.ReferenceQkIdeal.τ).loc Cert.ReferenceQkIdeal.main_arg5)
      ∧ r.2.mem ((c.tc : Thread Cert.ReferenceQkIdeal.nD Cert.ReferenceQkIdeal.τ).loc Cert.ReferenceQkIdeal.main_arg6) = m ((c.tc : Thread Cert.ReferenceQkIdeal.nD Cert.ReferenceQkIdeal.τ).loc Cert.ReferenceQkIdeal.main_arg6)
      ∧ r.2.mem ((c.tc : Thread Cert.ReferenceQkIdeal.nD Cert.ReferenceQkIdeal.τ).loc Cert.ReferenceQkIdeal.main_arg7) = m ((c.tc : Thread Cert.ReferenceQkIdeal.nD Cert.ReferenceQkIdeal.τ).loc Cert.ReferenceQkIdeal.main_arg7))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5)
      ∧ r.2.mem ((c.tc : Thread Cert.KernelPre.nD Cert.KernelPre.τ).loc Cert.KernelPre.main_arg6) = m ((c.tc : Thread Cert.KernelPre.nD Cert.KernelPre.τ).loc Cert.KernelPre.main_arg6)
      ∧ r.2.mem ((c.tc : Thread Cert.KernelPre.nD Cert.KernelPre.τ).loc Cert.KernelPre.main_arg7) = m ((c.tc : Thread Cert.KernelPre.nD Cert.KernelPre.τ).loc Cert.KernelPre.main_arg7)
      ∧ r.2.mem ((c.tc : Thread Cert.KernelPre.nD Cert.KernelPre.τ).loc Cert.KernelPre.main_arg8) = m ((c.tc : Thread Cert.KernelPre.nD Cert.KernelPre.τ).loc Cert.KernelPre.main_arg8)
      ∧ r.2.mem ((c.tc : Thread Cert.KernelPre.nD Cert.KernelPre.τ).loc Cert.KernelPre.main_arg9) = m ((c.tc : Thread Cert.KernelPre.nD Cert.KernelPre.τ).loc Cert.KernelPre.main_arg9)
      ∧ r.2.mem ((c.tc : Thread Cert.KernelPre.nD Cert.KernelPre.τ).loc Cert.KernelPre.main_arg10) = m ((c.tc : Thread Cert.KernelPre.nD Cert.KernelPre.τ).loc Cert.KernelPre.main_arg10)
      ∧ r.2.mem ((c.tc : Thread Cert.KernelPre.nD Cert.KernelPre.τ).loc Cert.KernelPre.main_arg11) = m ((c.tc : Thread Cert.KernelPre.nD Cert.KernelPre.τ).loc Cert.KernelPre.main_arg11)
      ∧ r.2.mem ((c.tc : Thread Cert.KernelPre.nD Cert.KernelPre.τ).loc Cert.KernelPre.main_arg12) = m ((c.tc : Thread Cert.KernelPre.nD Cert.KernelPre.τ).loc Cert.KernelPre.main_arg12)
      ∧ r.2.mem ((c.tc : Thread Cert.KernelPre.nD Cert.KernelPre.τ).loc Cert.KernelPre.main_arg13) = m ((c.tc : Thread Cert.KernelPre.nD Cert.KernelPre.τ).loc Cert.KernelPre.main_arg13)
      ∧ r.2.mem ((c.tc : Thread Cert.KernelPre.nD Cert.KernelPre.τ).loc Cert.KernelPre.main_arg14) = m ((c.tc : Thread Cert.KernelPre.nD Cert.KernelPre.τ).loc Cert.KernelPre.main_arg14))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
      ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
      ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10)
      ∧ r.2.mem ((c.tc : Thread Cert.KernelPreIdeal.nD Cert.KernelPreIdeal.τ).loc Cert.KernelPreIdeal.main_arg11) = m ((c.tc : Thread Cert.KernelPreIdeal.nD Cert.KernelPreIdeal.τ).loc Cert.KernelPreIdeal.main_arg11)
      ∧ r.2.mem ((c.tc : Thread Cert.KernelPreIdeal.nD Cert.KernelPreIdeal.τ).loc Cert.KernelPreIdeal.main_arg12) = m ((c.tc : Thread Cert.KernelPreIdeal.nD Cert.KernelPreIdeal.τ).loc Cert.KernelPreIdeal.main_arg12)
      ∧ r.2.mem ((c.tc : Thread Cert.KernelPreIdeal.nD Cert.KernelPreIdeal.τ).loc Cert.KernelPreIdeal.main_arg13) = m ((c.tc : Thread Cert.KernelPreIdeal.nD Cert.KernelPreIdeal.τ).loc Cert.KernelPreIdeal.main_arg13)
      ∧ r.2.mem ((c.tc : Thread Cert.KernelPreIdeal.nD Cert.KernelPreIdeal.τ).loc Cert.KernelPreIdeal.main_arg14) = m ((c.tc : Thread Cert.KernelPreIdeal.nD Cert.KernelPreIdeal.τ).loc Cert.KernelPreIdeal.main_arg14))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8)
      ∧ r.2.mem ((c.tc : Thread Cert.ReferencePreIdeal.nD Cert.ReferencePreIdeal.τ).loc Cert.ReferencePreIdeal.main_arg9) = m ((c.tc : Thread Cert.ReferencePreIdeal.nD Cert.ReferencePreIdeal.τ).loc Cert.ReferencePreIdeal.main_arg9)
      ∧ r.2.mem ((c.tc : Thread Cert.ReferencePreIdeal.nD Cert.ReferencePreIdeal.τ).loc Cert.ReferencePreIdeal.main_arg10) = m ((c.tc : Thread Cert.ReferencePreIdeal.nD Cert.ReferencePreIdeal.τ).loc Cert.ReferencePreIdeal.main_arg10)
      ∧ r.2.mem ((c.tc : Thread Cert.ReferencePreIdeal.nD Cert.ReferencePreIdeal.τ).loc Cert.ReferencePreIdeal.main_arg11) = m ((c.tc : Thread Cert.ReferencePreIdeal.nD Cert.ReferencePreIdeal.τ).loc Cert.ReferencePreIdeal.main_arg11)
      ∧ r.2.mem ((c.tc : Thread Cert.ReferencePreIdeal.nD Cert.ReferencePreIdeal.τ).loc Cert.ReferencePreIdeal.main_arg12) = m ((c.tc : Thread Cert.ReferencePreIdeal.nD Cert.ReferencePreIdeal.τ).loc Cert.ReferencePreIdeal.main_arg12)
      ∧ r.2.mem ((c.tc : Thread Cert.ReferencePreIdeal.nD Cert.ReferencePreIdeal.τ).loc Cert.ReferencePreIdeal.main_arg13) = m ((c.tc : Thread Cert.ReferencePreIdeal.nD Cert.ReferencePreIdeal.τ).loc Cert.ReferencePreIdeal.main_arg13)
      ∧ r.2.mem ((c.tc : Thread Cert.ReferencePreIdeal.nD Cert.ReferencePreIdeal.τ).loc Cert.ReferencePreIdeal.main_arg14) = m ((c.tc : Thread Cert.ReferencePreIdeal.nD Cert.ReferencePreIdeal.τ).loc Cert.ReferencePreIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v17_0)) (v1 : (c : Dev Cert.KernelInIdeal.nD) → Buf (Elt Ideal) ((c.tc : Thread Cert.KernelInIdeal.nD Cert.KernelInIdeal.τ).loc Cert.KernelInIdeal.main_v17_1)) (v2 : (c : Dev Cert.KernelInIdeal.nD) → Buf (Elt Ideal) ((c.tc : Thread Cert.KernelInIdeal.nD Cert.KernelInIdeal.τ).loc Cert.KernelInIdeal.main_v17_2)) (v3 : (c : Dev Cert.KernelInIdeal.nD) → Buf (Elt Ideal) ((c.tc : Thread Cert.KernelInIdeal.nD Cert.KernelInIdeal.τ).loc Cert.KernelInIdeal.main_v17_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v17_0) = v0 c
          ∧ r.2.mem ((c.tc : Thread Cert.KernelInIdeal.nD Cert.KernelInIdeal.τ).loc Cert.KernelInIdeal.main_v17_1) = v1 c
          ∧ r.2.mem ((c.tc : Thread Cert.KernelInIdeal.nD Cert.KernelInIdeal.τ).loc Cert.KernelInIdeal.main_v17_2) = v2 c
          ∧ r.2.mem ((c.tc : Thread Cert.KernelInIdeal.nD Cert.KernelInIdeal.τ).loc Cert.KernelInIdeal.main_v17_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v50) = v0 c
          ∧ r.2.mem ((c.tc : Thread Cert.ReferenceInIdeal.nD Cert.ReferenceInIdeal.τ).loc Cert.ReferenceInIdeal.main_v33) = v1 c
          ∧ r.2.mem ((c.tc : Thread Cert.ReferenceInIdeal.nD Cert.ReferenceInIdeal.τ).loc Cert.ReferenceInIdeal.main_v28) = v2 c
          ∧ r.2.mem ((c.tc : Thread Cert.ReferenceInIdeal.nD Cert.ReferenceInIdeal.τ).loc Cert.ReferenceInIdeal.main_v25) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)) →
    ∃ (v0 : (c : Dev Cert.KernelMidIdeal.nD) → Buf (Elt Ideal) ((c.tc : Thread Cert.KernelMidIdeal.nD Cert.KernelMidIdeal.τ).loc Cert.KernelMidIdeal.main_v13_0)) (v1 : (c : Dev Cert.KernelMidIdeal.nD) → Buf (Elt Ideal) ((c.tc : Thread Cert.KernelMidIdeal.nD Cert.KernelMidIdeal.τ).loc Cert.KernelMidIdeal.main_v13_1)) (v2 : (c : Dev Cert.KernelMidIdeal.nD) → Buf (Elt Ideal) ((c.tc : Thread Cert.KernelMidIdeal.nD Cert.KernelMidIdeal.τ).loc Cert.KernelMidIdeal.main_v13_2)) (v3 : (c : Dev Cert.KernelMidIdeal.nD) → Buf (Elt Ideal) ((c.tc : Thread Cert.KernelMidIdeal.nD Cert.KernelMidIdeal.τ).loc Cert.KernelMidIdeal.main_v13_3)) (v4 : (c : Dev Cert.KernelMidIdeal.nD) → Buf (Elt Ideal) ((c.tc : Thread Cert.KernelMidIdeal.nD Cert.KernelMidIdeal.τ).loc Cert.KernelMidIdeal.main_v13_4)) (v5 : (c : Dev Cert.KernelMidIdeal.nD) → Buf (Elt Ideal) ((c.tc : Thread Cert.KernelMidIdeal.nD Cert.KernelMidIdeal.τ).loc Cert.KernelMidIdeal.main_v13_5)) (v6 : (c : Dev Cert.KernelMidIdeal.nD) → Buf (Elt Ideal) ((c.tc : Thread Cert.KernelMidIdeal.nD Cert.KernelMidIdeal.τ).loc Cert.KernelMidIdeal.main_v13_6)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v13_0) = v0 c
          ∧ r.2.mem ((c.tc : Thread Cert.KernelMidIdeal.nD Cert.KernelMidIdeal.τ).loc Cert.KernelMidIdeal.main_v13_1) = v1 c
          ∧ r.2.mem ((c.tc : Thread Cert.KernelMidIdeal.nD Cert.KernelMidIdeal.τ).loc Cert.KernelMidIdeal.main_v13_2) = v2 c
          ∧ r.2.mem ((c.tc : Thread Cert.KernelMidIdeal.nD Cert.KernelMidIdeal.τ).loc Cert.KernelMidIdeal.main_v13_3) = v3 c
          ∧ r.2.mem ((c.tc : Thread Cert.KernelMidIdeal.nD Cert.KernelMidIdeal.τ).loc Cert.KernelMidIdeal.main_v13_4) = v4 c
          ∧ r.2.mem ((c.tc : Thread Cert.KernelMidIdeal.nD Cert.KernelMidIdeal.τ).loc Cert.KernelMidIdeal.main_v13_5) = v5 c
          ∧ r.2.mem ((c.tc : Thread Cert.KernelMidIdeal.nD Cert.KernelMidIdeal.τ).loc Cert.KernelMidIdeal.main_v13_6) = v6 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v53) = v0 c
          ∧ r.2.mem ((c.tc : Thread Cert.ReferenceMidIdeal.nD Cert.ReferenceMidIdeal.τ).loc Cert.ReferenceMidIdeal.main_v67) = v1 c
          ∧ r.2.mem ((c.tc : Thread Cert.ReferenceMidIdeal.nD Cert.ReferenceMidIdeal.τ).loc Cert.ReferenceMidIdeal.main_v66) = v2 c
          ∧ r.2.mem ((c.tc : Thread Cert.ReferenceMidIdeal.nD Cert.ReferenceMidIdeal.τ).loc Cert.ReferenceMidIdeal.main_v36) = v3 c
          ∧ r.2.mem ((c.tc : Thread Cert.ReferenceMidIdeal.nD Cert.ReferenceMidIdeal.τ).loc Cert.ReferenceMidIdeal.main_v31) = v4 c
          ∧ r.2.mem ((c.tc : Thread Cert.ReferenceMidIdeal.nD Cert.ReferenceMidIdeal.τ).loc Cert.ReferenceMidIdeal.main_v28) = v5 c
          ∧ r.2.mem ((c.tc : Thread Cert.ReferenceMidIdeal.nD Cert.ReferenceMidIdeal.τ).loc Cert.ReferenceMidIdeal.main_v59) = v6 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7))

def preserves_KernelMla_KernelMlaIdeal : Prop :=
  IdealRules.named_const.Statement Cert.KernelMlaIdeal.κ "mask" .f32 0xF149F2CA#32 ⊥

def algebraic_KernelMlaIdeal_ReferenceMlaIdeal_pre_finite_mla [hKernelMlaIdeal : Cert.KernelMlaIdeal.Facts] [hReferenceMlaIdeal : Cert.ReferenceMlaIdeal.Facts] [hPre_finite_mla : Cert.Pre_finite_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_finite_mla m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)
      ∧ m' ((c.tc : Thread Cert.ReferenceMlaIdeal.nD Cert.ReferenceMlaIdeal.τ).loc Cert.ReferenceMlaIdeal.main_arg3) = m ((c.tc : Thread Cert.KernelMlaIdeal.nD Cert.KernelMlaIdeal.τ).loc Cert.KernelMlaIdeal.main_arg3)
      ∧ m' ((c.tc : Thread Cert.ReferenceMlaIdeal.nD Cert.ReferenceMlaIdeal.τ).loc Cert.ReferenceMlaIdeal.main_arg4) = m ((c.tc : Thread Cert.KernelMlaIdeal.nD Cert.KernelMlaIdeal.τ).loc Cert.KernelMlaIdeal.main_arg4)) →
    ∃ (v0 : (c : Dev Cert.KernelMlaIdeal.nD) → Buf (Elt Ideal) ((c.tc : Thread Cert.KernelMlaIdeal.nD Cert.KernelMlaIdeal.τ).loc Cert.KernelMlaIdeal.main_v54_0)) (v1 : (c : Dev Cert.KernelMlaIdeal.nD) → Buf (Elt Ideal) ((c.tc : Thread Cert.KernelMlaIdeal.nD Cert.KernelMlaIdeal.τ).loc Cert.KernelMlaIdeal.main_v54_1)) (v2 : (c : Dev Cert.KernelMlaIdeal.nD) → Buf (Elt Ideal) ((c.tc : Thread Cert.KernelMlaIdeal.nD Cert.KernelMlaIdeal.τ).loc Cert.KernelMlaIdeal.main_v54_2)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v54_0) = v0 c
          ∧ r.2.mem ((c.tc : Thread Cert.KernelMlaIdeal.nD Cert.KernelMlaIdeal.τ).loc Cert.KernelMlaIdeal.main_v54_1) = v1 c
          ∧ r.2.mem ((c.tc : Thread Cert.KernelMlaIdeal.nD Cert.KernelMlaIdeal.τ).loc Cert.KernelMlaIdeal.main_v54_2) = v2 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2)
          ∧ r.2.mem ((c.tc : Thread Cert.KernelMlaIdeal.nD Cert.KernelMlaIdeal.τ).loc Cert.KernelMlaIdeal.main_arg3) = m ((c.tc : Thread Cert.KernelMlaIdeal.nD Cert.KernelMlaIdeal.τ).loc Cert.KernelMlaIdeal.main_arg3)
          ∧ r.2.mem ((c.tc : Thread Cert.KernelMlaIdeal.nD Cert.KernelMlaIdeal.τ).loc Cert.KernelMlaIdeal.main_arg4) = m ((c.tc : Thread Cert.KernelMlaIdeal.nD Cert.KernelMlaIdeal.τ).loc Cert.KernelMlaIdeal.main_arg4))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v77) = v0 c
          ∧ r.2.mem ((c.tc : Thread Cert.ReferenceMlaIdeal.nD Cert.ReferenceMlaIdeal.τ).loc Cert.ReferenceMlaIdeal.main_v79) = v1 c
          ∧ r.2.mem ((c.tc : Thread Cert.ReferenceMlaIdeal.nD Cert.ReferenceMlaIdeal.τ).loc Cert.ReferenceMlaIdeal.main_v80) = v2 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2)
          ∧ r.2.mem ((c.tc : Thread Cert.ReferenceMlaIdeal.nD Cert.ReferenceMlaIdeal.τ).loc Cert.ReferenceMlaIdeal.main_arg3) = m' ((c.tc : Thread Cert.ReferenceMlaIdeal.nD Cert.ReferenceMlaIdeal.τ).loc Cert.ReferenceMlaIdeal.main_arg3)
          ∧ r.2.mem ((c.tc : Thread Cert.ReferenceMlaIdeal.nD Cert.ReferenceMlaIdeal.τ).loc Cert.ReferenceMlaIdeal.main_arg4) = m' ((c.tc : Thread Cert.ReferenceMlaIdeal.nD Cert.ReferenceMlaIdeal.τ).loc Cert.ReferenceMlaIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v9_0)) (v1 : (c : Dev Cert.KernelFfnIdeal.nD) → Buf (Elt Ideal) ((c.tc : Thread Cert.KernelFfnIdeal.nD Cert.KernelFfnIdeal.τ).loc Cert.KernelFfnIdeal.main_v9_1)) (v2 : (c : Dev Cert.KernelFfnIdeal.nD) → Buf (Elt Ideal) ((c.tc : Thread Cert.KernelFfnIdeal.nD Cert.KernelFfnIdeal.τ).loc Cert.KernelFfnIdeal.main_v9_2)) (v3 : (c : Dev Cert.KernelFfnIdeal.nD) → Buf (Elt Ideal) ((c.tc : Thread Cert.KernelFfnIdeal.nD Cert.KernelFfnIdeal.τ).loc Cert.KernelFfnIdeal.main_v9_3)) (v4 : (c : Dev Cert.KernelFfnIdeal.nD) → Buf (Elt Ideal) ((c.tc : Thread Cert.KernelFfnIdeal.nD Cert.KernelFfnIdeal.τ).loc Cert.KernelFfnIdeal.main_v9_4)) (v5 : (c : Dev Cert.KernelFfnIdeal.nD) → Buf (Elt Ideal) ((c.tc : Thread Cert.KernelFfnIdeal.nD Cert.KernelFfnIdeal.τ).loc Cert.KernelFfnIdeal.main_v9_5)) (v6 : (c : Dev Cert.KernelFfnIdeal.nD) → Buf (Elt Ideal) ((c.tc : Thread Cert.KernelFfnIdeal.nD Cert.KernelFfnIdeal.τ).loc Cert.KernelFfnIdeal.main_v9_6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v9_0) = v0 c
          ∧ r.2.mem ((c.tc : Thread Cert.KernelFfnIdeal.nD Cert.KernelFfnIdeal.τ).loc Cert.KernelFfnIdeal.main_v9_1) = v1 c
          ∧ r.2.mem ((c.tc : Thread Cert.KernelFfnIdeal.nD Cert.KernelFfnIdeal.τ).loc Cert.KernelFfnIdeal.main_v9_2) = v2 c
          ∧ r.2.mem ((c.tc : Thread Cert.KernelFfnIdeal.nD Cert.KernelFfnIdeal.τ).loc Cert.KernelFfnIdeal.main_v9_3) = v3 c
          ∧ r.2.mem ((c.tc : Thread Cert.KernelFfnIdeal.nD Cert.KernelFfnIdeal.τ).loc Cert.KernelFfnIdeal.main_v9_4) = v4 c
          ∧ r.2.mem ((c.tc : Thread Cert.KernelFfnIdeal.nD Cert.KernelFfnIdeal.τ).loc Cert.KernelFfnIdeal.main_v9_5) = v5 c
          ∧ r.2.mem ((c.tc : Thread Cert.KernelFfnIdeal.nD Cert.KernelFfnIdeal.τ).loc Cert.KernelFfnIdeal.main_v9_6) = v6 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v79) = v0 c
          ∧ r.2.mem ((c.tc : Thread Cert.ReferenceFfnIdeal.nD Cert.ReferenceFfnIdeal.τ).loc Cert.ReferenceFfnIdeal.main_v82) = v1 c
          ∧ r.2.mem ((c.tc : Thread Cert.ReferenceFfnIdeal.nD Cert.ReferenceFfnIdeal.τ).loc Cert.ReferenceFfnIdeal.main_v83) = v2 c
          ∧ r.2.mem ((c.tc : Thread Cert.ReferenceFfnIdeal.nD Cert.ReferenceFfnIdeal.τ).loc Cert.ReferenceFfnIdeal.main_v84) = v3 c
          ∧ r.2.mem ((c.tc : Thread Cert.ReferenceFfnIdeal.nD Cert.ReferenceFfnIdeal.τ).loc Cert.ReferenceFfnIdeal.main_v85) = v4 c
          ∧ r.2.mem ((c.tc : Thread Cert.ReferenceFfnIdeal.nD Cert.ReferenceFfnIdeal.τ).loc Cert.ReferenceFfnIdeal.main_v86) = v5 c
          ∧ r.2.mem ((c.tc : Thread Cert.ReferenceFfnIdeal.nD Cert.ReferenceFfnIdeal.τ).loc Cert.ReferenceFfnIdeal.main_v87) = v6 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelQk_KernelQkIdeal : Prop :=
  True

def algebraic_KernelQkIdeal_ReferenceQkIdeal_pre_finite_qk [hKernelQkIdeal : Cert.KernelQkIdeal.Facts] [hReferenceQkIdeal : Cert.ReferenceQkIdeal.Facts] [hPre_finite_qk : Cert.Pre_finite_qk.Facts] : Prop :=
  ∀ (m : (ℓ : Loc Cert.KernelQkIdeal.nD Cert.KernelQkIdeal.τ Cert.KernelQkIdeal.sig) → Buf (Elt Ideal) ℓ) (g : Dev Cert.KernelQkIdeal.nD → PrngReg)
    (m' : (ℓ : Loc Cert.ReferenceQkIdeal.nD Cert.ReferenceQkIdeal.τ Cert.ReferenceQkIdeal.sig) → Buf (Elt Ideal) ℓ) (g' : Dev Cert.ReferenceQkIdeal.nD → PrngReg), Pre_KernelQkIdeal_finite_qk m →
    (∀ c : Dev Cert.KernelQkIdeal.nD,
      m' ((c.tc : Thread Cert.ReferenceQkIdeal.nD Cert.ReferenceQkIdeal.τ).loc Cert.ReferenceQkIdeal.main_arg0) = m ((c.tc : Thread Cert.KernelQkIdeal.nD Cert.KernelQkIdeal.τ).loc Cert.KernelQkIdeal.main_arg0)
      ∧ m' ((c.tc : Thread Cert.ReferenceQkIdeal.nD Cert.ReferenceQkIdeal.τ).loc Cert.ReferenceQkIdeal.main_arg1) = m ((c.tc : Thread Cert.KernelQkIdeal.nD Cert.KernelQkIdeal.τ).loc Cert.KernelQkIdeal.main_arg1)
      ∧ m' ((c.tc : Thread Cert.ReferenceQkIdeal.nD Cert.ReferenceQkIdeal.τ).loc Cert.ReferenceQkIdeal.main_arg2) = m ((c.tc : Thread Cert.KernelQkIdeal.nD Cert.KernelQkIdeal.τ).loc Cert.KernelQkIdeal.main_arg2)
      ∧ m' ((c.tc : Thread Cert.ReferenceQkIdeal.nD Cert.ReferenceQkIdeal.τ).loc Cert.ReferenceQkIdeal.main_arg3) = m ((c.tc : Thread Cert.KernelQkIdeal.nD Cert.KernelQkIdeal.τ).loc Cert.KernelQkIdeal.main_arg3)
      ∧ m' ((c.tc : Thread Cert.ReferenceQkIdeal.nD Cert.ReferenceQkIdeal.τ).loc Cert.ReferenceQkIdeal.main_arg4) = m ((c.tc : Thread Cert.KernelQkIdeal.nD Cert.KernelQkIdeal.τ).loc Cert.KernelQkIdeal.main_arg4)
      ∧ m' ((c.tc : Thread Cert.ReferenceQkIdeal.nD Cert.ReferenceQkIdeal.τ).loc Cert.ReferenceQkIdeal.main_arg5) = m ((c.tc : Thread Cert.KernelQkIdeal.nD Cert.KernelQkIdeal.τ).loc Cert.KernelQkIdeal.main_arg5)
      ∧ m' ((c.tc : Thread Cert.ReferenceQkIdeal.nD Cert.ReferenceQkIdeal.τ).loc Cert.ReferenceQkIdeal.main_arg6) = m ((c.tc : Thread Cert.KernelQkIdeal.nD Cert.KernelQkIdeal.τ).loc Cert.KernelQkIdeal.main_arg6)
      ∧ m' ((c.tc : Thread Cert.ReferenceQkIdeal.nD Cert.ReferenceQkIdeal.τ).loc Cert.ReferenceQkIdeal.main_arg7) = m ((c.tc : Thread Cert.KernelQkIdeal.nD Cert.KernelQkIdeal.τ).loc Cert.KernelQkIdeal.main_arg7)) →
    ∃ (v0 : (c : Dev Cert.KernelQkIdeal.nD) → Buf (Elt Ideal) ((c.tc : Thread Cert.KernelQkIdeal.nD Cert.KernelQkIdeal.τ).loc Cert.KernelQkIdeal.main_v57_0)) (v1 : (c : Dev Cert.KernelQkIdeal.nD) → Buf (Elt Ideal) ((c.tc : Thread Cert.KernelQkIdeal.nD Cert.KernelQkIdeal.τ).loc Cert.KernelQkIdeal.main_v57_1)) (v2 : (c : Dev Cert.KernelQkIdeal.nD) → Buf (Elt Ideal) ((c.tc : Thread Cert.KernelQkIdeal.nD Cert.KernelQkIdeal.τ).loc Cert.KernelQkIdeal.main_v57_2)) (v3 : (c : Dev Cert.KernelQkIdeal.nD) → Buf (Elt Ideal) ((c.tc : Thread Cert.KernelQkIdeal.nD Cert.KernelQkIdeal.τ).loc Cert.KernelQkIdeal.main_v57_3)),
      θ_run (Cert.KernelQkIdeal.defs (F := Ideal)) (onTc (τ := Cert.KernelQkIdeal.τ) (Cert.KernelQkIdeal.main (F := Ideal))) ⟨m, fun _ => 0, g⟩ (fun r => ∀ c : Dev Cert.KernelQkIdeal.nD,
          r.2.mem ((c.tc : Thread Cert.KernelQkIdeal.nD Cert.KernelQkIdeal.τ).loc Cert.KernelQkIdeal.main_v57_0) = v0 c
          ∧ r.2.mem ((c.tc : Thread Cert.KernelQkIdeal.nD Cert.KernelQkIdeal.τ).loc Cert.KernelQkIdeal.main_v57_1) = v1 c
          ∧ r.2.mem ((c.tc : Thread Cert.KernelQkIdeal.nD Cert.KernelQkIdeal.τ).loc Cert.KernelQkIdeal.main_v57_2) = v2 c
          ∧ r.2.mem ((c.tc : Thread Cert.KernelQkIdeal.nD Cert.KernelQkIdeal.τ).loc Cert.KernelQkIdeal.main_v57_3) = v3 c
          ∧ r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
          ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
          ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2)
          ∧ r.2.mem ((c.tc : Thread Cert.KernelQkIdeal.nD Cert.KernelQkIdeal.τ).loc Cert.KernelQkIdeal.main_arg3) = m ((c.tc : Thread Cert.KernelQkIdeal.nD Cert.KernelQkIdeal.τ).loc Cert.KernelQkIdeal.main_arg3)
          ∧ r.2.mem ((c.tc : Thread Cert.KernelQkIdeal.nD Cert.KernelQkIdeal.τ).loc Cert.KernelQkIdeal.main_arg4) = m ((c.tc : Thread Cert.KernelQkIdeal.nD Cert.KernelQkIdeal.τ).loc Cert.KernelQkIdeal.main_arg4)
          ∧ r.2.mem ((c.tc : Thread Cert.KernelQkIdeal.nD Cert.KernelQkIdeal.τ).loc Cert.KernelQkIdeal.main_arg5) = m ((c.tc : Thread Cert.KernelQkIdeal.nD Cert.KernelQkIdeal.τ).loc Cert.KernelQkIdeal.main_arg5)
          ∧ r.2.mem ((c.tc : Thread Cert.KernelQkIdeal.nD Cert.KernelQkIdeal.τ).loc Cert.KernelQkIdeal.main_arg6) = m ((c.tc : Thread Cert.KernelQkIdeal.nD Cert.KernelQkIdeal.τ).loc Cert.KernelQkIdeal.main_arg6)
          ∧ r.2.mem ((c.tc : Thread Cert.KernelQkIdeal.nD Cert.KernelQkIdeal.τ).loc Cert.KernelQkIdeal.main_arg7) = m ((c.tc : Thread Cert.KernelQkIdeal.nD Cert.KernelQkIdeal.τ).loc Cert.KernelQkIdeal.main_arg7))
      ∧ θ_run (Cert.ReferenceQkIdeal.defs (F := Ideal)) (onTc (τ := Cert.ReferenceQkIdeal.τ) (Cert.ReferenceQkIdeal.main (F := Ideal))) ⟨m', fun _ => 0, g'⟩ (fun r => ∀ c : Dev Cert.ReferenceQkIdeal.nD,
          r.2.mem ((c.tc : Thread Cert.ReferenceQkIdeal.nD Cert.ReferenceQkIdeal.τ).loc Cert.ReferenceQkIdeal.main_v186) = v0 c
          ∧ r.2.mem ((c.tc : Thread Cert.ReferenceQkIdeal.nD Cert.ReferenceQkIdeal.τ).loc Cert.ReferenceQkIdeal.main_v187) = v1 c
          ∧ r.2.mem ((c.tc : Thread Cert.ReferenceQkIdeal.nD Cert.ReferenceQkIdeal.τ).loc Cert.ReferenceQkIdeal.main_v184) = v2 c
          ∧ r.2.mem ((c.tc : Thread Cert.ReferenceQkIdeal.nD Cert.ReferenceQkIdeal.τ).loc Cert.ReferenceQkIdeal.main_v185) = v3 c
          ∧ r.2.mem ((c.tc : Thread Cert.ReferenceQkIdeal.nD Cert.ReferenceQkIdeal.τ).loc Cert.ReferenceQkIdeal.main_arg0) = m' ((c.tc : Thread Cert.ReferenceQkIdeal.nD Cert.ReferenceQkIdeal.τ).loc Cert.ReferenceQkIdeal.main_arg0)
          ∧ r.2.mem ((c.tc : Thread Cert.ReferenceQkIdeal.nD Cert.ReferenceQkIdeal.τ).loc Cert.ReferenceQkIdeal.main_arg1) = m' ((c.tc : Thread Cert.ReferenceQkIdeal.nD Cert.ReferenceQkIdeal.τ).loc Cert.ReferenceQkIdeal.main_arg1)
          ∧ r.2.mem ((c.tc : Thread Cert.ReferenceQkIdeal.nD Cert.ReferenceQkIdeal.τ).loc Cert.ReferenceQkIdeal.main_arg2) = m' ((c.tc : Thread Cert.ReferenceQkIdeal.nD Cert.ReferenceQkIdeal.τ).loc Cert.ReferenceQkIdeal.main_arg2)
          ∧ r.2.mem ((c.tc : Thread Cert.ReferenceQkIdeal.nD Cert.ReferenceQkIdeal.τ).loc Cert.ReferenceQkIdeal.main_arg3) = m' ((c.tc : Thread Cert.ReferenceQkIdeal.nD Cert.ReferenceQkIdeal.τ).loc Cert.ReferenceQkIdeal.main_arg3)
          ∧ r.2.mem ((c.tc : Thread Cert.ReferenceQkIdeal.nD Cert.ReferenceQkIdeal.τ).loc Cert.ReferenceQkIdeal.main_arg4) = m' ((c.tc : Thread Cert.ReferenceQkIdeal.nD Cert.ReferenceQkIdeal.τ).loc Cert.ReferenceQkIdeal.main_arg4)
          ∧ r.2.mem ((c.tc : Thread Cert.ReferenceQkIdeal.nD Cert.ReferenceQkIdeal.τ).loc Cert.ReferenceQkIdeal.main_arg5) = m' ((c.tc : Thread Cert.ReferenceQkIdeal.nD Cert.ReferenceQkIdeal.τ).loc Cert.ReferenceQkIdeal.main_arg5)
          ∧ r.2.mem ((c.tc : Thread Cert.ReferenceQkIdeal.nD Cert.ReferenceQkIdeal.τ).loc Cert.ReferenceQkIdeal.main_arg6) = m' ((c.tc : Thread Cert.ReferenceQkIdeal.nD Cert.ReferenceQkIdeal.τ).loc Cert.ReferenceQkIdeal.main_arg6)
          ∧ r.2.mem ((c.tc : Thread Cert.ReferenceQkIdeal.nD Cert.ReferenceQkIdeal.τ).loc Cert.ReferenceQkIdeal.main_arg7) = m' ((c.tc : Thread Cert.ReferenceQkIdeal.nD Cert.ReferenceQkIdeal.τ).loc Cert.ReferenceQkIdeal.main_arg7))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)
      ∧ m' ((c.tc : Thread Cert.ReferencePreIdeal.nD Cert.ReferencePreIdeal.τ).loc Cert.ReferencePreIdeal.main_arg5) = m ((c.tc : Thread Cert.KernelPreIdeal.nD Cert.KernelPreIdeal.τ).loc Cert.KernelPreIdeal.main_arg5)
      ∧ m' ((c.tc : Thread Cert.ReferencePreIdeal.nD Cert.ReferencePreIdeal.τ).loc Cert.ReferencePreIdeal.main_arg6) = m ((c.tc : Thread Cert.KernelPreIdeal.nD Cert.KernelPreIdeal.τ).loc Cert.KernelPreIdeal.main_arg6)
      ∧ m' ((c.tc : Thread Cert.ReferencePreIdeal.nD Cert.ReferencePreIdeal.τ).loc Cert.ReferencePreIdeal.main_arg7) = m ((c.tc : Thread Cert.KernelPreIdeal.nD Cert.KernelPreIdeal.τ).loc Cert.KernelPreIdeal.main_arg7)
      ∧ m' ((c.tc : Thread Cert.ReferencePreIdeal.nD Cert.ReferencePreIdeal.τ).loc Cert.ReferencePreIdeal.main_arg8) = m ((c.tc : Thread Cert.KernelPreIdeal.nD Cert.KernelPreIdeal.τ).loc Cert.KernelPreIdeal.main_arg8)
      ∧ m' ((c.tc : Thread Cert.ReferencePreIdeal.nD Cert.ReferencePreIdeal.τ).loc Cert.ReferencePreIdeal.main_arg9) = m ((c.tc : Thread Cert.KernelPreIdeal.nD Cert.KernelPreIdeal.τ).loc Cert.KernelPreIdeal.main_arg9)
      ∧ m' ((c.tc : Thread Cert.ReferencePreIdeal.nD Cert.ReferencePreIdeal.τ).loc Cert.ReferencePreIdeal.main_arg10) = m ((c.tc : Thread Cert.KernelPreIdeal.nD Cert.KernelPreIdeal.τ).loc Cert.KernelPreIdeal.main_arg10)
      ∧ m' ((c.tc : Thread Cert.ReferencePreIdeal.nD Cert.ReferencePreIdeal.τ).loc Cert.ReferencePreIdeal.main_arg11) = m ((c.tc : Thread Cert.KernelPreIdeal.nD Cert.KernelPreIdeal.τ).loc Cert.KernelPreIdeal.main_arg11)
      ∧ m' ((c.tc : Thread Cert.ReferencePreIdeal.nD Cert.ReferencePreIdeal.τ).loc Cert.ReferencePreIdeal.main_arg12) = m ((c.tc : Thread Cert.KernelPreIdeal.nD Cert.KernelPreIdeal.τ).loc Cert.KernelPreIdeal.main_arg12)
      ∧ m' ((c.tc : Thread Cert.ReferencePreIdeal.nD Cert.ReferencePreIdeal.τ).loc Cert.ReferencePreIdeal.main_arg13) = m ((c.tc : Thread Cert.KernelPreIdeal.nD Cert.KernelPreIdeal.τ).loc Cert.KernelPreIdeal.main_arg13)
      ∧ m' ((c.tc : Thread Cert.ReferencePreIdeal.nD Cert.ReferencePreIdeal.τ).loc Cert.ReferencePreIdeal.main_arg14) = m ((c.tc : Thread Cert.KernelPreIdeal.nD Cert.KernelPreIdeal.τ).loc Cert.KernelPreIdeal.main_arg14)) →
    ∃ (v0 : (c : Dev Cert.KernelPreIdeal.nD) → Buf (Elt Ideal) ((c.tc : Thread Cert.KernelPreIdeal.nD Cert.KernelPreIdeal.τ).loc Cert.KernelPreIdeal.main_v70_1)) (v1 : (c : Dev Cert.KernelPreIdeal.nD) → Buf (Elt Ideal) ((c.tc : Thread Cert.KernelPreIdeal.nD Cert.KernelPreIdeal.τ).loc Cert.KernelPreIdeal.main_v70_2)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v70_1) = v0 c
          ∧ r.2.mem ((c.tc : Thread Cert.KernelPreIdeal.nD Cert.KernelPreIdeal.τ).loc Cert.KernelPreIdeal.main_v70_2) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
          ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
          ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
          ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
          ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
          ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
          ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10)
          ∧ r.2.mem ((c.tc : Thread Cert.KernelPreIdeal.nD Cert.KernelPreIdeal.τ).loc Cert.KernelPreIdeal.main_arg11) = m ((c.tc : Thread Cert.KernelPreIdeal.nD Cert.KernelPreIdeal.τ).loc Cert.KernelPreIdeal.main_arg11)
          ∧ r.2.mem ((c.tc : Thread Cert.KernelPreIdeal.nD Cert.KernelPreIdeal.τ).loc Cert.KernelPreIdeal.main_arg12) = m ((c.tc : Thread Cert.KernelPreIdeal.nD Cert.KernelPreIdeal.τ).loc Cert.KernelPreIdeal.main_arg12)
          ∧ r.2.mem ((c.tc : Thread Cert.KernelPreIdeal.nD Cert.KernelPreIdeal.τ).loc Cert.KernelPreIdeal.main_arg13) = m ((c.tc : Thread Cert.KernelPreIdeal.nD Cert.KernelPreIdeal.τ).loc Cert.KernelPreIdeal.main_arg13)
          ∧ r.2.mem ((c.tc : Thread Cert.KernelPreIdeal.nD Cert.KernelPreIdeal.τ).loc Cert.KernelPreIdeal.main_arg14) = m ((c.tc : Thread Cert.KernelPreIdeal.nD Cert.KernelPreIdeal.τ).loc Cert.KernelPreIdeal.main_arg14))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v35) = v0 c
          ∧ r.2.mem ((c.tc : Thread Cert.ReferencePreIdeal.nD Cert.ReferencePreIdeal.τ).loc Cert.ReferencePreIdeal.main_v31) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5)
          ∧ r.2.mem ((c.tc : Thread Cert.ReferencePreIdeal.nD Cert.ReferencePreIdeal.τ).loc Cert.ReferencePreIdeal.main_arg6) = m' ((c.tc : Thread Cert.ReferencePreIdeal.nD Cert.ReferencePreIdeal.τ).loc Cert.ReferencePreIdeal.main_arg6)
          ∧ r.2.mem ((c.tc : Thread Cert.ReferencePreIdeal.nD Cert.ReferencePreIdeal.τ).loc Cert.ReferencePreIdeal.main_arg7) = m' ((c.tc : Thread Cert.ReferencePreIdeal.nD Cert.ReferencePreIdeal.τ).loc Cert.ReferencePreIdeal.main_arg7)
          ∧ r.2.mem ((c.tc : Thread Cert.ReferencePreIdeal.nD Cert.ReferencePreIdeal.τ).loc Cert.ReferencePreIdeal.main_arg8) = m' ((c.tc : Thread Cert.ReferencePreIdeal.nD Cert.ReferencePreIdeal.τ).loc Cert.ReferencePreIdeal.main_arg8)
          ∧ r.2.mem ((c.tc : Thread Cert.ReferencePreIdeal.nD Cert.ReferencePreIdeal.τ).loc Cert.ReferencePreIdeal.main_arg9) = m' ((c.tc : Thread Cert.ReferencePreIdeal.nD Cert.ReferencePreIdeal.τ).loc Cert.ReferencePreIdeal.main_arg9)
          ∧ r.2.mem ((c.tc : Thread Cert.ReferencePreIdeal.nD Cert.ReferencePreIdeal.τ).loc Cert.ReferencePreIdeal.main_arg10) = m' ((c.tc : Thread Cert.ReferencePreIdeal.nD Cert.ReferencePreIdeal.τ).loc Cert.ReferencePreIdeal.main_arg10)
          ∧ r.2.mem ((c.tc : Thread Cert.ReferencePreIdeal.nD Cert.ReferencePreIdeal.τ).loc Cert.ReferencePreIdeal.main_arg11) = m' ((c.tc : Thread Cert.ReferencePreIdeal.nD Cert.ReferencePreIdeal.τ).loc Cert.ReferencePreIdeal.main_arg11)
          ∧ r.2.mem ((c.tc : Thread Cert.ReferencePreIdeal.nD Cert.ReferencePreIdeal.τ).loc Cert.ReferencePreIdeal.main_arg12) = m' ((c.tc : Thread Cert.ReferencePreIdeal.nD Cert.ReferencePreIdeal.τ).loc Cert.ReferencePreIdeal.main_arg12)
          ∧ r.2.mem ((c.tc : Thread Cert.ReferencePreIdeal.nD Cert.ReferencePreIdeal.τ).loc Cert.ReferencePreIdeal.main_arg13) = m' ((c.tc : Thread Cert.ReferencePreIdeal.nD Cert.ReferencePreIdeal.τ).loc Cert.ReferencePreIdeal.main_arg13)
          ∧ r.2.mem ((c.tc : Thread Cert.ReferencePreIdeal.nD Cert.ReferencePreIdeal.τ).loc Cert.ReferencePreIdeal.main_arg14) = m' ((c.tc : Thread Cert.ReferencePreIdeal.nD Cert.ReferencePreIdeal.τ).loc Cert.ReferencePreIdeal.main_arg14))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMid : Cert.KernelMid.Facts) (hKernelMidIdeal : Cert.KernelMidIdeal.Facts) (hReferenceMidIdeal : Cert.ReferenceMidIdeal.Facts) (hKernelMla : Cert.KernelMla.Facts) (hKernelMlaIdeal : Cert.KernelMlaIdeal.Facts) (hReferenceMlaIdeal : Cert.ReferenceMlaIdeal.Facts) (hKernelFfn : Cert.KernelFfn.Facts) (hKernelFfnIdeal : Cert.KernelFfnIdeal.Facts) (hReferenceFfnIdeal : Cert.ReferenceFfnIdeal.Facts) (hKernelQk : Cert.KernelQk.Facts) (hKernelQkIdeal : Cert.KernelQkIdeal.Facts) (hReferenceQkIdeal : Cert.ReferenceQkIdeal.Facts) (hKernelPre : Cert.KernelPre.Facts) (hKernelPreIdeal : Cert.KernelPreIdeal.Facts) (hReferencePreIdeal : Cert.ReferencePreIdeal.Facts) (hPre_finite_mla : Cert.Pre_finite_mla.Facts) (hPre_finite_ffn : Cert.Pre_finite_ffn.Facts) (hPre_finite_qk : Cert.Pre_finite_qk.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelMla (hKernelMla := hKernelMla)
    ∧ quiescent_KernelMlaIdeal (hKernelMlaIdeal := hKernelMlaIdeal)
    ∧ quiescent_KernelMlaIdeal_pre_finite_mla (hKernelMlaIdeal := hKernelMlaIdeal) (hPre_finite_mla := hPre_finite_mla)
    ∧ quiescent_ReferenceMlaIdeal (hReferenceMlaIdeal := hReferenceMlaIdeal)
    ∧ quiescent_ReferenceMlaIdeal_pre_finite_mla (hReferenceMlaIdeal := hReferenceMlaIdeal) (hPre_finite_mla := hPre_finite_mla)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelQk (hKernelQk := hKernelQk)
    ∧ quiescent_KernelQkIdeal (hKernelQkIdeal := hKernelQkIdeal)
    ∧ quiescent_KernelQkIdeal_pre_finite_qk (hKernelQkIdeal := hKernelQkIdeal) (hPre_finite_qk := hPre_finite_qk)
    ∧ quiescent_ReferenceQkIdeal (hReferenceQkIdeal := hReferenceQkIdeal)
    ∧ quiescent_ReferenceQkIdeal_pre_finite_qk (hReferenceQkIdeal := hReferenceQkIdeal) (hPre_finite_qk := hPre_finite_qk)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelMid_KernelMidIdeal
    ∧ algebraic_KernelMidIdeal_ReferenceMidIdeal (hKernelMidIdeal := hKernelMidIdeal) (hReferenceMidIdeal := hReferenceMidIdeal)
    ∧ preserves_KernelMla_KernelMlaIdeal
    ∧ algebraic_KernelMlaIdeal_ReferenceMlaIdeal_pre_finite_mla (hKernelMlaIdeal := hKernelMlaIdeal) (hReferenceMlaIdeal := hReferenceMlaIdeal) (hPre_finite_mla := hPre_finite_mla)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelQk_KernelQkIdeal
    ∧ algebraic_KernelQkIdeal_ReferenceQkIdeal_pre_finite_qk (hKernelQkIdeal := hKernelQkIdeal) (hReferenceQkIdeal := hReferenceQkIdeal) (hPre_finite_qk := hPre_finite_qk)
    ∧ preserves_KernelPre_KernelPreIdeal
    ∧ algebraic_KernelPreIdeal_ReferencePreIdeal (hKernelPreIdeal := hKernelPreIdeal) (hReferencePreIdeal := hReferencePreIdeal)
-- ==== Pre_finite_ffn.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x5632 .f32) (main_arg5 : FVec F S2816x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S2048x1024 .f32) (main_arg1 : FVec F S2048x1024 .f32) (main_arg2 : FVec F S1024x5632 .f32) (main_arg3 : FVec F S3x5632 .f32) (main_arg4 : FVec F S1x5632 .f32) (main_arg5 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_v13 main_v16
-- ==== Pre_finite_mla.lean ====
abbrev S2048x512 : Shape := ⟨2, ![2048, 512]⟩
abbrev S2048x768 : Shape := ⟨2, ![2048, 768]⟩
abbrev S2048x32 : Shape := ⟨2, ![2048, 32]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg4 : FVec F S2048x512 .f32) (main_v13 : IVec S_ 1) (main_v16 : IVec S2048x32 1) : IVec S_ 1 :=
  let main_c_5 : IVec S_ 1 := constantI S_ 1 1#1
  let main_v17 : IVec S_ 1 := (fun x v => Host.reduce IntOp.andi x v reducesTo_S2048x32_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S2048x512 .f32) (main_arg1 : FVec F S2048x768 .f32) (main_arg2 : FVec F S2048x512 .f32) (main_arg3 : FVec F S2048x32 .f32) (main_arg4 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x32 .f32 := Host.absf main_arg3
  let main_cst_4 : FVec F S_ .f32 := constant S_ .f32 0x7F800000#32
  let main_v15 : FVec F S2048x32 .f32 := broadcastInDim S2048x32 ![] bcast_S_S2048x32 main_cst_4
  let main_v16 : IVec S2048x32 1 := cmpf .olt main_v14 main_v15
  fn_part1 (F := F) main_arg4 main_v13 main_v16
-- ==== Pre_finite_qk.lean ====
abbrev S2048x768 : Shape := ⟨2, ![2048, 768]⟩
abbrev S2048x1024 : Shape := ⟨2, ![2048, 1024]⟩
abbrev S1x2048 : Shape := ⟨2, ![1, 2048]⟩
abbrev S1x64 : Shape := ⟨2, ![1, 64]⟩
abbrev S1x32 : Shape := ⟨2, ![1, 32]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x64 : S_.BroadcastsInDim S1x64 (![] : Fin 0 → Fin S1x64.rank)
  reducesTo_S1x64_S_d0_1 : S1x64.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg5 : FVec F S1x64 .f32) (main_arg6 : FVec F S1x32 .f32) (main_arg7 : FVec F S1x64 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x32 .f32 := Host.absf main_arg6
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S2048x768 .f32) (main_arg1 : FVec F S2048x1024 .f32) (main_arg2 : FVec F S2048x768 .f32) (main_arg3 : FVec F S2048x1024 .f32) (main_arg4 : IVec S1x2048 32) (main_arg5 : FVec F S1x64 .f32) (main_arg6 : FVec F S1x32 .f32) (main_arg7 : FVec F S1x64 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_arg7 main_v13 main_v16
-- ==== Kernel.lean ====
abbrev S2048x1024 : Shape := ⟨2, ![2048, 1024]⟩
abbrev S1x1024 : Shape := ⟨2, ![1, 1024]⟩
abbrev S1x1 : Shape := ⟨2, ![1, 1]⟩
abbrev S512x1024 : Shape := ⟨2, ![512, 1024]⟩
abbrev S1024 : Shape := ⟨1, ![1024]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1x1, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_15 : BitVec 32 := 0#32
  let v27 : BitVec 1 := Scalar.cmpi .ne v26 c0_i32_15
  v27

def k0_cond2 (i : grid0.Coords) : BitVec 1 :=
  let arg0 : BitVec 32 := BitVec.ofNat 32 (i 0).val
  let c0_i32_16 : BitVec 32 := 0#32
  let v28 : BitVec 1 := Scalar.cmpi .sgt arg0 c0_i32_16
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S1024 : Shape := ⟨1, ![1024]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .bf16⟩
  | .hbm, ⟨37, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelIn.lean ====
abbrev S2048x2336 : Shape := ⟨2, ![2048, 2336]⟩
abbrev S2048x1024 : Shape := ⟨2, ![2048, 1024]⟩
abbrev S1024x2336 : Shape := ⟨2, ![1024, 2336]⟩
abbrev S1x1024 : Shape := ⟨2, ![1, 1024]⟩
abbrev S2336x1024 : Shape := ⟨2, ![2336, 1024]⟩
abbrev S768x1024 : Shape := ⟨2, ![768, 1024]⟩
abbrev S_ : Shape := ⟨0, ![]⟩
abbrev S64x1024 : Shape := ⟨2, ![64, 1024]⟩
abbrev S32x1024 : Shape := ⟨2, ![32, 1024]⟩
abbrev S1536x1024 : Shape := ⟨2, ![1536, 1024]⟩
abbrev S2432x1024 : Shape := ⟨2, ![2432, 1024]⟩
abbrev S2336x2048 : Shape := ⟨2, ![2336, 2048]⟩
abbrev S768x2048 : Shape := ⟨2, ![768, 2048]⟩
abbrev S64x2048 : Shape := ⟨2, ![64, 2048]⟩
abbrev S32x2048 : Shape := ⟨2, ![32, 2048]⟩
abbrev S1536x2048 : Shape := ⟨2, ![1536, 2048]⟩
abbrev S2432x2048 : Shape := ⟨2, ![2432, 2048]⟩
abbrev S2048x2432 : Shape := ⟨2, ![2048, 2432]⟩
abbrev S256x2432 : Shape := ⟨2, ![256, 2432]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 14
  | .smem => 0
  | _ => 0

abbrev bufTy : (tb : Table) → Fin (tcTables nBuf tb) → BufTy
  | .hbm, ⟨0, _⟩ => ⟨S2048x2336, .f32⟩
  | .hbm, ⟨1, _⟩ => ⟨S2048x1024, .f32⟩
  | .hbm, ⟨2, _⟩ => ⟨S2048x1024, .f32⟩
  | .hbm, ⟨3, _⟩ => ⟨S1024x2336, .f32⟩
  | .hbm, ⟨4, _⟩ => ⟨S1x1024, .f32⟩
  | .hbm, ⟨5, _⟩ => ⟨S1x1024, .f32⟩
  | .hbm, ⟨6, _⟩ => ⟨S2336x1024, .f32⟩
  | .hbm, ⟨7, _⟩ => ⟨S2336x1024, .bf16⟩
  | .hbm, ⟨8, _⟩ => ⟨S768x1024, .bf16⟩
  | .hbm, ⟨9, _⟩ => ⟨S_, .bf16⟩
  | .hbm, ⟨10, _⟩ => ⟨S64x1024, .bf16⟩
  | .hbm, ⟨11, _⟩ => ⟨S32x1024, .bf16⟩
  | .hbm, ⟨12, _⟩ => ⟨S_, .bf16⟩
  | .hbm, ⟨13, _⟩ => ⟨S32x1024, .bf16⟩
  | .hbm, ⟨14, _⟩ => ⟨S1536x1024, .bf16⟩
  | .hbm, ⟨15, _⟩ => ⟨S2432x1024, .bf16⟩
  | .hbm, ⟨16, _⟩ => ⟨S2336x2048, .f32⟩
  | .hbm, ⟨17, _⟩ => ⟨S768x2048, .f32⟩
  | .hbm, ⟨18, _⟩ => ⟨S_, .f32⟩
  | .hbm, ⟨19, _⟩ => ⟨S64x2048, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S1536x2048, .f32⟩
  | .hbm, ⟨24, _⟩ => ⟨S2432x2048, .f32⟩
  | .hbm, ⟨25, _⟩ => ⟨S2048x2432, .f32⟩
  | .hbm, ⟨26, _⟩ => ⟨S2048x2432, .bf16⟩
  | .hbm, ⟨27, _⟩ => ⟨S2048x1024, .f32⟩
  | .hbm, ⟨28, _⟩ => ⟨S1x1024, .f32⟩
  | .hbm, ⟨29, _⟩ => ⟨S1x1024, .f32⟩
  | .hbm, ⟨30, _⟩ => ⟨S1x1024, .f32⟩
  | .local _ .vmem, ⟨0, _⟩ => ⟨S256x2432, .bf16⟩
  | .local _ .vmem, ⟨1, _⟩ => ⟨S256x2432, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2432x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_22 : BitVec 32 := 0#32
  let v49 : BitVec 1 := Scalar.cmpi .ne v48 c0_i32_22
  v49

def k0_cond2 (i : grid0.Coords) : BitVec 1 :=
  let arg0 : BitVec 32 := BitVec.ofNat 32 (i 0).val
  let c0_i32_23 : BitVec 32 := 0#32
  let v50 : BitVec 1 := Scalar.cmpi .sgt arg0 c0_i32_23
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2432x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceInIdeal.lean ====
abbrev S2048x2336 : Shape := ⟨2, ![2048, 2336]⟩
abbrev S2048x1024 : Shape := ⟨2, ![2048, 1024]⟩
abbrev S1024x2336 : Shape := ⟨2, ![1024, 2336]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x2336, .f32⟩
  | .hbm, ⟨1, _⟩ => ⟨S2048x1024, .f32⟩
  | .hbm, ⟨2, _⟩ => ⟨S2048x1024, .f32⟩
  | .hbm, ⟨3, _⟩ => ⟨S1024x2336, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x2336, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | _, _ => ⟨S2048x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== KernelMid.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1536x1024 : Shape := ⟨2, ![1536, 1024]⟩
abbrev S2048x1536 : Shape := ⟨2, ![2048, 1536]⟩
abbrev S256x1024 : Shape := ⟨2, ![256, 1024]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 30
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .bf16⟩
  | .hbm, ⟨9, _⟩ => ⟨S1024x1024, .bf16⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1024x1024, .bf16⟩
  | .hbm, ⟨15, _⟩ => ⟨S512x1024, .bf16⟩
  | .hbm, ⟨16, _⟩ => ⟨S8x64x1024, .bf16⟩
  | .hbm, ⟨17, _⟩ => ⟨S_, .i32⟩
  | .hbm, ⟨18, _⟩ => ⟨S_, .bf16⟩
  | .hbm, ⟨19, _⟩ => ⟨S8x128x1024, .bf16⟩
  | .hbm, ⟨20, _⟩ => ⟨S1024x1024, .bf16⟩
  | .hbm, ⟨21, _⟩ => ⟨S512x1024, .bf16⟩
  | .hbm, ⟨22, _⟩ => ⟨S1536x1024, .bf16⟩
  | .hbm, ⟨23, _⟩ => ⟨S2048x1024, .f32⟩
  | .hbm, ⟨24, _⟩ => ⟨S2048x1024, .bf16⟩
  | .hbm, ⟨25, _⟩ => ⟨S2048x1536, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1536x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1536, .f32⟩
  | .local _ .vmem, ⟨17, _⟩ => ⟨S256x1536, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_31 : BitVec 32 := 0#32
  let v61 : BitVec 1 := Scalar.cmpi .ne v60 c0_i32_31
  v61

def k0_cond2 (i : grid0.Coords) : BitVec 1 :=
  let arg0 : BitVec 32 := BitVec.ofNat 32 (i 0).val
  let c0_i32_32 : BitVec 32 := 0#32
  let v62 : BitVec 1 := Scalar.cmpi .sgt arg0 c0_i32_32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceMidIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S2048x512 : Shape := ⟨2, ![2048, 512]⟩
abbrev S2048x8x64 : Shape := ⟨3, ![2048, 8, 64]⟩
abbrev S2048x8x128 : Shape := ⟨3, ![2048, 8, 128]⟩
abbrev S2048x1536 : Shape := ⟨2, ![2048, 1536]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x512, .f32⟩
  | .hbm, ⟨83, _⟩ => ⟨S2048x8x64, .f32⟩
  | .hbm, ⟨84, _⟩ => ⟨S_, .i32⟩
  | .hbm, ⟨85, _⟩ => ⟨S_, .f32⟩
  | .hbm, ⟨86, _⟩ => ⟨S2048x8x128, .f32⟩
  | .hbm, ⟨87, _⟩ => ⟨S2048x1024, .f32⟩
  | .hbm, ⟨88, _⟩ => ⟨S2048x512, .f32⟩
  | .hbm, ⟨89, _⟩ => ⟨S2048x1536, .f32⟩
  | .hbm, ⟨90, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_call0_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== KernelMla.lean ====
abbrev S2048x512 : Shape := ⟨2, ![2048, 512]⟩
abbrev S2048x768 : Shape := ⟨2, ![2048, 768]⟩
abbrev S2048x32 : Shape := ⟨2, ![2048, 32]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x96 : Shape := ⟨3, ![2048, 8, 96]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2048x8x128 : Shape := ⟨3, ![2048, 8, 128]⟩
abbrev S2048x1024 : Shape := ⟨2, ![2048, 1024]⟩
abbrev S2048x1536 : Shape := ⟨2, ![2048, 1536]⟩
abbrev S2048x128 : Shape := ⟨2, ![2048, 128]⟩
abbrev S1x2048x1 : Shape := ⟨3, ![1, 2048, 1]⟩
abbrev S256x128 : Shape := ⟨2, ![256, 128]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 84
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x512, .f32⟩
  | .hbm, ⟨3, _⟩ => ⟨S2048x32, .f32⟩
  | .hbm, ⟨4, _⟩ => ⟨S2048x512, .f32⟩
  | .hbm, ⟨5, _⟩ => ⟨S2048x8x64, .f32⟩
  | .hbm, ⟨6, _⟩ => ⟨S2048x1x32, .f32⟩
  | .hbm, ⟨7, _⟩ => ⟨S2048x8x32, .f32⟩
  | .hbm, ⟨8, _⟩ => ⟨S2048x8x96, .f32⟩
  | .hbm, ⟨9, _⟩ => ⟨S2048x8x96, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S2048x8x64, .f32⟩
  | .hbm, ⟨43, _⟩ => ⟨S8x64x2048, .f32⟩
  | .hbm, ⟨44, _⟩ => ⟨S2048x8x64, .f32⟩
  | .hbm, ⟨45, _⟩ => ⟨S2048x512, .f32⟩
  | .hbm, ⟨46, _⟩ => ⟨S2048x8x96, .f32⟩
  | .hbm, ⟨47, _⟩ => ⟨S_, .i32⟩
  | .hbm, ⟨48, _⟩ => ⟨S_, .f32⟩
  | .hbm, ⟨49, _⟩ => ⟨S2048x8x128, .f32⟩
  | .hbm, ⟨50, _⟩ => ⟨S2048x1024, .f32⟩
  | .hbm, ⟨51, _⟩ => ⟨S2048x1024, .bf16⟩
  | .hbm, ⟨52, _⟩ => ⟨S2048x768, .f32⟩
  | .hbm, ⟨53, _⟩ => ⟨S2048x8x96, .f32⟩
  | .hbm, ⟨54, _⟩ => ⟨S_, .i32⟩
  | .hbm, ⟨55, _⟩ => ⟨S_, .f32⟩
  | .hbm, ⟨56, _⟩ => ⟨S2048x8x128, .f32⟩
  | .hbm, ⟨57, _⟩ => ⟨S2048x1024, .f32⟩
  | .hbm, ⟨58, _⟩ => ⟨S2048x1024, .bf16⟩
  | .hbm, ⟨59, _⟩ => ⟨S2048x8x64, .f32⟩
  | .hbm, ⟨60, _⟩ => ⟨S_, .i32⟩
  | .hbm, ⟨61, _⟩ => ⟨S_, .f32⟩
  | .hbm, ⟨62, _⟩ => ⟨S2048x8x128, .f32⟩
  | .hbm, ⟨63, _⟩ => ⟨S2048x1024, .f32⟩
  | .hbm, ⟨64, _⟩ => ⟨S2048x1024, .bf16⟩
  | .hbm, ⟨65, _⟩ => ⟨S2048x8x64, .f32⟩
  | .hbm, ⟨66, _⟩ => ⟨S_, .i32⟩
  | .hbm, ⟨67, _⟩ => ⟨S_, .f32⟩
  | .hbm, ⟨68, _⟩ => ⟨S2048x8x128, .f32⟩
  | .hbm, ⟨69, _⟩ => ⟨S2048x1024, .f32⟩
  | .hbm, ⟨70, _⟩ => ⟨S_, .i32⟩
  | .hbm, ⟨71, _⟩ => ⟨S_, .f32⟩
  | .hbm, ⟨72, _⟩ => ⟨S2048x1536, .f32⟩
  | .hbm, ⟨73, _⟩ => ⟨S2048x8x64, .f32⟩
  | .hbm, ⟨74, _⟩ => ⟨S_, .i32⟩
  | .hbm, ⟨75, _⟩ => ⟨S_, .f32⟩
  | .hbm, ⟨76, _⟩ => ⟨S2048x8x128, .f32⟩
  | .hbm, ⟨77, _⟩ => ⟨S2048x1024, .f32⟩
  | .hbm, ⟨78, _⟩ => ⟨S_, .i32⟩
  | .hbm, ⟨79, _⟩ => ⟨S_, .f32⟩
  | .hbm, ⟨80, _⟩ => ⟨S2048x1536, .f32⟩
  | .hbm, ⟨81, _⟩ => ⟨S2048x1024, .f32⟩
  | .hbm, ⟨82, _⟩ => ⟨S2048x1024, .f32⟩
  | .hbm, ⟨83, _⟩ => ⟨S2048x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x1, .f32⟩
  | .local _ .vmem, ⟨11, _⟩ => ⟨S1x2048x1, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_call2_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_call3_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_call4_v0 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_call5_v0 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_call6_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_call7_v0 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v54_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v453 : BitVec 1 := Scalar.cmpi .eq arg0 c0_i32
  let v454 : BitVec 32 := Scalar.extui v453
  let c0_i32_262 : BitVec 32 := 0#32
  let v455 : BitVec 1 := Scalar.cmpi .ne v454 c0_i32_262
  v455

def k0_cond2 (i : grid0.Coords) : BitVec 1 :=
  let arg0 : BitVec 32 := BitVec.ofNat 32 (i 0).val
  let c0_i32_263 : BitVec 32 := 0#32
  let v456 : BitVec 1 := Scalar.cmpi .sgt arg0 c0_i32_263
  let v457 : BitVec 32 := Scalar.extui v456
  let c0_i32_264 : BitVec 32 := 0#32
  let v458 : BitVec 1 := Scalar.cmpi .ne v457 c0_i32_264
  v458

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelMlaIdeal.lean ====
variable {F : FTy → Type} [FloatOps F] [Named F]
def κ : String → Option EReal := fun
  | "mask" => some ⊥
  | _ => none
-- ==== ReferenceMlaIdeal.lean ====
abbrev S2048x512 : Shape := ⟨2, ![2048, 512]⟩
abbrev S2048x768 : Shape := ⟨2, ![2048, 768]⟩
abbrev S2048x32 : Shape := ⟨2, ![2048, 32]⟩
abbrev S2048x8x96 : Shape := ⟨3, ![2048, 8, 96]⟩
abbrev S2048x8x64 : Shape := ⟨3, ![2048, 8, 64]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x96 : Shape := ⟨3, ![8, 2048, 96]⟩
abbrev S2048x8x128 : Shape := ⟨3, ![2048, 8, 128]⟩
abbrev S2048x1024 : Shape := ⟨2, ![2048, 1024]⟩
abbrev S2048x128 : Shape := ⟨2, ![2048, 128]⟩

abbrev nBuf : Space → Nat
  | .hbm => 114
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x512, .f32⟩
  | .hbm, ⟨3, _⟩ => ⟨S2048x32, .f32⟩
  | .hbm, ⟨4, _⟩ => ⟨S2048x512, .f32⟩
  | .hbm, ⟨5, _⟩ => ⟨S2048x8x96, .f32⟩
  | .hbm, ⟨6, _⟩ => ⟨S2048x8x64, .f32⟩
  | .hbm, ⟨7, _⟩ => ⟨S2048x8x64, .f32⟩
  | .hbm, ⟨8, _⟩ => ⟨S2048x1x32, .f32⟩
  | .hbm, ⟨9, _⟩ => ⟨S2048x8x32, .f32⟩
  | .hbm, ⟨10, _⟩ => ⟨S2048x8x96, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .i1⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .i1⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x64x2048, .f32⟩
  | .hbm, ⟨68, _⟩ => ⟨S2048x8x64, .f32⟩
  | .hbm, ⟨69, _⟩ => ⟨S2048x8x64, .f32⟩
  | .hbm, ⟨70, _⟩ => ⟨S8x64x2048, .f32⟩
  | .hbm, ⟨71, _⟩ => ⟨S8x2048x2048, .f32⟩
  | .hbm, ⟨72, _⟩ => ⟨S8x64x2048, .f32⟩
  | .hbm, ⟨73, _⟩ => ⟨S2048x8x64, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S8x2048x1, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S_, .f32⟩
  | .hbm, ⟨92, _⟩ => ⟨S8x2048x2048, .f32⟩
  | .hbm, ⟨93, _⟩ => ⟨S8x2048x2048, .f32⟩
  | .hbm, ⟨94, _⟩ => ⟨S8x2048x96, .f32⟩
  | .hbm, ⟨95, _⟩ => ⟨S2048x8x96, .f32⟩
  | .hbm, ⟨96, _⟩ => ⟨S8x2048x96, .f32⟩
  | .hbm, ⟨97, _⟩ => ⟨S2048x8x96, .f32⟩
  | .hbm, ⟨98, _⟩ => ⟨S2048x8x64, .f32⟩
  | .hbm, ⟨99, _⟩ => ⟨S2048x8x32, .f32⟩
  | .hbm, ⟨100, _⟩ => ⟨S_, .f32⟩
  | .hbm, ⟨101, _⟩ => ⟨S2048x32, .f32⟩
  | .hbm, ⟨102, _⟩ => ⟨S2048x1x32, .f32⟩
  | .hbm, ⟨103, _⟩ => ⟨S_, .f32⟩
  | .hbm, ⟨104, _⟩ => ⟨S2048x32, .f32⟩
  | .hbm, ⟨105, _⟩ => ⟨S_, .i32⟩
  | .hbm, ⟨106, _⟩ => ⟨S_, .f32⟩
  | .hbm, ⟨107, _⟩ => ⟨S2048x8x128, .f32⟩
  | .hbm, ⟨108, _⟩ => ⟨S2048x1024, .f32⟩
  | .hbm, ⟨109, _⟩ => ⟨S2048x8x128, .f32⟩
  | .hbm, ⟨110, _⟩ => ⟨S2048x1024, .f32⟩
  | .hbm, ⟨111, _⟩ => ⟨S_, .i32⟩
  | .hbm, ⟨112, _⟩ => ⟨S_, .f32⟩
  | .hbm, ⟨113, _⟩ => ⟨S2048x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_c : Ref sig .tc := ⟨.hbm, 105, rfl⟩
abbrev main_call2_v0 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_call3_v0 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== KernelFfn.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S5632x1024 : Shape := ⟨2, ![5632, 1024]⟩
abbrev S2048x5632 : Shape := ⟨2, ![2048, 5632]⟩
abbrev S2048x2x11x256 : Shape := ⟨4, ![2048, 2, 11, 256]⟩
abbrev S2048x11x2x256 : Shape := ⟨4, ![2048, 11, 2, 256]⟩
abbrev S2x2816x1024 : Shape := ⟨3, ![2, 2816, 1024]⟩
abbrev S3x2816 : Shape := ⟨2, ![3, 2816]⟩
abbrev S1x2816 : Shape := ⟨2, ![1, 2816]⟩
abbrev S2048x512 : Shape := ⟨2, ![2048, 512]⟩
abbrev S256x1024 : Shape := ⟨2, ![256, 1024]⟩
abbrev S3x256 : Shape := ⟨2, ![3, 256]⟩
abbrev S1x256 : Shape := ⟨2, ![1, 256]⟩
abbrev S2x256x1024 : Shape := ⟨3, ![2, 256, 1024]⟩
abbrev S2056x512 : Shape := ⟨2, ![2056, 512]⟩
abbrev S2048x256 : Shape := ⟨2, ![2048, 256]⟩
abbrev S3x512 : Shape := ⟨2, ![3, 512]⟩
abbrev S1x512 : Shape := ⟨2, ![1, 512]⟩
abbrev S512x1024 : Shape := ⟨2, ![512, 1024]⟩
abbrev S8x512 : Shape := ⟨2, ![8, 512]⟩
abbrev S256x256 : Shape := ⟨2, ![256, 256]⟩
abbrev S256x512 : Shape := ⟨2, ![256, 512]⟩
abbrev S264x512 : Shape := ⟨2, ![264, 512]⟩
abbrev S33x8x512 : Shape := ⟨3, ![33, 8, 512]⟩
abbrev S32x8x512 : Shape := ⟨3, ![32, 8, 512]⟩
abbrev S512 : Shape := ⟨1, ![512]⟩
abbrev S1x256x1024 : Shape := ⟨3, ![1, 256, 1024]⟩

abbrev nBuf : Space → Nat
  | .hbm => 22
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S2048x1024, .bf16⟩
  | .hbm, ⟨7, _⟩ => ⟨S5632x1024, .f32⟩
  | .hbm, ⟨8, _⟩ => ⟨S5632x1024, .bf16⟩
  | .hbm, ⟨9, _⟩ => ⟨S2048x5632, .f32⟩
  | .hbm, ⟨10, _⟩ => ⟨S2048x2x11x256, .f32⟩
  | .hbm, ⟨11, _⟩ => ⟨S2048x11x2x256, .f32⟩
  | .hbm, ⟨12, _⟩ => ⟨S2048x5632, .f32⟩
  | .hbm, ⟨13, _⟩ => ⟨S2048x1024, .bf16⟩
  | .hbm, ⟨14, _⟩ => ⟨S2816x1024, .bf16⟩
  | .hbm, ⟨15, _⟩ => ⟨S2048x1024, .f32⟩
  | .hbm, ⟨16, _⟩ => ⟨S2x2816x1024, .bf16⟩
  | .hbm, ⟨17, _⟩ => ⟨S2816x1024, .bf16⟩
  | .hbm, ⟨18, _⟩ => ⟨S3x2816, .f32⟩
  | .hbm, ⟨19, _⟩ => ⟨S3x2816, .f32⟩
  | .hbm, ⟨20, _⟩ => ⟨S1x2816, .f32⟩
  | .hbm, ⟨21, _⟩ => ⟨S1x2816, .f32⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2048x1024, .bf16⟩
  | .local _ .vmem, ⟨16, _⟩ => ⟨S256x1024, .bf16⟩
  | .local _ .vmem, ⟨17, _⟩ => ⟨S256x1024, .bf16⟩
  | .local _ .vmem, ⟨18, _⟩ => ⟨S2048x1024, .f32⟩
  | .local _ .vmem, ⟨19, _⟩ => ⟨S2x256x1024, .bf16⟩
  | .local _ .vmem, ⟨20, _⟩ => ⟨S2x256x1024, .bf16⟩
  | .local _ .vmem, ⟨21, _⟩ => ⟨S256x1024, .bf16⟩
  | .local _ .vmem, ⟨22, _⟩ => ⟨S256x1024, .bf16⟩
  | .local _ .vmem, ⟨23, _⟩ => ⟨S3x256, .f32⟩
  | .local _ .vmem, ⟨24, _⟩ => ⟨S3x256, .f32⟩
  | .local _ .vmem, ⟨25, _⟩ => ⟨S3x256, .f32⟩
  | .local _ .vmem, ⟨26, _⟩ => ⟨S3x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S2056x512, .f32⟩
  | .local _ .vmem, ⟨32, _⟩ => ⟨S2048x512, .bf16⟩
  | .local _ .vmem, ⟨33, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceFfnIdeal.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2048x5632 : Shape := ⟨2, ![2048, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S2048x2816 : Shape := ⟨2, ![2048, 2816]⟩
abbrev S1024x2816 : Shape := ⟨2, ![1024, 2816]⟩
abbrev S5632x1024 : Shape := ⟨2, ![5632, 1024]⟩
abbrev S2x2816x1024 : Shape := ⟨3, ![2, 2816, 1024]⟩
abbrev S3x2816 : Shape := ⟨2, ![3, 2816]⟩
abbrev S1x2816 : Shape := ⟨2, ![1, 2816]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S2048x5632, .f32⟩
  | .hbm, ⟨7, _⟩ => ⟨S5632, .f32⟩
  | .hbm, ⟨8, _⟩ => ⟨S_, .f32⟩
  | .hbm, ⟨9, _⟩ => ⟨S2x5632, .f32⟩
  | .hbm, ⟨10, _⟩ => ⟨S2050x5632, .f32⟩
  | .hbm, ⟨11, _⟩ => ⟨S_, .f32⟩
  | .hbm, ⟨12, _⟩ => ⟨S2x5632, .f32⟩
  | .hbm, ⟨13, _⟩ => ⟨S2048x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S_, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x1024, .f32⟩
  | .hbm, ⟨53, _⟩ => ⟨S1024x2816, .f32⟩
  | .hbm, ⟨54, _⟩ => ⟨S2816x1024, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2048x5632, .f32⟩
  | .hbm, ⟨63, _⟩ => ⟨S2048x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S2048x5632, .f32⟩
  | .hbm, ⟨68, _⟩ => ⟨S2048x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S2050x5632, .f32⟩
  | .hbm, ⟨76, _⟩ => ⟨S2048x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S2048x5632, .f32⟩
  | .hbm, ⟨81, _⟩ => ⟨S2048x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S2050x5632, .f32⟩
  | .hbm, ⟨90, _⟩ => ⟨S2050x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S_, .f32⟩
  | .hbm, ⟨95, _⟩ => ⟨S5632, .f32⟩
  | .hbm, ⟨96, _⟩ => ⟨S2048x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S2048x5632, .f32⟩
  | .hbm, ⟨101, _⟩ => ⟨S2048x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S_, .f32⟩
  | .hbm, ⟨109, _⟩ => ⟨S2050x5632, .f32⟩
  | .hbm, ⟨110, _⟩ => ⟨S2050x5632, .f32⟩
  | .hbm, ⟨111, _⟩ => ⟨S2x5632, .f32⟩
  | .hbm, ⟨112, _⟩ => ⟨S2048x5632, .f32⟩
  | .hbm, ⟨113, _⟩ => ⟨S1x5632, .f32⟩
  | .hbm, ⟨114, _⟩ => ⟨S5632x1024, .f32⟩
  | .hbm, ⟨115, _⟩ => ⟨S1024x5632, .f32⟩
  | .hbm, ⟨116, _⟩ => ⟨S2048x1024, .f32⟩
  | .hbm, ⟨117, _⟩ => ⟨S5632x1024, .f32⟩
  | .hbm, ⟨118, _⟩ => ⟨S2x2816x1024, .f32⟩
  | .hbm, ⟨119, _⟩ => ⟨S2x2816x1024, .bf16⟩
  | .hbm, ⟨120, _⟩ => ⟨S2816x1024, .bf16⟩
  | .hbm, ⟨121, _⟩ => ⟨S3x2816, .f32⟩
  | .hbm, ⟨122, _⟩ => ⟨S3x2816, .f32⟩
  | .hbm, ⟨123, _⟩ => ⟨S1x2816, .f32⟩
  | .hbm, ⟨124, _⟩ => ⟨S1x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== KernelQk.lean ====
abbrev S2048x768 : Shape := ⟨2, ![2048, 768]⟩
abbrev S2048x1024 : Shape := ⟨2, ![2048, 1024]⟩
abbrev S1x2048 : Shape := ⟨2, ![1, 2048]⟩
abbrev S1x64 : Shape := ⟨2, ![1, 64]⟩
abbrev S1x32 : Shape := ⟨2, ![1, 32]⟩
abbrev S2048x1 : Shape := ⟨2, ![2048, 1]⟩
abbrev S16 : Shape := ⟨1, ![16]⟩
abbrev S_ : Shape := ⟨0, ![]⟩
abbrev S32 : Shape := ⟨1, ![32]⟩
abbrev S80 : Shape := ⟨1, ![80]⟩
abbrev S128 : Shape := ⟨1, ![128]⟩
abbrev S1x128 : Shape := ⟨2, ![1, 128]⟩
abbrev S2048x128 : Shape := ⟨2, ![2048, 128]⟩
abbrev S2048x64 : Shape := ⟨2, ![2048, 64]⟩
abbrev S2048x16 : Shape := ⟨2, ![2048, 16]⟩
abbrev S2048x32 : Shape := ⟨2, ![2048, 32]⟩
abbrev S768x2048 : Shape := ⟨2, ![768, 2048]⟩
abbrev S8x96x2048 : Shape := ⟨3, ![8, 96, 2048]⟩
abbrev S8x128x2048 : Shape := ⟨3, ![8, 128, 2048]⟩
abbrev S1024x2048 : Shape := ⟨2, ![1024, 2048]⟩
abbrev S256x1024 : Shape := ⟨2, ![256, 1024]⟩
abbrev S256x128 : Shape := ⟨2, ![256, 128]⟩
abbrev S128x128 : Shape := ⟨2, ![128, 128]⟩

abbrev nBuf : Space → Nat
  | .hbm => 84
  | .vmem => 20
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S2048x768, .f32⟩
  | .hbm, ⟨3, _⟩ => ⟨S2048x1024, .f32⟩
  | .hbm, ⟨4, _⟩ => ⟨S1x2048, .i32⟩
  | .hbm, ⟨5, _⟩ => ⟨S1x64, .f32⟩
  | .hbm, ⟨6, _⟩ => ⟨S1x32, .f32⟩
  | .hbm, ⟨7, _⟩ => ⟨S1x64, .f32⟩
  | .hbm, ⟨8, _⟩ => ⟨S2048x1, .i32⟩
  | .hbm, ⟨9, _⟩ => ⟨S2048x1, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S80, .f32⟩
  | .hbm, ⟨32, _⟩ => ⟨S128, .f32⟩
  | .hbm, ⟨33, _⟩ => ⟨S1x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S_, .f32⟩
  | .hbm, ⟨43, _⟩ => ⟨S2048x128, .f32⟩
  | .hbm, ⟨44, _⟩ => ⟨S_, .f32⟩
  | .hbm, ⟨45, _⟩ => ⟨S2048x128, .f32⟩
  | .hbm, ⟨46, _⟩ => ⟨S2048x64, .f32⟩
  | .hbm, ⟨47, _⟩ => ⟨S2048x16, .f32⟩
  | .hbm, ⟨48, _⟩ => ⟨S2048x16, .f32⟩
  | .hbm, ⟨49, _⟩ => ⟨S2048x32, .f32⟩
  | .hbm, ⟨50, _⟩ => ⟨S2048x128, .f32⟩
  | .hbm, ⟨51, _⟩ => ⟨S2048x64, .f32⟩
  | .hbm, ⟨52, _⟩ => ⟨S2048x16, .f32⟩
  | .hbm, ⟨53, _⟩ => ⟨S2048x16, .f32⟩
  | .hbm, ⟨54, _⟩ => ⟨S2048x32, .f32⟩
  | .hbm, ⟨55, _⟩ => ⟨S2048x128, .f32⟩
  | .hbm, ⟨56, _⟩ => ⟨S2048x32, .f32⟩
  | .hbm, ⟨57, _⟩ => ⟨S2048x128, .f32⟩
  | .hbm, ⟨58, _⟩ => ⟨S2048x32, .f32⟩
  | .hbm, ⟨59, _⟩ => ⟨S2048x128, .f32⟩
  | .hbm, ⟨60, _⟩ => ⟨S_, .f32⟩
  | .hbm, ⟨61, _⟩ => ⟨S1x32, .f32⟩
  | .hbm, ⟨62, _⟩ => ⟨S1x128, .f32⟩
  | .hbm, ⟨63, _⟩ => ⟨S_, .f32⟩
  | .hbm, ⟨64, _⟩ => ⟨S1x64, .f32⟩
  | .hbm, ⟨65, _⟩ => ⟨S1x128, .f32⟩
  | .hbm, ⟨66, _⟩ => ⟨S768x2048, .f32⟩
  | .hbm, ⟨67, _⟩ => ⟨S8x96x2048, .f32⟩
  | .hbm, ⟨68, _⟩ => ⟨S_, .i32⟩
  | .hbm, ⟨69, _⟩ => ⟨S_, .f32⟩
  | .hbm, ⟨70, _⟩ => ⟨S8x128x2048, .f32⟩
  | .hbm, ⟨71, _⟩ => ⟨S1024x2048, .f32⟩
  | .hbm, ⟨72, _⟩ => ⟨S2048x1024, .f32⟩
  | .hbm, ⟨73, _⟩ => ⟨S768x2048, .f32⟩
  | .hbm, ⟨74, _⟩ => ⟨S8x96x2048, .f32⟩
  | .hbm, ⟨75, _⟩ => ⟨S_, .i32⟩
  | .hbm, ⟨76, _⟩ => ⟨S_, .f32⟩
  | .hbm, ⟨77, _⟩ => ⟨S8x128x2048, .f32⟩
  | .hbm, ⟨78, _⟩ => ⟨S1024x2048, .f32⟩
  | .hbm, ⟨79, _⟩ => ⟨S2048x1024, .f32⟩
  | .hbm, ⟨80, _⟩ => ⟨S2048x1024, .bf16⟩
  | .hbm, ⟨81, _⟩ => ⟨S2048x1024, .bf16⟩
  | .hbm, ⟨82, _⟩ => ⟨S1x128, .f32⟩
  | .hbm, ⟨83, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S1x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_call1_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57_0 : Ref sig .tc := ⟨.hbm, 80, rfl⟩
abbrev main_v57_1 : Ref sig .tc := ⟨.hbm, 81, rfl⟩
abbrev main_v57_2 : Ref sig .tc := ⟨.hbm, 82, rfl⟩
abbrev main_v57_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_541 : BitVec 32 := 0#32
  let v1737 : BitVec 1 := Scalar.cmpi .eq arg0 c0_i32_541
  let v1738 : BitVec 32 := Scalar.extui v1737
  let c0_i32_542 : BitVec 32 := 0#32
  let v1739 : BitVec 1 := Scalar.cmpi .ne v1738 c0_i32_542
  v1739

def k0_cond2 (i : grid0.Coords) : BitVec 1 :=
  let arg0 : BitVec 32 := BitVec.ofNat 32 (i 0).val
  let c0_i32_543 : BitVec 32 := 0#32
  let v1740 : BitVec 1 := Scalar.cmpi .sgt arg0 c0_i32_543
  let v1741 : BitVec 32 := Scalar.extui v1740
  let c0_i32_544 : BitVec 32 := 0#32
  let v1742 : BitVec 1 := Scalar.cmpi .ne v1741 c0_i32_544
  v1742

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceQkIdeal.lean ====
abbrev S2048x768 : Shape := ⟨2, ![2048, 768]⟩
abbrev S2048x1024 : Shape := ⟨2, ![2048, 1024]⟩
abbrev S1x2048 : Shape := ⟨2, ![1, 2048]⟩
abbrev S1x64 : Shape := ⟨2, ![1, 64]⟩
abbrev S1x32 : Shape := ⟨2, ![1, 32]⟩
abbrev S2048x8x128 : Shape := ⟨3, ![2048, 8, 128]⟩
abbrev S2048x8x96 : Shape := ⟨3, ![2048, 8, 96]⟩
abbrev S2048x8x64 : Shape := ⟨3, ![2048, 8, 64]⟩
abbrev S64 : Shape := ⟨1, ![64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S2048x8x32 : Shape := ⟨3, ![2048, 8, 32]⟩
abbrev S32 : Shape := ⟨1, ![32]⟩
abbrev S1x1x32 : Shape := ⟨3, ![1, 1, 32]⟩
abbrev S2048 : Shape := ⟨1, ![2048]⟩
abbrev S16 : Shape := ⟨1, ![16]⟩
abbrev S2048x1x1 : Shape := ⟨3, ![2048, 1, 1]⟩
abbrev S1x1x16 : Shape := ⟨3, ![1, 1, 16]⟩
abbrev S2048x1x16 : Shape := ⟨3, ![2048, 1, 16]⟩
abbrev S2048x8x16 : Shape := ⟨3, ![2048, 8, 16]⟩
abbrev S1x96 : Shape := ⟨2, ![1, 96]⟩
abbrev S1x128 : Shape := ⟨2, ![1, 128]⟩

abbrev nBuf : Space → Nat
  | .hbm => 238
  | .vmem => 0
  | .smem => 0
  | _ => 0

abbrev hbmTy0_0 (i : Nat) : BufTy := match i % 128 with
  | 0 => ⟨S2048x768, .f32⟩
  | 1 => ⟨S2048x1024, .f32⟩
  | 2 => ⟨S2048x768, .f32⟩
  | 3 => ⟨S2048x1024, .f32⟩
  | 4 => ⟨S1x2048, .i32⟩
  | 5 => ⟨S1x64, .f32⟩
  | 6 => ⟨S1x32, .f32⟩
  | 7 => ⟨S1x64, .f32⟩
  | 8 => ⟨S2048x8x128, .f32⟩
  | 9 => ⟨S2048x8x96, .f32⟩
  | 10 => ⟨S2048x8x64, .f32⟩
  | 11 => ⟨S64, .f32⟩
  | 12 => ⟨S2048x8x64, .f32⟩
  | 13 => ⟨S_, .f32⟩
  | 14 => ⟨S2048x8, .f32⟩
  | 15 => ⟨S2048x8x1, .f32⟩
  | 16 => ⟨S_, .f32⟩
  | 17 => ⟨S2048x8x1, .f32⟩
  | 18 => ⟨S2048x8x1, .f32⟩
  | 19 => ⟨S_, .f32⟩
  | 20 => ⟨S2048x8x1, .f32⟩
  | 21 => ⟨S2048x8x1, .f32⟩
  | 22 => ⟨S2048x8x1, .f32⟩
  | 23 => ⟨S2048x8x1, .f32⟩
  | 24 => ⟨S_, .f32⟩
  | 25 => ⟨S2048x8x1, .f32⟩
  | 26 => ⟨S2048x8x1, .f32⟩
  | 27 => ⟨S2048x8x64, .f32⟩
  | 28 => ⟨S2048x8x64, .f32⟩
  | 29 => ⟨S1x1x64, .f32⟩
  | 30 => ⟨S2048x8x64, .f32⟩
  | 31 => ⟨S2048x8x64, .f32⟩
  | 32 => ⟨S2048x8x32, .f32⟩
  | 33 => ⟨S32, .f32⟩
  | 34 => ⟨S2048x8x32, .f32⟩
  | 35 => ⟨S_, .f32⟩
  | 36 => ⟨S2048x8, .f32⟩
  | 37 => ⟨S2048x8x1, .f32⟩
  | 38 => ⟨S_, .f32⟩
  | 39 => ⟨S2048x8x1, .f32⟩
  | 40 => ⟨S2048x8x1, .f32⟩
  | 41 => ⟨S_, .f32⟩
  | 42 => ⟨S2048x8x1, .f32⟩
  | 43 => ⟨S2048x8x1, .f32⟩
  | 44 => ⟨S2048x8x1, .f32⟩
  | 45 => ⟨S2048x8x1, .f32⟩
  | 46 => ⟨S_, .f32⟩
  | 47 => ⟨S2048x8x1, .f32⟩
  | 48 => ⟨S2048x8x1, .f32⟩
  | 49 => ⟨S2048x8x32, .f32⟩
  | 50 => ⟨S2048x8x32, .f32⟩
  | 51 => ⟨S1x1x32, .f32⟩
  | 52 => ⟨S2048x8x32, .f32⟩
  | 53 => ⟨S2048x8x32, .f32⟩
  | 54 => ⟨S2048, .i32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S2048, .f32⟩
  | 66 => ⟨S2048x1x1, .f32⟩
  | 67 => ⟨S1x1x16, .f32⟩
  | 68 => ⟨S2048x1x16, .f32⟩
  | 69 => ⟨S2048x1x16, .f32⟩
  | 70 => ⟨S2048x1x16, .f32⟩
  | 71 => ⟨S2048x1x16, .f32⟩
  | 72 => ⟨S2048x1x16, .f32⟩
  | 73 => ⟨S2048x8x16, .f32⟩
  | 74 => ⟨S2048x8x16, .f32⟩
  | 75 => ⟨S2048x8x16, .f32⟩
  | 76 => ⟨S2048x8x16, .f32⟩
  | 77 => ⟨S2048x8x16, .f32⟩
  | 78 => ⟨S2048x8x16, .f32⟩
  | 79 => ⟨S2048x8x16, .f32⟩
  | 80 => ⟨S2048x8x16, .f32⟩
  | 81 => ⟨S2048x8x16, .f32⟩
  | 82 => ⟨S2048x8x16, .f32⟩
  | 83 => ⟨S2048x8x16, .f32⟩
  | 84 => ⟨S2048x8x16, .f32⟩
  | 85 => ⟨S2048x8x32, .f32⟩
  | 86 => ⟨S2048x8x128, .f32⟩
  | 87 => ⟨S2048x8x64, .f32⟩
  | 88 => ⟨S64, .f32⟩
  | 89 => ⟨S2048x8x64, .f32⟩
  | 90 => ⟨S_, .f32⟩
  | 91 => ⟨S2048x8, .f32⟩
  | 92 => ⟨S2048x8x1, .f32⟩
  | 93 => ⟨S_, .f32⟩
  | 94 => ⟨S2048x8x1, .f32⟩
  | 95 => ⟨S2048x8x1, .f32⟩
  | 96 => ⟨S_, .f32⟩
  | 97 => ⟨S2048x8x1, .f32⟩
  | 98 => ⟨S2048x8x1, .f32⟩
  | 99 => ⟨S2048x8x1, .f32⟩
  | 100 => ⟨S2048x8x1, .f32⟩
  | 101 => ⟨S_, .f32⟩
  | 102 => ⟨S2048x8x1, .f32⟩
  | 103 => ⟨S2048x8x1, .f32⟩
  | 104 => ⟨S2048x8x64, .f32⟩
  | 105 => ⟨S2048x8x64, .f32⟩
  | 106 => ⟨S1x1x64, .f32⟩
  | 107 => ⟨S2048x8x64, .f32⟩
  | 108 => ⟨S2048x8x64, .f32⟩
  | 109 => ⟨S2048x8x96, .f32⟩
  | 110 => ⟨S2048x8x64, .f32⟩
  | 111 => ⟨S2048x8x96, .f32⟩
  | 112 => ⟨S2048x8x64, .f32⟩
  | 113 => ⟨S2048x8x64, .f32⟩
  | 114 => ⟨S_, .f32⟩
  | 115 => ⟨S2048x8x128, .f32⟩
  | 116 => ⟨S2048x8x64, .f32⟩
  | 117 => ⟨S2048x8x32, .f32⟩
  | 118 => ⟨S2048x8x64, .f32⟩
  | 119 => ⟨S_, .f32⟩
  | 120 => ⟨S64, .f32⟩
  | 121 => ⟨S1x1x64, .f32⟩
  | 122 => ⟨S2048x8x64, .f32⟩
  | 123 => ⟨S2048x8x64, .f32⟩
  | 124 => ⟨S_, .f32⟩
  | 125 => ⟨S64, .f32⟩
  | 126 => ⟨S2048x8x64, .f32⟩
  | 127 => ⟨S_, .f32⟩
  | _ => ⟨S2048x768, .f32⟩

abbrev hbmTy0_1 (i : Nat) : BufTy := match i % 128 with
  | 0 => ⟨S2048x8, .f32⟩
  | 1 => ⟨S2048x8x1, .f32⟩
  | 2 => ⟨S2048x8x64, .f32⟩
  | 3 => ⟨S2048x8x64, .f32⟩
  | 4 => ⟨S2048x8x1, .f32⟩
  | 5 => ⟨S_, .f32⟩
  | 6 => ⟨S2048x8x1, .f32⟩
  | 7 => ⟨S2048x8x1, .f32⟩
  | 8 => ⟨S_, .f32⟩
  | 9 => ⟨S2048x8, .f32⟩
  | 10 => ⟨S2048x8x64, .f32⟩
  | 11 => ⟨S2048x8x64, .f32⟩
  | 12 => ⟨S2048x8x64, .f32⟩
  | 13 => ⟨S2048x8x64, .f32⟩
  | 14 => ⟨S2048x8x64, .f32⟩
  | 15 => ⟨S1x64, .f32⟩
  | 16 => ⟨S_, .f32⟩
  | 17 => ⟨S2048x8x128, .f32⟩
  | 18 => ⟨S2048x8x128, .f32⟩
  | 19 => ⟨S2048x1024, .f32⟩
  | 20 => ⟨S2048x8x16, .f32⟩
  | 21 => ⟨S2048x8x16, .f32⟩
  | 22 => ⟨S2048x8x16, .f32⟩
  | 23 => ⟨S2048x8x16, .f32⟩
  | 24 => ⟨S2048x8x16, .f32⟩
  | 25 => ⟨S2048x8x16, .f32⟩
  | 26 => ⟨S2048x8x16, .f32⟩
  | 27 => ⟨S2048x8x16, .f32⟩
  | 28 => ⟨S2048x8x16, .f32⟩
  | 29 => ⟨S2048x8x16, .f32⟩
  | 30 => ⟨S2048x8x16, .f32⟩
  | 31 => ⟨S2048x8x16, .f32⟩
  | 32 => ⟨S2048x8x16, .f32⟩
  | 33 => ⟨S_, .f32⟩
  | 34 => ⟨S2048x8x32, .f32⟩
  | 35 => ⟨S_, .f32⟩
  | 36 => ⟨S2048x8x32, .f32⟩
  | 37 => ⟨S2048x8x32, .f32⟩
  | 38 => ⟨S2048x8x32, .f32⟩
  | 39 => ⟨S_, .f32⟩
  | 40 => ⟨S32, .f32⟩
  | 41 => ⟨S1x1x32, .f32⟩
  | 42 => ⟨S2048x8x32, .f32⟩
  | 43 => ⟨S2048x8x32, .f32⟩
  | 44 => ⟨S_, .f32⟩
  | 45 => ⟨S32, .f32⟩
  | 46 => ⟨S2048x8x32, .f32⟩
  | 47 => ⟨S_, .f32⟩
  | 48 => ⟨S2048x8, .f32⟩
  | 49 => ⟨S2048x8x1, .f32⟩
  | 50 => ⟨S2048x8x32, .f32⟩
  | 51 => ⟨S2048x8x32, .f32⟩
  | 52 => ⟨S2048x8x1, .f32⟩
  | 53 => ⟨S_, .f32⟩
  | 54 => ⟨S2048x8x1, .f32⟩
  | 55 => ⟨S2048x8x1, .f32⟩
  | 56 => ⟨S_, .f32⟩
  | 57 => ⟨S2048x8, .f32⟩
  | 58 => ⟨S2048x8x32, .f32⟩
  | 59 => ⟨S2048x8x32, .f32⟩
  | 60 => ⟨S2048x8x32, .f32⟩
  | 61 => ⟨S2048x8x32, .f32⟩
  | 62 => ⟨S2048x8x32, .f32⟩
  | 63 => ⟨S1x32, .f32⟩
  | 64 => ⟨S_, .f32⟩
  | 65 => ⟨S2048x8x96, .f32⟩
  | 66 => ⟨S2048x8x64, .f32⟩
  | 67 => ⟨S_, .f32⟩
  | 68 => ⟨S64, .f32⟩
  | 69 => ⟨S1x1x64, .f32⟩
  | 70 => ⟨S2048x8x64, .f32⟩
  | 71 => ⟨S2048x8x64, .f32⟩
  | 72 => ⟨S_, .f32⟩
  | 73 => ⟨S64, .f32⟩
  | 74 => ⟨S2048x8x64, .f32⟩
  | 75 => ⟨S_, .f32⟩
  | 76 => ⟨S2048x8, .f32⟩
  | 77 => ⟨S2048x8x1, .f32⟩
  | 78 => ⟨S2048x8x64, .f32⟩
  | 79 => ⟨S2048x8x64, .f32⟩
  | 80 => ⟨S2048x8x1, .f32⟩
  | 81 => ⟨S_, .f32⟩
  | 82 => ⟨S2048x8x1, .f32⟩
  | 83 => ⟨S2048x8x1, .f32⟩
  | 84 => ⟨S_, .f32⟩
  | 85 => ⟨S2048x8, .f32⟩
  | 86 => ⟨S2048x8x64, .f32⟩
  | 87 => ⟨S2048x8x64, .f32⟩
  | 88 => ⟨S2048x8x64, .f32⟩
  | 89 => ⟨S2048x8x64, .f32⟩
  | 90 => ⟨S2048x8x64, .f32⟩
  | 91 => ⟨S1x64, .f32⟩
  | 92 => ⟨S_, .f32⟩
  | 93 => ⟨S2048x8x96, .f32⟩
  | 94 => ⟨S2048x8x96, .f32⟩
  | 95 => ⟨S2048x768, .f32⟩
  | 96 => ⟨S2048x8x96, .f32⟩
  | 97 => ⟨S_, .i32⟩
  | 98 => ⟨S_, .f32⟩
  | 99 => ⟨S2048x8x128, .f32⟩
  | 100 => ⟨S2048x1024, .f32⟩
  | 101 => ⟨S1x96, .f32⟩
  | 102 => ⟨S_, .i32⟩
  | 103 => ⟨S_, .f32⟩
  | 104 => ⟨S1x128, .f32⟩
  | 105 => ⟨S_, .i32⟩
  | 106 => ⟨S_, .f32⟩
  | 107 => ⟨S1x128, .f32⟩
  | 108 => ⟨S2048x1024, .bf16⟩
  | 109 => ⟨S2048x1024, .bf16⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_14 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_15 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_v100 : Ref sig .tc := ⟨.hbm, 126, rfl⟩
abbrev main_cst_17 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_cst_19 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_20 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_21 : Ref sig .tc := ⟨.hbm, 161, rfl⟩
abbrev main_v131 : Ref sig .tc := ⟨.hbm, 162, rfl⟩
abbrev main_cst_22 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_23 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_24 : Ref sig .tc := ⟨.hbm, 172, rfl⟩
abbrev main_v139 : Ref sig .tc := ⟨.hbm, 173, rfl⟩
abbrev main_v140 : Ref sig .tc := ⟨.hbm, 174, rfl⟩
abbrev main_cst_25 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_26 : Ref sig .tc := ⟨.hbm, 181, rfl⟩
abbrev main_v146 : Ref sig .tc := ⟨.hbm, 182, rfl⟩
abbrev main_v147 : Ref sig .tc := ⟨.hbm, 183, rfl⟩
abbrev main_cst_27 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_28 : Ref sig .tc := ⟨.hbm, 192, rfl⟩
abbrev main_v155 : Ref sig .tc := ⟨.hbm, 193, rfl⟩
abbrev main_v156 : Ref sig .tc := ⟨.hbm, 194, rfl⟩
abbrev main_cst_29 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_30 : Ref sig .tc := ⟨.hbm, 200, rfl⟩
abbrev main_v161 : Ref sig .tc := ⟨.hbm, 201, rfl⟩
abbrev main_v162 : Ref sig .tc := ⟨.hbm, 202, rfl⟩
abbrev main_cst_31 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_32 : Ref sig .tc := ⟨.hbm, 209, rfl⟩
abbrev main_v168 : Ref sig .tc := ⟨.hbm, 210, rfl⟩
abbrev main_v169 : Ref sig .tc := ⟨.hbm, 211, rfl⟩
abbrev main_cst_33 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_34 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_c : Ref sig .tc := ⟨.hbm, 225, rfl⟩
abbrev main_call0_v0 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_c_35 : Ref sig .tc := ⟨.hbm, 230, rfl⟩
abbrev main_call1_v0 : Ref sig .tc := ⟨.hbm, 231, rfl⟩
abbrev main_v184 : Ref sig .tc := ⟨.hbm, 232, rfl⟩
abbrev main_c_36 : Ref sig .tc := ⟨.hbm, 233, rfl⟩
abbrev main_call2_v0 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩

abbrev nD : Nat := 1
abbrev τ : Topo := Topo.v7x

variable {F : FTy → Type} [FloatOps F]
-- ==== KernelPre.lean ====
abbrev S2048x768 : Shape := ⟨2, ![2048, 768]⟩
abbrev S2048x1024 : Shape := ⟨2, ![2048, 1024]⟩
abbrev S2048x32 : Shape := ⟨2, ![2048, 32]⟩
abbrev S2048x512 : Shape := ⟨2, ![2048, 512]⟩
abbrev S2048x2336 : Shape := ⟨2, ![2048, 2336]⟩
abbrev S1x2048 : Shape := ⟨2, ![1, 2048]⟩
abbrev S512x768 : Shape := ⟨2, ![512, 768]⟩
abbrev S256x1024 : Shape := ⟨2, ![256, 1024]⟩
abbrev S1x512 : Shape := ⟨2, ![1, 512]⟩
abbrev S1x256 : Shape := ⟨2, ![1, 256]⟩
abbrev S1x32 : Shape := ⟨2, ![1, 32]⟩
abbrev S1x64 : Shape := ⟨2, ![1, 64]⟩
abbrev S_ : Shape := ⟨0, ![]⟩
abbrev S1x128 : Shape := ⟨2, ![1, 128]⟩
abbrev S768x2048 : Shape := ⟨2, ![768, 2048]⟩
abbrev S8x96x2048 : Shape := ⟨3, ![8, 96, 2048]⟩
abbrev S8x128x2048 : Shape := ⟨3, ![8, 128, 2048]⟩
abbrev S1024x2048 : Shape := ⟨2, ![1024, 2048]⟩
abbrev S768x512 : Shape := ⟨2, ![768, 512]⟩
abbrev S8x96x512 : Shape := ⟨3, ![8, 96, 512]⟩
abbrev S8x128x512 : Shape := ⟨3, ![8, 128, 512]⟩
abbrev S1024x512 : Shape := ⟨2, ![1024, 512]⟩
abbrev S2336x2048 : Shape := ⟨2, ![2336, 2048]⟩
abbrev S64x2048 : Shape := ⟨2, ![64, 2048]⟩
abbrev S32x2048 : Shape := ⟨2, ![32, 2048]⟩
abbrev S1536x2048 : Shape := ⟨2, ![1536, 2048]⟩
abbrev S2432x2048 : Shape := ⟨2, ![2432, 2048]⟩
abbrev S2048x2432 : Shape := ⟨2, ![2048, 2432]⟩
abbrev S2048x128 : Shape := ⟨2, ![2048, 128]⟩
abbrev S2048x1 : Shape := ⟨2, ![2048, 1]⟩
abbrev S16 : Shape := ⟨1, ![16]⟩
abbrev S32 : Shape := ⟨1, ![32]⟩
abbrev S80 : Shape := ⟨1, ![80]⟩
abbrev S128 : Shape := ⟨1, ![128]⟩
abbrev S2048x64 : Shape := ⟨2, ![2048, 64]⟩
abbrev S2048x16 : Shape := ⟨2, ![2048, 16]⟩
abbrev S256x128 : Shape := ⟨2, ![256, 128]⟩
abbrev S256x512 : Shape := ⟨2, ![256, 512]⟩
abbrev S256x2432 : Shape := ⟨2, ![256, 2432]⟩
abbrev S256x256 : Shape := ⟨2, ![256, 256]⟩
abbrev S256 : Shape := ⟨1, ![256]⟩
abbrev S256x1 : Shape := ⟨2, ![256, 1]⟩
abbrev S512 : Shape := ⟨1, ![512]⟩
abbrev S128x128 : Shape := ⟨2, ![128, 128]⟩

abbrev nBuf : Space → Nat
  | .hbm => 110
  | .vmem => 36
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S2048x32, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x2336, .f32⟩
  | .hbm, ⟨7, _⟩ => ⟨S1x2048, .i32⟩
  | .hbm, ⟨8, _⟩ => ⟨S512x768, .f32⟩
  | .hbm, ⟨9, _⟩ => ⟨S256x1024, .f32⟩
  | .hbm, ⟨10, _⟩ => ⟨S1x512, .f32⟩
  | .hbm, ⟨11, _⟩ => ⟨S1x256, .f32⟩
  | .hbm, ⟨12, _⟩ => ⟨S1x32, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S_, .f32⟩
  | .hbm, ⟨18, _⟩ => ⟨S1x32, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S768x2048, .f32⟩
  | .hbm, ⟨23, _⟩ => ⟨S8x96x2048, .f32⟩
  | .hbm, ⟨24, _⟩ => ⟨S_, .i32⟩
  | .hbm, ⟨25, _⟩ => ⟨S_, .f32⟩
  | .hbm, ⟨26, _⟩ => ⟨S8x128x2048, .f32⟩
  | .hbm, ⟨27, _⟩ => ⟨S1024x2048, .f32⟩
  | .hbm, ⟨28, _⟩ => ⟨S2048x1024, .f32⟩
  | .hbm, ⟨29, _⟩ => ⟨S2048x1024, .bf16⟩
  | .hbm, ⟨30, _⟩ => ⟨S768x512, .f32⟩
  | .hbm, ⟨31, _⟩ => ⟨S768x512, .bf16⟩
  | .hbm, ⟨32, _⟩ => ⟨S8x96x512, .bf16⟩
  | .hbm, ⟨33, _⟩ => ⟨S_, .i32⟩
  | .hbm, ⟨34, _⟩ => ⟨S_, .bf16⟩
  | .hbm, ⟨35, _⟩ => ⟨S8x128x512, .bf16⟩
  | .hbm, ⟨36, _⟩ => ⟨S1024x512, .bf16⟩
  | .hbm, ⟨37, _⟩ => ⟨S2336x2048, .f32⟩
  | .hbm, ⟨38, _⟩ => ⟨S768x2048, .f32⟩
  | .hbm, ⟨39, _⟩ => ⟨S_, .f32⟩
  | .hbm, ⟨40, _⟩ => ⟨S64x2048, .f32⟩
  | .hbm, ⟨41, _⟩ => ⟨S32x2048, .f32⟩
  | .hbm, ⟨42, _⟩ => ⟨S_, .f32⟩
  | .hbm, ⟨43, _⟩ => ⟨S32x2048, .f32⟩
  | .hbm, ⟨44, _⟩ => ⟨S1536x2048, .f32⟩
  | .hbm, ⟨45, _⟩ => ⟨S2432x2048, .f32⟩
  | .hbm, ⟨46, _⟩ => ⟨S2048x2432, .f32⟩
  | .hbm, ⟨47, _⟩ => ⟨S_, .i32⟩
  | .hbm, ⟨48, _⟩ => ⟨S_, .f32⟩
  | .hbm, ⟨49, _⟩ => ⟨S2048x128, .f32⟩
  | .hbm, ⟨50, _⟩ => ⟨S2048x1024, .bf16⟩
  | .hbm, ⟨51, _⟩ => ⟨S2048x1, .i32⟩
  | .hbm, ⟨52, _⟩ => ⟨S2048x1, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S80, .f32⟩
  | .hbm, ⟨75, _⟩ => ⟨S128, .f32⟩
  | .hbm, ⟨76, _⟩ => ⟨S1x128, .f32⟩
  | .hbm, ⟨77, _⟩ => ⟨S2048x128, .f32⟩
  | .hbm, ⟨78, _⟩ => ⟨S2048x128, .f32⟩
  | .hbm, ⟨79, _⟩ => ⟨S2048x128, .f32⟩
  | .hbm, ⟨80, _⟩ => ⟨S2048x128, .f32⟩
  | .hbm, ⟨81, _⟩ => ⟨S2048x128, .f32⟩
  | .hbm, ⟨82, _⟩ => ⟨S2048x128, .f32⟩
  | .hbm, ⟨83, _⟩ => ⟨S2048x128, .f32⟩
  | .hbm, ⟨84, _⟩ => ⟨S2048x128, .f32⟩
  | .hbm, ⟨85, _⟩ => ⟨S_, .f32⟩
  | .hbm, ⟨86, _⟩ => ⟨S2048x128, .f32⟩
  | .hbm, ⟨87, _⟩ => ⟨S_, .f32⟩
  | .hbm, ⟨88, _⟩ => ⟨S2048x128, .f32⟩
  | .hbm, ⟨89, _⟩ => ⟨S2048x64, .f32⟩
  | .hbm, ⟨90, _⟩ => ⟨S2048x16, .f32⟩
  | .hbm, ⟨91, _⟩ => ⟨S2048x16, .f32⟩
  | .hbm, ⟨92, _⟩ => ⟨S2048x32, .f32⟩
  | .hbm, ⟨93, _⟩ => ⟨S2048x128, .f32⟩
  | .hbm, ⟨94, _⟩ => ⟨S2048x64, .f32⟩
  | .hbm, ⟨95, _⟩ => ⟨S2048x16, .f32⟩
  | .hbm, ⟨96, _⟩ => ⟨S2048x16, .f32⟩
  | .hbm, ⟨97, _⟩ => ⟨S2048x32, .f32⟩
  | .hbm, ⟨98, _⟩ => ⟨S2048x128, .f32⟩
  | .hbm, ⟨99, _⟩ => ⟨S2048x32, .f32⟩
  | .hbm, ⟨100, _⟩ => ⟨S2048x128, .f32⟩
  | .hbm, ⟨101, _⟩ => ⟨S2048x32, .f32⟩
  | .hbm, ⟨102, _⟩ => ⟨S2048x128, .f32⟩
  | .hbm, ⟨103, _⟩ => ⟨S256x1024, .bf16⟩
  | .hbm, ⟨104, _⟩ => ⟨S2048x2432, .bf16⟩
  | .hbm, ⟨105, _⟩ => ⟨S1x512, .f32⟩
  | .hbm, ⟨106, _⟩ => ⟨S1x256, .f32⟩
  | .hbm, ⟨107, _⟩ => ⟨S1x128, .f32⟩
  | .hbm, ⟨108, _⟩ => ⟨S1x128, .f32⟩
  | .hbm, ⟨109, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x2432, .f32⟩
  | .local _ .vmem, ⟨13, _⟩ => ⟨S256x2432, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S1024x512, .bf16⟩
  | .local _ .vmem, ⟨23, _⟩ => ⟨S256x1024, .bf16⟩
  | .local _ .vmem, ⟨24, _⟩ => ⟨S1x512, .f32⟩
  | .local _ .vmem, ⟨25, _⟩ => ⟨S1x256, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S256x2432, .bf16⟩
  | .local _ .vmem, ⟨30, _⟩ => ⟨S256x2432, .bf16⟩
  | .local _ .vmem, ⟨31, _⟩ => ⟨S1x512, .f32⟩
  | .local _ .vmem, ⟨32, _⟩ => ⟨S1x256, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_call1_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70_0 : Ref sig .tc := ⟨.hbm, 104, rfl⟩
abbrev main_v70_1 : Ref sig .tc := ⟨.hbm, 105, rfl⟩
abbrev main_v70_2 : Ref sig .tc := ⟨.hbm, 106, rfl⟩
abbrev main_v70_3 : Ref sig .tc := ⟨.hbm, 107, rfl⟩
abbrev main_v70_4 : Ref sig .tc := ⟨.hbm, 108, rfl⟩
abbrev main_v70_5 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_427 : BitVec 32 := 0#32
  let v1282 : BitVec 1 := Scalar.cmpi .eq arg0 c0_i32_427
  let v1283 : BitVec 32 := Scalar.extui v1282
  let c0_i32_428 : BitVec 32 := 0#32
  let v1284 : BitVec 1 := Scalar.cmpi .ne v1283 c0_i32_428
  v1284

def k0_cond2 (i : grid0.Coords) : BitVec 1 :=
  let arg0 : BitVec 32 := BitVec.ofNat 32 (i 0).val
  let c0_i32_429 : BitVec 32 := 0#32
  let v1285 : BitVec 1 := Scalar.cmpi .sgt arg0 c0_i32_429
  let v1286 : BitVec 32 := Scalar.extui v1285
  let c0_i32_430 : BitVec 32 := 0#32
  let v1287 : BitVec 1 := Scalar.cmpi .ne v1286 c0_i32_430
  v1287

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2432 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferencePreIdeal.lean ====
abbrev S2048x768 : Shape := ⟨2, ![2048, 768]⟩
abbrev S2048x1024 : Shape := ⟨2, ![2048, 1024]⟩
abbrev S2048x32 : Shape := ⟨2, ![2048, 32]⟩
abbrev S2048x512 : Shape := ⟨2, ![2048, 512]⟩
abbrev S2048x2336 : Shape := ⟨2, ![2048, 2336]⟩
abbrev S1x2048 : Shape := ⟨2, ![1, 2048]⟩
abbrev S512x768 : Shape := ⟨2, ![512, 768]⟩
abbrev S256x1024 : Shape := ⟨2, ![256, 1024]⟩
abbrev S1x512 : Shape := ⟨2, ![1, 512]⟩
abbrev S1x256 : Shape := ⟨2, ![1, 256]⟩
abbrev S1x32 : Shape := ⟨2, ![1, 32]⟩
abbrev S1x64 : Shape := ⟨2, ![1, 64]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S256 : Shape := ⟨1, ![256]⟩
abbrev S512 : Shape := ⟨1, ![512]⟩

abbrev nBuf : Space → Nat
  | .hbm => 59
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S2048x32, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x2336, .f32⟩
  | .hbm, ⟨7, _⟩ => ⟨S1x2048, .i32⟩
  | .hbm, ⟨8, _⟩ => ⟨S512x768, .f32⟩
  | .hbm, ⟨9, _⟩ => ⟨S256x1024, .f32⟩
  | .hbm, ⟨10, _⟩ => ⟨S1x512, .f32⟩
  | .hbm, ⟨11, _⟩ => ⟨S1x256, .f32⟩
  | .hbm, ⟨12, _⟩ => ⟨S1x32, .f32⟩
  | .hbm, ⟨13, _⟩ => ⟨S1x64, .f32⟩
  | .hbm, ⟨14, _⟩ => ⟨S1x64, .f32⟩
  | .hbm, ⟨15, _⟩ => ⟨S2048x512, .f32⟩
  | .hbm, ⟨16, _⟩ => ⟨S2048x256, .f32⟩
  | .hbm, ⟨17, _⟩ => ⟨S2048x512, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x768, .f32⟩
  | .hbm, ⟨33, _⟩ => ⟨S2048x256, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S2048x1024, .f32⟩
  | .hbm, ⟨49, _⟩ => ⟨S2048x256, .f32⟩
  | .hbm, ⟨50, _⟩ => ⟨S2048x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S512, .f32⟩
  | .hbm, ⟨58, _⟩ => ⟨S1x512, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Proof.Reals.lean ====
/- Facts about extended reals that several of the value proofs share: constants of the programs as real numbers, and the laws of finite
    sums under a real factor. -/
module

public import Idealize.ShloMosaic.Lib.Pointwise
public import Idealize.ShloMosaic.Lib.IdealHost

@[expose] public section

noncomputable section

open Idealize.ShloMosaic

namespace Cert.Reals

/-- A real factor that is not negative goes into a sum of two extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A real factor that is not negative goes into a finite sum of extended reals. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The same with the factor on the right. -/
theorem sum_mul_coe {ι : Type*} {c : ℝ} (hc : 0 ≤ c) (s : Finset ι) (f : ι → EReal) :
    (∑ i ∈ s, f i) * (c : EReal) = ∑ i ∈ s, f i * (c : EReal) := by
  rw [mul_comm, coe_mul_sum hc]
  exact Finset.sum_congr rfl fun _ _ => mul_comm _ _

/-- Twice an extended real. -/
theorem add_self (x : EReal) : x + x = ((2 : ℝ) : EReal) * x := by
  have h : ((2 : ℝ) : EReal) = 1 + 1 := by rw [← EReal.coe_one, ← EReal.coe_add]; norm_num
  rw [h, EReal.right_distrib_of_nonneg (by norm_num) (by norm_num), one_mul]

theorem mul_self_nonneg (x : EReal) : 0 ≤ x * x := by
  rcases le_total 0 x with h | h
  · exact mul_nonneg h h
  · rw [← neg_mul_neg]
    exact mul_nonneg (by simpa using h) (by simpa using h)

/-- `10⁻⁶`, as rounded to a float, is a positive real number. -/
theorem eps_pos : 0 < Ideal.ofBits .f32 0x358637BD#32 := by
  have h : Ideal.ofBits .f32 0x358637BD#32 = (((8796093 : ℝ) / 8796093022208 : ℝ) : EReal) := by
    simp [Ideal.ofBits, Ideal.ieee, -EReal.coe_mul]; norm_num
  rw [h]
  exact_mod_cast (by norm_num : (0 : ℝ) < 8796093 / 8796093022208)

/-- A mean of squares plus a positive number is positive. -/
theorem meanSq_pos {ι : Type*} (s : Finset ι) (x : ι → EReal) {c : ℝ} (hc : 0 < c) {e : EReal} (he : 0 < e) :
    0 < Ideal.div (∑ k ∈ s, x k * x k) (c : EReal) + e := by
  rw [Ideal.div_coe hc.ne']
  have h : 0 ≤ (∑ k ∈ s, x k * x k) * ((1 / c : ℝ) : EReal) :=
    mul_nonneg (Finset.sum_nonneg fun k _ => mul_self_nonneg _) (by exact_mod_cast (by positivity : (0 : ℝ) ≤ 1 / c))
  exact lt_of_lt_of_le he (le_add_of_nonneg_left h)

/-- The reciprocal root of a positive extended real is a real number `σ ≥ 0`, and `σ / v = σ³`. -/
theorem rsqrt_real {v : EReal} (hv : 0 < v) : ∃ σ : ℝ, 0 ≤ σ ∧ Ideal.rsqrt v = (σ : EReal) ∧ Ideal.div (Ideal.rsqrt v) v = ((σ * σ * σ : ℝ) : EReal) := by
  induction v using EReal.rec with
  | bot => exact absurd hv (by simp)
  | top =>
    refine ⟨0, le_refl _, rfl, ?_⟩
    rw [show Ideal.rsqrt ⊤ = 0 from rfl]
    simp [Ideal.div]
  | coe p =>
    have hp : 0 < p := by exact_mod_cast hv
    refine ⟨(Real.sqrt p)⁻¹, by positivity, by rw [Ideal.rsqrt_coe, if_neg hp.not_gt, if_neg hp.ne'], ?_⟩
    rw [Ideal.rsqrt_coe, if_neg hp.not_gt, if_neg hp.ne', Ideal.div_coe hp.ne', ← EReal.coe_mul]
    congr 1
    have h : Real.sqrt p * Real.sqrt p = p := Real.mul_self_sqrt hp.le
    have h0 : Real.sqrt p ≠ 0 := (Real.sqrt_pos.mpr hp).ne'
    field_simp
    nlinarith [h]

/-- THE NORM'S GRADIENT of one row, in the form that the kernel has — the cotangent less its projection, scaled — and in the form that
    differentiating `x * rsqrt (mean x² + e)` has: they agree on all extended reals. `a` is the cotangent times the gain, `S` is `∑ a x`. -/
theorem norm_bwd {v : EReal} (hv : 0 < v) {c : ℝ} (hc : c ≠ 0) (x a S T : EReal) (hT : T = S * Ideal.rsqrt v) :
    Ideal.rsqrt v * (a - x * Ideal.rsqrt v * Ideal.div T (c : EReal))
      = a * Ideal.rsqrt v + x * Ideal.div (S * (((-(1 / 2) : ℝ) : EReal) * Ideal.div (Ideal.rsqrt v) v)) (c : EReal)
        + Ideal.div (S * (((-(1 / 2) : ℝ) : EReal) * Ideal.div (Ideal.rsqrt v) v)) (c : EReal) * x := by
  obtain ⟨σ, h0, h1, h2⟩ := rsqrt_real hv
  rw [hT, h2, h1, Ideal.div_coe hc, Ideal.div_coe hc, sub_eq_add_neg, coe_mul_add h0, add_assoc, mul_comm _ x, add_self, mul_comm a]
  congr 1
  rw [mul_neg, ← neg_mul, ← EReal.coe_neg]
  rw [show ((-σ : ℝ) : EReal) * (x * σ * (S * σ * ((1 / c : ℝ) : EReal))) = (((-σ : ℝ) : EReal) * σ * σ * ((1 / c : ℝ) : EReal)) * (x * S) by ac_rfl,
    show ((2 : ℝ) : EReal) * (x * (S * (((-(1 / 2) : ℝ) : EReal) * ((σ * σ * σ : ℝ) : EReal)) * ((1 / c : ℝ) : EReal)))
      = (((2 : ℝ) : EReal) * ((-(1 / 2) : ℝ) : EReal) * ((σ * σ * σ : ℝ) : EReal) * ((1 / c : ℝ) : EReal)) * (x * S) by ac_rfl]
  simp only [← EReal.coe_mul]
  congr 3
  ring

/-- The projection's sum with the row's scale drawn out. -/
theorem sum_scaled {ι : Type*} (s : Finset ι) (a x : ι → EReal) {v : EReal} (hv : 0 < v) :
    ∑ k ∈ s, a k * (x k * Ideal.rsqrt v) = (∑ k ∈ s, x k * a k) * Ideal.rsqrt v := by
  obtain ⟨σ, h0, h1, -⟩ := rsqrt_real hv
  rw [h1, sum_mul_coe h0]
  exact Finset.sum_congr rfl fun k _ => by ac_rfl

end Cert.Reals

end
-- ==== Proof.Loss.lean ====
/- The loss head and its gradient: what the kernel's four result arrays hold after the run. -/
module

public import proofs.«01_k».proof.Proof.Gen.KernelIdeal.Value
public import proofs.«01_k».proof.Proof.Gen.ReferenceIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- `1 / 1024`, the factor of the loss's gradient. -/
theorem ofBits_inv1024 : Ideal.ofBits .f32 0x3A800000#32 = ((1 / 1024 : ℝ) : EReal) := by
  simp [Ideal.ofBits, Ideal.ieee, -EReal.coe_mul]; norm_num

/-- `1 / 2048`, the loss's factor. -/
theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The blocks' places: four bands of 512 rows; the gain, the loss and the gain's gradient are one block each. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

/-- The gradient's factor, as the derivative of the mean of squares spells it: `(1/2) / 1024 * (2 * e) = e / 1024`. -/
theorem scale (e : EReal) : Ideal.div ((1 / 2 : ℝ) : EReal) ((1024 : ℝ) : EReal) * (((2 : ℝ) : EReal) * e) = e * ((1 / 1024 : ℝ) : EReal) := by
  rw [Ideal.div_coe (by norm_num), ← EReal.coe_mul, ← mul_assoc, ← EReal.coe_mul, mul_comm]
  norm_num

/-! ### The reference's results, read at an index -/

section Ref

variable (x0 x1 x2 : FVec Ideal S2048x1024 .f32) (x3 : FVec Ideal S1x1024 .f32)

theorem ref_v3 (r : Fin 2048) (l : Fin 1024) : Cert.ReferenceIdeal.Read.val_main_v3 (F := Ideal) x0 x1 x2 x3 (ix2 r l)
    = x0 (ix2 r l) + x3 (ix2 0 l) * x1 (ix2 r l) - x2 (ix2 r l) := by
  pointwise [Cert.ReferenceIdeal.Read.val_main_v3, Cert.ReferenceIdeal.Read.val_main_v2, Cert.ReferenceIdeal.Read.val_main_v1, Cert.ReferenceIdeal.Read.val_main_v0]

theorem ref_v17 (r : Fin 2048) (l : Fin 1024) : Cert.ReferenceIdeal.Read.val_main_v17 (F := Ideal) x0 x1 x2 x3 (ix2 r l)
    = (x0 (ix2 r l) + x3 (ix2 0 l) * x1 (ix2 r l) - x2 (ix2 r l)) * ((1 / 1024 : ℝ) : EReal) := by
  pointwise [Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v6, Cert.ReferenceIdeal.Read.val_main_v5, Cert.ReferenceIdeal.Read.val_main_cst, Cert.ReferenceIdeal.Read.val_main_cst_4, Cert.ReferenceIdeal.Read.val_main_cst_5, Cert.ReferenceIdeal.Read.val_main_cst_6]
  rw [ofBits_half, ofBits_two, ofBits_1024, scale, ref_v3]

theorem ref_v23 (r : Fin 2048) (l : Fin 1024) : Cert.ReferenceIdeal.Read.val_main_v23 (F := Ideal) x0 x1 x2 x3 (ix2 r l)
    = x3 (ix2 0 l) * ((x0 (ix2 r l) + x3 (ix2 0 l) * x1 (ix2 r l) - x2 (ix2 r l)) * ((1 / 1024 : ℝ) : EReal)) := by
  pointwise [Cert.ReferenceIdeal.Read.val_main_v23, Cert.ReferenceIdeal.Read.val_main_v19, Cert.ReferenceIdeal.Read.val_main_v18]
  rw [ref_v17]

theorem ref_v22 (u : Fin 1) (l : Fin 1024) : Cert.ReferenceIdeal.Read.val_main_v22 (F := Ideal) x0 x1 x2 x3 (ix2 u l)
    = ∑ r : Fin 2048, (x0 (ix2 r l) + x3 (ix2 0 l) * x1 (ix2 r l) - x2 (ix2 r l)) * ((1 / 1024 : ℝ) : EReal) * x1 (ix2 r l) := by
  pointwise [Cert.ReferenceIdeal.Read.val_main_v22, Cert.ReferenceIdeal.Read.val_main_v21, Cert.ReferenceIdeal.Read.val_main_v20, Cert.ReferenceIdeal.Read.val_main_cst_7]
  simp only [ref_v17]

theorem ref_v24 (u v : Fin 1) : Cert.ReferenceIdeal.Read.val_main_v24 (F := Ideal) x0 x1 x2 x3 (ix2 u v)
    = ∑ r : Fin 2048, ∑ l : Fin 1024, ((1 / 2048 : ℝ) : EReal) * ((x0 (ix2 r l) + x3 (ix2 0 l) * x1 (ix2 r l) - x2 (ix2 r l)) * (x0 (ix2 r l) + x3 (ix2 0 l) * x1 (ix2 r l) - x2 (ix2 r l))) := by
  pointwise [Cert.ReferenceIdeal.Read.val_main_v24, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v4, Cert.ReferenceIdeal.Read.val_main_cst_0, Cert.ReferenceIdeal.Read.val_main_cst_1, Cert.ReferenceIdeal.Read.val_main_cst_2, Cert.ReferenceIdeal.Read.val_main_cst_3]
  simp only [ofBits_half, ofBits_1024, ref_v3, Ideal.div_coe (show (1024 : ℝ) ≠ 0 by norm_num)]
  rw [Cert.Reals.coe_mul_sum (by norm_num)]
  refine Finset.sum_congr rfl fun r _ => ?_
  rw [mul_comm _ (((1 / 1024 : ℝ)) : EReal), ← mul_assoc, ← EReal.coe_mul, Cert.Reals.coe_mul_sum (by norm_num)]
  norm_num

end Ref

/-! ### The kernel's blocks -/

theorem pay2_at (v0 v1 v2 : FVec Ideal S512x1024 .f32) (v3 : FVec Ideal S1x1024 .f32) (r : Fin 512) (l : Fin 1024) : (k0_pay2 (F := Ideal) v0 v1 v2 v3 (ix2 r l) : EReal)
    = (v0 (ix2 r l) + v3 (ix2 0 l) * v1 (ix2 r l) - v2 (ix2 r l)) * ((1 / 1024 : ℝ) : EReal) := by
  pointwise [k0_pay2, k0_pay1]
  rw [ofBits_inv1024]

theorem pay5_at (v0 v1 v2 : FVec Ideal S512x1024 .f32) (v3 : FVec Ideal S1x1024 .f32) (r : Fin 512) (l : Fin 1024) : (k0_pay5 (F := Ideal) v0 v1 v2 v3 (ix2 r l) : EReal)
    = v3 (ix2 0 l) * ((v0 (ix2 r l) + v3 (ix2 0 l) * v1 (ix2 r l) - v2 (ix2 r l)) * ((1 / 1024 : ℝ) : EReal)) := by
  pointwise [k0_pay5]
  rw [pay2_at]

theorem pay4_at (v0 v1 v2 : FVec Ideal S512x1024 .f32) (v3 : FVec Ideal S1x1024 .f32) (u : Fin 1) (l : Fin 1024) : (k0_pay4 (F := Ideal) v0 v1 v2 v3 (ix2 u l) : EReal)
    = ∑ r : Fin 512, (v0 (ix2 r l) + v3 (ix2 0 l) * v1 (ix2 r l) - v2 (ix2 r l)) * ((1 / 1024 : ℝ) : EReal) * v1 (ix2 r l) := by
  pointwise [k0_pay4]
  simp only [pay2_at]

theorem pay3_at (v0 v1 v2 : FVec Ideal S512x1024 .f32) (v3 : FVec Ideal S1x1024 .f32) (u v : Fin 1) : (k0_pay3 (F := Ideal) v0 v1 v2 v3 (ix2 u v) : EReal)
    = ∑ r : Fin 512, ∑ l : Fin 1024, ((1 / 2048 : ℝ) : EReal) * ((v0 (ix2 r l) + v3 (ix2 0 l) * v1 (ix2 r l) - v2 (ix2 r l)) * (v0 (ix2 r l) + v3 (ix2 0 l) * v1 (ix2 r l) - v2 (ix2 r l))) := by
  pointwise [k0_pay3, k0_pay1]
  rw [ofBits_inv2048, Finset.sum_comm, mul_comm, Cert.Reals.coe_mul_sum (by norm_num)]
  exact Finset.sum_congr rfl fun r _ => Cert.Reals.coe_mul_sum (by norm_num) _ _

theorem lt4 (t : Fin cfg0.N) : t.val < 4 := lt_of_lt_of_eq t.isLt N_0

/-- What a point leaves in window 4's buffer. -/
theorem outs4 (c : Dev nD) (t : Fin cfg0.N) : (outsAt0 m c t.val t.isLt).1 = k0_pay2 (iblk m c 0 t) (iblk m c 1 t) (iblk m c 2 t) (iblk m c 3 t) := by
  have hlt := lt4 t
  by_cases h : t.val % 4 = 0
  · rw [outsAt0_A m c t h (by omega)]; funext y; frame_out
  · rw [outsAt0_B m c t h (by omega)]; funext y; frame_out

/-- What a point leaves in window 5's buffer. -/
theorem outs5 (c : Dev nD) (t : Fin cfg0.N) : (outsAt0 m c t.val t.isLt).2.1 = k0_pay5 (iblk m c 0 t) (iblk m c 1 t) (iblk m c 2 t) (iblk m c 3 t) := by
  have hlt := lt4 t
  by_cases h : t.val % 4 = 0
  · rw [outsAt0_A m c t h (by omega)]; funext y; frame_out
  · rw [outsAt0_B m c t h (by omega)]; funext y; frame_out

/-- The gradient of the block's output. -/
theorem final4 (c : Dev nD) : (dats m 0 c).arrAt 4 cfg0.N = Cert.ReferenceIdeal.Read.val_main_v17 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outs4]
  refine (congrArg _ (eq_ix2 (n0 := 512) (n1 := 1024) y)).trans ((pay2_at _ _ _ _ (y 0) (y 1)).trans ?_)
  refine Eq.trans ?_ ((congrArg _ (eq_ix2 (n0 := 2048) (n1 := 1024) _)).trans (ref_v17 _ _ _ _ _ _)).symm
  blk_point [iblk, V, idx t]

/-- The gradient of the branch's output. -/
theorem final5 (c : Dev nD) : (dats m 0 c).arrAt 5 cfg0.N = Cert.ReferenceIdeal.Read.val_main_v23 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outs5]
  refine (congrArg _ (eq_ix2 (n0 := 512) (n1 := 1024) y)).trans ((pay5_at _ _ _ _ (y 0) (y 1)).trans ?_)
  refine Eq.trans ?_ ((congrArg _ (eq_ix2 (n0 := 2048) (n1 := 1024) _)).trans (ref_v23 _ _ _ _ _ _)).symm
  blk_point [iblk, V, idx t]

/-- The gain's gradient. -/
theorem final7 (c : Dev nD) : (dats m 0 c).arrAt 7 cfg0.N = Cert.ReferenceIdeal.Read.val_main_v22 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_3 (by decide +kernel) _ fun j => ?_
  blk_simp
  rw [after0_7, Pipeline.eq_sum_fin_of_reset_step_apply_last (f := fun n h => (outsAt0 m c n h).2.2.2) 4 (fun _ => 0)
      (fun t j => k0_pay4 (iblk m c 0 t) (iblk m c 1 t) (iblk m c 2 t) (iblk m c 3 t) j)
      (fun t h j => by have hlt := lt4 t; rw [outsAt0_A m c t h (by omega)]; frame_out; exact (zero_add _).symm)
      (fun t h j => by have hlt := lt4 t; rw [outsAt0_B m c t h (by omega)]; frame_out; pointwise [k0_pay7])
      (le_of_eq N_0) t0_3 rfl j, zero_add]
  refine Eq.trans ?_ ((congrArg _ (eq_ix2 (n0 := 1) (n1 := 1024) _)).trans (ref_v22 _ _ _ _ _ _)).symm
  refine Eq.trans (Fin.sum_fin_congr fun p => (congrArg _ (eq_ix2 (n0 := 1) (n1 := 1024) j)).trans (pay4_at _ _ _ _ (j 0) (j 1))) ?_
  refine Fin.sum_mul_add_congr (S := 4) (n := 512) (L := 2048) fun t r hl => ?_
  blk_point [iblk, V, idx t]

/-- The loss. -/
theorem final6 (c : Dev nD) : (dats m 0 c).arrAt 6 cfg0.N = Cert.ReferenceIdeal.Read.val_main_v24 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (f := fun n h => (outsAt0 m c n h).2.2.1) 4 (fun _ => 0)
      (fun t j => k0_pay3 (iblk m c 0 t) (iblk m c 1 t) (iblk m c 2 t) (iblk m c 3 t) j)
      (fun t h j => by have hlt := lt4 t; rw [outsAt0_A m c t h (by omega)]; frame_out; exact (zero_add _).symm)
      (fun t h j => by have hlt := lt4 t; rw [outsAt0_B m c t h (by omega)]; frame_out; pointwise [k0_pay6])
      (le_of_eq N_0) t0_3 rfl j, zero_add]
  refine Eq.trans ?_ ((congrArg _ (eq_ix2 (n0 := 1) (n1 := 1) _)).trans (ref_v24 _ _ _ _ _ _)).symm
  refine Eq.trans (Fin.sum_fin_congr fun p => (congrArg _ (eq_ix2 (n0 := 1) (n1 := 1) j)).trans (pay3_at _ _ _ _ (j 0) (j 1))) ?_
  refine Fin.sum_mul_add_congr (S := 4) (n := 512) (L := 2048) fun t r hl => ?_
  blk_point [iblk, V, idx t]

end Cert.KernelIdeal.Value

end
-- ==== Proof.LossClaim.lean ====
/- The claims about the loss head, assembled from its two runs. -/
module

public import proofs.«01_k».proof.Defs
public import proofs.«01_k».proof.Proof.Loss
public import proofs.«01_k».proof.Proof.Gen.Kernel.Frame
public import proofs.«01_k».proof.Proof.Gen.ReferenceIdeal.Run
public import Idealize.ShloMosaic.Lib.Quiescent

@[expose] public section

noncomputable section

namespace Cert.Proof.Loss

open Idealize.ShloMosaic Idealize.SL.Sem

/-- The reference runs and leaves its arguments. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Kernel and reference compute the same four arrays. -/
theorem value : Cert.algebraic_KernelIdeal_ReferenceIdeal := by
  intro m g m' g' _ hagree
  refine ⟨_, _, _, _, Cert.KernelIdeal.Value.run_blocks (F := Ideal) m g, ?_⟩
  refine (θ_run Cert.ReferenceIdeal.defs _ _).mono (fun r h c => ⟨(h c).1.trans ?_, (h c).2.1.trans ?_, (h c).2.2.1.trans ?_, (h c).2.2.2.1.trans ?_, (h c).2.2.2.2⟩)
    (Cert.ReferenceIdeal.Value.run (F := Ideal) m' g')
  all_goals rw [(hagree c).1, (hagree c).2.1, (hagree c).2.2.1, (hagree c).2.2.2]
  · exact (Cert.ReferenceIdeal.Read.val_main_v17_eq ..).trans (Cert.KernelIdeal.Value.final4 m c).symm
  · exact (Cert.ReferenceIdeal.Read.val_main_v23_eq ..).trans (Cert.KernelIdeal.Value.final5 m c).symm
  · exact (Cert.ReferenceIdeal.Read.val_main_v24_eq ..).trans (Cert.KernelIdeal.Value.final6 m c).symm
  · exact (Cert.ReferenceIdeal.Read.val_main_v22_eq ..).trans (Cert.KernelIdeal.Value.final7 m c).symm

end Cert.Proof.Loss

end
-- ==== Proof.Lay.lean ====
/- The layout of the joint projection's columns: 96 columns of zeros stand around the 32 columns of the shared rotary key. -/
module

public import Mathlib.Data.EReal.Operations
public import Mathlib.Algebra.BigOperators.Fin

@[expose] public section

namespace Cert.Lay

/-- `f` laid out over 2432 places: columns 0 to 767, 64 zeros, columns 768 to 799, 32 zeros, columns 800 to 2335. -/
noncomputable def lay (f : Fin 2336 → EReal) (k : Fin 2432) : EReal :=
  if h : k.val < 768 then f ⟨k.val, by omega⟩
  else if k.val - 768 < 64 then 0
  else if h : k.val - 768 - 64 < 32 then f ⟨768 + (k.val - 768 - 64), by omega⟩
  else if k.val - 768 - 64 - 32 < 32 then 0
  else f ⟨800 + (k.val - 768 - 64 - 32 - 32), by omega⟩

/-- A product of two functions so laid out sums to the product of the functions themselves. -/
theorem sum_lay (f g : Fin 2336 → EReal) : ∑ k, lay f k * lay g k = ∑ k, f k * g k := by
  let p : ℕ → EReal := fun k => if h : k < 2336 then f ⟨k, h⟩ * g ⟨k, h⟩ else 0
  let q : ℕ → EReal := fun k => if k < 768 then p k else if k - 768 < 64 then 0 else if k - 768 - 64 < 32 then p (768 + (k - 768 - 64)) else if k - 768 - 64 - 32 < 32 then 0 else p (800 + (k - 768 - 64 - 32 - 32))
  have hp : ∑ k, f k * g k = ∑ k ∈ Finset.range 2336, p k := by
    rw [← Fin.sum_univ_eq_sum_range]
    exact Finset.sum_congr rfl fun k _ => by simp [p]
  have hq : ∑ k, lay f k * lay g k = ∑ k ∈ Finset.range 2432, q k := by
    rw [← Fin.sum_univ_eq_sum_range]
    refine Finset.sum_congr rfl fun k _ => ?_
    have hk := k.isLt
    simp only [q, p, lay]
    split_ifs <;> first | rfl | (exfalso; omega) | simp
  rw [hp, hq, show 2432 = 768 + (64 + (32 + (32 + 1536))) from rfl, show 2336 = 768 + (32 + 1536) from rfl]
  simp only [Finset.sum_range_add, ← add_assoc]
  have z1 : ∑ x ∈ Finset.range 64, q (768 + x) = 0 := Finset.sum_eq_zero fun x hx => by
    rw [Finset.mem_range] at hx
    simp only [q]; rw [if_neg (by omega), if_pos (by omega)]
  have z2 : ∑ x ∈ Finset.range 32, q (768 + 64 + 32 + x) = 0 := Finset.sum_eq_zero fun x hx => by
    rw [Finset.mem_range] at hx
    simp only [q]; rw [if_neg (by omega), if_neg (by omega), if_neg (by omega), if_pos (by omega)]
  rw [z1, z2, add_zero, add_zero]
  refine congrArg₂ (· + ·) (congrArg₂ (· + ·) ?_ ?_) ?_
  · exact Finset.sum_congr rfl fun x hx => by
      rw [Finset.mem_range] at hx
      simp only [q]; rw [if_pos hx]
  · exact Finset.sum_congr rfl fun x hx => by
      rw [Finset.mem_range] at hx
      simp only [q]; rw [if_neg (by omega), if_neg (by omega), if_pos (by omega)]; congr 1; omega
  · exact Finset.sum_congr rfl fun x hx => by
      rw [Finset.mem_range] at hx
      simp only [q]; rw [if_neg (by omega), if_neg (by omega), if_neg (by omega), if_neg (by omega)]; congr 1; omega

end Cert.Lay
-- ==== Proof.In.lean ====
/- Through the input projection and the first norm with its modulation: what the kernel's four result arrays hold after the run. -/
module

public import proofs.«01_k».proof.Proof.Gen.KernelInIdeal.Value
public import proofs.«01_k».proof.Proof.Gen.ReferenceInIdeal.Read
public import proofs.«01_k».proof.Proof.Reals
public import Idealize.ShloMosaic.Lib.Pipeline.ValueKit
public import Idealize.ShloMosaic.Lib.Claim
public import Idealize.ShloMosaic.Lib.StableHlo.RunRead
public import proofs.«01_k».proof.Proof.Lay

@[expose] public section

set_option maxRecDepth 16384

noncomputable section

open Idealize.ShloMosaic Idealize.ShloMosaic.TcCoe Idealize.SL.Sem
open Idealize.ShloMosaic.Pipeline (Dat)

namespace Cert.In

open Cert.Reals

/-- The mean of squares of row `r`, plus the constant. -/
def var (x : FVec Ideal ⟨2, ![2048, 1024]⟩ .f32) (r : Fin 2048) : EReal :=
  Ideal.div (∑ k : Fin 1024, x (ix2 r k) * x (ix2 r k)) ((1024 : ℝ) : EReal) + Ideal.ofBits .f32 0x358637BD#32

theorem var_pos (x : FVec Ideal ⟨2, ![2048, 1024]⟩ .f32) (r : Fin 2048) : 0 < var x r :=
  meanSq_pos _ _ (by norm_num) eps_pos

/-- The cotangent of the modulated norm. -/
def dh (dp : FVec Ideal ⟨2, ![2048, 2336]⟩ .f32) (w : FVec Ideal ⟨2, ![1024, 2336]⟩ .f32) (r : Fin 2048) (l : Fin 1024) : EReal :=
  ∑ k : Fin 2336, dp (ix2 r k) * w (ix2 l k)

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

end Cert.In

/-! ### The reference's results, read at an index -/

namespace Cert.ReferenceInIdeal

open Cert.ReferenceInIdeal Cert.ReferenceInIdeal.Gen Cert.Reals Cert.In

variable (x0 : FVec Ideal S2048x2336 .f32) (x1 x2 : FVec Ideal S2048x1024 .f32) (x3 : FVec Ideal S1024x2336 .f32) (x4 x5 : FVec Ideal S1x1024 .f32)

theorem ref_v7 (r : Fin 2048) (u : Fin 1) : Read.val_main_v7 (F := Ideal) x2 (ix2 r u) = var x2 r := by
  pointwise [Read.val_main_v1, Read.val_main_v2, Read.val_main_v3, Read.val_main_v4, Read.val_main_v5, Read.val_main_v6, Read.val_main_v7, Read.val_main_cst_0, Read.val_main_cst_1, Read.val_main_cst_2, var]
  rw [ofBits_1024]

theorem ref_v23 (r : Fin 2048) (l : Fin 1024) : Read.val_main_v23 (F := Ideal) x0 x3 (ix2 r l) = dh x0 x3 r l := by
  pointwise [Read.val_main_v23, dh]

theorem ref_v13 (r : Fin 2048) (l : Fin 1024) : Read.val_main_v13 (F := Ideal) x2 (ix2 r l) = x2 (ix2 r l) * Ideal.rsqrt (var x2 r) := by
  pointwise [Read.val_main_v13, Read.val_main_v12, Read.val_main_v8]
  rw [ref_v7]

theorem ref_v30 (r : Fin 2048) (l : Fin 1024) : Read.val_main_v30 (F := Ideal) x0 x3 x5 (ix2 r l) = dh x0 x3 r l * (1 + x5 (ix2 0 l)) := by
  pointwise [Read.val_main_v30, Read.val_main_v29, Read.val_main_v17, Read.val_main_v16, Read.val_main_cst_4]
  rw [ref_v23]

theorem ref_v25 (u : Fin 1) (l : Fin 1024) : Read.val_main_v25 (F := Ideal) x0 x3 (ix2 u l) = ∑ r : Fin 2048, dh x0 x3 r l := by
  pointwise [Read.val_main_v25, Read.val_main_v24, Read.val_main_cst_5]
  simp only [ref_v23]

theorem ref_v28 (u : Fin 1) (l : Fin 1024) : Read.val_main_v28 (F := Ideal) x0 x2 x3 x4 (ix2 u l)
    = ∑ r : Fin 2048, dh x0 x3 r l * (x2 (ix2 r l) * Ideal.rsqrt (var x2 r) * x4 (ix2 0 l)) := by
  pointwise [Read.val_main_v28, Read.val_main_v27, Read.val_main_v26, Read.val_main_v15, Read.val_main_v14, Read.val_main_cst_6]
  simp only [ref_v23, ref_v13]
  exact Finset.sum_congr rfl fun r _ => mul_comm _ _

theorem ref_v33 (u : Fin 1) (l : Fin 1024) : Read.val_main_v33 (F := Ideal) x0 x2 x3 x5 (ix2 u l)
    = ∑ r : Fin 2048, dh x0 x3 r l * (1 + x5 (ix2 0 l)) * (x2 (ix2 r l) * Ideal.rsqrt (var x2 r)) := by
  pointwise [Read.val_main_v33, Read.val_main_v32, Read.val_main_v31, Read.val_main_cst_7]
  simp only [ref_v30, ref_v13]
  exact Finset.sum_congr rfl fun r _ => mul_comm _ _

theorem ref_v35 (r : Fin 2048) (l : Fin 1024) : Read.val_main_v35 (F := Ideal) x0 x3 x4 x5 (ix2 r l) = dh x0 x3 r l * (1 + x5 (ix2 0 l)) * x4 (ix2 0 l) := by
  pointwise [Read.val_main_v35, Read.val_main_v34]
  rw [ref_v30]

theorem ref_v50 (r : Fin 2048) (l : Fin 1024) : Read.val_main_v50 (F := Ideal) x0 x1 x2 x3 x4 x5 (ix2 r l)
    = x1 (ix2 r l) + Ideal.rsqrt (var x2 r) * (dh x0 x3 r l * (1 + x5 (ix2 0 l)) * x4 (ix2 0 l)
        - x2 (ix2 r l) * Ideal.rsqrt (var x2 r) * Ideal.div (∑ k : Fin 1024, dh x0 x3 r k * (1 + x5 (ix2 0 k)) * x4 (ix2 0 k) * (x2 (ix2 r k) * Ideal.rsqrt (var x2 r))) ((1024 : ℝ) : EReal)) := by
  rw [norm_bwd (var_pos x2 r) (by norm_num) _ _ _ _ (sum_scaled _ _ _ (var_pos x2 r))]
  pointwise [Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v11, Read.val_main_v10, Read.val_main_v9, Read.val_main_v8, Read.val_main_cst_3, Read.val_main_cst_8, Read.val_main_cst_9, Read.val_main_cst_10]
  simp only [ref_v35, ref_v7, ofBits_1024, ofBits_neg_half, add_assoc, Finset.univ_unique, Finset.sum_singleton]

end Cert.ReferenceInIdeal

/-! ### One grid point's payloads, and the arrays they leave -/

namespace Cert.KernelInIdeal.Value

open Cert.KernelInIdeal Cert.KernelInIdeal.Gen Cert.Reals Cert.In Cert.ReferenceInIdeal

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

theorem lt8 (t : Fin cfg0.N) : t.val < 8 := lt_of_lt_of_eq t.isLt N_0

/-- Row `r` of the `t`-th block of 256 rows. -/
def row (t : Fin cfg0.N) (r : Fin 256) : Fin 2048 := ⟨t.val * 256 + r.val, by have := lt8 t; omega⟩

abbrev DP (c : Dev nD) : FVec Ideal S2048x2336 .f32 := m ((c : Thread nD τ).loc main_arg0)
abbrev DX (c : Dev nD) : FVec Ideal S2048x1024 .f32 := m ((c : Thread nD τ).loc main_arg1)
abbrev X (c : Dev nD) : FVec Ideal S2048x1024 .f32 := m ((c : Thread nD τ).loc main_arg2)
abbrev W (c : Dev nD) : FVec Ideal S1024x2336 .f32 := m ((c : Thread nD τ).loc main_arg3)
abbrev GM (c : Dev nD) : FVec Ideal S1x1024 .f32 := m ((c : Thread nD τ).loc main_arg4)
abbrev SC (c : Dev nD) : FVec Ideal S1x1024 .f32 := m ((c : Thread nD τ).loc main_arg5)

variable (c : Dev nD) (t : Fin cfg0.N)

theorem blk1 (r : Fin 256) (l : Fin 1024) : (iblk m c 1 t (ix2 r l) : EReal) = DX m c (ix2 (row t r) l) := by
  unfold row; blk_point [iblk, V, idx t]

theorem blk2 (r : Fin 256) (l : Fin 1024) : (iblk m c 2 t (ix2 r l) : EReal) = X m c (ix2 (row t r) l) := by
  unfold row; blk_point [iblk, V, idx t]

theorem blk4 (u : Fin 1) (l : Fin 1024) : (iblk m c 4 t (ix2 u l) : EReal) = GM m c (ix2 0 l) := by
  blk_point [iblk, V, idx t]

theorem blk5 (u : Fin 1) (l : Fin 1024) : (iblk m c 5 t (ix2 u l) : EReal) = SC m c (ix2 0 l) := by
  blk_point [iblk, V, idx t]

theorem blk0 (r : Fin 256) (k : Fin 2432) : (iblk m c 0 t (ix2 r k) : EReal) = (V m c main_v16 : FVec Ideal S2048x2432 .bf16) (ix2 (row t r) k) := by
  unfold row
  blk_point [iblk, idx t]

theorem blk3 (k : Fin 2432) (l : Fin 1024) : (iblk m c 3 t (ix2 k l) : EReal) = (V m c main_v7 : FVec Ideal S2432x1024 .bf16) (ix2 k l) := by
  blk_point [iblk, idx t]

/-- The weights' columns laid out, as the host lines join them. -/
def catW (a : FVec Ideal S768x1024 .bf16) (b : FVec Ideal S64x1024 .bf16) (c d : FVec Ideal S32x1024 .bf16) (e : FVec Ideal S1536x1024 .bf16) : FVec Ideal S2432x1024 .bf16 :=
  concatenate S2432x1024 0 [⟨S768x1024, a⟩, ⟨S64x1024, b⟩, ⟨S32x1024, c⟩, ⟨S32x1024, d⟩, ⟨S1536x1024, e⟩] concatenates_S768x1024_S64x1024_S32x1024_S32x1024_S1536x1024_S2432x1024_d0

/-- The cotangent's columns laid out. -/
def catD (a : FVec Ideal S768x2048 .f32) (b : FVec Ideal S64x2048 .f32) (c d : FVec Ideal S32x2048 .f32) (e : FVec Ideal S1536x2048 .f32) : FVec Ideal S2432x2048 .f32 :=
  concatenate S2432x2048 0 [⟨S768x2048, a⟩, ⟨S64x2048, b⟩, ⟨S32x2048, c⟩, ⟨S32x2048, d⟩, ⟨S1536x2048, e⟩] concatenates_S768x2048_S64x2048_S32x2048_S32x2048_S1536x2048_S2432x2048_d0

/-- Turned, and cast to bfloat16. -/
def turn (x : FVec Ideal S2432x2048 .f32) : FVec Ideal S2048x2432 .bf16 :=
  truncf .bf16 (transpose S2048x2432 [1, 0] x transposes_S2432x2048_S2048x2432_1_0) bitsLt_bf16_f32

theorem V7 : V m c main_v7 = catW (StableHlo.upto hostOps0 (fun b => m (c, b)) 9 main_v2) (StableHlo.upto hostOps0 (fun b => m (c, b)) 9 main_v3) (StableHlo.upto hostOps0 (fun b => m (c, b)) 9 main_v4) (StableHlo.upto hostOps0 (fun b => m (c, b)) 9 main_v5) (StableHlo.upto hostOps0 (fun b => m (c, b)) 9 main_v6) :=
  (StableHlo.after_last_write (ops := hostOps0) (i := 9) [main_v8, main_v9, main_cst_1, main_v10, main_v11, main_cst_2, main_v12, main_v13, main_v14, main_v15, main_v16]
      (by exact rfl) (by exact rfl) (by decide) _).trans ((StableHlo.nary_result' ..).trans rfl)

theorem V14 : StableHlo.upto hostOps0 (fun b => m (c, b)) 19 main_v14 = catD (StableHlo.upto hostOps0 (fun b => m (c, b)) 18 main_v9) (StableHlo.upto hostOps0 (fun b => m (c, b)) 18 main_v10) (StableHlo.upto hostOps0 (fun b => m (c, b)) 18 main_v11) (StableHlo.upto hostOps0 (fun b => m (c, b)) 18 main_v12) (StableHlo.upto hostOps0 (fun b => m (c, b)) 18 main_v13) :=
  (StableHlo.upto_last_write (ops := hostOps0) (n := 19) (i := 18) [] (by exact rfl) (by exact rfl) (by decide) _).trans ((StableHlo.nary_result' ..).trans rfl)

theorem host7 (k : Fin 2432) (l : Fin 1024) : ((V m c main_v7 : FVec Ideal S2432x1024 .bf16) (ix2 k l) : EReal) = Lay.lay (fun k => W m c (ix2 l k)) k := by
  rw [V7]
  after_reads_simp
  pointwise [catW]
  rfl

theorem V16 : V m c main_v16 = turn (StableHlo.upto hostOps0 (fun b => m (c, b)) 19 main_v14) :=
  (StableHlo.after_last_write (ops := hostOps0) (i := 20) [] (by exact rfl) (by exact rfl) (by decide) _).trans ((StableHlo.unary_result' ..).trans
    (congrArg (fun x : FVec Ideal S2048x2432 .f32 => truncf .bf16 x bitsLt_bf16_f32)
      ((StableHlo.upto_last_write (ops := hostOps0) (n := 20) (i := 19) [] (by exact rfl) (by exact rfl) (by decide) _).trans (StableHlo.unary_result' ..))))

theorem host16 (r : Fin 2048) (k : Fin 2432) : ((V m c main_v16 : FVec Ideal S2048x2432 .bf16) (ix2 r k) : EReal) = Lay.lay (fun k => DP m c (ix2 r k)) k := by
  rw [V16, V14]
  after_reads_simp
  pointwise [turn, catD]
  rfl

theorem pay7_at (r : Fin 256) (l : Fin 1024) : (k0_pay7 (F := Ideal) (iblk m c 0 t) (iblk m c 3 t) (ix2 r l) : EReal) = dh (DP m c) (W m c) (row t r) l := by
  pointwise [k0_pay7, dh]
  exact (Finset.sum_congr rfl fun k _ => congrArg₂ (fun a b : EReal => a * b) ((blk0 m c t r k).trans (host16 m c (row t r) k)) ((blk3 m c t k l).trans (host7 m c k l))).trans (Lay.sum_lay _ _)

theorem pay8_at (r : Fin 256) (u : Fin 1) : (k0_pay8 (F := Ideal) (iblk m c 2 t) (ix2 r u) : EReal) = Ideal.rsqrt (var (X m c) (row t r)) := by
  pointwise [k0_pay8, var]
  simp only [blk2, ofBits_1024]

theorem pay9_at (r : Fin 256) (l : Fin 1024) : (k0_pay9 (F := Ideal) (iblk m c 2 t) (ix2 r l) : EReal) = X m c (ix2 (row t r) l) * Ideal.rsqrt (var (X m c) (row t r)) := by
  pointwise [k0_pay9]
  simp only [blk2, pay8_at]

theorem pay11_at (r : Fin 256) (l : Fin 1024) : (k0_pay11 (F := Ideal) (iblk m c 0 t) (iblk m c 3 t) (iblk m c 5 t) (ix2 r l) : EReal)
    = dh (DP m c) (W m c) (row t r) l * (1 + SC m c (ix2 0 l)) := by
  pointwise [k0_pay11]
  simp only [pay7_at, blk5]

/-- The gradient of the input at a grid point. -/
theorem pay1_at (r : Fin 256) (l : Fin 1024) : (k0_pay1 (F := Ideal) (iblk m c 1 t) (k0_pay13 (iblk m c 0 t) (iblk m c 2 t) (iblk m c 3 t) (iblk m c 4 t) (iblk m c 5 t)) (k0_pay14 (iblk m c 2 t)) (ix2 r l) : EReal)
    = Read.val_main_v50 (F := Ideal) (DP m c) (DX m c) (X m c) (W m c) (GM m c) (SC m c) (ix2 (row t r) l) := by
  rw [ref_v50]
  pointwise [k0_pay1, k0_pay13, k0_pay14]
  simp only [pay11_at, pay9_at, pay8_at, blk1, blk4, ofBits_1024]

theorem pay12_at (u : Fin 1) (l : Fin 1024) : (k0_pay12 (F := Ideal) (iblk m c 0 t) (iblk m c 2 t) (iblk m c 3 t) (iblk m c 5 t) (ix2 u l) : EReal)
    = ∑ r : Fin 256, dh (DP m c) (W m c) (row t r) l * (1 + SC m c (ix2 0 l)) * (X m c (ix2 (row t r) l) * Ideal.rsqrt (var (X m c) (row t r))) := by
  pointwise [k0_pay12]
  simp only [pay11_at, pay9_at]

theorem pay2_at (u : Fin 1) (l : Fin 1024) : (k0_pay2 (F := Ideal) (k0_pay7 (iblk m c 0 t) (iblk m c 3 t)) (k0_pay10 (iblk m c 2 t) (iblk m c 4 t)) (ix2 u l) : EReal)
    = ∑ r : Fin 256, dh (DP m c) (W m c) (row t r) l * (X m c (ix2 (row t r) l) * Ideal.rsqrt (var (X m c) (row t r)) * GM m c (ix2 0 l)) := by
  pointwise [k0_pay2, k0_pay10]
  simp only [pay7_at, pay9_at, blk4]

theorem pay3_at (u : Fin 1) (l : Fin 1024) : (k0_pay3 (F := Ideal) (k0_pay7 (iblk m c 0 t) (iblk m c 3 t)) (ix2 u l) : EReal)
    = ∑ r : Fin 256, dh (DP m c) (W m c) (row t r) l := by
  pointwise [k0_pay3]
  simp only [pay7_at]

theorem outs6 : (outsAt0 m c t.val t.isLt).1 = k0_pay1 (F := Ideal) (iblk m c 1 t) (k0_pay13 (iblk m c 0 t) (iblk m c 2 t) (iblk m c 3 t) (iblk m c 4 t) (iblk m c 5 t)) (k0_pay14 (iblk m c 2 t)) := by
  have hlt := lt8 t
  by_cases h : t.val = 0
  · rw [outsAt0_A m c t (by omega) (by omega)]
    funext j
    frame_out
  · rw [outsAt0_B m c t (by omega) (by omega)]
    funext j
    frame_out

/-- Summing the blocks' row sums is summing all rows. -/
theorem sum_rows (f : Fin 2048 → EReal) : (∑ t : Fin cfg0.N, ∑ r : Fin 256, f (row t r)) = ∑ r : Fin 2048, f r :=
  Fin.sum_mul_add_congr (S := 8) (n := 256) (L := 2048) fun t r hl => by rfl

theorem final6 : (dats m 0 c).arrAt 6 cfg0.N = Read.val_main_v50 (F := Ideal) (DP m c) (DX m c) (X m c) (W m c) (GM m c) (SC m c) := by
  refine (dats m 0 c).arrAt_eq_of_covers 6 _ (by decide +kernel) fun t hf y => ?_
  blk_simp
  rw [after0_6, outs6]
  refine (congrArg _ (eq_ix2 (n0 := 256) (n1 := 1024) y)).trans ((pay1_at m c t (y 0) (y 1)).trans ?_)
  unfold row
  blk_point [iblk, V, idx t]

theorem final7 : (dats m 0 c).arrAt 7 cfg0.N = Read.val_main_v33 (F := Ideal) (DP m c) (X m c) (W m c) (SC m c) := by
  refine (dats m 0 c).arrAt_eq_of_after_last 7 t0_7 (by decide +kernel) _ fun j => ?_
  blk_simp
  rw [after0_7, Pipeline.eq_sum_fin_of_reset_step_apply_last (f := fun n h => (outsAt0 m c n h).2.1) 8 (fun _ => 0)
      (fun t j => k0_pay12 (iblk m c 0 t) (iblk m c 2 t) (iblk m c 3 t) (iblk m c 5 t) j)
      (fun t h j => by have hlt := lt8 t; rw [outsAt0_A m c t h (by omega)]; frame_out; exact (zero_add _).symm)
      (fun t h j => by have hlt := lt8 t; rw [outsAt0_B m c t h (by omega)]; frame_out; pointwise [k0_pay4])
      (le_of_eq N_0) t0_7 rfl j, zero_add]
  refine Eq.trans (Fin.sum_fin_congr fun p => (congrArg _ (eq_ix2 (n0 := 1) (n1 := 1024) j)).trans (pay12_at m c p (j 0) (j 1))) ?_
  exact (sum_rows _).trans ((congrArg _ (eq_ix2 (n0 := 1) (n1 := 1024) _)).trans (ref_v33 _ _ _ _ _ _)).symm

theorem final8 : (dats m 0 c).arrAt 8 cfg0.N = Read.val_main_v28 (F := Ideal) (DP m c) (X m c) (W m c) (GM m c) := by
  refine (dats m 0 c).arrAt_eq_of_after_last 8 t0_7 (by decide +kernel) _ fun j => ?_
  blk_simp
  rw [after0_8, Pipeline.eq_sum_fin_of_reset_step_apply_last (f := fun n h => (outsAt0 m c n h).2.2.1) 8 (fun _ => 0)
      (fun t j => k0_pay2 (k0_pay7 (iblk m c 0 t) (iblk m c 3 t)) (k0_pay10 (iblk m c 2 t) (iblk m c 4 t)) j)
      (fun t h j => by have hlt := lt8 t; rw [outsAt0_A m c t h (by omega)]; frame_out; exact (zero_add _).symm)
      (fun t h j => by have hlt := lt8 t; rw [outsAt0_B m c t h (by omega)]; frame_out; pointwise [k0_pay5])
      (le_of_eq N_0) t0_7 rfl j, zero_add]
  refine Eq.trans (Fin.sum_fin_congr fun p => (congrArg _ (eq_ix2 (n0 := 1) (n1 := 1024) j)).trans (pay2_at m c p (j 0) (j 1))) ?_
  exact (sum_rows _).trans ((congrArg _ (eq_ix2 (n0 := 1) (n1 := 1024) _)).trans (ref_v28 _ _ _ _ _ _)).symm

theorem final9 : (dats m 0 c).arrAt 9 cfg0.N = Read.val_main_v25 (F := Ideal) (DP m c) (W m c) := by
  refine (dats m 0 c).arrAt_eq_of_after_last 9 t0_7 (by decide +kernel) _ fun j => ?_
  blk_simp
  rw [after0_9, Pipeline.eq_sum_fin_of_reset_step_apply_last (f := fun n h => (outsAt0 m c n h).2.2.2) 8 (fun _ => 0)
      (fun t j => k0_pay3 (k0_pay7 (iblk m c 0 t) (iblk m c 3 t)) j)
      (fun t h j => by have hlt := lt8 t; rw [outsAt0_A m c t h (by omega)]; frame_out; exact (zero_add _).symm)
      (fun t h j => by have hlt := lt8 t; rw [outsAt0_B m c t h (by omega)]; frame_out; pointwise [k0_pay6])
      (le_of_eq N_0) t0_7 rfl j, zero_add]
  refine Eq.trans (Fin.sum_fin_congr fun p => (congrArg _ (eq_ix2 (n0 := 1) (n1 := 1024) j)).trans (pay3_at m c p (j 0) (j 1))) ?_
  exact (sum_rows _).trans ((congrArg _ (eq_ix2 (n0 := 1) (n1 := 1024) _)).trans (ref_v25 _ _ _ _)).symm

end Cert.KernelInIdeal.Value

end
-- ==== Proof.InClaim.lean ====
/- The claims about the gradient through the input projection and the first norm, assembled from its two runs. -/
module

public import proofs.«01_k».proof.Defs
public import proofs.«01_k».proof.Proof.In
public import proofs.«01_k».proof.Proof.Gen.KernelIn.Frame
public import proofs.«01_k».proof.Proof.Gen.ReferenceInIdeal.Run
public import Idealize.ShloMosaic.Lib.Quiescent

@[expose] public section

noncomputable section

namespace Cert.Proof.In

open Idealize.ShloMosaic Idealize.SL.Sem

/-- The reference runs and leaves its arguments. -/
theorem frame_reference : Cert.quiescent_ReferenceInIdeal := fun m ρ _ =>
  (θ_run Cert.ReferenceInIdeal.defs _ _).mono (fun r h => ⟨fun c => (h c).2.2.2.2, sem_eq_zero_of_no_sems (by decide) r.2⟩)
    (Cert.ReferenceInIdeal.Value.run (F := Ideal) m ρ)

/-- Kernel and reference compute the same arrays. -/
theorem value : Cert.algebraic_KernelInIdeal_ReferenceInIdeal := by
  intro m g m' g' _ hagree
  refine ⟨_, _, _, _, Cert.KernelInIdeal.Value.run_blocks (F := Ideal) m g, ?_⟩
  refine (θ_run Cert.ReferenceInIdeal.defs _ _).mono (fun r h c => ⟨(h c).1.trans ((Cert.ReferenceInIdeal.Read.val_main_v50_eq ..).trans ?_),
      (h c).2.1.trans ((Cert.ReferenceInIdeal.Read.val_main_v33_eq ..).trans ?_),
      (h c).2.2.1.trans ((Cert.ReferenceInIdeal.Read.val_main_v28_eq ..).trans ?_),
      (h c).2.2.2.1.trans ((Cert.ReferenceInIdeal.Read.val_main_v25_eq ..).trans ?_), (h c).2.2.2.2⟩)
    (Cert.ReferenceInIdeal.Value.run (F := Ideal) m' g')
  · rw [(hagree c).1, (hagree c).2.1, (hagree c).2.2.1, (hagree c).2.2.2.1, (hagree c).2.2.2.2.1, (hagree c).2.2.2.2.2]
    exact (Cert.KernelInIdeal.Value.final6 m c).symm
  · rw [(hagree c).1, (hagree c).2.2.1, (hagree c).2.2.2.1, (hagree c).2.2.2.2.2]
    exact (Cert.KernelInIdeal.Value.final7 m c).symm
  · rw [(hagree c).1, (hagree c).2.2.1, (hagree c).2.2.2.1, (hagree c).2.2.2.2.1]
    exact (Cert.KernelInIdeal.Value.final8 m c).symm
  · rw [(hagree c).1, (hagree c).2.2.2.1]
    exact (Cert.KernelInIdeal.Value.final9 m c).symm

end Cert.Proof.In

end
-- ==== Proof.Mid.lean ====
/- Through the second norm with its modulation and the gate of the mixing: what the kernel's seven result arrays hold after the run. -/
module

public import proofs.«01_k».proof.Proof.Gen.KernelMidIdeal.Value
public import proofs.«01_k».proof.Proof.Gen.ReferenceMidIdeal.Read
public import proofs.«01_k».proof.Proof.Reals
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Mid

open Cert.Reals

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The mean of squares of row `r`, plus the constant. -/
def var (x : Fin 2048 → Fin 1024 → EReal) (r : Fin 2048) : EReal :=
  Ideal.div (∑ k : Fin 1024, x r k * x r k) ((1024 : ℝ) : EReal) + Ideal.ofBits .f32 0x358637BD#32

theorem var_pos (x : Fin 2048 → Fin 1024 → EReal) (r : Fin 2048) : 0 < var x r :=
  meanSq_pos _ _ (by norm_num) eps_pos

/-- One row of the normalised residual sum. -/
def nrm (x : Fin 2048 → Fin 1024 → EReal) (r : Fin 2048) (l : Fin 1024) : EReal := x r l * Ideal.rsqrt (var x r)

/-- `f` laid out by heads: 64 zeros before each of eight groups of 64, then the rest. -/
def heads (f : Fin 1024 → EReal) (j : Fin 1536) : EReal :=
  if h : j.val < 1024 then
    if h' : j.val / 128 < 8 ∧ 64 ≤ j.val % 128 ∧ j.val % 128 - 64 < 64 then f ⟨j.val / 128 * 64 + (j.val % 128 - 64), by omega⟩ else 0
  else f ⟨512 + (j.val - 1024), by omega⟩

/-- A sum of products so laid out is the sum of the products with the laid-out factor. -/
theorem heads_sum {n : ℕ} (a : Fin n → EReal) (f : Fin 1024 → Fin n → EReal) (j : Fin 1536) :
    heads (fun i => ∑ k, a k * f i k) j = ∑ k, a k * heads (fun i => f i k) j := by
  unfold heads
  split_ifs
  · rfl
  · exact (Finset.sum_eq_zero fun k _ => mul_zero _).symm
  · rfl

theorem sitofp_zero : (FloatOps.sitofp (F := Ideal) .f32 (0#32 : BitVec 32) : EReal) = 0 := by
  simp [FloatOps.sitofp]

theorem sitofp_zero_bf16 : (FloatOps.sitofp (F := Ideal) .bf16 (0#32 : BitVec 32) : EReal) = 0 := by
  simp [FloatOps.sitofp]

section

variable (o : FVec Ideal ⟨2, ![2048, 1024]⟩ .f32) (x : FVec Ideal ⟨2, ![2048, 1024]⟩ .f32) (w : FVec Ideal ⟨2, ![1024, 1024]⟩ .f32)
  (g1 g sc : FVec Ideal ⟨2, ![1, 1024]⟩ .f32) (d e : FVec Ideal ⟨2, ![2048, 1024]⟩ .f32)

/-- The mixing. -/
def mx (r : Fin 2048) (l : Fin 1024) : EReal := ∑ k : Fin 1024, o (ix2 r k) * w (ix2 k l)

/-- The residual sum. -/
def res (r : Fin 2048) (l : Fin 1024) : EReal := x (ix2 r l) + g1 (ix2 0 l) * mx o w r l

/-- The cotangent of the normalised row. -/
def ct (r : Fin 2048) (l : Fin 1024) : EReal := d (ix2 r l) * (1 + sc (ix2 0 l)) * g (ix2 0 l)

/-- The gradient of the residual sum. -/
def dres (r : Fin 2048) (l : Fin 1024) : EReal :=
  e (ix2 r l) + Ideal.rsqrt (var (res o x w g1) r) * (ct g sc d r l
    - nrm (res o x w g1) r l * Ideal.div (∑ k : Fin 1024, ct g sc d r k * nrm (res o x w g1) r k) ((1024 : ℝ) : EReal))

/-- The gradient of the mixing. -/
def dmix (r : Fin 2048) (l : Fin 1024) : EReal := g1 (ix2 0 l) * dres o x w g1 g sc d e r l

end

end Cert.Mid

/-! ### The reference's results, read at an index -/

namespace Cert.ReferenceMidIdeal

open Cert.ReferenceMidIdeal Cert.ReferenceMidIdeal.Gen Cert.Reals Cert.Mid

variable (x0 x1 x2 x3 : FVec Ideal S2048x1024 .f32) (x4 : FVec Ideal S1024x1024 .f32) (x5 x6 x7 : FVec Ideal S1x1024 .f32)

theorem ref_v0 (r : Fin 2048) (l : Fin 1024) : Read.val_main_v0 (F := Ideal) x2 x4 (ix2 r l) = mx x2 x4 r l := by
  pointwise [Read.val_main_v0, mx]

theorem ref_v4 (r : Fin 2048) (l : Fin 1024) : Read.val_main_v4 (F := Ideal) x2 x3 x4 x5 (ix2 r l) = res x2 x3 x4 x5 r l := by
  pointwise [Read.val_main_v4, Read.val_main_v3, Read.val_main_v2, res]
  rw [ref_v0]

theorem ref_v11 (r : Fin 2048) (u : Fin 1) : Read.val_main_v11 (F := Ideal) x2 x3 x4 x5 (ix2 r u) = var (res x2 x3 x4 x5) r := by
  pointwise [Read.val_main_v5, Read.val_main_v6, Read.val_main_v7, Read.val_main_v8, Read.val_main_v9, Read.val_main_v10, Read.val_main_v11, Read.val_main_cst_0, Read.val_main_cst_1, Read.val_main_cst_2, var]
  simp only [ref_v4, ofBits_1024]

theorem ref_v17 (r : Fin 2048) (l : Fin 1024) : Read.val_main_v17 (F := Ideal) x2 x3 x4 x5 (ix2 r l) = nrm (res x2 x3 x4 x5) r l := by
  pointwise [Read.val_main_v17, Read.val_main_v16, Read.val_main_v12, nrm]
  rw [ref_v11, ref_v4]

theorem ref_v33 (r : Fin 2048) (l : Fin 1024) : Read.val_main_v33 (F := Ideal) x0 x7 (ix2 r l) = x0 (ix2 r l) * (1 + x7 (ix2 0 l)) := by
  pointwise [Read.val_main_v33, Read.val_main_v32, Read.val_main_v26, Read.val_main_v21, Read.val_main_v20, Read.val_main_cst_4]

theorem ref_v38 (r : Fin 2048) (l : Fin 1024) : Read.val_main_v38 (F := Ideal) x0 x6 x7 (ix2 r l) = ct x6 x7 x0 r l := by
  pointwise [Read.val_main_v38, Read.val_main_v37, ct]
  rw [ref_v33]

theorem ref_v28 (u : Fin 1) (l : Fin 1024) : Read.val_main_v28 (F := Ideal) x0 (ix2 u l) = ∑ r : Fin 2048, x0 (ix2 r l) := by
  pointwise [Read.val_main_v28, Read.val_main_v27, Read.val_main_cst_5]

theorem ref_v31 (u : Fin 1) (l : Fin 1024) : Read.val_main_v31 (F := Ideal) x0 x2 x3 x4 x5 x6 (ix2 u l)
    = ∑ r : Fin 2048, x0 (ix2 r l) * (nrm (res x2 x3 x4 x5) r l * x6 (ix2 0 l)) := by
  pointwise [Read.val_main_v31, Read.val_main_v30, Read.val_main_v29, Read.val_main_v26, Read.val_main_v19, Read.val_main_v18, Read.val_main_cst_6]
  simp only [ref_v17]
  exact Finset.sum_congr rfl fun r _ => mul_comm _ _

theorem ref_v36 (u : Fin 1) (l : Fin 1024) : Read.val_main_v36 (F := Ideal) x0 x2 x3 x4 x5 x7 (ix2 u l)
    = ∑ r : Fin 2048, x0 (ix2 r l) * (1 + x7 (ix2 0 l)) * nrm (res x2 x3 x4 x5) r l := by
  pointwise [Read.val_main_v36, Read.val_main_v35, Read.val_main_v34, Read.val_main_cst_7]
  simp only [ref_v17, ref_v33]
  exact Finset.sum_congr rfl fun r _ => mul_comm _ _

theorem ref_v53 (r : Fin 2048) (l : Fin 1024) : Read.val_main_v53 (F := Ideal) x0 x1 x2 x3 x4 x5 x6 x7 (ix2 r l) = dres x2 x3 x4 x5 x6 x7 x0 x1 r l := by
  unfold dres nrm
  rw [norm_bwd (var_pos _ r) (by norm_num) _ _ _ _ (sum_scaled _ _ _ (var_pos _ r))]
  pointwise [Read.val_main_v53, Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v15, Read.val_main_v14, Read.val_main_v13, Read.val_main_v12, Read.val_main_cst_3, Read.val_main_cst_8, Read.val_main_cst_9, Read.val_main_cst_10]
  simp only [ref_v38, ref_v11, ref_v4, ofBits_1024, ofBits_neg_half, add_assoc, Finset.univ_unique, Finset.sum_singleton]

theorem ref_v54 (r : Fin 2048) (l : Fin 1024) : Read.val_main_v54 (F := Ideal) x0 x1 x2 x3 x4 x5 x6 x7 (ix2 r l) = dres x2 x3 x4 x5 x6 x7 x0 x1 r l := by
  pointwise [Read.val_main_v54]
  rw [ref_v53]

theorem ref_v56 (r : Fin 2048) (l : Fin 1024) : Read.val_main_v56 (F := Ideal) x0 x1 x2 x3 x4 x5 x6 x7 (ix2 r l) = dmix x2 x3 x4 x5 x6 x7 x0 x1 r l := by
  pointwise [Read.val_main_v56, Read.val_main_v55, dmix]
  rw [ref_v54]

theorem ref_v67 (r : Fin 2048) (l : Fin 1024) : (Read.val_main_v67 (F := Ideal) x0 x1 x2 x3 x4 x5 x6 x7 (ix2 r l) : EReal) = dmix x2 x3 x4 x5 x6 x7 x0 x1 r l := by
  pointwise [Read.val_main_v67]
  rw [ref_v56]

theorem ref_v59 (u : Fin 1) (l : Fin 1024) : Read.val_main_v59 (F := Ideal) x0 x1 x2 x3 x4 x5 x6 x7 (ix2 u l)
    = ∑ r : Fin 2048, dres x2 x3 x4 x5 x6 x7 x0 x1 r l * mx x2 x4 r l := by
  pointwise [Read.val_main_v59, Read.val_main_v58, Read.val_main_v57, Read.val_main_cst_11]
  simp only [ref_v54, ref_v0]

theorem ref_v60 (r : Fin 2048) (i : Fin 1024) : Read.val_main_v60 (F := Ideal) x0 x1 x2 x3 x4 x5 x6 x7 (ix2 r i)
    = ∑ k : Fin 1024, dmix x2 x3 x4 x5 x6 x7 x0 x1 r k * x4 (ix2 i k) := by
  pointwise [Read.val_main_v60]
  simp only [ref_v56]

theorem ref_v66 (r : Fin 2048) (j : Fin 1536) : Read.val_main_v66 (F := Ideal) x0 x1 x2 x3 x4 x5 x6 x7 (ix2 r j)
    = heads (fun i => ∑ k : Fin 1024, dmix x2 x3 x4 x5 x6 x7 x0 x1 r k * x4 (ix2 i k)) j := by
  pointwise [Read.val_main_v66, Read.val_main_v65, Read.val_main_v64, Read.val_main_v63, Read.val_main_v62, Read.val_main_v61, Read.val_main_c, Read.val_main_call0_v0, heads]
  simp only [ref_v60, sitofp_zero]

end Cert.ReferenceMidIdeal

/-! ### One grid point's payloads, and the arrays they leave -/

namespace Cert.KernelMidIdeal.Value

open Cert.KernelMidIdeal Cert.KernelMidIdeal.Gen Cert.Reals Cert.Mid Cert.ReferenceMidIdeal

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

theorem lt8 (t : Fin cfg0.N) : t.val < 8 := lt_of_lt_of_eq t.isLt N_0

/-- Row `r` of the `t`-th block of 256 rows. -/
def row (t : Fin cfg0.N) (r : Fin 256) : Fin 2048 := ⟨t.val * 256 + r.val, by have := lt8 t; omega⟩

abbrev DH (c : Dev nD) : FVec Ideal S2048x1024 .f32 := m ((c : Thread nD τ).loc main_arg0)
abbrev DY (c : Dev nD) : FVec Ideal S2048x1024 .f32 := m ((c : Thread nD τ).loc main_arg1)
abbrev O (c : Dev nD) : FVec Ideal S2048x1024 .f32 := m ((c : Thread nD τ).loc main_arg2)
abbrev X (c : Dev nD) : FVec Ideal S2048x1024 .f32 := m ((c : Thread nD τ).loc main_arg3)
abbrev WO (c : Dev nD) : FVec Ideal S1024x1024 .f32 := m ((c : Thread nD τ).loc main_arg4)
abbrev G1 (c : Dev nD) : FVec Ideal S1x1024 .f32 := m ((c : Thread nD τ).loc main_arg5)
abbrev GF (c : Dev nD) : FVec Ideal S1x1024 .f32 := m ((c : Thread nD τ).loc main_arg6)
abbrev SC (c : Dev nD) : FVec Ideal S1x1024 .f32 := m ((c : Thread nD τ).loc main_arg7)

variable (c : Dev nD) (t : Fin cfg0.N)

theorem blk0 (r : Fin 256) (l : Fin 1024) : (iblk m c 0 t (ix2 r l) : EReal) = DH m c (ix2 (row t r) l) := by
  unfold row; blk_point [iblk, V, idx t]

theorem blk1 (r : Fin 256) (l : Fin 1024) : (iblk m c 1 t (ix2 r l) : EReal) = DY m c (ix2 (row t r) l) := by
  unfold row; blk_point [iblk, V, idx t]

theorem blk2' (r : Fin 256) (l : Fin 1024) : (iblk m c 2 t (ix2 r l) : EReal) = (V m c main_v5 : FVec Ideal S2048x1024 .f32) (ix2 (row t r) l) := by
  unfold row; blk_point [iblk, idx t]

theorem blk3' (r : Fin 256) (l : Fin 1024) : (iblk m c 3 t (ix2 r l) : EReal) = (V m c main_v2 : FVec Ideal S2048x1024 .f32) (ix2 (row t r) l) := by
  unfold row; blk_point [iblk, idx t]

theorem blk4 (u : Fin 1) (l : Fin 1024) : (iblk m c 4 t (ix2 u l) : EReal) = G1 m c (ix2 0 l) := by
  blk_point [iblk, V, idx t]

theorem blk5 (u : Fin 1) (l : Fin 1024) : (iblk m c 5 t (ix2 u l) : EReal) = GF m c (ix2 0 l) := by
  blk_point [iblk, V, idx t]

theorem blk6 (u : Fin 1) (l : Fin 1024) : (iblk m c 6 t (ix2 u l) : EReal) = SC m c (ix2 0 l) := by
  blk_point [iblk, V, idx t]

theorem blk7' (j : Fin 1536) (l : Fin 1024) : (iblk m c 7 t (ix2 j l) : EReal) = (V m c main_v12 : FVec Ideal S1536x1024 .bf16) (ix2 j l) := by
  blk_point [iblk, idx t]

/-- The weights' rows laid out by heads. -/
def catW (a : FVec Ideal S1024x1024 .bf16) (b : FVec Ideal S512x1024 .bf16) : FVec Ideal S1536x1024 .bf16 :=
  concatenate S1536x1024 0 [⟨S1024x1024, a⟩, ⟨S512x1024, b⟩] concatenates_S1024x1024_S512x1024_S1536x1024_d0

/-- The host lines before the call. -/
abbrev line : List (HloOp τ sig (Elt Ideal)) := List.flatten [hostOps0, hostOps0_1, hostOps0_2]

theorem V12 : V m c main_v12 = catW (StableHlo.upto line (fun b => m (c, b)) 14 main_v10) (StableHlo.upto line (fun b => m (c, b)) 14 main_v11) :=
  (StableHlo.after_last_write (ops := line) (i := 14) [] (by exact rfl) (by exact rfl) (by decide) _).trans ((StableHlo.binary_result' ..).trans rfl)

theorem host12 (j : Fin 1536) (l : Fin 1024) : ((V m c main_v12 : FVec Ideal S1536x1024 .bf16) (ix2 j l) : EReal) = heads (fun k => WO m c (ix2 k l)) j := by
  rw [V12]
  after_reads_simp
  pointwise [catW]
  simp only [StableHlo.TRef.toBuf, StableHlo.TRef.ofBuf, StableHlo.TRef.of, cast_eq]
  pointwise [heads]
  simp only [sitofp_zero_bf16]

theorem V2 : V m c main_v2 = StableHlo.upto line (fun b => m (c, b)) 3 main_v2 :=
  (StableHlo.after_last_write (ops := line) (i := 2) [main_v3, main_v4, main_v5, main_v6, main_v7, main_v8, main_c, main_call0_v0, main_v9, main_v10, main_v11, main_v12] (by exact rfl) (by exact rfl) (by decide) _).trans rfl

theorem V5 : V m c main_v5 = StableHlo.upto line (fun b => m (c, b)) 6 main_v5 :=
  (StableHlo.after_last_write (ops := line) (i := 5) [main_v6, main_v7, main_v8, main_c, main_call0_v0, main_v9, main_v10, main_v11, main_v12] (by exact rfl) (by exact rfl) (by decide) _).trans rfl

theorem host2 (r : Fin 2048) (l : Fin 1024) : ((V m c main_v2 : FVec Ideal S2048x1024 .f32) (ix2 r l) : EReal) = mx (O m c) (WO m c) r l := by
  rw [V2]
  after_reads_simp
  pointwise [mx]

theorem host5 (r : Fin 2048) (l : Fin 1024) : ((V m c main_v5 : FVec Ideal S2048x1024 .f32) (ix2 r l) : EReal) = res (O m c) (X m c) (WO m c) (G1 m c) r l := by
  rw [V5]
  after_reads_simp
  pointwise [mx, res]

theorem blk2 (r : Fin 256) (l : Fin 1024) : (iblk m c 2 t (ix2 r l) : EReal) = res (O m c) (X m c) (WO m c) (G1 m c) (row t r) l :=
  (blk2' m c t r l).trans (host5 m c _ _)

theorem blk3 (r : Fin 256) (l : Fin 1024) : (iblk m c 3 t (ix2 r l) : EReal) = mx (O m c) (WO m c) (row t r) l :=
  (blk3' m c t r l).trans (host2 m c _ _)

theorem blk7 (j : Fin 1536) (l : Fin 1024) : (iblk m c 7 t (ix2 j l) : EReal) = heads (fun k => WO m c (ix2 k l)) j :=
  (blk7' m c t j l).trans (host12 m c _ _)

theorem pay15_at (r : Fin 256) (u : Fin 1) : (k0_pay15 (F := Ideal) (iblk m c 2 t) (ix2 r u) : EReal) = Ideal.rsqrt (var (res (O m c) (X m c) (WO m c) (G1 m c)) (row t r)) := by
  pointwise [k0_pay15, k0_pay12, var]
  simp only [blk2, ofBits_1024]

theorem pay16_at (r : Fin 256) (l : Fin 1024) : (k0_pay16 (F := Ideal) (iblk m c 2 t) (ix2 r l) : EReal) = nrm (res (O m c) (X m c) (WO m c) (G1 m c)) (row t r) l := by
  pointwise [k0_pay16, k0_pay12, nrm]
  simp only [blk2, pay15_at]

theorem pay18_at (r : Fin 256) (l : Fin 1024) : (k0_pay18 (F := Ideal) (iblk m c 0 t) (iblk m c 6 t) (ix2 r l) : EReal) = DH m c (ix2 (row t r) l) * (1 + SC m c (ix2 0 l)) := by
  pointwise [k0_pay18]
  simp only [blk0, blk6]

theorem pay20_at (r : Fin 256) (l : Fin 1024) : (k0_pay20 (F := Ideal) (iblk m c 0 t) (iblk m c 5 t) (iblk m c 6 t) (ix2 r l) : EReal) = ct (GF m c) (SC m c) (DH m c) (row t r) l := by
  pointwise [k0_pay20, ct]
  simp only [pay18_at, blk5]

/-- The gradient of the residual sum at a grid point. -/
abbrev pdx : FVec Ideal S256x1024 .f32 := k0_pay1 (F := Ideal) (iblk m c 1 t) (k0_pay15 (iblk m c 2 t)) (k0_pay16 (iblk m c 2 t)) (k0_pay20 (iblk m c 0 t) (iblk m c 5 t) (iblk m c 6 t))
  (k0_pay21 (iblk m c 0 t) (iblk m c 2 t) (iblk m c 5 t) (iblk m c 6 t)) k0_pay22

/-- The gradient of the mixing at a grid point. -/
abbrev pdm : FVec Ideal S256x1024 .bf16 := k0_pay7 (F := Ideal) (iblk m c 1 t) (iblk m c 4 t) (k0_pay15 (iblk m c 2 t)) (k0_pay16 (iblk m c 2 t)) (k0_pay20 (iblk m c 0 t) (iblk m c 5 t) (iblk m c 6 t))
  (k0_pay21 (iblk m c 0 t) (iblk m c 2 t) (iblk m c 5 t) (iblk m c 6 t)) k0_pay22

/-- The gradient of the attentions' output at a grid point. -/
abbrev pdo : FVec Ideal S256x1536 .f32 := k0_pay3 (F := Ideal) (iblk m c 1 t) (iblk m c 4 t) (k0_pay14 (iblk m c 7 t)) (k0_pay15 (iblk m c 2 t)) (k0_pay16 (iblk m c 2 t)) (k0_pay20 (iblk m c 0 t) (iblk m c 5 t) (iblk m c 6 t))
  (k0_pay21 (iblk m c 0 t) (iblk m c 2 t) (iblk m c 5 t) (iblk m c 6 t)) k0_pay22

/-- The gradient of the gate's row at a grid point. -/
abbrev pdg : FVec Ideal S1x1024 .f32 := k0_pay6 (F := Ideal) (iblk m c 1 t) (k0_pay13 (iblk m c 3 t)) (k0_pay15 (iblk m c 2 t)) (k0_pay16 (iblk m c 2 t)) (k0_pay20 (iblk m c 0 t) (iblk m c 5 t) (iblk m c 6 t))
  (k0_pay21 (iblk m c 0 t) (iblk m c 2 t) (iblk m c 5 t) (iblk m c 6 t)) k0_pay22

/-- The whole array of which a grid point computes 256 rows: the gradient of the residual sum. -/
abbrev DR (r : Fin 2048) (l : Fin 1024) : EReal := dres (O m c) (X m c) (WO m c) (G1 m c) (GF m c) (SC m c) (DH m c) (DY m c) r l

theorem pdx_at (r : Fin 256) (l : Fin 1024) : pdx m c t (ix2 r l) = DR m c (row t r) l := by
  unfold pdx DR
  pointwise [k0_pay1, k0_pay21, k0_pay22, dres]
  simp only [pay15_at, pay16_at, pay20_at, blk1, ofBits_1024]

theorem pdm_at (r : Fin 256) (l : Fin 1024) : (pdm m c t (ix2 r l) : EReal) = G1 m c (ix2 0 l) * DR m c (row t r) l := by
  have h := pdx_at m c t r l
  unfold pdx at h
  unfold pdm
  pointwise [k0_pay7, k0_pay2]
  simp only [h, blk4]

theorem pdo_at (r : Fin 256) (j : Fin 1536) : pdo m c t (ix2 r j) = heads (fun i => ∑ k : Fin 1024, G1 m c (ix2 0 k) * DR m c (row t r) k * WO m c (ix2 i k)) j := by
  have h := fun l => pdx_at m c t r l
  unfold pdx at h
  unfold pdo
  rw [heads_sum]
  pointwise [k0_pay3, k0_pay2, k0_pay14]
  simp only [h, blk4, blk7]

theorem pdg_at (u : Fin 1) (l : Fin 1024) : pdg m c t (ix2 u l) = ∑ r : Fin 256, DR m c (row t r) l * mx (O m c) (WO m c) (row t r) l := by
  have h := fun r => pdx_at m c t r l
  unfold pdx at h
  unfold pdg
  pointwise [k0_pay6, k0_pay13]
  simp only [h, blk3]

theorem pay19_at (u : Fin 1) (l : Fin 1024) : (k0_pay19 (F := Ideal) (iblk m c 0 t) (iblk m c 2 t) (iblk m c 6 t) (ix2 u l) : EReal)
    = ∑ r : Fin 256, DH m c (ix2 (row t r) l) * (1 + SC m c (ix2 0 l)) * nrm (res (O m c) (X m c) (WO m c) (G1 m c)) (row t r) l := by
  pointwise [k0_pay19]
  simp only [pay18_at, pay16_at]

theorem pay4_at (u : Fin 1) (l : Fin 1024) : (k0_pay4 (F := Ideal) (iblk m c 0 t) (k0_pay17 (iblk m c 2 t) (iblk m c 5 t)) (ix2 u l) : EReal)
    = ∑ r : Fin 256, DH m c (ix2 (row t r) l) * (nrm (res (O m c) (X m c) (WO m c) (G1 m c)) (row t r) l * GF m c (ix2 0 l)) := by
  pointwise [k0_pay4, k0_pay17]
  simp only [pay16_at, blk0, blk5]

theorem pay5_at (u : Fin 1) (l : Fin 1024) : (k0_pay5 (F := Ideal) (iblk m c 0 t) (ix2 u l) : EReal) = ∑ r : Fin 256, DH m c (ix2 (row t r) l) := by
  pointwise [k0_pay5]
  simp only [blk0]

theorem outs8 : (outsAt0 m c t.val t.isLt).1 = pdx m c t := by
  have hlt := lt8 t
  by_cases h : t.val = 0
  · rw [outsAt0_A m c t (by omega) (by omega)]
    funext j
    frame_out
  · rw [outsAt0_B m c t (by omega) (by omega)]
    funext j
    frame_out

theorem outs9 : (outsAt0 m c t.val t.isLt).2.1 = pdm m c t := by
  have hlt := lt8 t
  by_cases h : t.val = 0
  · rw [outsAt0_A m c t (by omega) (by omega)]
    funext j
    frame_out
  · rw [outsAt0_B m c t (by omega) (by omega)]
    funext j
    frame_out

theorem outs10 : (outsAt0 m c t.val t.isLt).2.2.1 = pdo m c t := by
  have hlt := lt8 t
  by_cases h : t.val = 0
  · rw [outsAt0_A m c t (by omega) (by omega)]
    funext j
    frame_out
  · rw [outsAt0_B m c t (by omega) (by omega)]
    funext j
    frame_out

/-- Summing the blocks' row sums is summing all rows. -/
theorem sum_rows (f : Fin 2048 → EReal) : (∑ t : Fin cfg0.N, ∑ r : Fin 256, f (row t r)) = ∑ r : Fin 2048, f r :=
  Fin.sum_mul_add_congr (S := 8) (n := 256) (L := 2048) fun t r hl => by rfl

theorem final8 : (dats m 0 c).arrAt 8 cfg0.N = Read.val_main_v53 (F := Ideal) (DH m c) (DY m c) (O m c) (X m c) (WO m c) (G1 m c) (GF m c) (SC m c) := by
  refine (dats m 0 c).arrAt_eq_of_covers 8 _ (by decide +kernel) fun t hf y => ?_
  blk_simp
  rw [after0_8, outs8]
  refine (congrArg _ (eq_ix2 (n0 := 256) (n1 := 1024) y)).trans (((pdx_at m c t (y 0) (y 1)).trans (ref_v53 ..).symm).trans ?_)
  unfold row
  blk_point [iblk, V, idx t]

theorem final9 : (dats m 0 c).arrAt 9 cfg0.N = Read.val_main_v67 (F := Ideal) (DH m c) (DY m c) (O m c) (X m c) (WO m c) (G1 m c) (GF m c) (SC m c) := by
  refine (dats m 0 c).arrAt_eq_of_covers 9 _ (by decide +kernel) fun t hf y => ?_
  blk_simp
  rw [after0_9, outs9]
  refine (congrArg _ (eq_ix2 (n0 := 256) (n1 := 1024) y)).trans (((pdm_at m c t (y 0) (y 1)).trans (ref_v67 ..).symm).trans ?_)
  unfold row
  blk_point [iblk, V, idx t]

theorem final10 : (dats m 0 c).arrAt 10 cfg0.N = Read.val_main_v66 (F := Ideal) (DH m c) (DY m c) (O m c) (X m c) (WO m c) (G1 m c) (GF m c) (SC m c) := by
  refine (dats m 0 c).arrAt_eq_of_covers 10 _ (by decide +kernel) fun t hf y => ?_
  blk_simp
  rw [after0_10, outs10]
  refine (congrArg _ (eq_ix2 (n0 := 256) (n1 := 1536) y)).trans (((pdo_at m c t (y 0) (y 1)).trans (ref_v66 ..).symm).trans ?_)
  unfold row
  blk_point [iblk, V, idx t]

theorem final11 : (dats m 0 c).arrAt 11 cfg0.N = Read.val_main_v36 (F := Ideal) (DH m c) (O m c) (X m c) (WO m c) (G1 m c) (SC m c) := by
  refine (dats m 0 c).arrAt_eq_of_after_last 11 t0_7 (by decide +kernel) _ fun j => ?_
  blk_simp
  rw [after0_11, Pipeline.eq_sum_fin_of_reset_step_apply_last (f := fun n h => (outsAt0 m c n h).2.2.2.1) 8 (fun _ => 0) (fun t j => k0_pay19 (iblk m c 0 t) (iblk m c 2 t) (iblk m c 6 t) j)
      (fun t h j => by have hlt := lt8 t; rw [outsAt0_A m c t h (by omega)]; frame_out; exact (zero_add _).symm)
      (fun t h j => by have hlt := lt8 t; rw [outsAt0_B m c t h (by omega)]; frame_out; pointwise [k0_pay8])
      (le_of_eq N_0) t0_7 rfl j, zero_add]
  refine Eq.trans (Fin.sum_fin_congr fun p => (congrArg _ (eq_ix2 (n0 := 1) (n1 := 1024) j)).trans (pay19_at m c p (j 0) (j 1))) ?_
  exact (sum_rows _).trans ((congrArg _ (eq_ix2 (n0 := 1) (n1 := 1024) _)).trans (ref_v36 ..)).symm

theorem final12 : (dats m 0 c).arrAt 12 cfg0.N = Read.val_main_v31 (F := Ideal) (DH m c) (O m c) (X m c) (WO m c) (G1 m c) (GF m c) := by
  refine (dats m 0 c).arrAt_eq_of_after_last 12 t0_7 (by decide +kernel) _ fun j => ?_
  blk_simp
  rw [after0_12, Pipeline.eq_sum_fin_of_reset_step_apply_last (f := fun n h => (outsAt0 m c n h).2.2.2.2.1) 8 (fun _ => 0) (fun t j => k0_pay4 (iblk m c 0 t) (k0_pay17 (iblk m c 2 t) (iblk m c 5 t)) j)
      (fun t h j => by have hlt := lt8 t; rw [outsAt0_A m c t h (by omega)]; frame_out; exact (zero_add _).symm)
      (fun t h j => by have hlt := lt8 t; rw [outsAt0_B m c t h (by omega)]; frame_out; pointwise [k0_pay9])
      (le_of_eq N_0) t0_7 rfl j, zero_add]
  refine Eq.trans (Fin.sum_fin_congr fun p => (congrArg _ (eq_ix2 (n0 := 1) (n1 := 1024) j)).trans (pay4_at m c p (j 0) (j 1))) ?_
  exact (sum_rows _).trans ((congrArg _ (eq_ix2 (n0 := 1) (n1 := 1024) _)).trans (ref_v31 ..)).symm

theorem final13 : (dats m 0 c).arrAt 13 cfg0.N = Read.val_main_v28 (F := Ideal) (DH m c) := by
  refine (dats m 0 c).arrAt_eq_of_after_last 13 t0_7 (by decide +kernel) _ fun j => ?_
  blk_simp
  rw [after0_13, Pipeline.eq_sum_fin_of_reset_step_apply_last (f := fun n h => (outsAt0 m c n h).2.2.2.2.2.1) 8 (fun _ => 0) (fun t j => k0_pay5 (iblk m c 0 t) j)
      (fun t h j => by have hlt := lt8 t; rw [outsAt0_A m c t h (by omega)]; frame_out; exact (zero_add _).symm)
      (fun t h j => by have hlt := lt8 t; rw [outsAt0_B m c t h (by omega)]; frame_out; pointwise [k0_pay10])
      (le_of_eq N_0) t0_7 rfl j, zero_add]
  refine Eq.trans (Fin.sum_fin_congr fun p => (congrArg _ (eq_ix2 (n0 := 1) (n1 := 1024) j)).trans (pay5_at m c p (j 0) (j 1))) ?_
  exact (sum_rows _).trans ((congrArg _ (eq_ix2 (n0 := 1) (n1 := 1024) _)).trans (ref_v28 ..)).symm

theorem final14 : (dats m 0 c).arrAt 14 cfg0.N = Read.val_main_v59 (F := Ideal) (DH m c) (DY m c) (O m c) (X m c) (WO m c) (G1 m c) (GF m c) (SC m c) := by
  refine (dats m 0 c).arrAt_eq_of_after_last 14 t0_7 (by decide +kernel) _ fun j => ?_
  blk_simp
  rw [after0_14, Pipeline.eq_sum_fin_of_reset_step_apply_last (f := fun n h => (outsAt0 m c n h).2.2.2.2.2.2) 8 (fun _ => 0) (fun t j => pdg m c t j)
      (fun t h j => by have hlt := lt8 t; rw [outsAt0_A m c t h (by omega)]; frame_out; exact (zero_add _).symm)
      (fun t h j => by have hlt := lt8 t; rw [outsAt0_B m c t h (by omega)]; frame_out; pointwise [k0_pay11])
      (le_of_eq N_0) t0_7 rfl j, zero_add]
  refine Eq.trans (Fin.sum_fin_congr fun p => (congrArg _ (eq_ix2 (n0 := 1) (n1 := 1024) j)).trans (pdg_at m c p (j 0) (j 1))) ?_
  exact (sum_rows _).trans ((congrArg _ (eq_ix2 (n0 := 1) (n1 := 1024) _)).trans (ref_v59 ..)).symm

end Cert.KernelMidIdeal.Value

end
-- ==== Proof.MidClaim.lean ====
/- The claim about the gradient between the attentions and the feed-forward: the generated frames and the equal results assembled. -/
module

public import proofs.«01_k».proof.Defs
public import proofs.«01_k».proof.Proof.Mid
public import proofs.«01_k».proof.Proof.Gen.KernelMid.Frame
public import proofs.«01_k».proof.Proof.Gen.ReferenceMidIdeal.Run
public import Idealize.ShloMosaic.Lib.Quiescent

@[expose] public section

noncomputable section

namespace Cert.Proof.Mid

open Idealize.ShloMosaic Idealize.SL.Sem

/-- The reference runs and leaves its arguments. -/
theorem frame_reference : Cert.quiescent_ReferenceMidIdeal := fun m ρ _ =>
  (θ_run Cert.ReferenceMidIdeal.defs _ _).mono (fun r h => ⟨fun c => (h c).2.2.2.2.2.2.2, sem_eq_zero_of_no_sems (by decide) r.2⟩)
    (Cert.ReferenceMidIdeal.Value.run (F := Ideal) m ρ)

set_option maxHeartbeats 2000000 in
/-- Kernel and reference compute the same arrays. -/
theorem value : Cert.algebraic_KernelMidIdeal_ReferenceMidIdeal := by
  intro m g m' g' _ hagree
  refine ⟨_, _, _, _, _, _, _, Cert.KernelMidIdeal.Value.run_blocks (F := Ideal) m g, ?_⟩
  refine (θ_run Cert.ReferenceMidIdeal.defs _ _).mono (fun r h c => ?_)
    (Cert.ReferenceMidIdeal.Value.run (F := Ideal) m' g')
  obtain ⟨h0, h1, h2, h3, h4, h5, h6, hargs⟩ := h c
  refine ⟨h0.trans ((Cert.ReferenceMidIdeal.Read.val_main_v53_eq ..).trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2]
        exact (Cert.KernelMidIdeal.Value.final8 m c).symm)),
    h1.trans ((Cert.ReferenceMidIdeal.Read.val_main_v67_eq ..).trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2]
        exact (Cert.KernelMidIdeal.Value.final9 m c).symm)),
    h2.trans ((Cert.ReferenceMidIdeal.Read.val_main_v66_eq ..).trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2]
        exact (Cert.KernelMidIdeal.Value.final10 m c).symm)),
    h3.trans ((Cert.ReferenceMidIdeal.Read.val_main_v36_eq ..).trans (by
        rw [(hagree c).1, (hagree c).2.2.1, (hagree c).2.2.2.1, (hagree c).2.2.2.2.1, (hagree c).2.2.2.2.2.1, (hagree c).2.2.2.2.2.2.2]
        exact (Cert.KernelMidIdeal.Value.final11 m c).symm)),
    h4.trans ((Cert.ReferenceMidIdeal.Read.val_main_v31_eq ..).trans (by
        rw [(hagree c).1, (hagree c).2.2.1, (hagree c).2.2.2.1, (hagree c).2.2.2.2.1, (hagree c).2.2.2.2.2.1, (hagree c).2.2.2.2.2.2.1]
        exact (Cert.KernelMidIdeal.Value.final12 m c).symm)),
    h5.trans ((Cert.ReferenceMidIdeal.Read.val_main_v28_eq ..).trans (by
        rw [(hagree c).1]
        exact (Cert.KernelMidIdeal.Value.final13 m c).symm)),
    h6.trans ((Cert.ReferenceMidIdeal.Read.val_main_v59_eq ..).trans (by
        rw [(hagree c).1, (hagree c).2.1, (hagree c).2.2.1, (hagree c).2.2.2.1, (hagree c).2.2.2.2.1, (hagree c).2.2.2.2.2.1, (hagree c).2.2.2.2.2.2.1, (hagree c).2.2.2.2.2.2.2]
        exact (Cert.KernelMidIdeal.Value.final14 m c).symm)), hargs⟩

end Cert.Proof.Mid

end
-- ==== Proof.MlaTiles.lean ====
/- Through the attention over the latent: what the kernel's body computes at one grid point, that is for one head. -/
module

public import proofs.«01_k».proof.Proof.Gen.KernelMlaIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.Mla

/-- A block of one head: 2048 rows of 128 lanes. -/
abbrev Blk (e : FTy) := FVec 𝕀 ⟨2, ![2048, 128]⟩ e

/-- The sum of a function of the row over the first `a` rows. -/
def upto (T : Fin 2048 → EReal) (a : ℕ) (h : a ≤ 2048) : EReal := ∑ x : Fin a, T ⟨x, by omega⟩

theorem upto_all (T : Fin 2048 → EReal) : upto T 2048 le_rfl = ∑ i, T i := rfl

theorem upto_add (T : Fin 2048 → EReal) (a : ℕ) (h : a + 256 ≤ 2048) :
    upto T (a + 256) h = upto T a (by omega) + ∑ x : Fin 256, T ⟨a + x, by omega⟩ :=
  Fin.sum_univ_add (fun x : Fin (a + 256) => T ⟨x, by omega⟩)

/-- Rows at which the function is zero may be left out at the end. -/
theorem sum_eq_upto (T : Fin 2048 → EReal) (a : ℕ) (h : a ≤ 2048) (hz : ∀ i : Fin 2048, a ≤ i.val → T i = 0) :
    ∑ i, T i = upto T a h := by
  obtain ⟨b, hb⟩ := Nat.exists_eq_add_of_le h
  have e : ∑ i : Fin 2048, T i = ∑ x : Fin (a + b), T ⟨x, by omega⟩ := by
    refine Fintype.sum_equiv (finCongr hb) _ _ fun i => rfl
  rw [e, Fin.sum_univ_add, Finset.sum_eq_zero (s := Finset.univ) (f := fun i : Fin b => T ⟨Fin.natAdd a i, _⟩)
    fun i _ => hz _ (by simp), add_zero]
  rfl

/-- The literal with which both programs scale the scores. -/
def σ : EReal := Ideal.ofBits .f32 0x3DD105EC#32

section
variable (Q K V : Blk .bf16) (O DO : Blk .f32) (L : FVec 𝕀 ⟨3, ![1, 2048, 1]⟩ .f32)

/-- The masked score of row `i` against row `j`. -/
def score (i j : Fin 2048) : EReal := if j.val ≤ i.val then (∑ d : Fin 128, Q (ix2 i d) * K (ix2 j d)) * σ else ⊥

/-- The weight of row `j` for row `i`. -/
def prob (i j : Fin 2048) : EReal := Ideal.exp (score Q K i j - L (ix3 0 i 0))

/-- The gradient of the score. -/
def ds (i j : Fin 2048) : EReal :=
  prob Q K L i j * ((∑ d : Fin 128, DO (ix2 i d) * V (ix2 j d)) - ∑ d : Fin 128, DO (ix2 i d) * O (ix2 i d)) * σ

theorem prob_zero (i j : Fin 2048) (h : i.val < j.val) : prob Q K L i j = 0 := by
  unfold prob score
  rw [if_neg (by omega), EReal.bot_sub]
  exact Ideal.exp_bot

theorem ds_zero (i j : Fin 2048) (h : i.val < j.val) : ds Q K V O DO L i j = 0 := by
  unfold ds
  rw [prob_zero Q K L i j h, zero_mul, zero_mul]
end

section
variable (Q K V : Blk .bf16) (O DO : Blk .f32) (L : FVec 𝕀 ⟨3, ![1, 2048, 1]⟩ .f32)

/-- What key row `j` adds to the gradient of the query of row `i`, -/
def TQ (j i : Fin 2048) (l : Fin 128) : EReal := ds Q K V O DO L i j * K (ix2 j l)

/-- what query row `i` adds to that of the key of row `j`, -/
def TK (i j : Fin 2048) (l : Fin 128) : EReal := ds Q K V O DO L i j * Q (ix2 i l)

/-- and to that of its value. -/
def TV (i j : Fin 2048) (l : Fin 128) : EReal := prob Q K L i j * DO (ix2 i l)

theorem TQ_zero (i j : Fin 2048) (l : Fin 128) (h : i.val < j.val) : TQ Q K V O DO L j i l = 0 := by
  unfold TQ; rw [ds_zero _ _ _ _ _ _ i j h, zero_mul]

theorem TK_zero (i j : Fin 2048) (l : Fin 128) (h : i.val < j.val) : TK Q K V O DO L i j l = 0 := by
  unfold TK; rw [ds_zero _ _ _ _ _ _ i j h, zero_mul]

theorem TV_zero (i j : Fin 2048) (l : Fin 128) (h : i.val < j.val) : TV Q K DO L i j l = 0 := by
  unfold TV; rw [prob_zero _ _ _ i j h, zero_mul]

theorem TQ_of (i j : Fin 2048) (l : Fin 128) (p : EReal) (h : p = prob Q K L i j) :
    p * ((∑ d : Fin 128, DO (ix2 i d) * V (ix2 j d)) - ∑ d : Fin 128, DO (ix2 i d) * O (ix2 i d)) * σ * K (ix2 j l) = TQ Q K V O DO L j i l := by
  rw [h]; rfl

theorem TK_of (i j : Fin 2048) (l : Fin 128) (p : EReal) (h : p = prob Q K L i j) :
    p * ((∑ d : Fin 128, DO (ix2 i d) * V (ix2 j d)) - ∑ d : Fin 128, DO (ix2 i d) * O (ix2 i d)) * σ * Q (ix2 i l) = TK Q K V O DO L i j l := by
  rw [h]; rfl

theorem TV_of (i j : Fin 2048) (l : Fin 128) (p : EReal) (h : p = prob Q K L i j) : p * DO (ix2 i l) = TV Q K DO L i j l := by
  rw [h]; rfl
end

/-- The comparison of two counts, as the diagonal's mask makes it. -/
theorem select_le (a b : ℕ) (ha : a < 2048) (hb : b < 2048) (x y : EReal) :
    Scalar.select (IntOp.cmpi .sle (BitVec.ofNat 32 a) (BitVec.ofNat 32 b)) x y = if a ≤ b then x else y := by
  rw [WordCmp.cmpi_sle_ofNat (by norm_num; omega) (by norm_num; omega), WordCmp.select_decide]

end Cert.Mla

namespace Cert.KernelMlaIdeal.Value

open Cert.KernelMlaIdeal Cert.KernelMlaIdeal.Gen Cert.Mla

theorem mask_bot : (Named.named (F := 𝕀) (φ := .f32) κ "mask" 0xF149F2CA#32 : EReal) = ⊥ :=
  IdealRules.named_const.ideal_named_scalar _ _ _ _ rfl

section
variable (Q K V : Blk .bf16) (O DO : Blk .f32) (L : FVec 𝕀 ⟨3, ![1, 2048, 1]⟩ .f32)

/-- The score as the body forms it in the tile that starts at row `a`: masked in the last 256 columns alone. -/
theorem score_tile (a e : ℕ) (he : e = a + 256) (ha : e ≤ 2048) (x : Fin 256) (r : Fin e) :
    (if h : r.val < a then
        (∑ d : Fin 128, Q (ix2 ⟨a + x.val, by omega⟩ d) * K (ix2 ⟨r.val, by omega⟩ d)) * Ideal.ofBits .f32 0x3DD105EC#32
      else Scalar.select (IntOp.cmpi .sle (BitVec.ofNat 32 (r.val - a)) (BitVec.ofNat 32 x.val))
        ((∑ d : Fin 128, Q (ix2 ⟨a + x.val, by omega⟩ d) * K (ix2 ⟨a + (r.val - a), by omega⟩ d)) * Ideal.ofBits .f32 0x3DD105EC#32)
        (Named.named (F := 𝕀) (φ := .f32) κ "mask" 0xF149F2CA#32 : EReal))
      = score Q K ⟨a + x.val, by omega⟩ ⟨r.val, by omega⟩ := by
  unfold score
  split_ifs with h h' h'
  · rfl
  · exact absurd h' (by simp; omega)
  · have hr : a + (r.val - a) = r.val := by omega
    rw [select_le _ _ (by omega) (by omega), if_pos (by simp at h'; omega)]
    simp only [hr]; rfl
  · rw [select_le _ _ (by omega) (by omega), if_neg (by simp at h'; omega)]
    exact mask_bot

/-- The same in the first tile. -/
theorem score_first (x r : Fin 256) :
    Scalar.select (IntOp.cmpi .sle (BitVec.ofNat 32 r.val) (BitVec.ofNat 32 x.val))
        ((∑ d : Fin 128, Q (ix2 ⟨x.val, by omega⟩ d) * K (ix2 ⟨r.val, by omega⟩ d)) * Ideal.ofBits .f32 0x3DD105EC#32)
        (Named.named (F := 𝕀) (φ := .f32) κ "mask" 0xF149F2CA#32 : EReal)
      = score Q K ⟨x.val, by omega⟩ ⟨r.val, by omega⟩ := by
  unfold score
  rw [select_le _ _ (by omega) (by omega), mask_bot]; rfl

/-- Columns before the diagonal's block need no mask. -/
theorem score_before (a : ℕ) (ha : a + 256 ≤ 2048) (x : Fin 256) (j : Fin a) :
    (∑ d : Fin 128, Q (ix2 ⟨a + x.val, by omega⟩ d) * K (ix2 ⟨j.val, by omega⟩ d)) * Ideal.ofBits .f32 0x3DD105EC#32
      = score Q K ⟨a + x.val, by omega⟩ ⟨j.val, by omega⟩ := by
  unfold score
  rw [if_pos (by simp; omega)]; rfl

/-- Those of it do. -/
theorem score_diag (a : ℕ) (ha : a + 256 ≤ 2048) (x j : Fin 256) :
    Scalar.select (IntOp.cmpi .sle (BitVec.ofNat 32 j.val) (BitVec.ofNat 32 x.val))
        ((∑ d : Fin 128, Q (ix2 ⟨a + x.val, by omega⟩ d) * K (ix2 ⟨a + j.val, by omega⟩ d)) * Ideal.ofBits .f32 0x3DD105EC#32)
        (Named.named (F := 𝕀) (φ := .f32) κ "mask" 0xF149F2CA#32 : EReal)
      = score Q K ⟨a + x.val, by omega⟩ ⟨a + j.val, by omega⟩ := by
  unfold score
  rw [select_le _ _ (by omega) (by omega), mask_bot]
  simp only [Nat.add_le_add_iff_left]; rfl
end

/-! ### The accumulators: written at growing extents -/

section
variable {T : Fin 2048 → Fin 2048 → Fin 128 → EReal}

/-- An accumulator holds, at row `j`, the sum of the terms of the first `a` rows. -/
def Holds (T : Fin 2048 → Fin 2048 → Fin 128 → EReal) (L : List (View.Piece (Elt 𝕀) S2048x128 .f32)) (a : ℕ) (h : a ≤ 2048) : Prop :=
  ∀ (j : Fin 2048) (l : Fin 128), (View.canon L (ix2 j l) : EReal) = upto (fun i => T i j l) a h

theorem load_at (v : View sig .tc .vmem S2048x128 .f32) (L : List (View.Piece (Elt 𝕀) S2048x128 .f32)) (e : ℕ)
    (inb : ∀ a : Fin 2, (![0, 0] : Fin 2 → ℕ) a + (![e, 128] : Fin 2 → ℕ) a ≤ S2048x128.size a) (he : e ≤ 2048) (r : Fin e) (l : Fin 128) :
    (v.readCov L (Rect.unit (s := S2048x128) ![0, 0] ![e, 128] inb).toLoadRect (ix2 r l) : EReal) = View.canon L (ix2 ⟨r.val, by omega⟩ l) := by
  rw [View.readCov_eq_canon']
  refine congrArg (View.canon L) (funext fun a => Fin.ext ?_)
  refine (Rect.idx_unit_val _ _ inb _ _).trans ?_
  fin_cases a <;> simp [ix2]

theorem canon_at (L : List (View.Piece (Elt 𝕀) S2048x128 .f32)) (e : ℕ)
    (inb : ∀ a : Fin 2, (![0, 0] : Fin 2 → ℕ) a + (![e, 128] : Fin 2 → ℕ) a ≤ S2048x128.size a) (he : e ≤ 2048)
    (w : (Rect.unit (s := S2048x128) ![0, 0] ![e, 128] inb).shape.Idx → Elt 𝕀 .f32) (j : Fin 2048) (l : Fin 128) :
    (View.canon (⟨Rect.unit (s := S2048x128) ![0, 0] ![e, 128] inb, w⟩ :: L) (ix2 j l) : EReal)
      = if h : j.val < e then w (ix2 ⟨j.val, h⟩ l) else View.canon L (ix2 j l) := by
  split_ifs with h
  · have e1 : (ix2 j l : S2048x128.Idx) = (Rect.unit (s := S2048x128) ![0, 0] ![e, 128] inb).emb (ix2 (⟨j.val, h⟩ : Fin e) l) := by
      refine funext fun a => Fin.ext ?_
      refine Eq.trans ?_ (Rect.idx_unit_val _ _ inb _ _).symm
      fin_cases a <;> simp [ix2]
    rw [e1]
    exact View.canon_cons_emb _ w L _
  · refine View.canon_cons_of_not_mem _ L fun hm => h ?_
    have h2 : (ix2 j l : S2048x128.Idx) ∈ (Rect.unit (s := S2048x128) ![0, 0] ![e, 128] inb).set := hm
    have h3 := (Rect.mem_set_unit.mp h2 0).2
    simpa [ix2] using h3

/-- One tile more: the rows from `a` on add their terms into the first `a + 256` rows of the accumulator. -/
theorem Holds.step {L : List (View.Piece (Elt 𝕀) S2048x128 .f32)} {a e : ℕ} (he : e = a + 256) (hle : e ≤ 2048)
    (hz : ∀ i j l, i.val < j.val → T i j l = 0) (hL : Holds T L a (by omega)) (v : View sig .tc .vmem S2048x128 .f32)
    (inb : ∀ a : Fin 2, (![0, 0] : Fin 2 → ℕ) a + (![e, 128] : Fin 2 → ℕ) a ≤ S2048x128.size a)
    (W : FVec 𝕀 ⟨2, ![e, 128]⟩ .f32 → FVec 𝕀 ⟨2, ![e, 128]⟩ .f32)
    (hW : ∀ D (r : Fin e) (l : Fin 128),
      (W D (ix2 r l) : EReal) = D (ix2 r l) + ∑ x : Fin 256, T ⟨a + x.val, by omega⟩ ⟨r.val, by omega⟩ l) :
    Holds T (⟨Rect.unit (s := S2048x128) ![0, 0] ![e, 128] inb, W (v.readCov L (Rect.unit (s := S2048x128) ![0, 0] ![e, 128] inb).toLoadRect)⟩ :: L) e hle := by
  intro j l
  subst he
  rw [canon_at L _ inb hle, upto_add]
  split_ifs with h
  · rw [hW, load_at v L _ inb hle, hL]
  · rw [hL j l, Finset.sum_eq_zero fun x _ => hz _ j l (by simp; omega), add_zero]

/-- The first tile adds into an accumulator of zeros. -/
theorem Holds.first (hz : ∀ i j l, i.val < j.val → T i j l = 0) (Z : FVec 𝕀 ⟨2, ![2048, 128]⟩ .f32) (hZ : ∀ j, (Z j : EReal) = 0)
    (inb0 : ∀ a : Fin 2, (![0, 0] : Fin 2 → ℕ) a + S2048x128.size a ≤ S2048x128.size a)
    (inb : ∀ a : Fin 2, (![0, 0] : Fin 2 → ℕ) a + (![256, 128] : Fin 2 → ℕ) a ≤ S2048x128.size a)
    (W : FVec 𝕀 ⟨2, ![256, 128]⟩ .f32 → FVec 𝕀 ⟨2, ![256, 128]⟩ .f32)
    (hW : ∀ D (r : Fin 256) (l : Fin 128),
      (W D (ix2 r l) : EReal) = D (ix2 r l) + ∑ x : Fin 256, T ⟨x.val, by omega⟩ ⟨r.val, by omega⟩ l) :
    Holds T [⟨Rect.unit (s := S2048x128) ![0, 0] ![256, 128] inb, W (View.ld (Val := Elt 𝕀) (e' := .f32) Z (Rect.unit (s := S2048x128) ![0, 0] ![256, 128] inb))⟩,
      ⟨Rect.unit (s := S2048x128) ![0, 0] ![2048, 128] inb0, Z⟩] 256 (by norm_num) := by
  intro j l
  rw [canon_at _ _ inb (by norm_num)]
  split_ifs with h
  · rw [hW]
    refine (congrArg (· + _) (hZ _)).trans ?_
    rw [zero_add]; rfl
  · rw [canon_at _ _ inb0 le_rfl, dif_pos j.isLt, hZ]
    exact (Finset.sum_eq_zero fun x _ => hz _ j l (by simp; omega)).symm

/-- The last tile leaves the sum over all rows. -/
theorem Holds.last {L : List (View.Piece (Elt 𝕀) S2048x128 .f32)} (hL : Holds T L 1792 (by norm_num)) (v : View sig .tc .vmem S2048x128 .f32)
    (inb : ∀ a : Fin 2, (![0, 0] : Fin 2 → ℕ) a + (![2048, 128] : Fin 2 → ℕ) a ≤ S2048x128.size a)
    (W : FVec 𝕀 ⟨2, ![2048, 128]⟩ .f32 → FVec 𝕀 ⟨2, ![2048, 128]⟩ .f32)
    (hW : ∀ D (r : Fin 2048) (l : Fin 128),
      (W D (ix2 r l) : EReal) = D (ix2 r l) + ∑ x : Fin 256, T ⟨1792 + x.val, by omega⟩ r l) (j : Fin 2048) (l : Fin 128) :
    (W (v.readCov L (Rect.unit (s := S2048x128) ![0, 0] ![2048, 128] inb).toLoadRect) (ix2 j l) : EReal) = ∑ i, T i j l := by
  rw [hW, load_at v L _ inb le_rfl, hL, ← upto_all, ← upto_add (fun i => T i j l) 1792 le_rfl]
end

theorem pay2_at (D E : FVec 𝕀 ⟨2, ![2048, 128]⟩ .f32) (j : Fin 2048) (l : Fin 128) :
    (k0_pay2 (F := 𝕀) D E (ix2 j l) : EReal) = (if l.val < 64 then (D (ix2 j l) : EReal) else 0) + E (ix2 j l) := by
  pointwise [k0_pay2]
  rw [WordCmp.cmpi_slt_ofNat (by norm_num; omega) (by norm_num), WordCmp.select_decide]

theorem pay3_at (D : FVec 𝕀 ⟨2, ![2048, 128]⟩ .f32) (j : Fin 2048) (l : Fin 128) :
    (k0_pay3 (F := 𝕀) D (ix2 j l) : EReal) = (if 64 ≤ l.val ∧ l.val < 96 then (D (ix2 j l) : EReal) else 0) := by
  pointwise [k0_pay3]
  rw [WordCmp.cmpi_slt_ofNat (by norm_num; omega) (by norm_num), WordCmp.cmpi_sge_ofNat (by norm_num; omega) (by norm_num)]
  by_cases h : 64 ≤ l.val <;> by_cases h' : l.val < 96 <;> simp [h, h', Scalar.select, IntOp.andi]

section
variable (Q K V : Blk .bf16) (O DO : Blk .f32) (L : FVec 𝕀 ⟨3, ![1, 2048, 1]⟩ .f32)

theorem prob_tile (a e : ℕ) (he : e = a + 256) (ha : e ≤ 2048) (x : Fin 256) (r : Fin e) :
    Ideal.exp ((if h : r.val < a then
        (∑ d : Fin 128, Q (ix2 ⟨a + x.val, by omega⟩ d) * K (ix2 ⟨r.val, by omega⟩ d)) * Ideal.ofBits .f32 0x3DD105EC#32
      else Scalar.select (IntOp.cmpi .sle (BitVec.ofNat 32 (r.val - a)) (BitVec.ofNat 32 x.val))
        ((∑ d : Fin 128, Q (ix2 ⟨a + x.val, by omega⟩ d) * K (ix2 ⟨a + (r.val - a), by omega⟩ d)) * Ideal.ofBits .f32 0x3DD105EC#32)
        (Named.named (F := 𝕀) (φ := .f32) κ "mask" 0xF149F2CA#32 : EReal)) - L (ix3 0 ⟨a + x.val, by omega⟩ 0))
      = prob Q K L ⟨a + x.val, by omega⟩ ⟨r.val, by omega⟩ :=
  congrArg (fun s : EReal => Ideal.exp (s - L (ix3 0 ⟨a + x.val, by omega⟩ 0))) (score_tile Q K a e he ha x r)

theorem prob_first (x r : Fin 256) :
    Ideal.exp (Scalar.select (IntOp.cmpi .sle (BitVec.ofNat 32 r.val) (BitVec.ofNat 32 x.val))
        ((∑ d : Fin 128, Q (ix2 ⟨x.val, by omega⟩ d) * K (ix2 ⟨r.val, by omega⟩ d)) * Ideal.ofBits .f32 0x3DD105EC#32)
        (Named.named (F := 𝕀) (φ := .f32) κ "mask" 0xF149F2CA#32 : EReal) - L (ix3 0 ⟨x.val, by omega⟩ 0))
      = prob Q K L ⟨x.val, by omega⟩ ⟨r.val, by omega⟩ :=
  congrArg (fun s : EReal => Ideal.exp (s - L (ix3 0 ⟨x.val, by omega⟩ 0))) (score_first Q K x r)

theorem prob_before (a : ℕ) (ha : a + 256 ≤ 2048) (x : Fin 256) (j : Fin a) :
    Ideal.exp ((∑ d : Fin 128, Q (ix2 ⟨a + x.val, by omega⟩ d) * K (ix2 ⟨j.val, by omega⟩ d)) * Ideal.ofBits .f32 0x3DD105EC#32
        - L (ix3 0 ⟨a + x.val, by omega⟩ 0))
      = prob Q K L ⟨a + x.val, by omega⟩ ⟨j.val, by omega⟩ :=
  congrArg (fun s : EReal => Ideal.exp (s - L (ix3 0 ⟨a + x.val, by omega⟩ 0))) (score_before Q K a ha x j)

theorem prob_diag (a : ℕ) (ha : a + 256 ≤ 2048) (x j : Fin 256) :
    Ideal.exp (Scalar.select (IntOp.cmpi .sle (BitVec.ofNat 32 j.val) (BitVec.ofNat 32 x.val))
        ((∑ d : Fin 128, Q (ix2 ⟨a + x.val, by omega⟩ d) * K (ix2 ⟨a + j.val, by omega⟩ d)) * Ideal.ofBits .f32 0x3DD105EC#32)
        (Named.named (F := 𝕀) (φ := .f32) κ "mask" 0xF149F2CA#32 : EReal) - L (ix3 0 ⟨a + x.val, by omega⟩ 0))
      = prob Q K L ⟨a + x.val, by omega⟩ ⟨a + j.val, by omega⟩ :=
  congrArg (fun s : EReal => Ideal.exp (s - L (ix3 0 ⟨a + x.val, by omega⟩ 0))) (score_diag Q K a ha x j)
end

/-! ### The eight tiles of 256 query rows -/

section
variable (Q K V : Vec 𝕀 S2048x128 .bf16) (O DO : Vec 𝕀 S2048x128 .f32) (L : Vec 𝕀 S1x2048x1 .f32)

theorem TQ_rows_first (r : Fin 256) (l : Fin 128) (f : Fin 256 → EReal)
    (hf : ∀ x, f x = TQ Q K V O DO L ⟨x.val, by omega⟩ ⟨r.val, by omega⟩ l) :
    ∑ x, f x = ∑ j, TQ Q K V O DO L j ⟨r.val, by omega⟩ l := by
  rw [sum_eq_upto (fun j => TQ Q K V O DO L j (⟨r.val, by omega⟩ : Fin 2048) l) 256 (by norm_num)
    fun j hj => TQ_zero Q K V O DO L ⟨r.val, by omega⟩ j l (by simp; omega)]
  exact Finset.sum_congr rfl fun x _ => hf x

/-- A row's sum over all keys is that over the keys before the tile and in it. -/
theorem TQ_rows (a : ℕ) (ha : a + 256 ≤ 2048) (r : Fin 256) (l : Fin 128) (f : Fin a → EReal) (g : Fin 256 → EReal)
    (hf : ∀ x, f x = TQ Q K V O DO L ⟨x.val, by omega⟩ ⟨a + r.val, by omega⟩ l)
    (hg : ∀ x, g x = TQ Q K V O DO L ⟨a + x.val, by omega⟩ ⟨a + r.val, by omega⟩ l) :
    ∑ x, f x + ∑ x, g x = ∑ j, TQ Q K V O DO L j ⟨a + r.val, by omega⟩ l := by
  rw [sum_eq_upto (fun j => TQ Q K V O DO L j (⟨a + r.val, by omega⟩ : Fin 2048) l) (a + 256) ha
    fun j hj => TQ_zero Q K V O DO L ⟨a + r.val, by omega⟩ j l (by simp; omega), upto_add _ a ha]
  exact congrArg₂ (· + ·) (Finset.sum_congr rfl fun x _ => hf x) (Finset.sum_congr rfl fun x _ => hg x)

/-- The rows from 0 on: the accumulator of the keys' gradient after them, -/
abbrev wk0 (D : Vec 𝕀 S256x128 .f32) : Vec 𝕀 S256x128 .f32 := k0_pay15 (k0_pay7 (View.ld Q (Rect.unit ![0, 0] ![256, 128] inb_S2048x128_S256x128_0_0))) (k0_pay10 (View.ld Q (Rect.unit ![0, 0] ![256, 128] inb_S2048x128_S256x128_0_0)) (View.ld K (Rect.unit ![0, 0] ![256, 128] inb_S2048x128_S256x128_0_0)) (View.ld L (Rect.unit ![0, 0, 0] ![1, 256, 1] inb_S1x2048x1_S1x256x1_0_0_0))) (k0_pay11 (View.ld V (Rect.unit ![0, 0] ![256, 128] inb_S2048x128_S256x128_0_0)) (View.ld DO (Rect.unit ![0, 0] ![256, 128] inb_S2048x128_S256x128_0_0))) (k0_pay12 (View.ld DO (Rect.unit ![0, 0] ![256, 128] inb_S2048x128_S256x128_0_0)) (View.ld O (Rect.unit ![0, 0] ![256, 128] inb_S2048x128_S256x128_0_0))) D

/-- that of the values' gradient, -/
abbrev wv0 (D : Vec 𝕀 S256x128 .f32) : Vec 𝕀 S256x128 .f32 := k0_pay16 (k0_pay9 (View.ld DO (Rect.unit ![0, 0] ![256, 128] inb_S2048x128_S256x128_0_0))) (k0_pay10 (View.ld Q (Rect.unit ![0, 0] ![256, 128] inb_S2048x128_S256x128_0_0)) (View.ld K (Rect.unit ![0, 0] ![256, 128] inb_S2048x128_S256x128_0_0)) (View.ld L (Rect.unit ![0, 0, 0] ![1, 256, 1] inb_S1x2048x1_S1x256x1_0_0_0))) D

/-- and their own gradient. -/
abbrev wq0 : Vec 𝕀 S256x128 .f32 := k0_pay14 (k0_pay8 (View.ld K (Rect.unit ![0, 0] ![256, 128] inb_S2048x128_S256x128_0_0))) (k0_pay10 (View.ld Q (Rect.unit ![0, 0] ![256, 128] inb_S2048x128_S256x128_0_0)) (View.ld K (Rect.unit ![0, 0] ![256, 128] inb_S2048x128_S256x128_0_0)) (View.ld L (Rect.unit ![0, 0, 0] ![1, 256, 1] inb_S1x2048x1_S1x256x1_0_0_0))) (k0_pay11 (View.ld V (Rect.unit ![0, 0] ![256, 128] inb_S2048x128_S256x128_0_0)) (View.ld DO (Rect.unit ![0, 0] ![256, 128] inb_S2048x128_S256x128_0_0))) (k0_pay12 (View.ld DO (Rect.unit ![0, 0] ![256, 128] inb_S2048x128_S256x128_0_0)) (View.ld O (Rect.unit ![0, 0] ![256, 128] inb_S2048x128_S256x128_0_0)))

set_option maxHeartbeats 1600000 in
theorem wk0_at (D : Vec 𝕀 S256x128 .f32) (r : Fin 256) (l : Fin 128) :
    (wk0 Q K V O DO L D (ix2 r l) : EReal) = D (ix2 r l) + ∑ x : Fin 256, TK Q K V O DO L ⟨x.val, by omega⟩ ⟨r.val, by omega⟩ l := by
  unfold wk0
  pointwise [k0_pay7, k0_pay8, k0_pay9, k0_pay10, k0_pay11, k0_pay12, k0_pay13, k0_pay14, k0_pay15, k0_pay16]
  refine congrArg (fun s : EReal => (D (ix2 r l) : EReal) + s) (Finset.sum_congr rfl fun x _ => ?_)
  refine TK_of Q K V O DO L ⟨x.val, _⟩ ⟨r.val, _⟩ l _ ?_
  exact prob_first Q K L x r

set_option maxHeartbeats 1600000 in
theorem wv0_at (D : Vec 𝕀 S256x128 .f32) (r : Fin 256) (l : Fin 128) :
    (wv0 Q K DO L D (ix2 r l) : EReal) = D (ix2 r l) + ∑ x : Fin 256, TV Q K DO L ⟨x.val, by omega⟩ ⟨r.val, by omega⟩ l := by
  unfold wv0
  pointwise [k0_pay7, k0_pay8, k0_pay9, k0_pay10, k0_pay11, k0_pay12, k0_pay13, k0_pay14, k0_pay15, k0_pay16]
  refine congrArg (fun s : EReal => (D (ix2 r l) : EReal) + s) (Finset.sum_congr rfl fun x _ => ?_)
  refine TV_of Q K DO L ⟨x.val, _⟩ ⟨r.val, _⟩ l _ ?_
  exact prob_first Q K L x r

set_option maxHeartbeats 1600000 in
theorem wq0_at (r : Fin 256) (l : Fin 128) :
    (wq0 Q K V O DO L (ix2 r l) : EReal) = ∑ j, TQ Q K V O DO L j ⟨r.val, by omega⟩ l := by
  unfold wq0
  pointwise [k0_pay7, k0_pay8, k0_pay9, k0_pay10, k0_pay11, k0_pay12, k0_pay13, k0_pay14, k0_pay15, k0_pay16]
  refine TQ_rows_first Q K V O DO L r l _ fun x => ?_
  refine TQ_of Q K V O DO L ⟨r.val, _⟩ ⟨x.val, _⟩ l _ ?_
  exact prob_first Q K L r x

/-- The rows from 256 on: the accumulator of the keys' gradient after them, -/
abbrev wk1 (D : Vec 𝕀 S512x128 .f32) : Vec 𝕀 S512x128 .f32 := k0_pay24 (k0_pay17 (View.ld Q (Rect.unit ![256, 0] ![256, 128] inb_S2048x128_S256x128_256_0))) (k0_pay18 (View.ld K (Rect.unit ![0, 0] ![512, 128] inb_S2048x128_S512x128_0_0))) (k0_pay19 (View.ld V (Rect.unit ![0, 0] ![512, 128] inb_S2048x128_S512x128_0_0))) (k0_pay20 (View.ld DO (Rect.unit ![256, 0] ![256, 128] inb_S2048x128_S256x128_256_0))) (constant (F := 𝕀) S256x512 FTy.f32 0#32) (View.ld L (Rect.unit ![0, 256, 0] ![1, 256, 1] inb_S1x2048x1_S1x256x1_0_256_0)) (View.ld O (Rect.unit ![256, 0] ![256, 128] inb_S2048x128_S256x128_256_0)) D

/-- that of the values' gradient, -/
abbrev wv1 (D : Vec 𝕀 S512x128 .f32) : Vec 𝕀 S512x128 .f32 := k0_pay25 (k0_pay20 (View.ld DO (Rect.unit ![256, 0] ![256, 128] inb_S2048x128_S256x128_256_0))) (k0_pay21 (k0_pay17 (View.ld Q (Rect.unit ![256, 0] ![256, 128] inb_S2048x128_S256x128_256_0))) (k0_pay18 (View.ld K (Rect.unit ![0, 0] ![512, 128] inb_S2048x128_S512x128_0_0))) (constant (F := 𝕀) S256x512 FTy.f32 0#32) (View.ld L (Rect.unit ![0, 256, 0] ![1, 256, 1] inb_S1x2048x1_S1x256x1_0_256_0))) D

/-- and their own gradient. -/
abbrev wq1 : Vec 𝕀 S256x128 .f32 := k0_pay23 (k0_pay17 (View.ld Q (Rect.unit ![256, 0] ![256, 128] inb_S2048x128_S256x128_256_0))) (k0_pay18 (View.ld K (Rect.unit ![0, 0] ![512, 128] inb_S2048x128_S512x128_0_0))) (k0_pay19 (View.ld V (Rect.unit ![0, 0] ![512, 128] inb_S2048x128_S512x128_0_0))) (k0_pay20 (View.ld DO (Rect.unit ![256, 0] ![256, 128] inb_S2048x128_S256x128_256_0))) (constant (F := 𝕀) S256x512 FTy.f32 0#32) (View.ld L (Rect.unit ![0, 256, 0] ![1, 256, 1] inb_S1x2048x1_S1x256x1_0_256_0)) (View.ld O (Rect.unit ![256, 0] ![256, 128] inb_S2048x128_S256x128_256_0))

set_option maxHeartbeats 1600000 in
theorem wk1_at (D : Vec 𝕀 S512x128 .f32) (r : Fin 512) (l : Fin 128) :
    (wk1 Q K V O DO L D (ix2 r l) : EReal) = D (ix2 r l) + ∑ x : Fin 256, TK Q K V O DO L ⟨256 + x.val, by omega⟩ ⟨r.val, by omega⟩ l := by
  unfold wk1
  pointwise [k0_pay17, k0_pay18, k0_pay19, k0_pay20, k0_pay21, k0_pay22, k0_pay23, k0_pay24, k0_pay25]
  refine congrArg (fun s : EReal => (D (ix2 r l) : EReal) + s) (Finset.sum_congr rfl fun x _ => ?_)
  refine TK_of Q K V O DO L ⟨256 + x.val, _⟩ ⟨r.val, _⟩ l _ ?_
  exact prob_tile Q K L 256 512 rfl (by norm_num) x r

set_option maxHeartbeats 1600000 in
theorem wv1_at (D : Vec 𝕀 S512x128 .f32) (r : Fin 512) (l : Fin 128) :
    (wv1 Q K DO L D (ix2 r l) : EReal) = D (ix2 r l) + ∑ x : Fin 256, TV Q K DO L ⟨256 + x.val, by omega⟩ ⟨r.val, by omega⟩ l := by
  unfold wv1
  pointwise [k0_pay17, k0_pay18, k0_pay19, k0_pay20, k0_pay21, k0_pay22, k0_pay23, k0_pay24, k0_pay25]
  refine congrArg (fun s : EReal => (D (ix2 r l) : EReal) + s) (Finset.sum_congr rfl fun x _ => ?_)
  refine TV_of Q K DO L ⟨256 + x.val, _⟩ ⟨r.val, _⟩ l _ ?_
  exact prob_tile Q K L 256 512 rfl (by norm_num) x r

set_option maxHeartbeats 1600000 in
theorem wq1_at (r : Fin 256) (l : Fin 128) :
    (wq1 Q K V O DO L (ix2 r l) : EReal) = ∑ j, TQ Q K V O DO L j ⟨256 + r.val, by omega⟩ l := by
  unfold wq1
  pointwise [k0_pay17, k0_pay18, k0_pay19, k0_pay20, k0_pay21, k0_pay22, k0_pay23, k0_pay24, k0_pay25]
  refine TQ_rows Q K V O DO L 256 (by norm_num) r l _ _ (fun x => ?_) (fun x => ?_)
  · refine TQ_of Q K V O DO L ⟨256 + r.val, _⟩ ⟨x.val, _⟩ l _ ?_
    exact prob_before Q K L 256 (by norm_num) r x
  · refine TQ_of Q K V O DO L ⟨256 + r.val, _⟩ ⟨256 + x.val, _⟩ l _ ?_
    exact prob_diag Q K L 256 (by norm_num) r x

/-- The rows from 512 on: the accumulator of the keys' gradient after them, -/
abbrev wk2 (D : Vec 𝕀 S768x128 .f32) : Vec 𝕀 S768x128 .f32 := k0_pay34 (k0_pay26 (View.ld Q (Rect.unit ![512, 0] ![256, 128] inb_S2048x128_S256x128_512_0))) (k0_pay29 (View.ld Q (Rect.unit ![512, 0] ![256, 128] inb_S2048x128_S256x128_512_0)) (View.ld K (Rect.unit ![0, 0] ![768, 128] inb_S2048x128_S768x128_0_0)) (View.ld L (Rect.unit ![0, 512, 0] ![1, 256, 1] inb_S1x2048x1_S1x256x1_0_512_0))) (k0_pay30 (View.ld V (Rect.unit ![0, 0] ![768, 128] inb_S2048x128_S768x128_0_0)) (View.ld DO (Rect.unit ![512, 0] ![256, 128] inb_S2048x128_S256x128_512_0))) (k0_pay31 (View.ld DO (Rect.unit ![512, 0] ![256, 128] inb_S2048x128_S256x128_512_0)) (View.ld O (Rect.unit ![512, 0] ![256, 128] inb_S2048x128_S256x128_512_0))) D

/-- that of the values' gradient, -/
abbrev wv2 (D : Vec 𝕀 S768x128 .f32) : Vec 𝕀 S768x128 .f32 := k0_pay35 (k0_pay28 (View.ld DO (Rect.unit ![512, 0] ![256, 128] inb_S2048x128_S256x128_512_0))) (k0_pay29 (View.ld Q (Rect.unit ![512, 0] ![256, 128] inb_S2048x128_S256x128_512_0)) (View.ld K (Rect.unit ![0, 0] ![768, 128] inb_S2048x128_S768x128_0_0)) (View.ld L (Rect.unit ![0, 512, 0] ![1, 256, 1] inb_S1x2048x1_S1x256x1_0_512_0))) D

/-- and their own gradient. -/
abbrev wq2 : Vec 𝕀 S256x128 .f32 := k0_pay33 (k0_pay27 (View.ld K (Rect.unit ![0, 0] ![768, 128] inb_S2048x128_S768x128_0_0))) (k0_pay29 (View.ld Q (Rect.unit ![512, 0] ![256, 128] inb_S2048x128_S256x128_512_0)) (View.ld K (Rect.unit ![0, 0] ![768, 128] inb_S2048x128_S768x128_0_0)) (View.ld L (Rect.unit ![0, 512, 0] ![1, 256, 1] inb_S1x2048x1_S1x256x1_0_512_0))) (k0_pay30 (View.ld V (Rect.unit ![0, 0] ![768, 128] inb_S2048x128_S768x128_0_0)) (View.ld DO (Rect.unit ![512, 0] ![256, 128] inb_S2048x128_S256x128_512_0))) (k0_pay31 (View.ld DO (Rect.unit ![512, 0] ![256, 128] inb_S2048x128_S256x128_512_0)) (View.ld O (Rect.unit ![512, 0] ![256, 128] inb_S2048x128_S256x128_512_0)))

set_option maxHeartbeats 1600000 in
theorem wk2_at (D : Vec 𝕀 S768x128 .f32) (r : Fin 768) (l : Fin 128) :
    (wk2 Q K V O DO L D (ix2 r l) : EReal) = D (ix2 r l) + ∑ x : Fin 256, TK Q K V O DO L ⟨512 + x.val, by omega⟩ ⟨r.val, by omega⟩ l := by
  unfold wk2
  pointwise [k0_pay26, k0_pay27, k0_pay28, k0_pay29, k0_pay30, k0_pay31, k0_pay32, k0_pay33, k0_pay34, k0_pay35]
  refine congrArg (fun s : EReal => (D (ix2 r l) : EReal) + s) (Finset.sum_congr rfl fun x _ => ?_)
  refine TK_of Q K V O DO L ⟨512 + x.val, _⟩ ⟨r.val, _⟩ l _ ?_
  exact prob_tile Q K L 512 768 rfl (by norm_num) x r

set_option maxHeartbeats 1600000 in
theorem wv2_at (D : Vec 𝕀 S768x128 .f32) (r : Fin 768) (l : Fin 128) :
    (wv2 Q K DO L D (ix2 r l) : EReal) = D (ix2 r l) + ∑ x : Fin 256, TV Q K DO L ⟨512 + x.val, by omega⟩ ⟨r.val, by omega⟩ l := by
  unfold wv2
  pointwise [k0_pay26, k0_pay27, k0_pay28, k0_pay29, k0_pay30, k0_pay31, k0_pay32, k0_pay33, k0_pay34, k0_pay35]
  refine congrArg (fun s : EReal => (D (ix2 r l) : EReal) + s) (Finset.sum_congr rfl fun x _ => ?_)
  refine TV_of Q K DO L ⟨512 + x.val, _⟩ ⟨r.val, _⟩ l _ ?_
  exact prob_tile Q K L 512 768 rfl (by norm_num) x r

set_option maxHeartbeats 1600000 in
theorem wq2_at (r : Fin 256) (l : Fin 128) :
    (wq2 Q K V O DO L (ix2 r l) : EReal) = ∑ j, TQ Q K V O DO L j ⟨512 + r.val, by omega⟩ l := by
  unfold wq2
  pointwise [k0_pay26, k0_pay27, k0_pay28, k0_pay29, k0_pay30, k0_pay31, k0_pay32, k0_pay33, k0_pay34, k0_pay35]
  refine TQ_rows Q K V O DO L 512 (by norm_num) r l _ _ (fun x => ?_) (fun x => ?_)
  · refine TQ_of Q K V O DO L ⟨512 + r.val, _⟩ ⟨x.val, _⟩ l _ ?_
    exact prob_before Q K L 512 (by norm_num) r x
  · refine TQ_of Q K V O DO L ⟨512 + r.val, _⟩ ⟨512 + x.val, _⟩ l _ ?_
    exact prob_diag Q K L 512 (by norm_num) r x

/-- The rows from 768 on: the accumulator of the keys' gradient after them, -/
abbrev wk3 (D : Vec 𝕀 S1024x128 .f32) : Vec 𝕀 S1024x128 .f32 := k0_pay44 (k0_pay36 (View.ld Q (Rect.unit ![768, 0] ![256, 128] inb_S2048x128_S256x128_768_0))) (k0_pay38 (View.ld V (Rect.unit ![0, 0] ![1024, 128] inb_S2048x128_S1024x128_0_0))) (k0_pay39 (View.ld DO (Rect.unit ![768, 0] ![256, 128] inb_S2048x128_S256x128_768_0))) (k0_pay40 (View.ld Q (Rect.unit ![768, 0] ![256, 128] inb_S2048x128_S256x128_768_0)) (View.ld K (Rect.unit ![0, 0] ![1024, 128] inb_S2048x128_S1024x128_0_0))) (FloatOps.ofBits (F := 𝕀) FTy.f32 1037108716#32) (View.ld L (Rect.unit ![0, 768, 0] ![1, 256, 1] inb_S1x2048x1_S1x256x1_0_768_0)) (View.ld O (Rect.unit ![768, 0] ![256, 128] inb_S2048x128_S256x128_768_0)) D

/-- that of the values' gradient, -/
abbrev wv3 (D : Vec 𝕀 S1024x128 .f32) : Vec 𝕀 S1024x128 .f32 := k0_pay46 (k0_pay39 (View.ld DO (Rect.unit ![768, 0] ![256, 128] inb_S2048x128_S256x128_768_0))) D (k0_pay45 (k0_pay40 (View.ld Q (Rect.unit ![768, 0] ![256, 128] inb_S2048x128_S256x128_768_0)) (View.ld K (Rect.unit ![0, 0] ![1024, 128] inb_S2048x128_S1024x128_0_0))) (FloatOps.ofBits (F := 𝕀) FTy.f32 1037108716#32) (View.ld L (Rect.unit ![0, 768, 0] ![1, 256, 1] inb_S1x2048x1_S1x256x1_0_768_0)))

/-- and their own gradient. -/
abbrev wq3 : Vec 𝕀 S256x128 .f32 := k0_pay43 (k0_pay37 (View.ld K (Rect.unit ![0, 0] ![1024, 128] inb_S2048x128_S1024x128_0_0))) (k0_pay38 (View.ld V (Rect.unit ![0, 0] ![1024, 128] inb_S2048x128_S1024x128_0_0))) (k0_pay39 (View.ld DO (Rect.unit ![768, 0] ![256, 128] inb_S2048x128_S256x128_768_0))) (k0_pay40 (View.ld Q (Rect.unit ![768, 0] ![256, 128] inb_S2048x128_S256x128_768_0)) (View.ld K (Rect.unit ![0, 0] ![1024, 128] inb_S2048x128_S1024x128_0_0))) (FloatOps.ofBits (F := 𝕀) FTy.f32 1037108716#32) (View.ld L (Rect.unit ![0, 768, 0] ![1, 256, 1] inb_S1x2048x1_S1x256x1_0_768_0)) (View.ld O (Rect.unit ![768, 0] ![256, 128] inb_S2048x128_S256x128_768_0))

set_option maxHeartbeats 1600000 in
theorem wk3_at (D : Vec 𝕀 S1024x128 .f32) (r : Fin 1024) (l : Fin 128) :
    (wk3 Q K V O DO L D (ix2 r l) : EReal) = D (ix2 r l) + ∑ x : Fin 256, TK Q K V O DO L ⟨768 + x.val, by omega⟩ ⟨r.val, by omega⟩ l := by
  unfold wk3
  pointwise [k0_pay36, k0_pay37, k0_pay38, k0_pay39, k0_pay40, k0_pay41, k0_pay42, k0_pay43, k0_pay44, k0_pay45, k0_pay46]
  refine congrArg (fun s : EReal => (D (ix2 r l) : EReal) + s) (Finset.sum_congr rfl fun x _ => ?_)
  refine TK_of Q K V O DO L ⟨768 + x.val, _⟩ ⟨r.val, _⟩ l _ ?_
  exact prob_tile Q K L 768 1024 rfl (by norm_num) x r

set_option maxHeartbeats 1600000 in
theorem wv3_at (D : Vec 𝕀 S1024x128 .f32) (r : Fin 1024) (l : Fin 128) :
    (wv3 Q K DO L D (ix2 r l) : EReal) = D (ix2 r l) + ∑ x : Fin 256, TV Q K DO L ⟨768 + x.val, by omega⟩ ⟨r.val, by omega⟩ l := by
  unfold wv3
  pointwise [k0_pay36, k0_pay37, k0_pay38, k0_pay39, k0_pay40, k0_pay41, k0_pay42, k0_pay43, k0_pay44, k0_pay45, k0_pay46]
  refine congrArg (fun s : EReal => (D (ix2 r l) : EReal) + s) (Finset.sum_congr rfl fun x _ => ?_)
  refine TV_of Q K DO L ⟨768 + x.val, _⟩ ⟨r.val, _⟩ l _ ?_
  exact prob_tile Q K L 768 1024 rfl (by norm_num) x r

set_option maxHeartbeats 1600000 in
theorem wq3_at (r : Fin 256) (l : Fin 128) :
    (wq3 Q K V O DO L (ix2 r l) : EReal) = ∑ j, TQ Q K V O DO L j ⟨768 + r.val, by omega⟩ l := by
  unfold wq3
  pointwise [k0_pay36, k0_pay37, k0_pay38, k0_pay39, k0_pay40, k0_pay41, k0_pay42, k0_pay43, k0_pay44, k0_pay45, k0_pay46]
  refine TQ_rows Q K V O DO L 768 (by norm_num) r l _ _ (fun x => ?_) (fun x => ?_)
  · refine TQ_of Q K V O DO L ⟨768 + r.val, _⟩ ⟨x.val, _⟩ l _ ?_
    exact prob_before Q K L 768 (by norm_num) r x
  · refine TQ_of Q K V O DO L ⟨768 + r.val, _⟩ ⟨768 + x.val, _⟩ l _ ?_
    exact prob_diag Q K L 768 (by norm_num) r x

/-- The rows from 1024 on: the accumulator of the keys' gradient after them, -/
abbrev wk4 (D : Vec 𝕀 S1280x128 .f32) : Vec 𝕀 S1280x128 .f32 := k0_pay55 (k0_pay47 (View.ld Q (Rect.unit ![1024, 0] ![256, 128] inb_S2048x128_S256x128_1024_0))) (k0_pay50 (View.ld Q (Rect.unit ![1024, 0] ![256, 128] inb_S2048x128_S256x128_1024_0)) (View.ld K (Rect.unit ![0, 0] ![1280, 128] inb_S2048x128_S1280x128_0_0)) (View.ld L (Rect.unit ![0, 1024, 0] ![1, 256, 1] inb_S1x2048x1_S1x256x1_0_1024_0))) (k0_pay51 (View.ld V (Rect.unit ![0, 0] ![1280, 128] inb_S2048x128_S1280x128_0_0)) (View.ld DO (Rect.unit ![1024, 0] ![256, 128] inb_S2048x128_S256x128_1024_0))) (k0_pay52 (View.ld DO (Rect.unit ![1024, 0] ![256, 128] inb_S2048x128_S256x128_1024_0)) (View.ld O (Rect.unit ![1024, 0] ![256, 128] inb_S2048x128_S256x128_1024_0))) D

/-- that of the values' gradient, -/
abbrev wv4 (D : Vec 𝕀 S1280x128 .f32) : Vec 𝕀 S1280x128 .f32 := k0_pay56 (k0_pay49 (View.ld DO (Rect.unit ![1024, 0] ![256, 128] inb_S2048x128_S256x128_1024_0))) (k0_pay50 (View.ld Q (Rect.unit ![1024, 0] ![256, 128] inb_S2048x128_S256x128_1024_0)) (View.ld K (Rect.unit ![0, 0] ![1280, 128] inb_S2048x128_S1280x128_0_0)) (View.ld L (Rect.unit ![0, 1024, 0] ![1, 256, 1] inb_S1x2048x1_S1x256x1_0_1024_0))) D

/-- and their own gradient. -/
abbrev wq4 : Vec 𝕀 S256x128 .f32 := k0_pay54 (k0_pay48 (View.ld K (Rect.unit ![0, 0] ![1280, 128] inb_S2048x128_S1280x128_0_0))) (k0_pay50 (View.ld Q (Rect.unit ![1024, 0] ![256, 128] inb_S2048x128_S256x128_1024_0)) (View.ld K (Rect.unit ![0, 0] ![1280, 128] inb_S2048x128_S1280x128_0_0)) (View.ld L (Rect.unit ![0, 1024, 0] ![1, 256, 1] inb_S1x2048x1_S1x256x1_0_1024_0))) (k0_pay51 (View.ld V (Rect.unit ![0, 0] ![1280, 128] inb_S2048x128_S1280x128_0_0)) (View.ld DO (Rect.unit ![1024, 0] ![256, 128] inb_S2048x128_S256x128_1024_0))) (k0_pay52 (View.ld DO (Rect.unit ![1024, 0] ![256, 128] inb_S2048x128_S256x128_1024_0)) (View.ld O (Rect.unit ![1024, 0] ![256, 128] inb_S2048x128_S256x128_1024_0)))

set_option maxHeartbeats 1600000 in
theorem wk4_at (D : Vec 𝕀 S1280x128 .f32) (r : Fin 1280) (l : Fin 128) :
    (wk4 Q K V O DO L D (ix2 r l) : EReal) = D (ix2 r l) + ∑ x : Fin 256, TK Q K V O DO L ⟨1024 + x.val, by omega⟩ ⟨r.val, by omega⟩ l := by
  unfold wk4
  pointwise [k0_pay47, k0_pay48, k0_pay49, k0_pay50, k0_pay51, k0_pay52, k0_pay53, k0_pay54, k0_pay55, k0_pay56]
  refine congrArg (fun s : EReal => (D (ix2 r l) : EReal) + s) (Finset.sum_congr rfl fun x _ => ?_)
  refine TK_of Q K V O DO L ⟨1024 + x.val, _⟩ ⟨r.val, _⟩ l _ ?_
  exact prob_tile Q K L 1024 1280 rfl (by norm_num) x r

set_option maxHeartbeats 1600000 in
theorem wv4_at (D : Vec 𝕀 S1280x128 .f32) (r : Fin 1280) (l : Fin 128) :
    (wv4 Q K DO L D (ix2 r l) : EReal) = D (ix2 r l) + ∑ x : Fin 256, TV Q K DO L ⟨1024 + x.val, by omega⟩ ⟨r.val, by omega⟩ l := by
  unfold wv4
  pointwise [k0_pay47, k0_pay48, k0_pay49, k0_pay50, k0_pay51, k0_pay52, k0_pay53, k0_pay54, k0_pay55, k0_pay56]
  refine congrArg (fun s : EReal => (D (ix2 r l) : EReal) + s) (Finset.sum_congr rfl fun x _ => ?_)
  refine TV_of Q K DO L ⟨1024 + x.val, _⟩ ⟨r.val, _⟩ l _ ?_
  exact prob_tile Q K L 1024 1280 rfl (by norm_num) x r

set_option maxHeartbeats 1600000 in
theorem wq4_at (r : Fin 256) (l : Fin 128) :
    (wq4 Q K V O DO L (ix2 r l) : EReal) = ∑ j, TQ Q K V O DO L j ⟨1024 + r.val, by omega⟩ l := by
  unfold wq4
  pointwise [k0_pay47, k0_pay48, k0_pay49, k0_pay50, k0_pay51, k0_pay52, k0_pay53, k0_pay54, k0_pay55, k0_pay56]
  refine TQ_rows Q K V O DO L 1024 (by norm_num) r l _ _ (fun x => ?_) (fun x => ?_)
  · refine TQ_of Q K V O DO L ⟨1024 + r.val, _⟩ ⟨x.val, _⟩ l _ ?_
    exact prob_before Q K L 1024 (by norm_num) r x
  · refine TQ_of Q K V O DO L ⟨1024 + r.val, _⟩ ⟨1024 + x.val, _⟩ l _ ?_
    exact prob_diag Q K L 1024 (by norm_num) r x

/-- The rows from 1280 on: the accumulator of the keys' gradient after them, -/
abbrev wk5 (D : Vec 𝕀 S1536x128 .f32) : Vec 𝕀 S1536x128 .f32 := k0_pay65 (k0_pay57 (View.ld Q (Rect.unit ![1280, 0] ![256, 128] inb_S2048x128_S256x128_1280_0))) (k0_pay59 (View.ld V (Rect.unit ![0, 0] ![1536, 128] inb_S2048x128_S1536x128_0_0))) (k0_pay60 (View.ld DO (Rect.unit ![1280, 0] ![256, 128] inb_S2048x128_S256x128_1280_0))) (k0_pay61 (View.ld Q (Rect.unit ![1280, 0] ![256, 128] inb_S2048x128_S256x128_1280_0)) (View.ld K (Rect.unit ![0, 0] ![1536, 128] inb_S2048x128_S1536x128_0_0))) (View.ld L (Rect.unit ![0, 1280, 0] ![1, 256, 1] inb_S1x2048x1_S1x256x1_0_1280_0)) (View.ld O (Rect.unit ![1280, 0] ![256, 128] inb_S2048x128_S256x128_1280_0)) D

/-- that of the values' gradient, -/
abbrev wv5 (D : Vec 𝕀 S1536x128 .f32) : Vec 𝕀 S1536x128 .f32 := k0_pay68 D (k0_pay66 (k0_pay61 (View.ld Q (Rect.unit ![1280, 0] ![256, 128] inb_S2048x128_S256x128_1280_0)) (View.ld K (Rect.unit ![0, 0] ![1536, 128] inb_S2048x128_S1536x128_0_0))) (View.ld L (Rect.unit ![0, 1280, 0] ![1, 256, 1] inb_S1x2048x1_S1x256x1_0_1280_0))) (k0_pay67 (k0_pay60 (View.ld DO (Rect.unit ![1280, 0] ![256, 128] inb_S2048x128_S256x128_1280_0)))) (constant (F := 𝕀) S1536x128 FTy.f32 0#32)

/-- and their own gradient. -/
abbrev wq5 : Vec 𝕀 S256x128 .f32 := k0_pay64 (k0_pay58 (View.ld K (Rect.unit ![0, 0] ![1536, 128] inb_S2048x128_S1536x128_0_0))) (k0_pay59 (View.ld V (Rect.unit ![0, 0] ![1536, 128] inb_S2048x128_S1536x128_0_0))) (k0_pay60 (View.ld DO (Rect.unit ![1280, 0] ![256, 128] inb_S2048x128_S256x128_1280_0))) (k0_pay61 (View.ld Q (Rect.unit ![1280, 0] ![256, 128] inb_S2048x128_S256x128_1280_0)) (View.ld K (Rect.unit ![0, 0] ![1536, 128] inb_S2048x128_S1536x128_0_0))) (View.ld L (Rect.unit ![0, 1280, 0] ![1, 256, 1] inb_S1x2048x1_S1x256x1_0_1280_0)) (View.ld O (Rect.unit ![1280, 0] ![256, 128] inb_S2048x128_S256x128_1280_0))

set_option maxHeartbeats 1600000 in
theorem wk5_at (D : Vec 𝕀 S1536x128 .f32) (r : Fin 1536) (l : Fin 128) :
    (wk5 Q K V O DO L D (ix2 r l) : EReal) = D (ix2 r l) + ∑ x : Fin 256, TK Q K V O DO L ⟨1280 + x.val, by omega⟩ ⟨r.val, by omega⟩ l := by
  unfold wk5
  pointwise [k0_pay57, k0_pay58, k0_pay59, k0_pay60, k0_pay61, k0_pay62, k0_pay63, k0_pay64, k0_pay65, k0_pay66, k0_pay67, k0_pay68]
  refine congrArg (fun s : EReal => (D (ix2 r l) : EReal) + s) (Finset.sum_congr rfl fun x _ => ?_)
  refine TK_of Q K V O DO L ⟨1280 + x.val, _⟩ ⟨r.val, _⟩ l _ ?_
  exact prob_tile Q K L 1280 1536 rfl (by norm_num) x r

set_option maxHeartbeats 1600000 in
theorem wv5_at (D : Vec 𝕀 S1536x128 .f32) (r : Fin 1536) (l : Fin 128) :
    (wv5 Q K DO L D (ix2 r l) : EReal) = D (ix2 r l) + ∑ x : Fin 256, TV Q K DO L ⟨1280 + x.val, by omega⟩ ⟨r.val, by omega⟩ l := by
  unfold wv5
  pointwise [k0_pay57, k0_pay58, k0_pay59, k0_pay60, k0_pay61, k0_pay62, k0_pay63, k0_pay64, k0_pay65, k0_pay66, k0_pay67, k0_pay68]
  refine congrArg (fun s : EReal => (D (ix2 r l) : EReal) + s) (Finset.sum_congr rfl fun x _ => ?_)
  refine TV_of Q K DO L ⟨1280 + x.val, _⟩ ⟨r.val, _⟩ l _ ?_
  exact prob_tile Q K L 1280 1536 rfl (by norm_num) x r

set_option maxHeartbeats 1600000 in
theorem wq5_at (r : Fin 256) (l : Fin 128) :
    (wq5 Q K V O DO L (ix2 r l) : EReal) = ∑ j, TQ Q K V O DO L j ⟨1280 + r.val, by omega⟩ l := by
  unfold wq5
  pointwise [k0_pay57, k0_pay58, k0_pay59, k0_pay60, k0_pay61, k0_pay62, k0_pay63, k0_pay64, k0_pay65, k0_pay66, k0_pay67, k0_pay68]
  refine TQ_rows Q K V O DO L 1280 (by norm_num) r l _ _ (fun x => ?_) (fun x => ?_)
  · refine TQ_of Q K V O DO L ⟨1280 + r.val, _⟩ ⟨x.val, _⟩ l _ ?_
    exact prob_before Q K L 1280 (by norm_num) r x
  · refine TQ_of Q K V O DO L ⟨1280 + r.val, _⟩ ⟨1280 + x.val, _⟩ l _ ?_
    exact prob_diag Q K L 1280 (by norm_num) r x

/-- The rows from 1536 on: the accumulator of the keys' gradient after them, -/
abbrev wk6 (D : Vec 𝕀 S1792x128 .f32) : Vec 𝕀 S1792x128 .f32 := k0_pay76 (k0_pay69 (View.ld Q (Rect.unit ![1536, 0] ![256, 128] inb_S2048x128_S256x128_1536_0))) (k0_pay73 (View.ld Q (Rect.unit ![1536, 0] ![256, 128] inb_S2048x128_S256x128_1536_0)) (View.ld K (Rect.unit ![0, 0] ![1792, 128] inb_S2048x128_S1792x128_0_0)) (View.ld V (Rect.unit ![0, 0] ![1792, 128] inb_S2048x128_S1792x128_0_0)) (View.ld DO (Rect.unit ![1536, 0] ![256, 128] inb_S2048x128_S256x128_1536_0)) (View.ld L (Rect.unit ![0, 1536, 0] ![1, 256, 1] inb_S1x2048x1_S1x256x1_0_1536_0)) (View.ld O (Rect.unit ![1536, 0] ![256, 128] inb_S2048x128_S256x128_1536_0))) D

/-- that of the values' gradient, -/
abbrev wv6 (D : Vec 𝕀 S1792x128 .f32) : Vec 𝕀 S1792x128 .f32 := k0_pay77 (k0_pay71 (View.ld DO (Rect.unit ![1536, 0] ![256, 128] inb_S2048x128_S256x128_1536_0))) (k0_pay72 (View.ld Q (Rect.unit ![1536, 0] ![256, 128] inb_S2048x128_S256x128_1536_0)) (View.ld K (Rect.unit ![0, 0] ![1792, 128] inb_S2048x128_S1792x128_0_0)) (View.ld L (Rect.unit ![0, 1536, 0] ![1, 256, 1] inb_S1x2048x1_S1x256x1_0_1536_0))) D

/-- and their own gradient. -/
abbrev wq6 : Vec 𝕀 S256x128 .f32 := k0_pay75 (k0_pay70 (View.ld K (Rect.unit ![0, 0] ![1792, 128] inb_S2048x128_S1792x128_0_0))) (k0_pay73 (View.ld Q (Rect.unit ![1536, 0] ![256, 128] inb_S2048x128_S256x128_1536_0)) (View.ld K (Rect.unit ![0, 0] ![1792, 128] inb_S2048x128_S1792x128_0_0)) (View.ld V (Rect.unit ![0, 0] ![1792, 128] inb_S2048x128_S1792x128_0_0)) (View.ld DO (Rect.unit ![1536, 0] ![256, 128] inb_S2048x128_S256x128_1536_0)) (View.ld L (Rect.unit ![0, 1536, 0] ![1, 256, 1] inb_S1x2048x1_S1x256x1_0_1536_0)) (View.ld O (Rect.unit ![1536, 0] ![256, 128] inb_S2048x128_S256x128_1536_0)))

set_option maxHeartbeats 1600000 in
theorem wk6_at (D : Vec 𝕀 S1792x128 .f32) (r : Fin 1792) (l : Fin 128) :
    (wk6 Q K V O DO L D (ix2 r l) : EReal) = D (ix2 r l) + ∑ x : Fin 256, TK Q K V O DO L ⟨1536 + x.val, by omega⟩ ⟨r.val, by omega⟩ l := by
  unfold wk6
  pointwise [k0_pay69, k0_pay70, k0_pay71, k0_pay72, k0_pay73, k0_pay74, k0_pay75, k0_pay76, k0_pay77]
  refine congrArg (fun s : EReal => (D (ix2 r l) : EReal) + s) (Finset.sum_congr rfl fun x _ => ?_)
  refine TK_of Q K V O DO L ⟨1536 + x.val, _⟩ ⟨r.val, _⟩ l _ ?_
  exact prob_tile Q K L 1536 1792 rfl (by norm_num) x r

set_option maxHeartbeats 1600000 in
theorem wv6_at (D : Vec 𝕀 S1792x128 .f32) (r : Fin 1792) (l : Fin 128) :
    (wv6 Q K DO L D (ix2 r l) : EReal) = D (ix2 r l) + ∑ x : Fin 256, TV Q K DO L ⟨1536 + x.val, by omega⟩ ⟨r.val, by omega⟩ l := by
  unfold wv6
  pointwise [k0_pay69, k0_pay70, k0_pay71, k0_pay72, k0_pay73, k0_pay74, k0_pay75, k0_pay76, k0_pay77]
  refine congrArg (fun s : EReal => (D (ix2 r l) : EReal) + s) (Finset.sum_congr rfl fun x _ => ?_)
  refine TV_of Q K DO L ⟨1536 + x.val, _⟩ ⟨r.val, _⟩ l _ ?_
  exact prob_tile Q K L 1536 1792 rfl (by norm_num) x r

set_option maxHeartbeats 1600000 in
theorem wq6_at (r : Fin 256) (l : Fin 128) :
    (wq6 Q K V O DO L (ix2 r l) : EReal) = ∑ j, TQ Q K V O DO L j ⟨1536 + r.val, by omega⟩ l := by
  unfold wq6
  pointwise [k0_pay69, k0_pay70, k0_pay71, k0_pay72, k0_pay73, k0_pay74, k0_pay75, k0_pay76, k0_pay77]
  refine TQ_rows Q K V O DO L 1536 (by norm_num) r l _ _ (fun x => ?_) (fun x => ?_)
  · refine TQ_of Q K V O DO L ⟨1536 + r.val, _⟩ ⟨x.val, _⟩ l _ ?_
    exact prob_before Q K L 1536 (by norm_num) r x
  · refine TQ_of Q K V O DO L ⟨1536 + r.val, _⟩ ⟨1536 + x.val, _⟩ l _ ?_
    exact prob_diag Q K L 1536 (by norm_num) r x

/-- The rows from 1792 on: the accumulator of the keys' gradient after them, -/
abbrev wk7 (D : Vec 𝕀 S2048x128 .f32) : Vec 𝕀 S2048x128 .f32 := k0_pay87 (k0_pay78 (View.ld Q (Rect.unit ![1792, 0] ![256, 128] inb_S2048x128_S256x128_1792_0))) (k0_pay80 V) (k0_pay81 (View.ld DO (Rect.unit ![1792, 0] ![256, 128] inb_S2048x128_S256x128_1792_0))) (k0_pay82 (View.ld Q (Rect.unit ![1792, 0] ![256, 128] inb_S2048x128_S256x128_1792_0)) K) (k0_pay83 (View.ld Q (Rect.unit ![1792, 0] ![256, 128] inb_S2048x128_S256x128_1792_0)) K) (iota Kind.tc S256x256 32 [1] iota_S256x256_d1_w32) (View.ld L (Rect.unit ![0, 1792, 0] ![1, 256, 1] inb_S1x2048x1_S1x256x1_0_1792_0)) (View.ld O (Rect.unit ![1792, 0] ![256, 128] inb_S2048x128_S256x128_1792_0)) D

/-- that of the values' gradient, -/
abbrev wv7 (D : Vec 𝕀 S2048x128 .f32) : Vec 𝕀 S2048x128 .f32 := k0_pay1 (k0_pay88 (k0_pay81 (View.ld DO (Rect.unit ![1792, 0] ![256, 128] inb_S2048x128_S256x128_1792_0))) (k0_pay82 (View.ld Q (Rect.unit ![1792, 0] ![256, 128] inb_S2048x128_S256x128_1792_0)) K) (k0_pay83 (View.ld Q (Rect.unit ![1792, 0] ![256, 128] inb_S2048x128_S256x128_1792_0)) K) (iota Kind.tc S256x256 32 [1] iota_S256x256_d1_w32) (View.ld L (Rect.unit ![0, 1792, 0] ![1, 256, 1] inb_S1x2048x1_S1x256x1_0_1792_0)) D)

/-- and their own gradient. -/
abbrev wq7 : Vec 𝕀 S256x128 .f32 := k0_pay86 (k0_pay79 K) (k0_pay80 V) (k0_pay81 (View.ld DO (Rect.unit ![1792, 0] ![256, 128] inb_S2048x128_S256x128_1792_0))) (k0_pay82 (View.ld Q (Rect.unit ![1792, 0] ![256, 128] inb_S2048x128_S256x128_1792_0)) K) (k0_pay83 (View.ld Q (Rect.unit ![1792, 0] ![256, 128] inb_S2048x128_S256x128_1792_0)) K) (iota Kind.tc S256x256 32 [1] iota_S256x256_d1_w32) (View.ld L (Rect.unit ![0, 1792, 0] ![1, 256, 1] inb_S1x2048x1_S1x256x1_0_1792_0)) (View.ld O (Rect.unit ![1792, 0] ![256, 128] inb_S2048x128_S256x128_1792_0))

set_option maxHeartbeats 1600000 in
theorem wk7_at (D : Vec 𝕀 S2048x128 .f32) (r : Fin 2048) (l : Fin 128) :
    (wk7 Q K V O DO L D (ix2 r l) : EReal) = D (ix2 r l) + ∑ x : Fin 256, TK Q K V O DO L ⟨1792 + x.val, by omega⟩ ⟨r.val, by omega⟩ l := by
  unfold wk7
  pointwise [k0_pay78, k0_pay79, k0_pay80, k0_pay81, k0_pay82, k0_pay83, k0_pay84, k0_pay85, k0_pay86, k0_pay87, k0_pay88, k0_pay1]
  refine congrArg (fun s : EReal => (D (ix2 r l) : EReal) + s) (Finset.sum_congr rfl fun x _ => ?_)
  refine TK_of Q K V O DO L ⟨1792 + x.val, _⟩ ⟨r.val, _⟩ l _ ?_
  exact prob_tile Q K L 1792 2048 rfl (by norm_num) x r

set_option maxHeartbeats 1600000 in
theorem wv7_at (D : Vec 𝕀 S2048x128 .f32) (r : Fin 2048) (l : Fin 128) :
    (wv7 Q K DO L D (ix2 r l) : EReal) = D (ix2 r l) + ∑ x : Fin 256, TV Q K DO L ⟨1792 + x.val, by omega⟩ ⟨r.val, by omega⟩ l := by
  unfold wv7
  pointwise [k0_pay78, k0_pay79, k0_pay80, k0_pay81, k0_pay82, k0_pay83, k0_pay84, k0_pay85, k0_pay86, k0_pay87, k0_pay88, k0_pay1]
  refine congrArg (fun s : EReal => (D (ix2 r l) : EReal) + s) (Finset.sum_congr rfl fun x _ => ?_)
  refine TV_of Q K DO L ⟨1792 + x.val, _⟩ ⟨r.val, _⟩ l _ ?_
  exact prob_tile Q K L 1792 2048 rfl (by norm_num) x r

set_option maxHeartbeats 1600000 in
theorem wq7_at (r : Fin 256) (l : Fin 128) :
    (wq7 Q K V O DO L (ix2 r l) : EReal) = ∑ j, TQ Q K V O DO L j ⟨1792 + r.val, by omega⟩ l := by
  unfold wq7
  pointwise [k0_pay78, k0_pay79, k0_pay80, k0_pay81, k0_pay82, k0_pay83, k0_pay84, k0_pay85, k0_pay86, k0_pay87, k0_pay88, k0_pay1]
  refine TQ_rows Q K V O DO L 1792 (by norm_num) r l _ _ (fun x => ?_) (fun x => ?_)
  · refine TQ_of Q K V O DO L ⟨1792 + r.val, _⟩ ⟨x.val, _⟩ l _ ?_
    exact prob_before Q K L 1792 (by norm_num) r x
  · refine TQ_of Q K V O DO L ⟨1792 + r.val, _⟩ ⟨1792 + x.val, _⟩ l _ ?_
    exact prob_diag Q K L 1792 (by norm_num) r x
end

end Cert.KernelMlaIdeal.Value
-- ==== Proof.Softmax.lean ====
/- One row of a masked softmax over extended reals, at finite scores: its maximum, its weights and the gradient through it. -/
module

public import Idealize.ShloMosaic.Lib.Pointwise
public import Idealize.ShloMosaic.Lib.IdealHost

@[expose] public section

noncomputable section

open Idealize.ShloMosaic

namespace Cert.Softmax

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable {ι : Type*} [Fintype ι] (p : ι → Prop) [DecidablePred p] (x : ι → ℝ) (S : ι → EReal)
  (hS : ∀ j, S j = if p j then (x j : EReal) else ⊥)

include hS

/-- The maximum of a row that keeps an entry is a real number. -/
theorem max_real (hp : ∃ j, p j) : ∃ M : ℝ, Finset.univ.fold max ⊥ S = (M : EReal) := by
  have h1 : Finset.univ.fold max ⊥ S ≠ ⊤ := by
    refine ne_of_lt ((Finset.fold_max_lt _).mpr ⟨bot_lt_top, fun j _ => ?_⟩)
    rw [hS]; split_ifs
    · exact EReal.coe_lt_top _
    · exact bot_lt_top
  have h2 : Finset.univ.fold max ⊥ S ≠ ⊥ := by
    obtain ⟨j, hj⟩ := hp
    refine ne_of_gt ((Finset.lt_fold_max _).mpr (Or.inr ⟨j, Finset.mem_univ _, ?_⟩))
    rw [hS, if_pos hj]
    exact EReal.bot_lt_coe _
  exact ⟨_, (EReal.coe_toReal h1 h2).symm⟩

/-- The weights before they are divided by their sum, as reals. -/
theorem exp_real (M : ℝ) (j : ι) : Ideal.exp (S j - (M : EReal)) = ((if p j then Real.exp (x j - M) else 0 : ℝ) : EReal) := by
  rw [hS]
  split_ifs
  · rw [← EReal.coe_sub, Ideal.exp_coe]
  · rw [EReal.bot_sub, Ideal.exp_bot, EReal.coe_zero]

theorem sum_real (M : ℝ) : ∑ j, Ideal.exp (S j - (M : EReal)) = ((∑ j, if p j then Real.exp (x j - M) else 0 : ℝ) : EReal) := by
  rw [← sum_coe]
  exact Finset.sum_congr rfl fun j _ => exp_real p x S hS M j

omit hS in
theorem sum_pos (M : ℝ) (hp : ∃ j, p j) : (0 : ℝ) < ∑ j, if p j then Real.exp (x j - M) else 0 := by
  obtain ⟨j, hj⟩ := hp
  refine Finset.sum_pos' (fun i _ => ?_) ⟨j, Finset.mem_univ _, ?_⟩
  · split_ifs
    · exact (Real.exp_pos _).le
    · exact le_rfl
  · rw [if_pos hj]; exact Real.exp_pos _

theorem exp_lse_real (M l : ℝ) (hl : 0 < l) (j : ι) :
    Ideal.exp (S j - ((M : EReal) + Ideal.log (l : EReal))) = (((if p j then Real.exp (x j - M) else 0) / l : ℝ) : EReal) := by
  rw [Ideal.log_coe, if_neg (not_le.mpr hl), ← EReal.coe_add, exp_real p x S hS]
  congr 1
  split_ifs
  · rw [← sub_sub, Real.exp_sub, Real.exp_log hl]
  · rw [zero_div]

/-- The weight from the saved logarithm is the weight divided by the sum. -/
theorem prob_eq (hp : ∃ j, p j) (M L : EReal) (hM : M = Finset.univ.fold max ⊥ S) (hL : L = ∑ j, Ideal.exp (S j - M)) (j : ι) :
    Ideal.exp (S j - (M + Ideal.log L)) = Ideal.div (Ideal.exp (S j - M)) L := by
  obtain ⟨m, hm⟩ := max_real p x S hS hp
  subst hM
  rw [hm] at hL ⊢
  rw [sum_real p x S hS] at hL
  subst hL
  have h := sum_pos p x m hp
  rw [exp_lse_real p x S hS m _ h, exp_real p x S hS, Ideal.div_coe h.ne', ← EReal.coe_mul]
  congr 1; ring

/-- The gradient of a score: the one from the saved logarithm and the output, and the one through the softmax's own lines. -/
theorem ds_eq {κ : Type*} [Fintype κ] (hp : ∃ j, p j) (M L : EReal) (hM : M = Finset.univ.fold max ⊥ S)
    (hL : L = ∑ j, Ideal.exp (S j - M)) (g : κ → EReal) (v : ι → κ → EReal) (g' : κ → ℝ) (v' : ι → κ → ℝ)
    (hg : ∀ d, g d = (g' d : EReal)) (hv : ∀ j d, v j d = (v' j d : EReal)) (j : ι) :
    Ideal.exp (S j - (M + Ideal.log L)) * ((∑ d, g d * v j d)
        - ∑ d, g d * ∑ j', v j' d * (Ideal.exp (S j' - M) * Ideal.div ((1 : ℝ) : EReal) L))
      = if p j then (Ideal.div (∑ d, g d * v j d) L
          + -∑ j', (∑ d, g d * v j' d) * Ideal.div ((1 : ℝ) : EReal) (L * L) * Ideal.exp (S j' - M)) * Ideal.exp (S j - M) else 0 := by
  obtain ⟨m, hm⟩ := max_real p x S hS hp
  subst hM
  rw [hm] at hL ⊢
  rw [sum_real p x S hS] at hL
  have h := sum_pos p x m hp
  set w : ι → ℝ := fun j => if p j then Real.exp (x j - m) else 0 with hw
  set l : ℝ := ∑ j, w j with hl
  have hL' : L = (l : EReal) := hL
  have e : ∀ j, Ideal.exp (S j - (m : EReal)) = (w j : EReal) := fun j => exp_real p x S hS m j
  have hdp : ∀ j, ∑ d, g d * v j d = ((∑ d, g' d * v' j d : ℝ) : EReal) := fun j => by
    rw [← sum_coe]
    exact Finset.sum_congr rfl fun d _ => by rw [hg, hv, EReal.coe_mul]
  have ho : ∀ d, ∑ j', v j' d * (Ideal.exp (S j' - (m : EReal)) * Ideal.div ((1 : ℝ) : EReal) L)
      = ((∑ j', v' j' d * (w j' * (1 * (1 / l))) : ℝ) : EReal) := fun d => by
    rw [← sum_coe]
    exact Finset.sum_congr rfl fun j' _ => by rw [hv, e, hL', Ideal.div_coe h.ne', ← EReal.coe_mul, ← EReal.coe_mul, ← EReal.coe_mul]
  have hδ : ∑ d, g d * ∑ j', v j' d * (Ideal.exp (S j' - (m : EReal)) * Ideal.div ((1 : ℝ) : EReal) L)
      = ((∑ d, g' d * ∑ j', v' j' d * (w j' * (1 * (1 / l))) : ℝ) : EReal) := by
    rw [← sum_coe]
    exact Finset.sum_congr rfl fun d _ => by rw [hg, ho, EReal.coe_mul]
  have hr : ∑ j', (∑ d, g d * v j' d) * Ideal.div ((1 : ℝ) : EReal) (L * L) * Ideal.exp (S j' - (m : EReal))
      = ((∑ j', (∑ d, g' d * v' j' d) * (1 * (1 / (l * l))) * w j' : ℝ) : EReal) := by
    rw [← sum_coe]
    exact Finset.sum_congr rfl fun j' _ => by
      rw [hdp, e, hL', ← EReal.coe_mul, Ideal.div_coe (mul_pos h h).ne', ← EReal.coe_mul, ← EReal.coe_mul, ← EReal.coe_mul]
  have hP : Ideal.exp (S j - ((m : EReal) + Ideal.log L)) = ((w j / l : ℝ) : EReal) := by
    rw [hL']; exact exp_lse_real p x S hS m l h j
  rw [hP, hdp, hδ, hr, e, hL', Ideal.div_coe h.ne', ← EReal.coe_sub, ← EReal.coe_mul, ← EReal.coe_mul, ← EReal.coe_neg, ← EReal.coe_add,
    ← EReal.coe_mul]
  have hsum : ∑ d, g' d * ∑ j', v' j' d * (w j' * (1 * (1 / l))) = l * ∑ j', (∑ d, g' d * v' j' d) * (1 * (1 / (l * l))) * w j' := by
    simp only [Finset.mul_sum, Finset.sum_mul]
    rw [Finset.sum_comm]
    refine Finset.sum_congr rfl fun j' _ => Finset.sum_congr rfl fun d _ => ?_
    have := h.ne'
    field_simp
  split_ifs with hj
  · rw [hsum]
    congr 1
    have := h.ne'
    field_simp
    ring
  · have : w j = 0 := if_neg hj
    rw [this, zero_div, zero_mul, EReal.coe_zero]
end

end Cert.Softmax
-- ==== Proof.MlaSpec.lean ====
module

public import proofs.«01_k».proof.Proof.MlaTiles
public import proofs.«01_k».proof.Proof.Softmax

@[expose] public section

noncomputable section

open Idealize.ShloMosaic Idealize.ShloMosaic.TcCoe

local notation "𝕀" => Idealize.ShloMosaic.Ideal

namespace Cert.Mla

theorem sigma_real : ∃ r : ℝ, σ = (r : EReal) := by
  unfold σ
  exact ⟨_, by simp [Ideal.ofBits, Ideal.ieee, -EReal.coe_mul]; norm_num; rfl⟩

section
variable (G : FVec 𝕀 ⟨2, ![2048, 512]⟩ .f32) (Q : FVec 𝕀 ⟨2, ![2048, 768]⟩ .f32) (KN : FVec 𝕀 ⟨2, ![2048, 512]⟩ .f32)
  (KP : FVec 𝕀 ⟨2, ![2048, 32]⟩ .f32) (V : FVec 𝕀 ⟨2, ![2048, 512]⟩ .f32)

/-- Column `d` of head `h` in an array of 64 columns a head, -/
def c64 (h : Fin 8) (d : Fin 64) : Fin 512 := ⟨h.val * 64 + d.val, by omega⟩

/-- and of 96 columns a head. -/
def c96 (h : Fin 8) (d : Fin 96) : Fin 768 := ⟨h.val * 96 + d.val, by omega⟩

/-- The scaled product of query row `i` and key row `j`. -/
def sx (h : Fin 8) (i j : Fin 2048) : EReal :=
  (∑ x : Fin 64, (Q (ix2 i (c96 h ⟨x.val, by omega⟩)) : EReal) * KN (ix2 j (c64 h x))
    + ∑ x : Fin 32, (Q (ix2 i (c96 h ⟨64 + x.val, by omega⟩)) : EReal) * KP (ix2 j x)) * σ

/-- The masked score. -/
def sc (h : Fin 8) (i j : Fin 2048) : EReal := if j.val ≤ i.val then sx Q KN KP h i j else ⊥

/-- A row's greatest score, -/
def mx (h : Fin 8) (i : Fin 2048) : EReal := Finset.univ.fold max ⊥ (sc Q KN KP h i)

/-- the exponentials less it, -/
def ex (h : Fin 8) (i j : Fin 2048) : EReal := Ideal.exp (sc Q KN KP h i j - mx Q KN KP h i)

/-- their sum, -/
def sm (h : Fin 8) (i : Fin 2048) : EReal := ∑ j, ex Q KN KP h i j

/-- the weights, -/
def pr (h : Fin 8) (i j : Fin 2048) : EReal := Ideal.div (ex Q KN KP h i j) (sm Q KN KP h i)

/-- a row's log-sum, -/
def lse (h : Fin 8) (i : Fin 2048) : EReal := mx Q KN KP h i + Ideal.log (sm Q KN KP h i)

/-- the output, -/
def out (h : Fin 8) (i : Fin 2048) (d : Fin 64) : EReal :=
  ∑ k : Fin 2048, (V (ix2 k (c64 h d)) : EReal) * (ex Q KN KP h i k * Ideal.div ((1 : ℝ) : EReal) (sm Q KN KP h i))

/-- the gradient of a weight, -/
def gv (h : Fin 8) (i j : Fin 2048) : EReal := ∑ d : Fin 64, (G (ix2 i (c64 h d)) : EReal) * V (ix2 j (c64 h d))

/-- and the gradient of a score, before the scale. -/
def dsR (h : Fin 8) (i j : Fin 2048) : EReal :=
  if j.val ≤ i.val then (Ideal.div (gv G V h i j) (sm Q KN KP h i)
    + -∑ j', gv G V h i j' * Ideal.div ((1 : ℝ) : EReal) (sm Q KN KP h i * sm Q KN KP h i) * ex Q KN KP h i j') * ex Q KN KP h i j else 0

/-- Every entry of an array is a real number. -/
def Finite {s : Shape} (A : FVec 𝕀 s .f32) : Prop := ∀ k, ∃ r : ℝ, (A k : EReal) = (r : EReal)

theorem sx_real (hQ : Finite Q) (hN : Finite KN) (hP : Finite KP) (h : Fin 8) (i j : Fin 2048) : ∃ r : ℝ, sx Q KN KP h i j = (r : EReal) := by
  choose q hq using hQ
  choose n hn using hN
  choose p hp using hP
  obtain ⟨s, hs⟩ := sigma_real
  unfold sx
  simp only [hq, hn, hp, hs, ← EReal.coe_mul, Softmax.sum_coe, ← EReal.coe_add]
  exact ⟨_, rfl⟩

theorem prob_lse (hQ : Finite Q) (hN : Finite KN) (hP : Finite KP) (h : Fin 8) (i j : Fin 2048) :
    Ideal.exp (sc Q KN KP h i j - lse Q KN KP h i) = pr Q KN KP h i j := by
  choose x hx using sx_real Q KN KP hQ hN hP h i
  exact Softmax.prob_eq (fun j : Fin 2048 => j.val ≤ i.val) x (sc Q KN KP h i) (fun j => by unfold sc; rw [hx]) ⟨i, le_rfl⟩ _ _ rfl rfl j

theorem ds_lse (hQ : Finite Q) (hN : Finite KN) (hP : Finite KP) (hG : Finite G) (hV : Finite V) (h : Fin 8) (i j : Fin 2048) :
    Ideal.exp (sc Q KN KP h i j - lse Q KN KP h i) * (gv G V h i j - ∑ d : Fin 64, (G (ix2 i (c64 h d)) : EReal) * out Q KN KP V h i d)
      = dsR G Q KN KP V h i j := by
  choose x hx using sx_real Q KN KP hQ hN hP h i
  choose g hg using hG
  choose v hv using hV
  exact Softmax.ds_eq (fun j : Fin 2048 => j.val ≤ i.val) x (sc Q KN KP h i) (fun j => by unfold sc; rw [hx]) ⟨i, le_rfl⟩ _ _ rfl rfl
    (fun d : Fin 64 => (G (ix2 i (c64 h d)) : EReal)) (fun j d => (V (ix2 j (c64 h d)) : EReal)) (fun d => g (ix2 i (c64 h d))) (fun j d => v (ix2 j (c64 h d)))
    (fun d => hg _) (fun j d => hv _) j

/-- A head's 128 lanes are 64, 32 and 32. -/
theorem sum_lanes (f : Fin 128 → EReal) : ∑ d, f d = ∑ x : Fin 64, f ⟨x.val, by omega⟩ + (∑ x : Fin 32, f ⟨64 + x.val, by omega⟩ + ∑ x : Fin 32, f ⟨96 + x.val, by omega⟩) := by
  have h1 : ∑ d, f d = ∑ x : Fin 64, f ⟨x.val, by omega⟩ + ∑ x : Fin 64, f ⟨64 + x.val, by omega⟩ := Fin.sum_univ_add (a := 64) (b := 64) f
  have h2 : ∑ x : Fin 64, f ⟨64 + x.val, by omega⟩ = ∑ x : Fin 32, f ⟨64 + x.val, by omega⟩ + ∑ x : Fin 32, f ⟨96 + x.val, by omega⟩ := by
    refine (Fin.sum_univ_add (a := 32) (b := 32) fun x : Fin 64 => f ⟨64 + x.val, by omega⟩).trans ?_
    refine congrArg₂ (· + ·) rfl (Finset.sum_congr rfl fun x _ => congrArg f (Fin.ext ?_))
    simp only [Fin.natAdd]
    omega
  rw [h1, h2]

/-- A head's lanes from 64 on. -/
theorem sum_upper (f : Fin 128 → EReal) (hf : ∀ d, d.val < 64 → f d = 0) : ∑ d, f d = ∑ x : Fin 64, f ⟨64 + x.val, by omega⟩ := by
  have h1 : ∑ d, f d = ∑ x : Fin 64, f ⟨x.val, by omega⟩ + ∑ x : Fin 64, f ⟨64 + x.val, by omega⟩ := Fin.sum_univ_add (a := 64) (b := 64) f
  rw [h1, Finset.sum_eq_zero fun x _ => hf _ x.isLt, zero_add]

/-- A query's row in a head's lanes, -/
def ql (h : Fin 8) (i : Fin 2048) (l : Fin 128) : EReal := if H : l.val < 96 then Q (ix2 i (c96 h ⟨l.val, H⟩)) else 0

/-- a key's, -/
def kl (h : Fin 8) (j : Fin 2048) (l : Fin 128) : EReal :=
  if H : l.val < 64 then KN (ix2 j (c64 h ⟨l.val, H⟩)) else if H' : l.val < 96 then KP (ix2 j ⟨l.val - 64, by omega⟩) else 0

/-- and a row of 64 columns in the upper lanes. -/
def ul (f : Fin 64 → EReal) (l : Fin 128) : EReal := if H : 64 ≤ l.val then f ⟨l.val - 64, by omega⟩ else 0

theorem ul_sum (f g : Fin 64 → EReal) : ∑ d : Fin 128, ul f d * ul g d = ∑ x : Fin 64, f x * g x := by
  rw [sum_upper _ fun d hd => by unfold ul; rw [dif_neg (by omega), zero_mul]]
  refine Finset.sum_congr rfl fun x _ => ?_
  unfold ul
  rw [dif_pos (by simp), dif_pos (by simp)]
  congr 2 <;> exact Fin.ext (by simp)

section
variable {h : Fin 8} {qb kb vb : Blk .bf16} {ob gb : Blk .f32} {lb : FVec 𝕀 ⟨3, ![1, 2048, 1]⟩ .f32}

theorem score_blk (hq : ∀ i l, (qb (ix2 i l) : EReal) = ql Q h i l) (hk : ∀ j l, (kb (ix2 j l) : EReal) = kl KN KP h j l) (i j : Fin 2048) :
    score qb kb i j = sc Q KN KP h i j := by
  unfold score sc
  by_cases H : j.val ≤ i.val
  · rw [if_pos H, if_pos H]
    unfold sx
    congr 1
    rw [sum_lanes]
    have e : ∑ x : Fin 32, (qb (ix2 i ⟨96 + x.val, by omega⟩) : EReal) * kb (ix2 j ⟨96 + x.val, by omega⟩) = 0 :=
      Finset.sum_eq_zero fun x _ => by rw [hq]; unfold ql; rw [dif_neg (by simp), zero_mul]
    rw [e, add_zero]
    congr 1
    · refine Finset.sum_congr rfl fun x _ => ?_
      rw [hq, hk]; unfold ql kl
      rw [dif_pos (by simp; omega), dif_pos (by simp)]
    · refine Finset.sum_congr rfl fun x _ => ?_
      rw [hq, hk]; unfold ql kl
      rw [dif_pos (by simp; omega), dif_neg (by simp), dif_pos (by simp; omega)]
      congr 4
      simp
  · rw [if_neg H, if_neg H]

theorem prob_blk (hQ : Finite Q) (hN : Finite KN) (hP : Finite KP) (hq : ∀ i l, (qb (ix2 i l) : EReal) = ql Q h i l)
    (hk : ∀ j l, (kb (ix2 j l) : EReal) = kl KN KP h j l) (hl : ∀ i, (lb (ix3 0 i 0) : EReal) = lse Q KN KP h i) (i j : Fin 2048) :
    prob qb kb lb i j = pr Q KN KP h i j := by
  unfold prob
  rw [score_blk Q KN KP hq hk, hl]
  exact prob_lse Q KN KP hQ hN hP h i j

theorem ds_blk (hQ : Finite Q) (hN : Finite KN) (hP : Finite KP) (hG : Finite G) (hV : Finite V) (hq : ∀ i l, (qb (ix2 i l) : EReal) = ql Q h i l)
    (hk : ∀ j l, (kb (ix2 j l) : EReal) = kl KN KP h j l) (hl : ∀ i, (lb (ix3 0 i 0) : EReal) = lse Q KN KP h i)
    (hv : ∀ j l, (vb (ix2 j l) : EReal) = ul (fun d => V (ix2 j (c64 h d))) l) (hg : ∀ i l, (gb (ix2 i l) : EReal) = ul (fun d => G (ix2 i (c64 h d))) l)
    (ho : ∀ i l, (ob (ix2 i l) : EReal) = ul (out Q KN KP V h i) l) (i j : Fin 2048) :
    ds qb kb vb ob gb lb i j = dsR G Q KN KP V h i j * σ := by
  unfold ds prob
  simp only [score_blk Q KN KP hq hk, hl, hv, hg, ho, ul_sum]
  rw [← ds_lse G Q KN KP V hQ hN hP hG hV]
  rfl
end
end

end Cert.Mla

end
-- ==== Proof.MlaHost.lean ====
/- Through the attention over the latent: what the host lines hand to the call. -/
module

public import proofs.«01_k».proof.Proof.MlaSpec
public import Idealize.ShloMosaic.Lib.StableHlo.RunRead
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

local notation "𝕀" => Idealize.ShloMosaic.Ideal

namespace Cert.KernelMlaIdeal.Value

open Cert.KernelMlaIdeal Cert.KernelMlaIdeal.Gen Cert.Mla

variable (m : (ℓ : Loc nD τ sig) → Buf (Elt 𝕀) ℓ) (c : Dev nD)

/-- The host lines up to the masked scores. -/
abbrev lineA : List (HloOp τ sig (Elt 𝕀)) := List.flatten [hostOps0, hostOps0_1]

/-- The host lines that lay the operands out by heads. -/
abbrev lineC : List (HloOp τ sig (Elt 𝕀)) := List.flatten [hostOps0_3, hostOps0_4, hostOps0_5, hostOps0_6, hostOps0_7, hostOps0_8, hostOps0_9, hostOps0_10,
  hostOps0_11, hostOps0_12, hostOps0_13, hostOps0_14, hostOps0_15]

/-- The buffers after the masked scores. -/
def UA : Valuation τ sig (Elt 𝕀) := StableHlo.after lineA fun b => m (c, b)

/-- The buffers after the output and the rows' log-sums. -/
def UB : Valuation τ sig (Elt 𝕀) := StableHlo.after hostOps0_2 (UA m c)

theorem V_eq (b : Ref sig .tc) : V m c b = StableHlo.after lineC (UB m c) b := by
  unfold UB UA
  rw [← StableHlo.after_append, ← StableHlo.after_append]
  rfl

/-- The rows' greatest scores. -/
def maxF (s : FVec 𝕀 S8x2048x2048 .f32) : FVec 𝕀 S8x2048x1 .f32 :=
  broadcastInDim S8x2048x1 ![0, 1] bcast_S8x2048_S8x2048x1_0_1 (Host.reduce FloatOps.maximumf s (constant (F := 𝕀) S_ .f32 0xFF800000#32) reducesTo_S8x2048x2048_S8x2048_d2 h_S_)

/-- The exponentials of the scores less their row's greatest. -/
def expF (s : FVec 𝕀 S8x2048x2048 .f32) : FVec 𝕀 S8x2048x2048 .f32 :=
  Host.exp (subf s (broadcastInDim S8x2048x2048 ![0, 1, 2] bcast_S8x2048x1_S8x2048x2048_0_1_2 (maxF s)))

/-- Their row sums. -/
def sumF (s : FVec 𝕀 S8x2048x2048 .f32) : FVec 𝕀 S8x2048x1 .f32 :=
  broadcastInDim S8x2048x1 ![0, 1] bcast_S8x2048_S8x2048x1_0_1 (Host.reduceAdd (expF s) (constant (F := 𝕀) S_ .f32 0x00000000#32) reducesTo_S8x2048x2048_S8x2048_d2 h_S_)

/-- The rows' log-sums. -/
def lseF (s : FVec 𝕀 S8x2048x2048 .f32) : FVec 𝕀 S8x2048x1 .f32 := addf (maxF s) (Host.log (sumF s))

/-- The rows' probabilities. -/
def probF (s : FVec 𝕀 S8x2048x2048 .f32) : FVec 𝕀 S8x2048x2048 .f32 :=
  mulf (expF s) (broadcastInDim S8x2048x2048 ![0, 1, 2] bcast_S8x2048x1_S8x2048x2048_0_1_2 (Host.divf (broadcastInDim S8x2048x1 ![] bcast_S_S8x2048x1 (constant (F := 𝕀) S_ .f32 0x3F800000#32)) (sumF s)))

/-- The attention's output. -/
def outF (v : FVec 𝕀 S2048x8x64 .f32) (s : FVec 𝕀 S8x2048x2048 .f32) : FVec 𝕀 S2048x8x64 .f32 :=
  transpose S2048x8x64 [2, 0, 1] (Host.dotGeneral dot_S2048x8x64_S8x2048x2048_S8x64x2048_0_2_2_1_1_0 none v (probF s)) transposes_S8x64x2048_S2048x8x64_2_0_1

theorem UB24 : UB m c main_v24 = lseF (UA m c main_v15) := by
  unfold UB
  after_reads_simp
  rfl

theorem UB31 : UB m c main_v31 = outF (UB m c main_v29) (UA m c main_v15) := by
  unfold UB
  after_reads_simp
  rfl

theorem ofBits_neg_inf : Ideal.ofBits .f32 0xFF800000#32 = ⊥ := by
  simp [Ideal.ofBits, Ideal.ieee]

theorem sitofp_zero : (FloatOps.sitofp (F := 𝕀) .f32 (0#32 : BitVec 32) : EReal) = 0 := by
  simp [FloatOps.sitofp]

theorem maxF_at (s : FVec 𝕀 S8x2048x2048 .f32) (h : Fin 8) (i : Fin 2048) (u : Fin 1) :
    (maxF s (ix3 h i u) : EReal) = (Finset.univ.fold max ⊥ fun j : Fin 2048 => (s (ix3 h i j) : EReal)) := by
  pointwise [maxF]
  rw [ofBits_neg_inf]

theorem expF_at (s : FVec 𝕀 S8x2048x2048 .f32) (h : Fin 8) (i j : Fin 2048) :
    (expF s (ix3 h i j) : EReal) = Ideal.exp ((s (ix3 h i j) : EReal) - maxF s (ix3 h i 0)) := by
  pointwise [expF]

theorem sumF_at (s : FVec 𝕀 S8x2048x2048 .f32) (h : Fin 8) (i : Fin 2048) (u : Fin 1) :
    (sumF s (ix3 h i u) : EReal) = ∑ j : Fin 2048, (expF s (ix3 h i j) : EReal) := by
  pointwise [sumF]

theorem addf_log (a b : FVec 𝕀 S8x2048x1 .f32) (k : S8x2048x1.Idx) :
    (addf a (Host.log b) k : EReal) = (a k : EReal) + Ideal.log (b k : EReal) := rfl

theorem probF_at (s : FVec 𝕀 S8x2048x2048 .f32) (h : Fin 8) (i j : Fin 2048) :
    (probF s (ix3 h i j) : EReal) = (expF s (ix3 h i j) : EReal) * Ideal.div ((1 : ℝ) : EReal) (sumF s (ix3 h i 0) : EReal) := by
  pointwise [probF]
  rw [EReal.coe_one]

theorem outF_at (v : FVec 𝕀 S2048x8x64 .f32) (s : FVec 𝕀 S8x2048x2048 .f32) (i : Fin 2048) (h : Fin 8) (d : Fin 64) :
    (outF v s (ix3 i h d) : EReal) = ∑ k : Fin 2048, (v (ix3 k h d) : EReal) * (probF s (ix3 h i k) : EReal) := by
  pointwise [outF]

abbrev AG : FVec 𝕀 S2048x512 .f32 := m ((c : Thread nD τ).loc main_arg0)
abbrev AQ : FVec 𝕀 S2048x768 .f32 := m ((c : Thread nD τ).loc main_arg1)
abbrev AN : FVec 𝕀 S2048x512 .f32 := m ((c : Thread nD τ).loc main_arg2)
abbrev AP : FVec 𝕀 S2048x32 .f32 := m ((c : Thread nD τ).loc main_arg3)
abbrev AV : FVec 𝕀 S2048x512 .f32 := m ((c : Thread nD τ).loc main_arg4)

/-- The scores. -/
abbrev S15 : FVec 𝕀 S8x2048x2048 .f32 := UA m c main_v15

theorem S15_at (h : Fin 8) (i j : Fin 2048) : (S15 m c (ix3 h i j) : EReal) = sc (AQ m c) (AN m c) (AP m c) h i j := by
  unfold S15 UA
  after_reads_simp
  simp only [StableHlo.TRef.toBuf, StableHlo.TRef.ofBuf, StableHlo.TRef.of, cast_eq]
  pointwise []
  after_reads_simp
  pointwise []
  rw [WordCmp.cmpi_sle_ofNat (by omega) (by omega), WordCmp.select_decide]
  unfold sc sx σ
  refine if_congr Iff.rfl rfl ?_
  exact ofBits_neg_inf

theorem max_at (h : Fin 8) (i : Fin 2048) : (maxF (S15 m c) (ix3 h i 0) : EReal) = mx (AQ m c) (AN m c) (AP m c) h i := by
  rw [maxF_at]
  exact congrArg (Finset.univ.fold max ⊥) (funext fun j => S15_at m c h i j)

theorem exp_at (h : Fin 8) (i j : Fin 2048) : (expF (S15 m c) (ix3 h i j) : EReal) = ex (AQ m c) (AN m c) (AP m c) h i j := by
  rw [expF_at, max_at, S15_at]
  rfl

theorem sum_at (h : Fin 8) (i : Fin 2048) : (sumF (S15 m c) (ix3 h i 0) : EReal) = sm (AQ m c) (AN m c) (AP m c) h i := by
  rw [sumF_at]
  exact Finset.sum_congr rfl fun j _ => exp_at m c h i j

/-- The saved log-sum. -/
theorem h24 (h : Fin 8) (i : Fin 2048) : ((V m c main_v24 : FVec 𝕀 S8x2048x1 .f32) (ix3 h i 0) : EReal) = lse (AQ m c) (AN m c) (AP m c) h i := by
  rw [V_eq]
  after_reads_simp
  rw [UB24]
  refine (addf_log _ _ _).trans ?_
  rw [max_at, sum_at]
  rfl

/-- The saved output. -/
theorem out_at (h : Fin 8) (i : Fin 2048) (d : Fin 64) : ((UB m c main_v31 : FVec 𝕀 S2048x8x64 .f32) (ix3 i h d) : EReal) = out (AQ m c) (AN m c) (AP m c) (AV m c) h i d := by
  rw [UB31]
  refine (outF_at _ _ _ _ _).trans (Finset.sum_congr rfl fun k _ => ?_)
  rw [probF_at, exp_at, sum_at]
  refine congrArg (· * _) ?_
  unfold UB UA
  after_reads_simp
  pointwise [c64]

/-- The output with the heads side by side. -/
def catF (o : FVec 𝕀 S2048x8x64 .f32) : FVec 𝕀 S2048x512 .f32 := shapeCast S2048x512 o shapeCasts_S2048x8x64_S2048x512

theorem UB32 : UB m c main_v32 = catF (outF (UB m c main_v29) (UA m c main_v15)) := by
  unfold UB
  after_reads_simp
  rfl

theorem cat_at (h : Fin 8) (i : Fin 2048) (d : Fin 64) : ((UB m c main_v32 : FVec 𝕀 S2048x512 .f32) (ix2 i (c64 h d)) : EReal) = out (AQ m c) (AN m c) (AP m c) (AV m c) h i d := by
  rw [UB32, ← UB31]
  refine Eq.trans ?_ (out_at m c h i d)
  generalize (UB m c main_v31 : FVec 𝕀 S2048x8x64 .f32) = o
  pointwise [catF, c64]

/-- Lane `l` of head `h`. -/
def lane (h : Fin 8) (l : Fin 128) : Fin 1024 := ⟨h.val * 128 + l.val, by omega⟩

theorem ql_pick (A : FVec 𝕀 ⟨2, ![2048, 768]⟩ .f32) (h : Fin 8) (i : Fin 2048) (l : Fin 128) :
    (if H : (h.val * 128 + l.val) / 128 < 8 ∧ (h.val * 128 + l.val) % 128 < 96 then
      (A (ix2 i ⟨(h.val * 128 + l.val) / 128 * 96 + (h.val * 128 + l.val) % 128, by omega⟩) : EReal) else 0) = ql A h i l := by
  unfold ql
  by_cases H : l.val < 96
  · rw [dif_pos ⟨by omega, by omega⟩, dif_pos H]
    exact congrArg (fun k => (A (ix2 i k) : EReal)) (Fin.ext (by simp only [c96]; omega))
  · rw [dif_neg (by omega), dif_neg H]

theorem kl_pick (A : FVec 𝕀 ⟨2, ![2048, 512]⟩ .f32) (B : FVec 𝕀 ⟨2, ![2048, 32]⟩ .f32) (h : Fin 8) (i : Fin 2048) (l : Fin 128) :
    (if H : (h.val * 128 + l.val) / 128 < 8 ∧ (h.val * 128 + l.val) % 128 < 96 then
      if H' : (h.val * 128 + l.val) % 128 < 64 then
        (A (ix2 i ⟨(h.val * 128 + l.val) / 128 * 64 + (h.val * 128 + l.val) % 128, by omega⟩) : EReal)
      else B (ix2 i ⟨(h.val * 128 + l.val) % 128 - 64, by omega⟩) else 0) = kl A B h i l := by
  unfold kl
  by_cases H : l.val < 64
  · rw [dif_pos ⟨by omega, by omega⟩, dif_pos (by omega), dif_pos H]
    exact congrArg (fun k => (A (ix2 i k) : EReal)) (Fin.ext (by simp only [c64]; omega))
  · by_cases H' : l.val < 96
    · rw [dif_pos ⟨by omega, by omega⟩, dif_neg (by omega), dif_neg H, dif_pos H']
      exact congrArg (fun k => (B (ix2 i k) : EReal)) (Fin.ext (by simp only; omega))
    · rw [dif_neg (by omega), dif_neg H, dif_neg H']

theorem ul_pick (A : FVec 𝕀 ⟨2, ![2048, 512]⟩ .f32) (h : Fin 8) (i : Fin 2048) (l : Fin 128) :
    (if H : (h.val * 128 + l.val) / 128 < 8 ∧ 64 ≤ (h.val * 128 + l.val) % 128 ∧ (h.val * 128 + l.val) % 128 - 64 < 64 then
      (A (ix2 i ⟨(h.val * 128 + l.val) / 128 * 64 + ((h.val * 128 + l.val) % 128 - 64), by omega⟩) : EReal) else 0) = ul (fun d => A (ix2 i (c64 h d))) l := by
  unfold ul
  by_cases H : 64 ≤ l.val
  · rw [dif_pos ⟨by omega, by omega, by omega⟩, dif_pos H]
    exact congrArg (fun k => (A (ix2 i k) : EReal)) (Fin.ext (by simp only [c64]; omega))
  · rw [dif_neg (by omega), dif_neg H]

theorem h36 (h : Fin 8) (i : Fin 2048) (l : Fin 128) : ((V m c main_v36 : FVec 𝕀 S2048x1024 .bf16) (ix2 i (lane h l)) : EReal) = ql (AQ m c) h i l := by
  rw [V_eq]
  after_reads_simp
  unfold UB UA
  after_reads_simp
  simp only [StableHlo.TRef.toBuf, StableHlo.TRef.ofBuf, StableHlo.TRef.of, cast_eq]
  pointwise [lane]
  simp only [sitofp_zero]
  exact ql_pick (AQ m c) h i l

theorem h41 (h : Fin 8) (i : Fin 2048) (l : Fin 128) : ((V m c main_v41 : FVec 𝕀 S2048x1024 .bf16) (ix2 i (lane h l)) : EReal) = kl (AN m c) (AP m c) h i l := by
  rw [V_eq]
  after_reads_simp
  unfold UB UA
  after_reads_simp
  simp only [StableHlo.TRef.toBuf, StableHlo.TRef.ofBuf, StableHlo.TRef.of, cast_eq]
  pointwise [lane]
  after_reads_simp
  pointwise []
  simp only [sitofp_zero]
  exact kl_pick (AN m c) (AP m c) h i l

theorem h45 (h : Fin 8) (i : Fin 2048) (l : Fin 128) : ((V m c main_v45 : FVec 𝕀 S2048x1024 .bf16) (ix2 i (lane h l)) : EReal) = ul (fun d => AV m c (ix2 i (c64 h d))) l := by
  rw [V_eq]
  after_reads_simp
  unfold UB UA
  after_reads_simp
  simp only [StableHlo.TRef.toBuf, StableHlo.TRef.ofBuf, StableHlo.TRef.of, cast_eq]
  pointwise [lane]
  simp only [sitofp_zero]
  exact ul_pick (AV m c) h i l

/-- The same lane among the 1536 columns of all the attentions. -/
def lane' (h : Fin 8) (l : Fin 128) : Fin 1536 := ⟨h.val * 128 + l.val, by omega⟩

theorem h49 (h : Fin 8) (i : Fin 2048) (l : Fin 128) : ((V m c main_v49 : FVec 𝕀 S2048x1536 .f32) (ix2 i (lane' h l)) : EReal) = ul (out (AQ m c) (AN m c) (AP m c) (AV m c) h i) l := by
  rw [V_eq]
  after_reads_simp
  simp only [StableHlo.TRef.toBuf, StableHlo.TRef.ofBuf, StableHlo.TRef.of, cast_eq]
  pointwise [lane']
  simp only [sitofp_zero]
  rw [dif_pos (show h.val * 128 + l.val < 1024 by omega)]
  refine (ul_pick (UB m c main_v32) h i l).trans ?_
  exact congrArg (fun f => ul f l) (funext fun d => cat_at m c h i d)

theorem h53 (h : Fin 8) (i : Fin 2048) (l : Fin 128) : ((V m c main_v53 : FVec 𝕀 S2048x1536 .f32) (ix2 i (lane' h l)) : EReal) = ul (fun d => AG m c (ix2 i (c64 h d))) l := by
  rw [V_eq]
  after_reads_simp
  unfold UB UA
  after_reads_simp
  simp only [StableHlo.TRef.toBuf, StableHlo.TRef.ofBuf, StableHlo.TRef.of, cast_eq]
  pointwise [lane']
  simp only [sitofp_zero]
  rw [dif_pos (show h.val * 128 + l.val < 1024 by omega)]
  exact ul_pick (AG m c) h i l

end Cert.KernelMlaIdeal.Value

end
-- ==== Proof.MlaPoint.lean ====
/- Through the attention over the latent: what one grid point leaves of the three results. -/
module

public import proofs.«01_k».proof.Proof.MlaTiles
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelMlaIdeal.Value

open Cert.KernelMlaIdeal Cert.KernelMlaIdeal.Gen Cert.Mla

section
variable (m : (ℓ : Loc nD τ sig) → Buf (Elt 𝕀) ℓ) (c : Dev nD) (t : Fin cfg0.N)

abbrev QB : Blk .bf16 := iblk m c 0 t
abbrev KB : Blk .bf16 := iblk m c 1 t
abbrev VB : Blk .bf16 := iblk m c 2 t
abbrev OB : Blk .f32 := iblk m c 3 t
abbrev DOB : Blk .f32 := iblk m c 4 t
abbrev LB : FVec 𝕀 ⟨3, ![1, 2048, 1]⟩ .f32 := iblk m c 5 t

abbrev TKB (i j : Fin 2048) (l : Fin 128) : EReal := TK (QB m c t) (KB m c t) (VB m c t) (OB m c t) (DOB m c t) (LB m c t) i j l
abbrev TVB (i j : Fin 2048) (l : Fin 128) : EReal := TV (QB m c t) (KB m c t) (DOB m c t) (LB m c t) i j l

set_option maxHeartbeats 16000000 in
/-- What a point leaves of the keys' and the values' gradients: the two accumulators `D` and `E` hold the sums over all query rows. -/
theorem outs_kv : ∃ D E : FVec 𝕀 ⟨2, ![2048, 128]⟩ .f32,
    (outsAt0 m c t.val t.isLt).2.1 = k0_pay2 (F := 𝕀) D E
    ∧ (t.val % 8 = 0 → ¬ 1 ≤ t.val → (outsAt0 m c t.val t.isLt).2.2 = k0_pay3 (F := 𝕀) D)
    ∧ (∀ (h0 : ¬ t.val % 8 = 0) (h1 : 1 ≤ t.val), (outsAt0 m c t.val t.isLt).2.2
        = k0_pay4 (F := 𝕀) D (outsAt0 m c (t.val - 1) (by have := t.isLt; omega)).2.2)
    ∧ (∀ j l, (D (ix2 j l) : EReal) = ∑ i, TKB m c t i j l) ∧ ∀ j l, (E (ix2 j l) : EReal) = ∑ i, TVB m c t i j l := by
  have key : ∃ D E : FVec 𝕀 ⟨2, ![2048, 128]⟩ .f32,
      (∀ (h0 : t.val % 8 = 0) (h1 : ¬ 1 ≤ t.val), (outsAt0 m c t.val t.isLt).2.1 = k0_pay2 (F := 𝕀) D E)
      ∧ (∀ (h0 : t.val % 8 = 0) (h1 : ¬ 1 ≤ t.val), (outsAt0 m c t.val t.isLt).2.2 = k0_pay3 (F := 𝕀) D)
      ∧ (∀ (h0 : ¬ t.val % 8 = 0) (h1 : 1 ≤ t.val), (outsAt0 m c t.val t.isLt).2.1 = k0_pay2 (F := 𝕀) D E)
      ∧ (∀ (h0 : ¬ t.val % 8 = 0) (h1 : 1 ≤ t.val), (outsAt0 m c t.val t.isLt).2.2
        = k0_pay4 (F := 𝕀) D (outsAt0 m c (t.val - 1) (by have := t.isLt; omega)).2.2)
      ∧ (∀ j l, (D (ix2 j l) : EReal) = ∑ i, TKB m c t i j l) ∧ ∀ j l, (E (ix2 j l) : EReal) = ∑ i, TVB m c t i j l := by
    apply Exists.intro
    apply Exists.intro
    refine ⟨fun h0 h1 => ?a, fun h0 h1 => ?b, fun h0 h1 => ?d, fun h0 h1 => ?e, fun j l => ?f, fun j l => ?g⟩
    case a =>
      rw [outsAt0_A m c t h0 h1]
      frame_open
      simp (disch := decide) only [↓ View.readCov_skip, ↓ View.readCov_cons_toLoadRect, ↓ View.readCov_fill]
      frame_out
      exact rfl
    case b =>
      rw [outsAt0_A m c t h0 h1]
      frame_open
      simp (disch := decide) only [↓ View.readCov_skip, ↓ View.readCov_cons_toLoadRect, ↓ View.readCov_fill]
      frame_out
    case d =>
      rw [outsAt0_B m c t h0 h1]
      frame_open
      simp (disch := decide) only [↓ View.readCov_skip, ↓ View.readCov_cons_toLoadRect, ↓ View.readCov_fill]
      frame_out
    case e =>
      rw [outsAt0_B m c t h0 h1]
      frame_open
      simp (disch := decide) only [↓ View.readCov_skip, ↓ View.readCov_cons_toLoadRect, ↓ View.readCov_fill]
      frame_out
    case f =>
      refine Holds.last ?_ _ _ (wk7 (iblk m c 0 t) (iblk m c 1 t) (iblk m c 2 t) (iblk m c 3 t) (iblk m c 4 t) (iblk m c 5 t)) (wk7_at (iblk m c 0 t) (iblk m c 1 t) (iblk m c 2 t) (iblk m c 3 t) (iblk m c 4 t) (iblk m c 5 t)) j l
      refine Holds.step (a := 1536) (e := 1792) rfl (by norm_num) (TK_zero (iblk m c 0 t) (iblk m c 1 t) (iblk m c 2 t) (iblk m c 3 t) (iblk m c 4 t) (iblk m c 5 t)) ?_ _ _ (wk6 (iblk m c 0 t) (iblk m c 1 t) (iblk m c 2 t) (iblk m c 3 t) (iblk m c 4 t) (iblk m c 5 t)) (wk6_at (iblk m c 0 t) (iblk m c 1 t) (iblk m c 2 t) (iblk m c 3 t) (iblk m c 4 t) (iblk m c 5 t))
      refine Holds.step (a := 1280) (e := 1536) rfl (by norm_num) (TK_zero (iblk m c 0 t) (iblk m c 1 t) (iblk m c 2 t) (iblk m c 3 t) (iblk m c 4 t) (iblk m c 5 t)) ?_ _ _ (wk5 (iblk m c 0 t) (iblk m c 1 t) (iblk m c 2 t) (iblk m c 3 t) (iblk m c 4 t) (iblk m c 5 t)) (wk5_at (iblk m c 0 t) (iblk m c 1 t) (iblk m c 2 t) (iblk m c 3 t) (iblk m c 4 t) (iblk m c 5 t))
      refine Holds.step (a := 1024) (e := 1280) rfl (by norm_num) (TK_zero (iblk m c 0 t) (iblk m c 1 t) (iblk m c 2 t) (iblk m c 3 t) (iblk m c 4 t) (iblk m c 5 t)) ?_ _ _ (wk4 (iblk m c 0 t) (iblk m c 1 t) (iblk m c 2 t) (iblk m c 3 t) (iblk m c 4 t) (iblk m c 5 t)) (wk4_at (iblk m c 0 t) (iblk m c 1 t) (iblk m c 2 t) (iblk m c 3 t) (iblk m c 4 t) (iblk m c 5 t))
      refine Holds.step (a := 768) (e := 1024) rfl (by norm_num) (TK_zero (iblk m c 0 t) (iblk m c 1 t) (iblk m c 2 t) (iblk m c 3 t) (iblk m c 4 t) (iblk m c 5 t)) ?_ _ _ (wk3 (iblk m c 0 t) (iblk m c 1 t) (iblk m c 2 t) (iblk m c 3 t) (iblk m c 4 t) (iblk m c 5 t)) (wk3_at (iblk m c 0 t) (iblk m c 1 t) (iblk m c 2 t) (iblk m c 3 t) (iblk m c 4 t) (iblk m c 5 t))
      refine Holds.step (a := 512) (e := 768) rfl (by norm_num) (TK_zero (iblk m c 0 t) (iblk m c 1 t) (iblk m c 2 t) (iblk m c 3 t) (iblk m c 4 t) (iblk m c 5 t)) ?_ _ _ (wk2 (iblk m c 0 t) (iblk m c 1 t) (iblk m c 2 t) (iblk m c 3 t) (iblk m c 4 t) (iblk m c 5 t)) (wk2_at (iblk m c 0 t) (iblk m c 1 t) (iblk m c 2 t) (iblk m c 3 t) (iblk m c 4 t) (iblk m c 5 t))
      refine Holds.step (a := 256) (e := 512) rfl (by norm_num) (TK_zero (iblk m c 0 t) (iblk m c 1 t) (iblk m c 2 t) (iblk m c 3 t) (iblk m c 4 t) (iblk m c 5 t)) ?_ _ _ (wk1 (iblk m c 0 t) (iblk m c 1 t) (iblk m c 2 t) (iblk m c 3 t) (iblk m c 4 t) (iblk m c 5 t)) (wk1_at (iblk m c 0 t) (iblk m c 1 t) (iblk m c 2 t) (iblk m c 3 t) (iblk m c 4 t) (iblk m c 5 t))
      exact Holds.first (TK_zero (iblk m c 0 t) (iblk m c 1 t) (iblk m c 2 t) (iblk m c 3 t) (iblk m c 4 t) (iblk m c 5 t)) _ (fun j => by pointwise [k0_pay5]) _ _ (wk0 (iblk m c 0 t) (iblk m c 1 t) (iblk m c 2 t) (iblk m c 3 t) (iblk m c 4 t) (iblk m c 5 t)) (wk0_at (iblk m c 0 t) (iblk m c 1 t) (iblk m c 2 t) (iblk m c 3 t) (iblk m c 4 t) (iblk m c 5 t))
    case g =>
      refine Holds.last ?_ _ _ (wv7 (iblk m c 0 t) (iblk m c 1 t) (iblk m c 4 t) (iblk m c 5 t)) (wv7_at (iblk m c 0 t) (iblk m c 1 t) (iblk m c 4 t) (iblk m c 5 t)) j l
      refine Holds.step (a := 1536) (e := 1792) rfl (by norm_num) (TV_zero (iblk m c 0 t) (iblk m c 1 t) (iblk m c 4 t) (iblk m c 5 t)) ?_ _ _ (wv6 (iblk m c 0 t) (iblk m c 1 t) (iblk m c 4 t) (iblk m c 5 t)) (wv6_at (iblk m c 0 t) (iblk m c 1 t) (iblk m c 4 t) (iblk m c 5 t))
      refine Holds.step (a := 1280) (e := 1536) rfl (by norm_num) (TV_zero (iblk m c 0 t) (iblk m c 1 t) (iblk m c 4 t) (iblk m c 5 t)) ?_ _ _ (wv5 (iblk m c 0 t) (iblk m c 1 t) (iblk m c 4 t) (iblk m c 5 t)) (wv5_at (iblk m c 0 t) (iblk m c 1 t) (iblk m c 4 t) (iblk m c 5 t))
      refine Holds.step (a := 1024) (e := 1280) rfl (by norm_num) (TV_zero (iblk m c 0 t) (iblk m c 1 t) (iblk m c 4 t) (iblk m c 5 t)) ?_ _ _ (wv4 (iblk m c 0 t) (iblk m c 1 t) (iblk m c 4 t) (iblk m c 5 t)) (wv4_at (iblk m c 0 t) (iblk m c 1 t) (iblk m c 4 t) (iblk m c 5 t))
      refine Holds.step (a := 768) (e := 1024) rfl (by norm_num) (TV_zero (iblk m c 0 t) (iblk m c 1 t) (iblk m c 4 t) (iblk m c 5 t)) ?_ _ _ (wv3 (iblk m c 0 t) (iblk m c 1 t) (iblk m c 4 t) (iblk m c 5 t)) (wv3_at (iblk m c 0 t) (iblk m c 1 t) (iblk m c 4 t) (iblk m c 5 t))
      refine Holds.step (a := 512) (e := 768) rfl (by norm_num) (TV_zero (iblk m c 0 t) (iblk m c 1 t) (iblk m c 4 t) (iblk m c 5 t)) ?_ _ _ (wv2 (iblk m c 0 t) (iblk m c 1 t) (iblk m c 4 t) (iblk m c 5 t)) (wv2_at (iblk m c 0 t) (iblk m c 1 t) (iblk m c 4 t) (iblk m c 5 t))
      refine Holds.step (a := 256) (e := 512) rfl (by norm_num) (TV_zero (iblk m c 0 t) (iblk m c 1 t) (iblk m c 4 t) (iblk m c 5 t)) ?_ _ _ (wv1 (iblk m c 0 t) (iblk m c 1 t) (iblk m c 4 t) (iblk m c 5 t)) (wv1_at (iblk m c 0 t) (iblk m c 1 t) (iblk m c 4 t) (iblk m c 5 t))
      exact Holds.first (TV_zero (iblk m c 0 t) (iblk m c 1 t) (iblk m c 4 t) (iblk m c 5 t)) _ (fun j => by pointwise [k0_pay6]) _ _ (wv0 (iblk m c 0 t) (iblk m c 1 t) (iblk m c 4 t) (iblk m c 5 t)) (wv0_at (iblk m c 0 t) (iblk m c 1 t) (iblk m c 4 t) (iblk m c 5 t))
  obtain ⟨D, E, a, b, d, e, f, g⟩ := key
  refine ⟨D, E, ?_, b, e, f, g⟩
  have := lt_of_lt_of_eq t.isLt N_0
  by_cases h : t.val = 0
  · exact a (by omega) (by omega)
  · exact d (by omega) (by omega)
end

/-- An array written tile by tile holds `f` in its first `a` rows. -/
def Below (f : Fin 2048 → Fin 128 → EReal) (L : List (View.Piece (Elt 𝕀) S2048x128 .f32)) (a : ℕ) : Prop :=
  ∀ (j : Fin 2048) (l : Fin 128), j.val < a → (View.canon L (ix2 j l) : EReal) = f j l

theorem Below.step {f : Fin 2048 → Fin 128 → EReal} {L : List (View.Piece (Elt 𝕀) S2048x128 .f32)} (a e : ℕ) (he : e = a + 256) (hle : e ≤ 2048)
    (hL : Below f L a) (inb : ∀ i : Fin 2, (![a, 0] : Fin 2 → ℕ) i + (![256, 128] : Fin 2 → ℕ) i ≤ S2048x128.size i)
    (w : (Rect.unit (s := S2048x128) ![a, 0] ![256, 128] inb).shape.Idx → Elt 𝕀 .f32)
    (hw : ∀ (r : Fin 256) (l : Fin 128), (w (ix2 r l) : EReal) = f ⟨a + r.val, by omega⟩ l) :
    Below f (⟨Rect.unit (s := S2048x128) ![a, 0] ![256, 128] inb, w⟩ :: L) e := by
  intro j l hj
  by_cases h : j.val < a
  · refine (View.canon_cons_of_not_mem _ L fun hm => ?_).trans (hL j l h)
    have h2 : (ix2 j l : S2048x128.Idx) ∈ (Rect.unit (s := S2048x128) ![a, 0] ![256, 128] inb).set := hm
    have h3 := (Rect.mem_set_unit.mp h2 0).1
    simp [ix2] at h3
    omega
  · have e1 : (ix2 j l : S2048x128.Idx) = (Rect.unit (s := S2048x128) ![a, 0] ![256, 128] inb).emb (ix2 (⟨j.val - a, by omega⟩ : Fin 256) l) := by
      refine funext fun i => Fin.ext ?_
      refine Eq.trans ?_ (Rect.idx_unit_val _ _ inb _ _).symm
      fin_cases i <;> simp [ix2]
      omega
    have hf := hw ⟨j.val - a, by omega⟩ l
    have ha : a + (j.val - a) = j.val := by omega
    simp only [ha] at hf
    refine Eq.trans ?_ hf
    rw [e1]
    exact View.canon_cons_emb _ w L _

theorem Below.first {f : Fin 2048 → Fin 128 → EReal} (inb : ∀ i : Fin 2, (![0, 0] : Fin 2 → ℕ) i + (![256, 128] : Fin 2 → ℕ) i ≤ S2048x128.size i)
    (w : (Rect.unit (s := S2048x128) ![0, 0] ![256, 128] inb).shape.Idx → Elt 𝕀 .f32)
    (hw : ∀ (r : Fin 256) (l : Fin 128), (w (ix2 r l) : EReal) = f ⟨r.val, by omega⟩ l) :
    Below f [⟨Rect.unit (s := S2048x128) ![0, 0] ![256, 128] inb, w⟩] 256 :=
  Below.step 0 256 rfl (by norm_num) (fun j l h => absurd h (Nat.not_lt_zero _)) inb w fun r l =>
    (hw r l).trans (congrArg (fun i => f i l) (Fin.ext (Nat.zero_add _).symm))

section
variable (m : (ℓ : Loc nD τ sig) → Buf (Elt 𝕀) ℓ) (c : Dev nD) (t : Fin cfg0.N)

abbrev TQB (j i : Fin 2048) (l : Fin 128) : EReal := TQ (QB m c t) (KB m c t) (VB m c t) (OB m c t) (DOB m c t) (LB m c t) j i l

set_option maxHeartbeats 16000000 in
/-- What a point leaves of the queries' gradient. -/
theorem outs_q (i : Fin 2048) (l : Fin 128) : ((outsAt0 m c t.val t.isLt).1 (ix2 i l) : EReal) = ∑ j, TQB m c t j i l := by
  by_cases h : t.val = 0
  · rw [outsAt0_A m c t (by omega) (by omega)]
    frame_open
    simp (disch := decide) only [↓ View.readCov_skip, ↓ View.readCov_cons_toLoadRect, ↓ View.readCov_fill]
    frame_out
    refine Below.step (f := fun i l => ∑ j, TQB m c t j i l) 1792 2048 rfl (by norm_num) ?_ _ (wq7 (iblk m c 0 t) (iblk m c 1 t) (iblk m c 2 t) (iblk m c 3 t) (iblk m c 4 t) (iblk m c 5 t)) (wq7_at (iblk m c 0 t) (iblk m c 1 t) (iblk m c 2 t) (iblk m c 3 t) (iblk m c 4 t) (iblk m c 5 t)) i l i.isLt
    refine Below.step 1536 1792 rfl (by norm_num) ?_ _ (wq6 (iblk m c 0 t) (iblk m c 1 t) (iblk m c 2 t) (iblk m c 3 t) (iblk m c 4 t) (iblk m c 5 t)) (wq6_at (iblk m c 0 t) (iblk m c 1 t) (iblk m c 2 t) (iblk m c 3 t) (iblk m c 4 t) (iblk m c 5 t))
    refine Below.step 1280 1536 rfl (by norm_num) ?_ _ (wq5 (iblk m c 0 t) (iblk m c 1 t) (iblk m c 2 t) (iblk m c 3 t) (iblk m c 4 t) (iblk m c 5 t)) (wq5_at (iblk m c 0 t) (iblk m c 1 t) (iblk m c 2 t) (iblk m c 3 t) (iblk m c 4 t) (iblk m c 5 t))
    refine Below.step 1024 1280 rfl (by norm_num) ?_ _ (wq4 (iblk m c 0 t) (iblk m c 1 t) (iblk m c 2 t) (iblk m c 3 t) (iblk m c 4 t) (iblk m c 5 t)) (wq4_at (iblk m c 0 t) (iblk m c 1 t) (iblk m c 2 t) (iblk m c 3 t) (iblk m c 4 t) (iblk m c 5 t))
    refine Below.step 768 1024 rfl (by norm_num) ?_ _ (wq3 (iblk m c 0 t) (iblk m c 1 t) (iblk m c 2 t) (iblk m c 3 t) (iblk m c 4 t) (iblk m c 5 t)) (wq3_at (iblk m c 0 t) (iblk m c 1 t) (iblk m c 2 t) (iblk m c 3 t) (iblk m c 4 t) (iblk m c 5 t))
    refine Below.step 512 768 rfl (by norm_num) ?_ _ (wq2 (iblk m c 0 t) (iblk m c 1 t) (iblk m c 2 t) (iblk m c 3 t) (iblk m c 4 t) (iblk m c 5 t)) (wq2_at (iblk m c 0 t) (iblk m c 1 t) (iblk m c 2 t) (iblk m c 3 t) (iblk m c 4 t) (iblk m c 5 t))
    refine Below.step 256 512 rfl (by norm_num) ?_ _ (wq1 (iblk m c 0 t) (iblk m c 1 t) (iblk m c 2 t) (iblk m c 3 t) (iblk m c 4 t) (iblk m c 5 t)) (wq1_at (iblk m c 0 t) (iblk m c 1 t) (iblk m c 2 t) (iblk m c 3 t) (iblk m c 4 t) (iblk m c 5 t))
    exact Below.first _ (wq0 (iblk m c 0 t) (iblk m c 1 t) (iblk m c 2 t) (iblk m c 3 t) (iblk m c 4 t) (iblk m c 5 t)) (wq0_at (iblk m c 0 t) (iblk m c 1 t) (iblk m c 2 t) (iblk m c 3 t) (iblk m c 4 t) (iblk m c 5 t))
  · have := lt_of_lt_of_eq t.isLt N_0
    rw [outsAt0_B m c t (by omega) (by omega)]
    frame_open
    simp (disch := decide) only [↓ View.readCov_skip, ↓ View.readCov_cons_toLoadRect, ↓ View.readCov_fill]
    frame_out
    refine Below.step (f := fun i l => ∑ j, TQB m c t j i l) 1792 2048 rfl (by norm_num) ?_ _ (wq7 (iblk m c 0 t) (iblk m c 1 t) (iblk m c 2 t) (iblk m c 3 t) (iblk m c 4 t) (iblk m c 5 t)) (wq7_at (iblk m c 0 t) (iblk m c 1 t) (iblk m c 2 t) (iblk m c 3 t) (iblk m c 4 t) (iblk m c 5 t)) i l i.isLt
    refine Below.step 1536 1792 rfl (by norm_num) ?_ _ (wq6 (iblk m c 0 t) (iblk m c 1 t) (iblk m c 2 t) (iblk m c 3 t) (iblk m c 4 t) (iblk m c 5 t)) (wq6_at (iblk m c 0 t) (iblk m c 1 t) (iblk m c 2 t) (iblk m c 3 t) (iblk m c 4 t) (iblk m c 5 t))
    refine Below.step 1280 1536 rfl (by norm_num) ?_ _ (wq5 (iblk m c 0 t) (iblk m c 1 t) (iblk m c 2 t) (iblk m c 3 t) (iblk m c 4 t) (iblk m c 5 t)) (wq5_at (iblk m c 0 t) (iblk m c 1 t) (iblk m c 2 t) (iblk m c 3 t) (iblk m c 4 t) (iblk m c 5 t))
    refine Below.step 1024 1280 rfl (by norm_num) ?_ _ (wq4 (iblk m c 0 t) (iblk m c 1 t) (iblk m c 2 t) (iblk m c 3 t) (iblk m c 4 t) (iblk m c 5 t)) (wq4_at (iblk m c 0 t) (iblk m c 1 t) (iblk m c 2 t) (iblk m c 3 t) (iblk m c 4 t) (iblk m c 5 t))
    refine Below.step 768 1024 rfl (by norm_num) ?_ _ (wq3 (iblk m c 0 t) (iblk m c 1 t) (iblk m c 2 t) (iblk m c 3 t) (iblk m c 4 t) (iblk m c 5 t)) (wq3_at (iblk m c 0 t) (iblk m c 1 t) (iblk m c 2 t) (iblk m c 3 t) (iblk m c 4 t) (iblk m c 5 t))
    refine Below.step 512 768 rfl (by norm_num) ?_ _ (wq2 (iblk m c 0 t) (iblk m c 1 t) (iblk m c 2 t) (iblk m c 3 t) (iblk m c 4 t) (iblk m c 5 t)) (wq2_at (iblk m c 0 t) (iblk m c 1 t) (iblk m c 2 t) (iblk m c 3 t) (iblk m c 4 t) (iblk m c 5 t))
    refine Below.step 256 512 rfl (by norm_num) ?_ _ (wq1 (iblk m c 0 t) (iblk m c 1 t) (iblk m c 2 t) (iblk m c 3 t) (iblk m c 4 t) (iblk m c 5 t)) (wq1_at (iblk m c 0 t) (iblk m c 1 t) (iblk m c 2 t) (iblk m c 3 t) (iblk m c 4 t) (iblk m c 5 t))
    exact Below.first _ (wq0 (iblk m c 0 t) (iblk m c 1 t) (iblk m c 2 t) (iblk m c 3 t) (iblk m c 4 t) (iblk m c 5 t)) (wq0_at (iblk m c 0 t) (iblk m c 1 t) (iblk m c 2 t) (iblk m c 3 t) (iblk m c 4 t) (iblk m c 5 t))
end

end Cert.KernelMlaIdeal.Value
-- ==== Proof.MlaRef.lean ====
/- The attention over the latent: what the reference's lines compute. -/
module

public import proofs.«01_k».proof.Proof.Gen.ReferenceMlaIdeal.Read
public import proofs.«01_k».proof.Proof.MlaSpec
public import Idealize.ShloMosaic.Lib.Pointwise
public import Idealize.ShloMosaic.Lib.Claim

@[expose] public section

set_option maxRecDepth 16384

noncomputable section

open Idealize.ShloMosaic Idealize.ShloMosaic.TcCoe Idealize.SL.Sem

local notation "𝕀" => Idealize.ShloMosaic.Ideal

namespace Cert.ReferenceMlaIdeal

open Cert.ReferenceMlaIdeal.Gen Cert.Mla

theorem ofBits_neg_inf : Ideal.ofBits .f32 0xFF800000#32 = ⊥ := by
  simp [Ideal.ofBits, Ideal.ieee]

theorem sitofp_zero : (FloatOps.sitofp (F := 𝕀) .f32 (0#32 : BitVec 32) : EReal) = 0 := by
  simp [FloatOps.sitofp]

variable (x0 : FVec 𝕀 ⟨2, ![2048, 512]⟩ .f32) (x1 : FVec 𝕀 ⟨2, ![2048, 768]⟩ .f32) (x2 : FVec 𝕀 ⟨2, ![2048, 512]⟩ .f32) (x3 : FVec 𝕀 ⟨2, ![2048, 32]⟩ .f32) (x4 : FVec 𝕀 ⟨2, ![2048, 512]⟩ .f32)
  (h : Fin 8) (i j : Fin 2048)

theorem ref8 : (Read.val_main_v8 (F := 𝕀) x1 x2 x3 (ix3 h i j) : EReal) = sx x1 x2 x3 h i j := by
  pointwise [Read.val_main_v0, Read.val_main_v1, Read.val_main_v2, Read.val_main_v3, Read.val_main_v4, Read.val_main_v5, Read.val_main_v6, Read.val_main_v7, Read.val_main_v8, Read.val_main_cst, sx, c64, c96, σ]

theorem ref15 : (Read.val_main_v15 (F := 𝕀) (ix2 i j) : BitVec 1) = BitVec.ofBool (decide (j.val ≤ i.val)) := by
  pointwise [Read.val_main_v9, Read.val_main_v10, Read.val_main_v11, Read.val_main_v12, Read.val_main_v13, Read.val_main_v14, Read.val_main_v15]
  exact WordCmp.cmpi_sle_ofNat (by omega) (by omega)

theorem ref16_1 : (Read.val_main_v16_1 (F := 𝕀) (ix3 h i j) : BitVec 1) = BitVec.ofBool (decide (j.val ≤ i.val)) := by
  pointwise [Read.val_main_v16_1]
  exact ref15 i j

theorem ref16 : (Read.val_main_v16_0 (F := 𝕀) x1 x2 x3 (ix3 h i j) : EReal) = sc x1 x2 x3 h i j := by
  pointwise [Read.val_main_call0_v0, Read.val_main_call0_v2, Read.val_main_v16_0, Read.val_main_cst_0]
  rw [ref16_1, ref8, WordCmp.select_decide]
  unfold sc
  refine if_congr Iff.rfl rfl ?_
  exact ofBits_neg_inf

theorem ref17 : (Read.val_main_v17 (F := 𝕀) x1 x2 x3 (ix2 h i) : EReal) = mx x1 x2 x3 h i := by
  pointwise [Read.val_main_v17, Read.val_main_cst_1]
  rw [ofBits_neg_inf]
  exact congrArg (Finset.univ.fold max ⊥) (funext fun j => ref16 x1 x2 x3 h i j)

theorem ref23 : (Read.val_main_v23 (F := 𝕀) (ix2 h i) : EReal) = ⊥ := by
  pointwise [Read.val_main_v23, Read.val_main_cst_3]
  exact ofBits_neg_inf

theorem maxf_at (a b : FVec 𝕀 ⟨2, ![8, 2048]⟩ .f32) (k : Shape.Idx ⟨2, ![8, 2048]⟩) : (maximumf a b k : EReal) = max (a k : EReal) (b k) := rfl

theorem ref24 : (Read.val_main_v24 (F := 𝕀) x1 x2 x3 (ix2 h i) : EReal) = mx x1 x2 x3 h i := by
  refine (maxf_at (Read.val_main_v23 (F := 𝕀)) (Read.val_main_v17 (F := 𝕀) x1 x2 x3) (ix2 h i)).trans ?_
  rw [ref23, ref17]
  exact max_eq_right bot_le

theorem ref37 : (Read.val_main_v37 (F := 𝕀) x1 x2 x3 (ix3 h i j) : EReal) = ex x1 x2 x3 h i j := by
  pointwise [Read.val_main_v34, Read.val_main_v35, Read.val_main_v36, Read.val_main_v37, ex]
  rw [ref16, ref24]

theorem ref38 : (Read.val_main_v38 (F := 𝕀) x1 x2 x3 (ix2 h i) : EReal) = sm x1 x2 x3 h i := by
  pointwise [Read.val_main_v38, Read.val_main_cst_9, sm]
  exact Finset.sum_congr rfl fun j _ => ref37 x1 x2 x3 h i j

theorem ref41 : (Read.val_main_v41 (F := 𝕀) x1 x2 x3 (ix3 h i j) : EReal) = pr x1 x2 x3 h i j := by
  pointwise [Read.val_main_v39, Read.val_main_v40, Read.val_main_v41, pr]
  rw [ref37, ref38]

theorem ref44 (u : Fin 1) : (Read.val_main_v44 (F := 𝕀) x1 x2 x3 (ix3 h i u) : EReal) = Ideal.div ((1 : ℝ) : EReal) (sm x1 x2 x3 h i * sm x1 x2 x3 h i) := by
  pointwise [Read.val_main_v39, Read.val_main_v42, Read.val_main_v43, Read.val_main_v44, Read.val_main_cst_10]
  rw [ref38, EReal.coe_one]

theorem ref49 : (Read.val_main_v49 (F := 𝕀) x0 x4 (ix3 h i j) : EReal) = gv x0 x4 h i j := by
  pointwise [Read.val_main_v2, Read.val_main_v47, Read.val_main_v48, Read.val_main_v49, gv, c64]

theorem ref51 (d : Fin 64) : (Read.val_main_v51 (F := 𝕀) x0 x1 x2 x3 (ix3 j h d) : EReal) = ∑ i : Fin 2048, (x0 (ix2 i (c64 h d)) : EReal) * pr x1 x2 x3 h i j := by
  pointwise [Read.val_main_v47, Read.val_main_v48, Read.val_main_v50, Read.val_main_v51, c64]
  exact Finset.sum_congr rfl fun i _ => by rw [ref41]

theorem ref60 : (Read.val_main_v60 (F := 𝕀) x0 x1 x2 x3 x4 (ix2 h i) : EReal)
    = -∑ j, gv x0 x4 h i j * Ideal.div ((1 : ℝ) : EReal) (sm x1 x2 x3 h i * sm x1 x2 x3 h i) * ex x1 x2 x3 h i j := by
  pointwise [Read.val_main_v60, Read.val_main_v57, Read.val_main_v56, Read.val_main_v55, Read.val_main_v54, Read.val_main_v53, Read.val_main_v52, Read.val_main_cst_11, Read.val_main_cst_12]
  simp only [Finset.univ_unique, Finset.sum_singleton]
  refine congrArg Neg.neg (Finset.sum_congr rfl fun j _ => ?_)
  rw [ref49, ref37]
  exact congrArg (fun z => gv x0 x4 h i j * z * ex x1 x2 x3 h i j) (ref44 x1 x2 x3 h i 0)

theorem ref66 : (Read.val_main_v66 (F := 𝕀) x0 x1 x2 x3 x4 (ix3 h i j) : EReal) = dsR x0 x1 x2 x3 x4 h i j * σ := by
  pointwise [Read.val_main_v66, Read.val_main_v65, Read.val_main_v64, Read.val_main_v63, Read.val_main_v62, Read.val_main_v61, Read.val_main_v59, Read.val_main_v58, Read.val_main_v39, Read.val_main_call1_v0, Read.val_main_call1_cst, Read.val_main_cst_13]
  rw [ref16_1, ref49, ref37, ref38, ref60, WordCmp.select_decide]
  unfold dsR
  split_ifs
  · rfl
  · exact (zero_mul _).symm

theorem ref5 (l : Fin 128) (H : l.val < 96) : (Read.val_main_v5 (F := 𝕀) x2 x3 (ix3 j h ⟨l.val, H⟩) : EReal) = kl x2 x3 h j l := by
  pointwise [Read.val_main_v1, Read.val_main_v3, Read.val_main_v4, Read.val_main_v5]
  unfold kl
  split_ifs <;> rfl

theorem ref70 (d : Fin 96) : (Read.val_main_v70 (F := 𝕀) x0 x1 x2 x3 x4 (ix3 i h d) : EReal) = ∑ j, dsR x0 x1 x2 x3 x4 h i j * σ * Read.val_main_v5 (F := 𝕀) x2 x3 (ix3 j h d) := by
  pointwise [Read.val_main_v69, Read.val_main_v70]
  exact Finset.sum_congr rfl fun j _ => by rw [ref66]

theorem ref68 (d : Fin 96) : (Read.val_main_v68 (F := 𝕀) x0 x1 x2 x3 x4 (ix3 j h d) : EReal) = ∑ i, dsR x0 x1 x2 x3 x4 h i j * σ * x1 (ix2 i (c96 h d)) := by
  pointwise [Read.val_main_v67, Read.val_main_v68, Read.val_main_v0, c96]
  exact Finset.sum_congr rfl fun i _ => by rw [ref66]

/-- The gradient of the queries in a head's lanes, -/
theorem ref77 (l : Fin 128) : (Read.val_main_v77 (F := 𝕀) x0 x1 x2 x3 x4 (ix2 i ⟨h.val * 128 + l.val, by omega⟩) : EReal) = ∑ j, dsR x0 x1 x2 x3 x4 h i j * σ * kl x2 x3 h j l := by
  pointwise [Read.val_main_v76, Read.val_main_v77, Read.val_main_call2_v0, Read.val_main_c]
  simp only [sitofp_zero]
  by_cases H : l.val < 96
  · rw [dif_pos H, ref70]
    exact Finset.sum_congr rfl fun j _ => congrArg (dsR x0 x1 x2 x3 x4 h i j * σ * ·) (ref5 x2 x3 h j l H)
  · rw [dif_neg H]
    refine (Finset.sum_eq_zero fun j _ => ?_).symm
    unfold kl
    rw [dif_neg (by omega), dif_neg H, mul_zero]

/-- of the keys and the values, -/
theorem ref79 (l : Fin 128) : (Read.val_main_v79 (F := 𝕀) x0 x1 x2 x3 x4 (ix2 j ⟨h.val * 128 + l.val, by omega⟩) : EReal)
    = if l.val < 64 then ∑ i, dsR x0 x1 x2 x3 x4 h i j * σ * ql x1 h i l else ∑ i, ul (fun d => x0 (ix2 i (c64 h d))) l * pr x1 x2 x3 h i j := by
  pointwise [Read.val_main_v71, Read.val_main_v78, Read.val_main_v79]
  by_cases H : l.val < 64
  · rw [dif_pos H, if_pos H, ref68]
    refine Finset.sum_congr rfl fun i _ => ?_
    unfold ql
    rw [dif_pos (by omega)]
  · rw [dif_neg H, if_neg H, ref51]
    refine Finset.sum_congr rfl fun i _ => ?_
    unfold ul
    rw [dif_pos (by omega)]

/-- and of the part of the key that the heads share. -/
theorem ref80 (l : Fin 128) : (Read.val_main_v80 (F := 𝕀) x0 x1 x2 x3 x4 (ix2 j l) : EReal)
    = if 64 ≤ l.val ∧ l.val < 96 then ∑ h : Fin 8, ∑ i, dsR x0 x1 x2 x3 x4 h i j * σ * ql x1 h i l else 0 := by
  pointwise [Read.val_main_v80, Read.val_main_v75, Read.val_main_v74, Read.val_main_v73, Read.val_main_v72, Read.val_main_call3_v0, Read.val_main_c_16, Read.val_main_cst_14, Read.val_main_cst_15]
  simp only [sitofp_zero]
  by_cases H : 64 ≤ l.val ∧ l.val < 96
  · rw [dif_pos ⟨H.1, by omega⟩, if_pos H]
    simp only [Finset.univ_unique, Finset.sum_singleton]
    refine Finset.sum_congr rfl fun h _ => ?_
    rw [ref68]
    refine Finset.sum_congr rfl fun i _ => ?_
    unfold ql
    rw [dif_pos H.2]
    exact congrArg (fun k => dsR x0 x1 x2 x3 x4 h i j * σ * x1 (ix2 i (c96 h k))) (Fin.ext (by simp only; omega))
  · rw [dif_neg (by omega), if_neg H]

end Cert.ReferenceMlaIdeal

end
-- ==== Proof.Mla.lean ====
/- Through the attention over the latent: the arrays that the call leaves are those that the reference returns. -/
module

public import proofs.«01_k».proof.Proof.MlaHost
public import proofs.«01_k».proof.Proof.MlaPoint
public import proofs.«01_k».proof.Proof.MlaRef

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelMlaIdeal.Value

open Cert.KernelMlaIdeal Cert.KernelMlaIdeal.Gen Cert.Mla Cert.ReferenceMlaIdeal

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![t.val, 0, 0] ∧ win0_6.index t = ![0, t.val] ∧ win0_7.index t = ![0, t.val] ∧ win0_8.index t = ![0, 0] :=
  (by decide +kernel : ∀ t : Fin grid0.N, _)

theorem lt8 (t : Fin cfg0.N) : t.val < 8 := lt_of_lt_of_eq t.isLt N_0

/-- The head of a grid point. -/
def hd (t : Fin cfg0.N) : Fin 8 := ⟨t.val, lt8 t⟩

section
variable (m : (ℓ : Loc nD τ sig) → Buf (Elt 𝕀) ℓ) (c : Dev nD) (t : Fin cfg0.N)

theorem blk0' (i : Fin 2048) (l : Fin 128) : (iblk m c 0 t (ix2 i l) : EReal) = (V m c main_v36 : FVec 𝕀 S2048x1024 .bf16) (ix2 i (lane (hd t) l)) := by
  unfold lane hd; blk_point [iblk, idx t]

theorem blk1' (i : Fin 2048) (l : Fin 128) : (iblk m c 1 t (ix2 i l) : EReal) = (V m c main_v41 : FVec 𝕀 S2048x1024 .bf16) (ix2 i (lane (hd t) l)) := by
  unfold lane hd; blk_point [iblk, idx t]

theorem blk2' (i : Fin 2048) (l : Fin 128) : (iblk m c 2 t (ix2 i l) : EReal) = (V m c main_v45 : FVec 𝕀 S2048x1024 .bf16) (ix2 i (lane (hd t) l)) := by
  unfold lane hd; blk_point [iblk, idx t]

theorem blk3' (i : Fin 2048) (l : Fin 128) : (iblk m c 3 t (ix2 i l) : EReal) = (V m c main_v49 : FVec 𝕀 S2048x1536 .f32) (ix2 i (lane' (hd t) l)) := by
  unfold lane' hd; blk_point [iblk, idx t]

theorem blk4' (i : Fin 2048) (l : Fin 128) : (iblk m c 4 t (ix2 i l) : EReal) = (V m c main_v53 : FVec 𝕀 S2048x1536 .f32) (ix2 i (lane' (hd t) l)) := by
  unfold lane' hd; blk_point [iblk, idx t]

theorem pay4_at (D E : FVec 𝕀 ⟨2, ![2048, 128]⟩ .f32) (j : Fin 2048) (l : Fin 128) : (k0_pay4 (F := 𝕀) D E (ix2 j l) : EReal) = E (ix2 j l) + if 64 ≤ l.val ∧ l.val < 96 then (D (ix2 j l) : EReal) else 0 := by
  pointwise [k0_pay4]
  rw [pay3_at]

/-- What one head adds to the gradient of the key that all heads share. -/
def kpe (j : Fin 2048) (l : Fin 128) : EReal := if 64 ≤ l.val ∧ l.val < 96 then ∑ i, TKB m c t i j l else 0

theorem kpe_of (D : FVec 𝕀 ⟨2, ![2048, 128]⟩ .f32) (hD : ∀ j l, (D (ix2 j l) : EReal) = ∑ i, TKB m c t i j l) (j : Fin 2048) (l : Fin 128) :
    (if 64 ≤ l.val ∧ l.val < 96 then (D (ix2 j l) : EReal) else 0) = kpe m c t j l := by
  unfold kpe; rw [hD]

theorem read5 (A : FVec 𝕀 S8x2048x1 .f32) (u w : Fin 1) (i : Fin 2048) :
    (View.read (Elt 𝕀) ((cfg0.win 5).blk t).view A (ix3 u i w) : EReal) = A (ix3 (hd t) i 0) := by
  obtain rfl := Subsingleton.elim w 0
  obtain rfl := Subsingleton.elim u 0
  unfold hd
  blk_point [idx t]

theorem blk5' (u w : Fin 1) (i : Fin 2048) : (iblk m c 5 t (ix3 u i w) : EReal) = (V m c main_v24 : FVec 𝕀 S8x2048x1 .f32) (ix3 (hd t) i 0) := by
  exact read5 t (V m c main_v24) u w i

theorem bq (i : Fin 2048) (l : Fin 128) : (QB m c t (ix2 i l) : EReal) = ql (AQ m c) (hd t) i l := (blk0' m c t i l).trans (h36 m c _ i l)
theorem bk (i : Fin 2048) (l : Fin 128) : (KB m c t (ix2 i l) : EReal) = kl (AN m c) (AP m c) (hd t) i l := (blk1' m c t i l).trans (h41 m c _ i l)
theorem bv (i : Fin 2048) (l : Fin 128) : (VB m c t (ix2 i l) : EReal) = ul (fun d => AV m c (ix2 i (c64 (hd t) d))) l := (blk2' m c t i l).trans (h45 m c _ i l)
theorem bo (i : Fin 2048) (l : Fin 128) : (OB m c t (ix2 i l) : EReal) = ul (out (AQ m c) (AN m c) (AP m c) (AV m c) (hd t) i) l := (blk3' m c t i l).trans (h49 m c _ i l)
theorem bg (i : Fin 2048) (l : Fin 128) : (DOB m c t (ix2 i l) : EReal) = ul (fun d => AG m c (ix2 i (c64 (hd t) d))) l := (blk4' m c t i l).trans (h53 m c _ i l)
theorem bl (i : Fin 2048) : (LB m c t (ix3 0 i 0) : EReal) = lse (AQ m c) (AN m c) (AP m c) (hd t) i := (blk5' m c t 0 0 i).trans (h24 m c _ i)

/-- The arguments are real numbers. -/
structure Real5 : Prop where
  g : Finite (AG m c)
  q : Finite (AQ m c)
  n : Finite (AN m c)
  p : Finite (AP m c)
  v : Finite (AV m c)

/-- The gradient of a score. -/
abbrev DS (h : Fin 8) (i j : Fin 2048) : EReal := dsR (AG m c) (AQ m c) (AN m c) (AP m c) (AV m c) h i j * σ

variable (F : Real5 m c)
include F

theorem ds_at (i j : Fin 2048) : ds (QB m c t) (KB m c t) (VB m c t) (OB m c t) (DOB m c t) (LB m c t) i j = DS m c (hd t) i j :=
  ds_blk (AG m c) (AQ m c) (AN m c) (AP m c) (AV m c) F.q F.n F.p F.g F.v (bq m c t) (bk m c t) (bl m c t) (bv m c t) (bg m c t) (bo m c t) i j

theorem TQ_at (i j : Fin 2048) (l : Fin 128) : TQB m c t j i l = DS m c (hd t) i j * kl (AN m c) (AP m c) (hd t) j l := by
  unfold TQB TQ
  rw [ds_at m c t F, bk]

theorem TK_at (i j : Fin 2048) (l : Fin 128) : TKB m c t i j l = DS m c (hd t) i j * ql (AQ m c) (hd t) i l := by
  unfold TKB TK
  rw [ds_at m c t F, bq]

theorem TV_at (i j : Fin 2048) (l : Fin 128) : TVB m c t i j l = pr (AQ m c) (AN m c) (AP m c) (hd t) i j * ul (fun d => AG m c (ix2 i (c64 (hd t) d))) l := by
  unfold TVB TV
  rw [prob_blk (AQ m c) (AN m c) (AP m c) F.q F.n F.p (bq m c t) (bk m c t) (bl m c t), bg]

theorem dq_at (i : Fin 2048) (l : Fin 128) : ((outsAt0 m c t.val t.isLt).1 (ix2 i l) : EReal)
    = (Read.val_main_v77 (F := 𝕀) (AG m c) (AQ m c) (AN m c) (AP m c) (AV m c) (ix2 i ⟨t.val * 128 + l.val, by have := lt8 t; omega⟩) : EReal) := by
  rw [outs_q]
  refine Eq.trans ?_ (ref77 (AG m c) (AQ m c) (AN m c) (AP m c) (AV m c) (hd t) i l).symm
  exact Finset.sum_congr rfl fun j _ => TQ_at m c t F i j l

theorem dkv_at (j : Fin 2048) (l : Fin 128) : ((outsAt0 m c t.val t.isLt).2.1 (ix2 j l) : EReal)
    = (Read.val_main_v79 (F := 𝕀) (AG m c) (AQ m c) (AN m c) (AP m c) (AV m c) (ix2 j ⟨t.val * 128 + l.val, by have := lt8 t; omega⟩) : EReal) := by
  obtain ⟨D, E, h1, -, -, hD, hE⟩ := outs_kv m c t
  rw [h1]
  refine (pay2_at D E j l).trans ?_
  refine Eq.trans ?_ (ref79 (AG m c) (AQ m c) (AN m c) (AP m c) (AV m c) (hd t) j l).symm
  rw [hD, hE]
  by_cases H : l.val < 64
  · rw [if_pos H, if_pos H]
    have e : ∑ i, TVB m c t i j l = 0 := Finset.sum_eq_zero fun i _ => by
      rw [TV_at m c t F]; unfold ul; rw [dif_neg (by omega), mul_zero]
    rw [e, add_zero]
    exact Finset.sum_congr rfl fun i _ => TK_at m c t F i j l
  · rw [if_neg H, if_neg H, zero_add]
    exact Finset.sum_congr rfl fun i _ => (TV_at m c t F i j l).trans (mul_comm _ _)

/-- The gradient of the queries. -/
theorem final6 : (dats m 0 c).arrAt 6 cfg0.N = Read.val_main_v77 (F := 𝕀) (AG m c) (AQ m c) (AN m c) (AP m c) (AV m c) := by
  refine (dats m 0 c).arrAt_eq_of_covers 6 _ (by decide +kernel) fun t hf y => ?_
  blk_simp
  rw [after0_6]
  refine (congrArg _ (eq_ix2 (n0 := 2048) (n1 := 128) y)).trans ((dq_at m c t F (y 0) (y 1)).trans ?_)
  blk_point [iblk, V, idx t]

/-- The gradient of the keys and the values. -/
theorem final7 : (dats m 0 c).arrAt 7 cfg0.N = Read.val_main_v79 (F := 𝕀) (AG m c) (AQ m c) (AN m c) (AP m c) (AV m c) := by
  refine (dats m 0 c).arrAt_eq_of_covers 7 _ (by decide +kernel) fun t hf y => ?_
  blk_simp
  rw [after0_7]
  refine (congrArg _ (eq_ix2 (n0 := 2048) (n1 := 128) y)).trans ((dkv_at m c t F (y 0) (y 1)).trans ?_)
  blk_point [iblk, V, idx t]

/-- Summed over the heads. -/
theorem kpe_sum (j : Fin 2048) (l : Fin 128) : (∑ p : Fin cfg0.N, kpe m c p j l)
    = if 64 ≤ l.val ∧ l.val < 96 then ∑ h : Fin 8, ∑ i, dsR (AG m c) (AQ m c) (AN m c) (AP m c) (AV m c) h i j * σ * ql (AQ m c) h i l else 0 := by
  unfold kpe
  by_cases H : 64 ≤ l.val ∧ l.val < 96
  · simp only [if_pos H]
    refine Eq.trans (Finset.sum_congr rfl fun p _ => Finset.sum_congr rfl fun i _ => TK_at m c p F i j l) ?_
    exact Fin.sum_fin_congr fun p => rfl
  · simp only [if_neg H]
    exact Finset.sum_eq_zero fun p _ => rfl

/-- The gradient of the key that all heads share. -/
theorem final8 : (dats m 0 c).arrAt 8 cfg0.N = Read.val_main_v80 (F := 𝕀) (AG m c) (AQ m c) (AN m c) (AP m c) (AV m c) := by
  refine (dats m 0 c).arrAt_eq_of_after_last 8 t0_7 (by decide +kernel) _ fun j => ?_
  blk_simp
  rw [after0_8, Pipeline.eq_sum_fin_of_reset_step_apply_last (f := fun n h => (outsAt0 m c n h).2.2) 8 (fun _ => 0)
    (fun t j => kpe m c t (j 0) (j 1))
    (fun t h j => by
      have hlt := lt8 t
      obtain ⟨D, E, -, h2, -, hD, -⟩ := outs_kv m c t
      rw [h2 h (by omega)]
      refine (congrArg _ (eq_ix2 (n0 := 2048) (n1 := 128) j)).trans ((pay3_at D (j 0) (j 1)).trans ?_)
      exact (kpe_of m c t D hD (j 0) (j 1)).trans (zero_add _).symm)
    (fun t h j => by
      have hlt := lt8 t
      obtain ⟨D, E, -, -, h3, hD, -⟩ := outs_kv m c t
      rw [h3 h (by omega)]
      refine (congrArg _ (eq_ix2 (n0 := 2048) (n1 := 128) j)).trans ((pay4_at D _ (j 0) (j 1)).trans ?_)
      rw [kpe_of m c t D hD (j 0) (j 1)]
      exact congrArg (· + _) (congrArg _ (eq_ix2 (n0 := 2048) (n1 := 128) j).symm)) (le_of_eq N_0) t0_7 rfl j, zero_add]
  exact (kpe_sum m c F (j 0) (j 1)).trans ((congrArg _ (eq_ix2 (n0 := 2048) (n1 := 128) _)).trans (ref80 (AG m c) (AQ m c) (AN m c) (AP m c) (AV m c) (j 0) (j 1))).symm

end
end Cert.KernelMlaIdeal.Value
-- ==== Proof.Reads.lean ====
/- What a precondition `jnp.all(jnp.abs(x) < jnp.inf)` says of an array over the extended reals: its elements are real
   numbers. -/
module

public import Idealize.ShloMosaic.Lib.ReduceAll
public import Idealize.ShloMosaic.PureOps.Ideal
public import Idealize.ShloMosaic.Lib.StableHlo
public import Idealize.ShloMosaic.PureOps

@[expose] public section

noncomputable section

namespace Cert.Reads

open Idealize.ShloMosaic

local notation "𝕀" => Idealize.ShloMosaic.Ideal

theorem ofBits_top : Ideal.ofBits .f32 0x7F800000#32 = ⊤ := by simp [Ideal.ofBits, Ideal.ieee]

/-- An extended real whose absolute value is below `⊤` is a real number. -/
theorem real_of_abs (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Two one-bit words whose conjunction is one. -/
theorem and_one {u : Shape} (a b : IVec u 1) (i : u.Idx) (h : andi a b i = 1#1) : a i = 1#1 ∧ b i = 1#1 := by
  have h' : IntOp.andi (a i) (b i) = 1#1 := h
  revert h'
  generalize a i = p
  generalize b i = q
  revert p q
  decide

/-- The elements of an array of which the precondition holds. -/
theorem real_of_all {s t u : Shape} [Subsingleton t.Idx] {axes : List (Fin s.rank)} (A : FVec 𝕀 s .f32) (d) (hb)
    (init : u.Idx → BitVec 1) (h : s.ReducesTo axes t) (hu : 0 < u.numel) (j : t.Idx)
    (e : Host.reduce IntOp.andi (cmpf .olt (Host.absf A) (broadcastInDim (s := ⟨0, ![]⟩) s d hb (constant (F := 𝕀) ⟨0, ![]⟩ .f32 0x7F800000#32))) init h hu j = 1#1)
    (k : s.Idx) : ∃ r : ℝ, (A k : EReal) = (r : EReal) := by
  have e' := Host.reduce_andi_all _ init h hu j e k
  refine real_of_abs _ ?_
  have h' : Ideal.cmp .olt (max (A k : EReal) (-(A k : EReal))) (Ideal.ofBits .f32 0x7F800000#32) = 1#1 := e'
  rwa [ofBits_top] at h'

end Cert.Reads

end
-- ==== Proof.MlaClaim.lean ====
/- The claims about the attention's backward call. -/
module

public import proofs.«01_k».proof.Defs
public import proofs.«01_k».proof.Proof.Mla
public import proofs.«01_k».proof.Proof.Gen.KernelMla.Frame
public import proofs.«01_k».proof.Proof.Gen.ReferenceMlaIdeal.Run
public import proofs.«01_k».proof.Proof.Gen.Pre_finite_mla
public import proofs.«01_k».proof.Proof.Reads
public import Idealize.ShloMosaic.Lib.Quiescent

@[expose] public section

noncomputable section

namespace Cert.Proof.Mla

open Idealize.ShloMosaic Idealize.SL.Sem

/-- The reference runs and leaves its arguments. -/
theorem frame_reference : Cert.quiescent_ReferenceMlaIdeal := fun m ρ _ =>
  (θ_run Cert.ReferenceMlaIdeal.defs _ _).mono (fun r h => ⟨fun c => (h c).2.2.2, sem_eq_zero_of_no_sems (by decide) r.2⟩)
    (Cert.ReferenceMlaIdeal.Value.run (F := Ideal) m ρ)

/-- What the precondition says of the kernel's arguments. -/
theorem real (m) (hpre : Cert.Pre_KernelMlaIdeal_finite_mla m) (c : Dev Cert.KernelMlaIdeal.nD) : Cert.KernelMlaIdeal.Value.Real5 m c := by
  have h := congrFun (hpre c) (fun i => i.elim0)
  obtain ⟨h, h4⟩ := Reads.and_one _ _ _ h
  obtain ⟨h, h3⟩ := Reads.and_one _ _ _ h
  obtain ⟨h, h2⟩ := Reads.and_one _ _ _ h
  obtain ⟨h0, h1⟩ := Reads.and_one _ _ _ h
  exact ⟨fun k => Reads.real_of_all _ _ _ _ _ _ _ h0 k, fun k => Reads.real_of_all _ _ _ _ _ _ _ h1 k, fun k => Reads.real_of_all _ _ _ _ _ _ _ h2 k, fun k => Reads.real_of_all _ _ _ _ _ _ _ h3 k, fun k => Reads.real_of_all _ _ _ _ _ _ _ h4 k⟩

/-- The same of the reference where the precondition is assumed. -/
theorem frame_reference_pre : Cert.quiescent_ReferenceMlaIdeal_pre_finite_mla := fun m ρ _ => frame_reference m ρ trivial

set_option maxHeartbeats 2000000 in
/-- Kernel and reference compute the same arrays. -/
theorem value : Cert.algebraic_KernelMlaIdeal_ReferenceMlaIdeal_pre_finite_mla := by
  intro m g m' g' hpre hagree
  refine ⟨_, _, _, Cert.KernelMlaIdeal.Value.run_blocks (F := Ideal) m g, ?_⟩
  refine (θ_run Cert.ReferenceMlaIdeal.defs _ _).mono (fun r h c => ?_)
    (Cert.ReferenceMlaIdeal.Value.run (F := Ideal) m' g')
  obtain ⟨h0, h1, h2, hargs⟩ := h c
  refine ⟨h0.trans ((Cert.ReferenceMlaIdeal.Read.val_main_v77_eq ..).trans (by
        rw [(hagree c).1, (hagree c).2.1, (hagree c).2.2.1, (hagree c).2.2.2.1, (hagree c).2.2.2.2]
        exact (Cert.KernelMlaIdeal.Value.final6 m c (real m hpre c)).symm)),
    h1.trans ((Cert.ReferenceMlaIdeal.Read.val_main_v79_eq ..).trans (by
        rw [(hagree c).1, (hagree c).2.1, (hagree c).2.2.1, (hagree c).2.2.2.1, (hagree c).2.2.2.2]
        exact (Cert.KernelMlaIdeal.Value.final7 m c (real m hpre c)).symm)),
    h2.trans ((Cert.ReferenceMlaIdeal.Read.val_main_v80_eq ..).trans (by
        rw [(hagree c).1, (hagree c).2.1, (hagree c).2.2.1, (hagree c).2.2.2.1, (hagree c).2.2.2.2]
        exact (Cert.KernelMlaIdeal.Value.final8 m c (real m hpre c)).symm)), hargs⟩

end Cert.Proof.Mla

end
-- ==== Proof.FfnTiles.lean ====
/- One grid point of the gated layer's backward call, over opaque blocks: what each chunk of rows computes. -/
module

public import proofs.«01_k».proof.Proof.Gen.KernelFfnIdeal.Value
public import Idealize.ShloMosaic.Lib.Pipeline.ValueKit
public import Idealize.ShloMosaic.Lib.Pipeline.ReadBack

@[expose] public section

set_option maxRecDepth 16384

noncomputable section

namespace Cert.Ffn

open Idealize.ShloMosaic

/-- The logistic function as the programs write it. -/
def sigm (g : EReal) : EReal := Ideal.div 1 (1 + Ideal.exp (-g))

/-- The gradient of the gate's product `silu g * v` to `g`, with the cotangent `d`. -/
def dGate (d g v : EReal) : EReal := d * v * (sigm g * (1 + g * (1 - sigm g)))

/-- The same to `v`. -/
def dVal (d g : EReal) : EReal := d * (g * sigm g)

/-- The gated product. -/
def act (g v : EReal) : EReal := g * sigm g * v

/-- A row's gradient to the convolution's result, from the cotangents of the products and the row's own result: the gate's columns, then
    the value's. -/
def duC (d : Fin 256 → EReal) (u : Fin 512 → EReal) (l : Fin 512) : EReal :=
  if h : l.val < 256 then dGate (d ⟨l.val, h⟩) (u l) (u ⟨256 + l.val, by omega⟩)
  else dVal (d ⟨l.val - 256, by omega⟩) (u ⟨l.val - 256, by omega⟩)

theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The word of zero, added to a number. -/
theorem zero_add' (z x : EReal) (hz : z = Ideal.ofBits .f32 0x00000000#32 := by rfl) : z + x = x := by
  rw [hz, show Ideal.ofBits .f32 0x00000000#32 = 0 by simp [Ideal.ofBits, Ideal.ieee], zero_add]

end Cert.Ffn

namespace Cert.KernelFfnIdeal.Value

open Idealize.ShloMosaic Idealize.ShloMosaic.TcCoe Idealize.SL.Sem
open Cert.KernelFfnIdeal Cert.KernelFfnIdeal.Gen
open Cert.Ffn

local notation "𝕀" => Idealize.ShloMosaic.Ideal

/-! ### Rotations that read as shifts by whole rows -/

theorem shift1 (U : FVec 𝕀 ⟨2, ![264, 512]⟩ .f32) (r : Fin 256) (l : Fin 512) :
    (k0_pay30 (F := 𝕀) U (ix2 r l) : EReal) = U (ix2 ⟨r.val + 7, by omega⟩ l) := by
  pointwise [k0_pay30]
  rw [WordCmp.cmpi_slt_ofNat (by norm_num; omega) (by norm_num), WordCmp.select_decide]
  split_ifs with h <;> exact congrArg (fun x => (U (ix2 x l) : EReal)) (Fin.ext (by first | omega | (simp; omega)))

theorem shift2 (U : FVec 𝕀 ⟨2, ![264, 512]⟩ .f32) (r : Fin 256) (l : Fin 512) :
    (k0_pay31 (F := 𝕀) U (ix2 r l) : EReal) = U (ix2 ⟨r.val + 6, by omega⟩ l) := by
  pointwise [k0_pay31]
  rw [WordCmp.cmpi_slt_ofNat (by norm_num; omega) (by norm_num), WordCmp.select_decide]
  split_ifs with h <;> exact congrArg (fun x => (U (ix2 x l) : EReal)) (Fin.ext (by first | omega | (simp; omega)))

theorem first1 (U : FVec 𝕀 ⟨2, ![256, 512]⟩ .f32) (r : Fin 256) (l : Fin 512) :
    (k0_pay15 (F := 𝕀) U (ix2 r l) : EReal) = if h : 1 ≤ r.val then U (ix2 ⟨r.val - 1, by omega⟩ l) else 0 := by
  pointwise [k0_pay15]
  rw [WordCmp.cmpi_slt_ofNat (by norm_num; omega) (by norm_num), WordCmp.select_decide]
  by_cases h : 1 ≤ r.val
  · rw [dif_pos h]
    by_cases h' : r.val % 8 < 1
    · rw [if_pos h', dif_neg (by omega)]
      exact congrArg (fun x => (U (ix2 x l) : EReal)) (Fin.ext (by show _ = r.val - 1; dsimp only; omega))
    · rw [if_neg h', dif_neg (by omega)]
      exact congrArg (fun x => (U (ix2 x l) : EReal)) (Fin.ext (by show _ = r.val - 1; dsimp only; omega))
  · rw [dif_neg h, if_pos (by omega), dif_pos (by omega)]

theorem first2 (U : FVec 𝕀 ⟨2, ![256, 512]⟩ .f32) (r : Fin 256) (l : Fin 512) :
    (k0_pay16 (F := 𝕀) U (ix2 r l) : EReal) = if h : 2 ≤ r.val then U (ix2 ⟨r.val - 2, by omega⟩ l) else 0 := by
  pointwise [k0_pay16]
  rw [WordCmp.cmpi_slt_ofNat (by norm_num; omega) (by norm_num), WordCmp.select_decide]
  by_cases h : 2 ≤ r.val
  · rw [dif_pos h]
    by_cases h' : r.val % 8 < 2
    · rw [if_pos h', dif_neg (by omega)]
      exact congrArg (fun x => (U (ix2 x l) : EReal)) (Fin.ext (by show _ = r.val - 2; dsimp only; omega))
    · rw [if_neg h', dif_neg (by omega)]
      exact congrArg (fun x => (U (ix2 x l) : EReal)) (Fin.ext (by show _ = r.val - 2; dsimp only; omega))
  · rw [dif_neg h, if_pos (by omega), dif_pos (by omega)]

theorem same_at (U : FVec 𝕀 ⟨2, ![256, 512]⟩ .f32) (r : Fin 256) (l : Fin 512) : (k0_pay29 (F := 𝕀) U (ix2 r l) : EReal) = U (ix2 r l) := by
  pointwise [k0_pay29]

theorem pay11_at (r : Fin 8) (l : Fin 512) : (k0_pay11 (F := 𝕀) (ix2 r l) : EReal) = 0 := by
  pointwise [k0_pay11]

/-! ### A chunk's convolution and its gradient -/

section
variable (W : FVec 𝕀 ⟨2, ![3, 512]⟩ .f32) (B : FVec 𝕀 ⟨2, ![1, 512]⟩ .f32)
  (x : FVec 𝕀 ⟨2, ![256, 512]⟩ .f32) (x1 x2 : FVec 𝕀 ⟨2, ![264, 512]⟩ .f32)
  (d : FVec 𝕀 ⟨2, ![256, 1024]⟩ .bf16) (wd : FVec 𝕀 ⟨2, ![256, 1024]⟩ .bf16)

theorem conv_at (r : Fin 256) (l : Fin 512) :
    (k0_pay32 (F := 𝕀) W B x x1 x2 (ix2 r l) : EReal)
      = W (ix2 2 l) * x (ix2 r l) + W (ix2 1 l) * x1 (ix2 ⟨r.val + 7, by omega⟩ l)
        + W (ix2 0 l) * x2 (ix2 ⟨r.val + 6, by omega⟩ l) + B (ix2 0 l) := by
  pointwise [k0_pay32, k0_pay29]
  simp only [shift1, shift2]

theorem conv0_at (r : Fin 256) (l : Fin 512) :
    (k0_pay17 (F := 𝕀) W B x x x (ix2 r l) : EReal)
      = W (ix2 2 l) * x (ix2 r l) + W (ix2 1 l) * (if h : 1 ≤ r.val then x (ix2 ⟨r.val - 1, by omega⟩ l) else 0)
        + W (ix2 0 l) * (if h : 2 ≤ r.val then x (ix2 ⟨r.val - 2, by omega⟩ l) else 0) + B (ix2 0 l) := by
  pointwise [k0_pay17, k0_pay14]
  simp only [first1, first2]

theorem da_at (r c : Fin 256) :
    (k0_pay13 (F := 𝕀) d wd (ix2 r c) : EReal) = ∑ e : Fin 1024, d (ix2 r e) * wd (ix2 c e) := by
  pointwise [k0_pay13]

/-- A chunk's gradient to the convolution's result, gate columns then value columns. -/
def duT (u : FVec 𝕀 ⟨2, ![256, 512]⟩ .f32) (g : FVec 𝕀 ⟨2, ![256, 256]⟩ .f32) : FVec 𝕀 ⟨2, ![256, 512]⟩ .f32 :=
  k0_pay37 (F := 𝕀) g (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256)))) (Scalar.ofBits .f32 0x3F800000#32)

theorem duT_at (u : FVec 𝕀 ⟨2, ![256, 512]⟩ .f32) (g : FVec 𝕀 ⟨2, ![256, 256]⟩ .f32) (r : Fin 256) (l : Fin 512) :
    (duT u g (ix2 r l) : EReal) = duC (fun c => g (ix2 r c)) (fun l => u (ix2 r l)) l := by
  pointwise [duT, k0_pay37, k0_pay36]
  simp only [duC, dGate, dVal, sigm, zero_sub]

/-- The same as stored. -/
def duS (u : FVec 𝕀 ⟨2, ![256, 512]⟩ .f32) (g : FVec 𝕀 ⟨2, ![256, 256]⟩ .f32) : FVec 𝕀 ⟨2, ![256, 512]⟩ .f32 :=
  k0_pay38 (F := 𝕀) g (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256)))) (Scalar.ofBits .f32 0x3F800000#32)

theorem duS_at (u : FVec 𝕀 ⟨2, ![256, 512]⟩ .f32) (g : FVec 𝕀 ⟨2, ![256, 256]⟩ .f32) (r : Fin 256) (l : Fin 512) :
    (duS u g (ix2 r l) : EReal) = duC (fun c => g (ix2 r c)) (fun l => u (ix2 r l)) l := by
  rw [← duT_at]
  unfold duS k0_pay38
  generalize hD : k0_pay37 (F := 𝕀) g _ _ _ _ = D
  have e : D = duT u g := hD.symm
  rw [← e]
  clear hD e
  pointwise []

/-- A chunk's gated product, as stored. -/
def actS (u : FVec 𝕀 ⟨2, ![256, 512]⟩ .f32) : FVec 𝕀 ⟨2, ![256, 256]⟩ .bf16 :=
  k0_pay39 (F := 𝕀) (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256)))) (Scalar.ofBits .f32 0x3F800000#32)

theorem actS_at (u : FVec 𝕀 ⟨2, ![256, 512]⟩ .f32) (r c : Fin 256) :
    (actS u (ix2 r c) : EReal) = act (u (ix2 r ⟨c.val, by omega⟩)) (u (ix2 r ⟨256 + c.val, by omega⟩)) := by
  pointwise [actS, k0_pay39, k0_pay36]
  simp only [act, sigm, zero_sub]

/-- A chunk's part of the gradient to the convolution's weights. -/
def dwT (u : FVec 𝕀 ⟨2, ![256, 512]⟩ .f32) (g : FVec 𝕀 ⟨2, ![256, 256]⟩ .f32) (y0 y1 y2 : FVec 𝕀 ⟨2, ![256, 512]⟩ .f32) : FVec 𝕀 ⟨2, ![3, 512]⟩ .f32 :=
  k0_pay40 (F := 𝕀) g y0 y1 y2 (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256)))) (Scalar.ofBits .f32 0x3F800000#32)

theorem dwT_at (u : FVec 𝕀 ⟨2, ![256, 512]⟩ .f32) (g : FVec 𝕀 ⟨2, ![256, 256]⟩ .f32) (y0 y1 y2 : FVec 𝕀 ⟨2, ![256, 512]⟩ .f32)
    (k : Fin 3) (l : Fin 512) :
    (dwT u g y0 y1 y2 (ix2 k l) : EReal)
      = ∑ r : Fin 256, duT u g (ix2 r l) * (if k.val = 0 then (y2 (ix2 r l) : EReal) else if k.val = 1 then y1 (ix2 r l) else y0 (ix2 r l)) := by
  unfold dwT k0_pay40
  generalize hD : k0_pay37 (F := 𝕀) g _ _ _ _ = D
  have e : D = duT u g := hD.symm
  rw [← e]
  clear hD e
  pointwise []
  split_ifs <;> first | rfl | omega

/-- The first chunk's, added to zero. -/
def dw0T (u : FVec 𝕀 ⟨2, ![256, 512]⟩ .f32) (g : FVec 𝕀 ⟨2, ![256, 256]⟩ .f32) (y0 y1 y2 : FVec 𝕀 ⟨2, ![256, 512]⟩ .f32) : FVec 𝕀 ⟨2, ![3, 512]⟩ .f32 :=
  k0_pay25 (F := 𝕀) g y0 y1 y2 (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256))))

theorem dw0T_at (u : FVec 𝕀 ⟨2, ![256, 512]⟩ .f32) (g : FVec 𝕀 ⟨2, ![256, 256]⟩ .f32) (y0 y1 y2 : FVec 𝕀 ⟨2, ![256, 512]⟩ .f32)
    (k : Fin 3) (l : Fin 512) : (dw0T u g y0 y1 y2 (ix2 k l) : EReal) = dwT u g y0 y1 y2 (ix2 k l) :=
  zero_add' (Ideal.ofBits .f32 0x00000000#32) (dwT u g y0 y1 y2 (ix2 k l))

/-- A chunk's part of the gradient to the convolution's bias. -/
def dbT (u : FVec 𝕀 ⟨2, ![256, 512]⟩ .f32) (g : FVec 𝕀 ⟨2, ![256, 256]⟩ .f32) : FVec 𝕀 ⟨2, ![1, 512]⟩ .f32 :=
  k0_pay41 (F := 𝕀) g (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256)))) (Scalar.ofBits .f32 0x3F800000#32)

theorem dbT_at (u : FVec 𝕀 ⟨2, ![256, 512]⟩ .f32) (g : FVec 𝕀 ⟨2, ![256, 256]⟩ .f32) (k : Fin 1) (l : Fin 512) :
    (dbT u g (ix2 k l) : EReal) = ∑ r : Fin 256, (duT u g (ix2 r l) : EReal) := by
  unfold dbT k0_pay41
  generalize hD : k0_pay37 (F := 𝕀) g _ _ _ _ = D
  have e : D = duT u g := hD.symm
  rw [← e]
  clear hD e
  pointwise []

/-- The first chunk's, added to zero. -/
def db0T (u : FVec 𝕀 ⟨2, ![256, 512]⟩ .f32) (g : FVec 𝕀 ⟨2, ![256, 256]⟩ .f32) : FVec 𝕀 ⟨2, ![1, 512]⟩ .f32 :=
  k0_pay26 (F := 𝕀) g (extractStridedSlice S256x256 ![0, 0] u slices_S256x512_o0_0_S256x256)
    (extractStridedSlice S256x256 ![0, 256] u slices_S256x512_o0_256_S256x256)
    (addf (broadcast S256x256 (Scalar.ofBits .f32 0x3F800000#32)) (exp (subf (broadcast S256x256 (Scalar.ofBits .f32 0x00000000#32))
      (extractStridedSlice S256x256 ![0, 0] u slices_S256x512_o0_0_S256x256))))

theorem db0T_at (u : FVec 𝕀 ⟨2, ![256, 512]⟩ .f32) (g : FVec 𝕀 ⟨2, ![256, 256]⟩ .f32) (k : Fin 1) (l : Fin 512) :
    (db0T u g (ix2 k l) : EReal) = dbT u g (ix2 k l) :=
  zero_add' (Ideal.ofBits .f32 0x00000000#32) (dbT u g (ix2 k l))

end

/-! ### Back through the convolution -/

section
variable (W : FVec 𝕀 ⟨2, ![3, 512]⟩ .f32) (D : FVec 𝕀 ⟨2, ![264, 512]⟩ .f32) (WP : FVec 𝕀 ⟨2, ![512, 1024]⟩ .bf16)
  (P : FVec 𝕀 ⟨2, ![256, 1024]⟩ .f32)

/-- What a chunk's rows of the convolution's argument receive. -/
def dupT : FVec 𝕀 ⟨2, ![256, 512]⟩ .bf16 :=
  k0_pay46 (F := 𝕀) W D (k0_pay42 W D) (k0_pay43 W) (k0_pay44 D) (iota Kind.tc S32x8x512 32 [1] iota_S32x8x512_d1_w32) k0_pay45

theorem dupT_at (r : Fin 256) (l : Fin 512) :
    (dupT W D (ix2 r l) : EReal) = W (ix2 2 l) * D (ix2 ⟨r.val, by omega⟩ l) + W (ix2 1 l) * D (ix2 ⟨r.val + 1, by omega⟩ l)
      + W (ix2 0 l) * D (ix2 ⟨r.val + 2, by omega⟩ l) := by
  pointwise [dupT, k0_pay46, k0_pay42, k0_pay43, k0_pay44, k0_pay45]
  rw [WordCmp.cmpi_slt_ofNat (by norm_num; omega) (by norm_num), WordCmp.cmpi_slt_ofNat (by norm_num; omega) (by norm_num), WordCmp.select_decide,
    WordCmp.select_decide]
  congr 2
  · congr 1
    split_ifs <;> exact congrArg (fun x => (D (ix2 x l) : EReal)) (Fin.ext (by first | omega | (simp; omega)))
  · split_ifs <;> exact congrArg (fun x => (D (ix2 x l) : EReal)) (Fin.ext (by first | omega | (simp; omega)))

/-- The same as stored. -/
def dupS : FVec 𝕀 ⟨2, ![256, 512]⟩ .bf16 :=
  k0_pay47 (F := 𝕀) W D (k0_pay42 W D) (k0_pay43 W) (k0_pay44 D) (iota Kind.tc S32x8x512 32 [1] iota_S32x8x512_d1_w32) k0_pay45

theorem dupS_at (r : Fin 256) (l : Fin 512) : (dupS W D (ix2 r l) : EReal) = dupT W D (ix2 r l) := by
  pointwise [dupS, k0_pay47]
  rfl

/-- A chunk's rows of the input's gradient, added to what they held. -/
def dhT : FVec 𝕀 ⟨2, ![256, 1024]⟩ .f32 :=
  k0_pay48 (F := 𝕀) W WP D (k0_pay42 W D) (k0_pay43 W) (k0_pay44 D) (iota Kind.tc S32x8x512 32 [1] iota_S32x8x512_d1_w32) k0_pay45 P

theorem dhT_at (r : Fin 256) (e : Fin 1024) :
    (dhT W D WP P (ix2 r e) : EReal) = P (ix2 r e) + ∑ l : Fin 512, dupT W D (ix2 r l) * WP (ix2 l e) := by
  unfold dhT k0_pay48
  generalize hD : k0_pay46 (F := 𝕀) W D _ _ _ _ _ = E
  have e' : E = dupT W D := hD.symm
  rw [← e']
  clear hD e'
  pointwise []

end

end Cert.KernelFfnIdeal.Value

end
-- ==== Proof.FfnPoint.lean ====
/- One grid point of the gated layer's backward call: what its scratch stores hold, and what it returns. -/
module

public import proofs.«01_k».proof.Proof.FfnTiles

@[expose] public section

set_option maxRecDepth 16384

noncomputable section

namespace Cert.KernelFfnIdeal.Value

open Idealize.ShloMosaic Idealize.ShloMosaic.TcCoe Idealize.SL.Sem
open Idealize.ShloMosaic.Pipeline (Dat)
open Cert.KernelFfnIdeal Cert.KernelFfnIdeal.Gen
open Cert.Ffn

local notation "𝕀" => Idealize.ShloMosaic.Ideal

/-! ### Stores written piece by piece -/

section
variable {N C : ℕ} {e : EltTy}

/-- A list of pieces holds the function `f` at the rows before `e`, and at those from 2048 on, if there are any. -/
def Known (f : ℕ → Fin C → Elt 𝕀 e) (L : List (View.Piece (Elt 𝕀) ⟨2, ![N, C]⟩ e)) (z : ℕ) : Prop :=
  ∀ (j : Fin N) (l : Fin C), (j.val < z ∨ 2048 ≤ j.val) → View.canon L (ix2 j l) = f j.val l

theorem Known.nil (f : ℕ → Fin C → Elt 𝕀 e) (h : N ≤ 2048) : Known (N := N) f [] 0 := fun j _ hj => by have := j.isLt; omega

theorem mem_rows {a n : ℕ} (inb : ∀ i : Fin 2, (![a, 0] : Fin 2 → ℕ) i + (![n, C] : Fin 2 → ℕ) i ≤ (⟨2, ![N, C]⟩ : Shape).size i) (j : Fin N) (l : Fin C)
    (h : a ≤ j.val ∧ j.val < a + n) :
    (ix2 j l : (⟨2, ![N, C]⟩ : Shape).Idx) = (Rect.unit (s := ⟨2, ![N, C]⟩) ![a, 0] ![n, C] inb).emb (ix2 (⟨j.val - a, by omega⟩ : Fin n) l) := by
  refine funext fun i => Fin.ext ?_
  refine Eq.trans ?_ (Rect.idx_unit_val _ _ inb _ _).symm
  fin_cases i <;> simp [ix2] <;> omega

/-- A piece more. -/
theorem Known.step {f : ℕ → Fin C → Elt 𝕀 e} {L : List (View.Piece (Elt 𝕀) ⟨2, ![N, C]⟩ e)} {a n z : ℕ} (hz : z = a + n) (hL : Known f L a)
    {inb : ∀ i : Fin 2, (![a, 0] : Fin 2 → ℕ) i + (![n, C] : Fin 2 → ℕ) i ≤ (⟨2, ![N, C]⟩ : Shape).size i}
    {w : (Rect.unit (s := ⟨2, ![N, C]⟩) ![a, 0] ![n, C] inb).shape.Idx → Elt 𝕀 e}
    (hw : ∀ (r : Fin n) (l : Fin C), w (ix2 r l) = f (a + r.val) l) :
    Known f (⟨Rect.unit (s := ⟨2, ![N, C]⟩) ![a, 0] ![n, C] inb, w⟩ :: L) z := by
  intro j l hj
  by_cases h : a ≤ j.val ∧ j.val < a + n
  · rw [mem_rows inb j l h]
    refine (View.canon_cons_emb _ w L _).trans ((hw _ l).trans ?_)
    exact congrArg (fun x => f x l) (by dsimp only; omega)
  · refine (View.canon_cons_of_not_mem _ L fun hm => h ?_).trans (hL j l (by omega))
    have h2 : (ix2 j l : (⟨2, ![N, C]⟩ : Shape).Idx) ∈ (Rect.unit (s := ⟨2, ![N, C]⟩) ![a, 0] ![n, C] inb).set := hm
    have h3 := Rect.mem_set_unit.mp h2 0
    exact h3

/-- The rows from 2048 on, where there are any. -/
theorem Known.pad {f : ℕ → Fin C → Elt 𝕀 e} {n : ℕ} (hN : N ≤ 2048 + n)
    {inb : ∀ i : Fin 2, (![2048, 0] : Fin 2 → ℕ) i + (![n, C] : Fin 2 → ℕ) i ≤ (⟨2, ![N, C]⟩ : Shape).size i}
    {w : (Rect.unit (s := ⟨2, ![N, C]⟩) ![2048, 0] ![n, C] inb).shape.Idx → Elt 𝕀 e}
    (hw : ∀ (r : Fin n) (l : Fin C), w (ix2 r l) = f (2048 + r.val) l) :
    Known f [⟨Rect.unit (s := ⟨2, ![N, C]⟩) ![2048, 0] ![n, C] inb, w⟩] 0 := by
  intro j l hj
  rw [mem_rows inb j l ⟨by omega, by have := j.isLt; omega⟩]
  refine (View.canon_cons_emb _ w [] _).trans ((hw _ l).trans ?_)
  exact congrArg (fun x => f x l) (by dsimp only; omega)

/-- A load of rows that are known. -/
theorem Known.load {f : ℕ → Fin C → Elt 𝕀 e} {L : List (View.Piece (Elt 𝕀) ⟨2, ![N, C]⟩ e)} {z : ℕ} (hL : Known f L z) {a n : ℕ}
    (v : View KernelFfnIdeal.sig .tc .vmem ⟨2, ![N, C]⟩ e)
    (inb : ∀ i : Fin 2, (![a, 0] : Fin 2 → ℕ) i + (![n, C] : Fin 2 → ℕ) i ≤ (⟨2, ![N, C]⟩ : Shape).size i)
    (hP : ∀ r < n, a + r < z ∨ 2048 ≤ a + r) (r : Fin n) (l : Fin C) :
    v.readCov L (Rect.unit (s := ⟨2, ![N, C]⟩) ![a, 0] ![n, C] inb).toLoadRect (ix2 r l) = f (a + r.val) l := by
  have hle : a + n ≤ N := by simpa using inb 0
  rw [View.readCov_eq_canon']
  have e1 : (Rect.unit (s := ⟨2, ![N, C]⟩) ![a, 0] ![n, C] inb).toLoadRect.idx (ix2 r l) = (ix2 (⟨a + r.val, by omega⟩ : Fin N) l) := by
    refine funext fun i => Fin.ext ?_
    refine (Rect.idx_unit_val _ _ inb _ _).trans ?_
    fin_cases i <;> simp [ix2]
  exact (congrArg (View.canon L) e1).trans (hL ⟨a + r.val, by omega⟩ l (hP r.val r.isLt))

/-- A block's rows. -/
theorem ld_at (A : (⟨2, ![N, C]⟩ : Shape).Idx → Elt 𝕀 e) {a n : ℕ}
    (inb : ∀ i : Fin 2, (![a, 0] : Fin 2 → ℕ) i + (![n, C] : Fin 2 → ℕ) i ≤ (⟨2, ![N, C]⟩ : Shape).size i) (hle : a + n ≤ N) (r : Fin n) (l : Fin C) :
    View.ld (Val := Elt 𝕀) (e' := e) A (Rect.unit (s := ⟨2, ![N, C]⟩) ![a, 0] ![n, C] inb) (ix2 r l) = A (ix2 ⟨a + r.val, by omega⟩ l) := by
  refine congrArg A (funext fun i => Fin.ext ?_)
  refine (Rect.idx_unit_val _ _ inb _ _).trans ?_
  fin_cases i <;> simp [ix2]

end

/-! ### The rows of one grid point -/

/-- The rows of a block of 2048 rows, zero after the last. -/
def rows {C : ℕ} {φ : FTy} (A : FVec 𝕀 ⟨2, ![2048, C]⟩ φ) (r : ℕ) (l : Fin C) : EReal := if h : r < 2048 then A (ix2 ⟨r, h⟩ l) else 0

/-- The element `k` places before, zero before the first. -/
def back (k : ℕ) (f : ℕ → EReal) (r : ℕ) : EReal := if k ≤ r then f (r - k) else 0

section
variable (W : FVec 𝕀 ⟨2, ![3, 512]⟩ .f32) (B : FVec 𝕀 ⟨2, ![1, 512]⟩ .f32) (X : FVec 𝕀 ⟨2, ![2048, 512]⟩ .f32)
  (D : FVec 𝕀 ⟨2, ![2048, 1024]⟩ .bf16) (V : FVec 𝕀 ⟨2, ![256, 1024]⟩ .bf16)

/-- The convolution's result. -/
def uN (r : ℕ) (l : Fin 512) : EReal :=
  W (ix2 2 l) * rows X r l + W (ix2 1 l) * back 1 (fun r => rows X r l) r + W (ix2 0 l) * back 2 (fun r => rows X r l) r + B (ix2 0 l)

/-- The gated product. -/
def actN (r : ℕ) (c : Fin 256) : EReal := act (uN W B X r ⟨c.val, by omega⟩) (uN W B X r ⟨256 + c.val, by omega⟩)

/-- The cotangent of the gated product. -/
def daN (r : ℕ) (c : Fin 256) : EReal := if h : r < 2048 then ∑ e : Fin 1024, D (ix2 ⟨r, h⟩ e) * V (ix2 c e) else 0

/-- The convolution's result's gradient, zero after the last row. -/
def duN (r : ℕ) (l : Fin 512) : EReal := if r < 2048 then duC (daN D V r) (uN W B X r) l else 0

/-- The convolution's argument's gradient. -/
def dupN (r : ℕ) (l : Fin 512) : EReal :=
  W (ix2 2 l) * duN W B X D V r l + W (ix2 1 l) * duN W B X D V (r + 1) l + W (ix2 0 l) * duN W B X D V (r + 2) l

theorem rows_of {C : ℕ} {φ : FTy} (A : FVec 𝕀 ⟨2, ![2048, C]⟩ φ) {r : ℕ} (h : r < 2048) (l : Fin C) : rows A r l = A (ix2 ⟨r, h⟩ l) := dif_pos h

variable {a b : ℕ}
  (inb1 : ∀ i : Fin 2, (![a, 0] : Fin 2 → ℕ) i + (![256, 512] : Fin 2 → ℕ) i ≤ S2048x512.size i)
  (inb2 inb3 : ∀ i : Fin 2, (![b, 0] : Fin 2 → ℕ) i + (![264, 512] : Fin 2 → ℕ) i ≤ S2048x512.size i)
  (inb4 : ∀ i : Fin 2, (![a, 0] : Fin 2 → ℕ) i + (![256, 1024] : Fin 2 → ℕ) i ≤ S2048x1024.size i)

/-- A chunk's convolution, of rows `a` on; the rows before it come with the window that begins at row `b = a - 8`. -/
def uC : FVec 𝕀 ⟨2, ![256, 512]⟩ .f32 :=
  k0_pay32 (F := 𝕀) W B (View.ld (Val := Elt 𝕀) (e' := .f32) X (Rect.unit (s := S2048x512) ![a, 0] ![256, 512] inb1))
    (View.ld (Val := Elt 𝕀) (e' := .f32) X (Rect.unit (s := S2048x512) ![b, 0] ![264, 512] inb2))
    (View.ld (Val := Elt 𝕀) (e' := .f32) X (Rect.unit (s := S2048x512) ![b, 0] ![264, 512] inb3))

/-- The first chunk's. -/
def uC0 (inb1 inb2 inb3 : ∀ i : Fin 2, (![0, 0] : Fin 2 → ℕ) i + (![256, 512] : Fin 2 → ℕ) i ≤ S2048x512.size i) : FVec 𝕀 ⟨2, ![256, 512]⟩ .f32 :=
  k0_pay17 (F := 𝕀) W B (View.ld (Val := Elt 𝕀) (e' := .f32) X (Rect.unit (s := S2048x512) ![0, 0] ![256, 512] inb1))
    (View.ld (Val := Elt 𝕀) (e' := .f32) X (Rect.unit (s := S2048x512) ![0, 0] ![256, 512] inb2))
    (View.ld (Val := Elt 𝕀) (e' := .f32) X (Rect.unit (s := S2048x512) ![0, 0] ![256, 512] inb3))

/-- A chunk's cotangent of the gated product. -/
def gC : FVec 𝕀 ⟨2, ![256, 256]⟩ .f32 :=
  k0_pay13 (F := 𝕀) (View.ld (Val := Elt 𝕀) (e' := .bf16) D (Rect.unit (s := S2048x1024) ![a, 0] ![256, 1024] inb4)) V

theorem uC_at (hab : a = b + 8) (ha : a + 256 ≤ 2048) (r : Fin 256) (l : Fin 512) :
    (uC W B X inb1 inb2 inb3 (ix2 r l) : EReal) = uN W B X (a + r.val) l := by
  unfold uC
  rw [conv_at]
  unfold uN back
  rw [if_pos (by omega), if_pos (by omega)]
  refine congrArg₂ _ (congrArg₂ _ (congrArg₂ _ (congrArg _ ((ld_at (e := .f32) X inb1 ha r l).trans ?_))
    (congrArg _ ((ld_at (e := .f32) X inb2 (by omega) _ l).trans ?_))) (congrArg _ ((ld_at (e := .f32) X inb3 (by omega) _ l).trans ?_))) rfl
  · exact (rows_of X (by omega) l).symm
  · refine Eq.trans ?_ (rows_of X (r := a + r.val - 1) (by omega) l).symm
    exact congrArg (fun x => X (ix2 x l)) (Fin.ext (by dsimp only; omega))
  · refine Eq.trans ?_ (rows_of X (r := a + r.val - 2) (by omega) l).symm
    exact congrArg (fun x => X (ix2 x l)) (Fin.ext (by dsimp only; omega))

theorem uC0_at (inb1 inb2 inb3) (r : Fin 256) (l : Fin 512) :
    (uC0 W B X inb1 inb2 inb3 (ix2 r l) : EReal) = uN W B X r.val l := by
  unfold uC0
  rw [conv0_at]
  refine Eq.trans ?_ (by unfold uN back; rfl)
  refine congrArg₂ _ (congrArg₂ _ (congrArg₂ _ (congrArg _ ?_) (congrArg _ ?_)) (congrArg _ ?_)) rfl
  · refine (ld_at (e := .f32) X inb1 (by norm_num) r l).trans ((rows_of X (r := r.val) (by omega) l).trans ?_).symm
    exact congrArg (fun x => X (ix2 x l)) (Fin.ext (by dsimp only; omega))
  · by_cases h : 1 ≤ r.val
    · rw [dif_pos h, if_pos h]
      refine Eq.trans ?_ (rows_of X (r := r.val - 1) (by omega) l).symm
      refine (ld_at (e := .f32) X inb2 (by norm_num) _ l).trans ?_
      exact congrArg (fun x => X (ix2 x l)) (Fin.ext (by dsimp only; omega))
    · rw [dif_neg h, if_neg h]
  · by_cases h : 2 ≤ r.val
    · rw [dif_pos h, if_pos h]
      refine Eq.trans ?_ (rows_of X (r := r.val - 2) (by omega) l).symm
      refine (ld_at (e := .f32) X inb3 (by norm_num) _ l).trans ?_
      exact congrArg (fun x => X (ix2 x l)) (Fin.ext (by dsimp only; omega))
    · rw [dif_neg h, if_neg h]

theorem gC_at (ha : a + 256 ≤ 2048) (r : Fin 256) (c : Fin 256) : (gC D V inb4 (ix2 r c) : EReal) = daN D V (a + r.val) c := by
  unfold gC
  rw [da_at]
  refine Eq.trans ?_ (dif_pos (by omega)).symm
  exact Finset.sum_congr rfl fun e _ => congrArg (· * (V (ix2 c e) : EReal)) (ld_at (e := .bf16) D inb4 ha r e)

theorem du_at (hab : a = b + 8) (ha : a + 256 ≤ 2048) (r : Fin 256) (l : Fin 512) :
    (duS (uC W B X inb1 inb2 inb3) (gC D V inb4) (ix2 r l) : EReal) = duN W B X D V (a + r.val) l := by
  rw [duS_at]
  unfold duN
  rw [if_pos (by omega)]
  exact congrArg₂ (fun d u => duC d u l) (funext fun c => gC_at D V inb4 ha r c) (funext fun l => uC_at W B X inb1 inb2 inb3 hab ha r l)

theorem du0_at (inb1 inb2 inb3) (inb4 : ∀ i : Fin 2, (![0, 0] : Fin 2 → ℕ) i + (![256, 1024] : Fin 2 → ℕ) i ≤ S2048x1024.size i) (r : Fin 256) (l : Fin 512) :
    (duS (uC0 W B X inb1 inb2 inb3) (gC D V inb4) (ix2 r l) : EReal) = duN W B X D V (0 + r.val) l := by
  rw [duS_at]
  unfold duN
  rw [if_pos (by omega)]
  exact congrArg₂ (fun d u => duC d u l) (funext fun c => gC_at D V inb4 (by norm_num) r c)
    (funext fun l => (uC0_at W B X inb1 inb2 inb3 r l).trans (by rw [zero_add]))

theorem act_at (hab : a = b + 8) (ha : a + 256 ≤ 2048) (r : Fin 256) (c : Fin 256) :
    (actS (uC W B X inb1 inb2 inb3) (ix2 r c) : EReal) = actN W B X (a + r.val) c := by
  rw [actS_at, uC_at W B X inb1 inb2 inb3 hab ha, uC_at W B X inb1 inb2 inb3 hab ha]; rfl

theorem act0_at (inb1 inb2 inb3) (r : Fin 256) (c : Fin 256) :
    (actS (uC0 W B X inb1 inb2 inb3) (ix2 r c) : EReal) = actN W B X (0 + r.val) c := by
  rw [actS_at, uC0_at, uC0_at, zero_add]; rfl

/-- What multiplies the gradient in the gradient of the convolution's weight `k`: the row two before, one before, and itself. -/
def tap (k : Fin 3) (r : ℕ) (l : Fin 512) : EReal :=
  if k.val = 0 then back 2 (fun r => rows X r l) r else if k.val = 1 then back 1 (fun r => rows X r l) r else rows X r l

theorem dw_at (hab : a = b + 8) (ha : a + 256 ≤ 2048) (k : Fin 3) (l : Fin 512) :
    (dwT (uC W B X inb1 inb2 inb3) (gC D V inb4) (k0_pay29 (F := 𝕀) (View.ld (Val := Elt 𝕀) (e' := .f32) X (Rect.unit (s := S2048x512) ![a, 0] ![256, 512] inb1)))
        (k0_pay30 (F := 𝕀) (View.ld (Val := Elt 𝕀) (e' := .f32) X (Rect.unit (s := S2048x512) ![b, 0] ![264, 512] inb2)))
        (k0_pay31 (F := 𝕀) (View.ld (Val := Elt 𝕀) (e' := .f32) X (Rect.unit (s := S2048x512) ![b, 0] ![264, 512] inb3))) (ix2 k l) : EReal)
      = ∑ r : Fin 256, duN W B X D V (a + r.val) l * tap X k (a + r.val) l := by
  rw [dwT_at]
  refine Finset.sum_congr rfl fun r _ => congrArg₂ _ ?_ ?_
  · exact ((duT_at _ _ r l).trans (duS_at _ _ r l).symm).trans (du_at W B X D V inb1 inb2 inb3 inb4 hab ha r l)
  · unfold tap
    split_ifs
    · refine (shift2 _ r l).trans ((ld_at (e := .f32) X inb3 (by omega) _ l).trans ?_)
      refine Eq.trans ?_ ((if_pos (by omega)).trans (rows_of X (r := a + r.val - 2) (by omega) l)).symm
      exact congrArg (fun x => X (ix2 x l)) (Fin.ext (by dsimp only; omega))
    · refine (shift1 _ r l).trans ((ld_at (e := .f32) X inb2 (by omega) _ l).trans ?_)
      refine Eq.trans ?_ ((if_pos (by omega)).trans (rows_of X (r := a + r.val - 1) (by omega) l)).symm
      exact congrArg (fun x => X (ix2 x l)) (Fin.ext (by dsimp only; omega))
    · refine (same_at _ r l).trans ((ld_at (e := .f32) X inb1 ha r l).trans (rows_of X (by omega) l).symm)

theorem dw0_at (inb1 inb2 inb3) (inb4 : ∀ i : Fin 2, (![0, 0] : Fin 2 → ℕ) i + (![256, 1024] : Fin 2 → ℕ) i ≤ S2048x1024.size i) (k : Fin 3) (l : Fin 512) :
    (dw0T (uC0 W B X inb1 inb2 inb3) (gC D V inb4) (k0_pay14 (F := 𝕀) (View.ld (Val := Elt 𝕀) (e' := .f32) X (Rect.unit (s := S2048x512) ![0, 0] ![256, 512] inb1)))
        (k0_pay15 (F := 𝕀) (View.ld (Val := Elt 𝕀) (e' := .f32) X (Rect.unit (s := S2048x512) ![0, 0] ![256, 512] inb2)))
        (k0_pay16 (F := 𝕀) (View.ld (Val := Elt 𝕀) (e' := .f32) X (Rect.unit (s := S2048x512) ![0, 0] ![256, 512] inb3))) (ix2 k l) : EReal)
      = ∑ r : Fin 256, duN W B X D V (0 + r.val) l * tap X k (0 + r.val) l := by
  rw [dw0T_at, dwT_at]
  refine Finset.sum_congr rfl fun r _ => congrArg₂ _ ?_ ?_
  · exact ((duT_at _ _ r l).trans (duS_at _ _ r l).symm).trans (du0_at W B X D V inb1 inb2 inb3 inb4 r l)
  · unfold tap back
    rw [zero_add]
    split_ifs with h h1 h1
    · refine (first2 _ r l).trans ((dif_pos h1).trans ((ld_at (e := .f32) X inb3 (by norm_num) _ l).trans ?_))
      refine Eq.trans ?_ (rows_of X (r := r.val - 2) (by omega) l).symm
      exact congrArg (fun x => X (ix2 x l)) (Fin.ext (by dsimp only; omega))
    · exact (first2 _ r l).trans (dif_neg h1)
    · rename_i h2
      refine (first1 _ r l).trans ((dif_pos h2).trans ((ld_at (e := .f32) X inb2 (by norm_num) _ l).trans ?_))
      refine Eq.trans ?_ (rows_of X (r := r.val - 1) (by omega) l).symm
      exact congrArg (fun x => X (ix2 x l)) (Fin.ext (by dsimp only; omega))
    · rename_i h2
      exact (first1 _ r l).trans (dif_neg h2)
    · refine (same_at _ r l).trans ((ld_at (e := .f32) X inb1 (by norm_num) r l).trans ?_)
      refine Eq.trans ?_ (rows_of X (r := r.val) (by omega) l).symm
      exact congrArg (fun x => X (ix2 x l)) (Fin.ext (by dsimp only; omega))

theorem db_at (hab : a = b + 8) (ha : a + 256 ≤ 2048) (k : Fin 1) (l : Fin 512) :
    (dbT (uC W B X inb1 inb2 inb3) (gC D V inb4) (ix2 k l) : EReal) = ∑ r : Fin 256, duN W B X D V (a + r.val) l := by
  rw [dbT_at]
  exact Finset.sum_congr rfl fun r _ => ((duT_at _ _ r l).trans (duS_at _ _ r l).symm).trans (du_at W B X D V inb1 inb2 inb3 inb4 hab ha r l)

theorem db0_at (inb1 inb2 inb3) (inb4 : ∀ i : Fin 2, (![0, 0] : Fin 2 → ℕ) i + (![256, 1024] : Fin 2 → ℕ) i ≤ S2048x1024.size i) (k : Fin 1) (l : Fin 512) :
    (db0T (uC0 W B X inb1 inb2 inb3) (gC D V inb4) (ix2 k l) : EReal) = ∑ r : Fin 256, duN W B X D V (0 + r.val) l := by
  rw [db0T_at, dbT_at]
  exact Finset.sum_congr rfl fun r _ => ((duT_at _ _ r l).trans (duS_at _ _ r l).symm).trans (du0_at W B X D V inb1 inb2 inb3 inb4 r l)

/-! ### The gradient's store, chunk after chunk -/

/-- One chunk's rows in the store of the convolution's result's gradient. -/
def duP (inb : ∀ i : Fin 2, (![a, 0] : Fin 2 → ℕ) i + (![256, 512] : Fin 2 → ℕ) i ≤ S2056x512.size i) : View.Piece (Elt 𝕀) S2056x512 .f32 :=
  ⟨Rect.unit (s := S2056x512) ![a, 0] ![256, 512] inb, duS (uC W B X inb1 inb2 inb3) (gC D V inb4)⟩

/-- The store after the first chunk: its rows, and the zeros after the last row. -/
def duL0 : List (View.Piece (Elt 𝕀) S2056x512 .f32) :=
  [⟨Rect.unit (s := S2056x512) ![0, 0] ![256, 512] inb_S2056x512_S256x512_0_0,
      duS (uC0 W B X inb_S2048x512_S256x512_0_0 inb_S2048x512_S256x512_0_0 inb_S2048x512_S256x512_0_0) (gC D V inb_S2048x1024_S256x1024_0_0)⟩,
    ⟨Rect.unit (s := S2056x512) ![2048, 0] ![8, 512] inb_S2056x512_S8x512_2048_0, k0_pay11 (F := 𝕀)⟩]

theorem duL0_known : Known (duN W B X D V) (duL0 W B X D V) 256 :=
  Known.step (a := 0) rfl (Known.pad (by norm_num) fun r l => (pay11_at r l).trans (if_neg (by omega)).symm)
    (du0_at W B X D V _ _ _ _)

/-- After chunk 2. -/
def duL1 : List (View.Piece (Elt 𝕀) S2056x512 .f32) :=
  duP W B X D V inb_S2048x512_S256x512_256_0 inb_S2048x512_S264x512_248_0 inb_S2048x512_S264x512_248_0 inb_S2048x1024_S256x1024_256_0 inb_S2056x512_S256x512_256_0 :: duL0 W B X D V

theorem duL1_known : Known (duN W B X D V) (duL1 W B X D V) 512 :=
  Known.step (a := 256) rfl (duL0_known W B X D V) (du_at W B X D V _ _ _ _ rfl (by norm_num))

/-- After chunk 3. -/
def duL2 : List (View.Piece (Elt 𝕀) S2056x512 .f32) :=
  duP W B X D V inb_S2048x512_S256x512_512_0 inb_S2048x512_S264x512_504_0 inb_S2048x512_S264x512_504_0 inb_S2048x1024_S256x1024_512_0 inb_S2056x512_S256x512_512_0 :: duL1 W B X D V

theorem duL2_known : Known (duN W B X D V) (duL2 W B X D V) 768 :=
  Known.step (a := 512) rfl (duL1_known W B X D V) (du_at W B X D V _ _ _ _ rfl (by norm_num))

/-- After chunk 4. -/
def duL3 : List (View.Piece (Elt 𝕀) S2056x512 .f32) :=
  duP W B X D V inb_S2048x512_S256x512_768_0 inb_S2048x512_S264x512_760_0 inb_S2048x512_S264x512_760_0 inb_S2048x1024_S256x1024_768_0 inb_S2056x512_S256x512_768_0 :: duL2 W B X D V

theorem duL3_known : Known (duN W B X D V) (duL3 W B X D V) 1024 :=
  Known.step (a := 768) rfl (duL2_known W B X D V) (du_at W B X D V _ _ _ _ rfl (by norm_num))

/-- After chunk 5. -/
def duL4 : List (View.Piece (Elt 𝕀) S2056x512 .f32) :=
  duP W B X D V inb_S2048x512_S256x512_1024_0 inb_S2048x512_S264x512_1016_0 inb_S2048x512_S264x512_1016_0 inb_S2048x1024_S256x1024_1024_0 inb_S2056x512_S256x512_1024_0 :: duL3 W B X D V

theorem duL4_known : Known (duN W B X D V) (duL4 W B X D V) 1280 :=
  Known.step (a := 1024) rfl (duL3_known W B X D V) (du_at W B X D V _ _ _ _ rfl (by norm_num))

/-- After chunk 6. -/
def duL5 : List (View.Piece (Elt 𝕀) S2056x512 .f32) :=
  duP W B X D V inb_S2048x512_S256x512_1280_0 inb_S2048x512_S264x512_1272_0 inb_S2048x512_S264x512_1272_0 inb_S2048x1024_S256x1024_1280_0 inb_S2056x512_S256x512_1280_0 :: duL4 W B X D V

theorem duL5_known : Known (duN W B X D V) (duL5 W B X D V) 1536 :=
  Known.step (a := 1280) rfl (duL4_known W B X D V) (du_at W B X D V _ _ _ _ rfl (by norm_num))

/-- After chunk 7. -/
def duL6 : List (View.Piece (Elt 𝕀) S2056x512 .f32) :=
  duP W B X D V inb_S2048x512_S256x512_1536_0 inb_S2048x512_S264x512_1528_0 inb_S2048x512_S264x512_1528_0 inb_S2048x1024_S256x1024_1536_0 inb_S2056x512_S256x512_1536_0 :: duL5 W B X D V

theorem duL6_known : Known (duN W B X D V) (duL6 W B X D V) 1792 :=
  Known.step (a := 1536) rfl (duL5_known W B X D V) (du_at W B X D V _ _ _ _ rfl (by norm_num))

/-- After chunk 8. -/
def duL7 : List (View.Piece (Elt 𝕀) S2056x512 .f32) :=
  duP W B X D V inb_S2048x512_S256x512_1792_0 inb_S2048x512_S264x512_1784_0 inb_S2048x512_S264x512_1784_0 inb_S2048x1024_S256x1024_1792_0 inb_S2056x512_S256x512_1792_0 :: duL6 W B X D V

theorem duL7_known : Known (duN W B X D V) (duL7 W B X D V) 2048 :=
  Known.step (a := 1792) rfl (duL6_known W B X D V) (du_at W B X D V _ _ _ _ rfl (by norm_num))

variable {L : List (View.Piece (Elt 𝕀) S2056x512 .f32)} {z : ℕ} (hL : Known (duN W B X D V) L z) (v : View KernelFfnIdeal.sig .tc .vmem S2056x512 .f32)
  (inb5 : ∀ i : Fin 2, (![a, 0] : Fin 2 → ℕ) i + (![264, 512] : Fin 2 → ℕ) i ≤ S2056x512.size i) (hP : ∀ r < 264, a + r < z ∨ 2048 ≤ a + r)
include hL hP

/-- A chunk's rows of the convolution's argument's gradient, from the store. -/
theorem dupT_of (r : Fin 256) (l : Fin 512) :
    (dupT W (v.readCov L (Rect.unit (s := S2056x512) ![a, 0] ![264, 512] inb5).toLoadRect) (ix2 r l) : EReal) = dupN W B X D V (a + r.val) l := by
  rw [dupT_at]
  exact congrArg₂ _ (congrArg₂ _ (congrArg _ (hL.load v inb5 hP _ l)) (congrArg _ (hL.load v inb5 hP _ l))) (congrArg _ (hL.load v inb5 hP _ l))

theorem dup_at (r : Fin 256) (l : Fin 512) :
    (dupS W (v.readCov L (Rect.unit (s := S2056x512) ![a, 0] ![264, 512] inb5).toLoadRect) (ix2 r l) : EReal) = dupN W B X D V (a + r.val) l :=
  (dupS_at _ _ r l).trans (dupT_of W B X D V hL v inb5 hP r l)

/-- A chunk's rows of the input's gradient. -/
theorem dh_at (WP : FVec 𝕀 ⟨2, ![512, 1024]⟩ .bf16) (P : FVec 𝕀 ⟨2, ![2048, 1024]⟩ .f32) (ha : a + 256 ≤ 2048)
    (inb6 : ∀ i : Fin 2, (![a, 0] : Fin 2 → ℕ) i + (![256, 1024] : Fin 2 → ℕ) i ≤ S2048x1024.size i) (r : Fin 256) (e : Fin 1024) :
    (dhT W (v.readCov L (Rect.unit (s := S2056x512) ![a, 0] ![264, 512] inb5).toLoadRect) WP
        (View.ld (Val := Elt 𝕀) (e' := .f32) P (Rect.unit (s := S2048x1024) ![a, 0] ![256, 1024] inb6)) (ix2 r e) : EReal)
      = rows P (a + r.val) e + ∑ l : Fin 512, dupN W B X D V (a + r.val) l * WP (ix2 l e) := by
  rw [dhT_at]
  refine congrArg₂ _ ((ld_at (e := .f32) P inb6 ha r e).trans (rows_of P (by omega) e).symm)
    (Finset.sum_congr rfl fun l _ => congrArg (· * (WP (ix2 l e) : EReal)) (dupT_of W B X D V hL v inb5 hP r l))

end

end Cert.KernelFfnIdeal.Value

end
-- ==== Proof.FfnOuts.lean ====
/- One grid point of the gated layer's backward call: what it returns. -/
module

public import proofs.«01_k».proof.Proof.FfnPoint

@[expose] public section

set_option maxRecDepth 16384

noncomputable section

namespace Cert.KernelFfnIdeal.Value

open Idealize.ShloMosaic Idealize.ShloMosaic.TcCoe Idealize.SL.Sem
open Idealize.ShloMosaic.Pipeline (Dat)
open Cert.KernelFfnIdeal Cert.KernelFfnIdeal.Gen
open Cert.Ffn

local notation "𝕀" => Idealize.ShloMosaic.Ideal

/-! ### The last products -/

theorem gd_at (A : FVec 𝕀 ⟨2, ![2048, 256]⟩ .bf16) (D : FVec 𝕀 ⟨2, ![2048, 1024]⟩ .bf16) (c : Fin 256) (e : Fin 1024) :
    (k0_pay2 (F := 𝕀) (k0_pay188 A D) (ix2 c e) : EReal) = ∑ r : Fin 2048, A (ix2 r c) * D (ix2 r e) := by
  pointwise [k0_pay2, k0_pay188]

theorem gup_lo (A : FVec 𝕀 ⟨2, ![2048, 512]⟩ .bf16) (H : FVec 𝕀 ⟨2, ![2048, 1024]⟩ .bf16) (u : Fin 1) (q : Fin 256) (e : Fin 1024) :
    (k0_pay190 (F := 𝕀) A H (ix3 u q e) : EReal) = ∑ r : Fin 2048, A (ix2 r ⟨q.val, by omega⟩) * H (ix2 r e) := by
  pointwise [k0_pay190, k0_pay187]

theorem gup_hi (A : FVec 𝕀 ⟨2, ![2048, 512]⟩ .bf16) (H : FVec 𝕀 ⟨2, ![2048, 1024]⟩ .bf16) (u : Fin 1) (q : Fin 256) (e : Fin 1024) :
    (k0_pay1 (F := 𝕀) (k0_pay189 A H) (ix3 u q e) : EReal) = ∑ r : Fin 2048, A (ix2 r ⟨256 + q.val, by omega⟩) * H (ix2 r e) := by
  pointwise [k0_pay1, k0_pay189, k0_pay187]

theorem lo3_at (A : FVec 𝕀 ⟨2, ![3, 512]⟩ .f32) (k : Fin 3) (q : Fin 256) : (k0_pay3 (F := 𝕀) A (ix2 k q) : EReal) = A (ix2 k ⟨q.val, by omega⟩) := by
  pointwise [k0_pay3]

theorem hi3_at (A : FVec 𝕀 ⟨2, ![3, 512]⟩ .f32) (k : Fin 3) (q : Fin 256) : (k0_pay4 (F := 𝕀) A (ix2 k q) : EReal) = A (ix2 k ⟨256 + q.val, by omega⟩) := by
  pointwise [k0_pay4]

theorem lo1_at (A : FVec 𝕀 ⟨2, ![1, 512]⟩ .f32) (k : Fin 1) (q : Fin 256) : (k0_pay5 (F := 𝕀) A (ix2 k q) : EReal) = A (ix2 k ⟨q.val, by omega⟩) := by
  obtain rfl := Subsingleton.elim k 0
  pointwise [k0_pay5]

theorem hi1_at (A : FVec 𝕀 ⟨2, ![1, 512]⟩ .f32) (k : Fin 1) (q : Fin 256) : (k0_pay6 (F := 𝕀) A (ix2 k q) : EReal) = A (ix2 k ⟨256 + q.val, by omega⟩) := by
  obtain rfl := Subsingleton.elim k 0
  pointwise [k0_pay6]

theorem add3_at {A C : FVec 𝕀 ⟨2, ![3, 512]⟩ .f32} {j} {a b : EReal} (hA : A j = a) (hC : C j = b) : (k0_pay49 (F := 𝕀) A C j : EReal) = a + b := by
  rw [← hA, ← hC]; rfl

theorem add1_at {A C : FVec 𝕀 ⟨2, ![1, 512]⟩ .f32} {j} {a b : EReal} (hA : A j = a) (hC : C j = b) : (k0_pay50 (F := 𝕀) A C j : EReal) = a + b := by
  rw [← hA, ← hC]; rfl

/-- A sum over the rows, chunk by chunk. -/
theorem sum8 (f : ℕ → EReal) :
    ∑ r : Fin 2048, f r.val = (((((((∑ x : Fin 256, f (0 + x.val)) + ∑ x : Fin 256, f (256 + x.val)) + ∑ x : Fin 256, f (512 + x.val))
      + ∑ x : Fin 256, f (768 + x.val)) + ∑ x : Fin 256, f (1024 + x.val)) + ∑ x : Fin 256, f (1280 + x.val)) + ∑ x : Fin 256, f (1536 + x.val))
      + ∑ x : Fin 256, f (1792 + x.val) := by
  refine (Fin.sum_univ_tiles 8 256 (by norm_num) (fun r : Fin 2048 => f r.val)).trans ?_
  rw [Fin.sum_univ_eight]
  rfl

/-- A row that is known. -/
theorem Known.get {N C : ℕ} {e : EltTy} (f : ℕ → Fin C → Elt 𝕀 e) {L : List (View.Piece (Elt 𝕀) ⟨2, ![N, C]⟩ e)} {z : ℕ} (h : Known f L z)
    (j : Fin N) (l : Fin C) (hj : j.val < z ∨ 2048 ≤ j.val) : View.canon L (ix2 j l) = f j.val l := h j l hj

/-- Before any row. -/
theorem Known.none {N C : ℕ} {e : EltTy} (f : ℕ → Fin C → Elt 𝕀 e) (L : List (View.Piece (Elt 𝕀) ⟨2, ![N, C]⟩ e)) (h : N ≤ 2048) : Known f L 0 :=
  fun j _ hj => by have := j.isLt; omega

theorem mem_halves {a Q E : ℕ} (inb : ∀ i : Fin 3, (![a, 0, 0] : Fin 3 → ℕ) i + (![1, Q, E] : Fin 3 → ℕ) i ≤ (⟨3, ![2, Q, E]⟩ : Shape).size i) (p : Fin 2) (q : Fin Q)
    (e : Fin E) (h : p.val = a) :
    (ix3 p q e : (⟨3, ![2, Q, E]⟩ : Shape).Idx) = (Rect.unit (s := ⟨3, ![2, Q, E]⟩) ![a, 0, 0] ![1, Q, E] inb).emb (ix3 (0 : Fin 1) q e) := by
  refine funext fun i => Fin.ext ?_
  refine Eq.trans ?_ (Rect.idx_unit_val _ _ inb _ _).symm
  fin_cases i <;> simp [ix3] <;> omega

/-- A list of two halves along the first axis. -/
theorem canon_halves {Q E : ℕ} (inb0 : ∀ i : Fin 3, (![0, 0, 0] : Fin 3 → ℕ) i + (![1, Q, E] : Fin 3 → ℕ) i ≤ (⟨3, ![2, Q, E]⟩ : Shape).size i)
    (inb1 : ∀ i : Fin 3, (![1, 0, 0] : Fin 3 → ℕ) i + (![1, Q, E] : Fin 3 → ℕ) i ≤ (⟨3, ![2, Q, E]⟩ : Shape).size i)
    (w0 w1 : FVec 𝕀 ⟨3, ![1, Q, E]⟩ .bf16) (p : Fin 2) (q : Fin Q) (e : Fin E) :
    (View.canon (Val := Elt 𝕀) (e := .bf16) [⟨Rect.unit (s := ⟨3, ![2, Q, E]⟩) ![1, 0, 0] ![1, Q, E] inb1, w1⟩,
        ⟨Rect.unit (s := ⟨3, ![2, Q, E]⟩) ![0, 0, 0] ![1, Q, E] inb0, w0⟩] (ix3 p q e) : EReal)
      = if p.val = 0 then (w0 (ix3 0 q e) : EReal) else w1 (ix3 0 q e) := by
  by_cases h : p.val = 0
  · rw [if_pos h]
    refine (View.canon_cons_of_not_mem _ _ fun hm => ?_).trans ?_
    · have h2 : (ix3 p q e : (⟨3, ![2, Q, E]⟩ : Shape).Idx) ∈ (Rect.unit (s := ⟨3, ![2, Q, E]⟩) ![1, 0, 0] ![1, Q, E] inb1).set := hm
      have h3 : 1 ≤ p.val ∧ p.val < 1 + 1 := Rect.mem_set_unit.mp h2 0
      omega
    · rw [mem_halves inb0 p q e h]
      exact View.canon_cons_emb (Val := Elt 𝕀) (e := .bf16) (Rect.unit (s := ⟨3, ![2, Q, E]⟩) ![0, 0, 0] ![1, Q, E] inb0) w0 _ _
  · rw [if_neg h, mem_halves inb1 p q e (by omega)]
    exact View.canon_cons_emb (Val := Elt 𝕀) (e := .bf16) (Rect.unit (s := ⟨3, ![2, Q, E]⟩) ![1, 0, 0] ![1, Q, E] inb1) w1 _ _

/-! ### What a grid point returns -/

section
variable (m : (ℓ : Loc nD τ sig) → Buf (Elt 𝕀) ℓ) (c : Dev nD) (t : Fin cfg0.N)

/-- The convolution's weights of one grid point. -/
def wB : FVec 𝕀 ⟨2, ![3, 512]⟩ .f32 := k0_pay8 (F := 𝕀) (iblk m c 4 t) (iblk m c 5 t)

/-- Its bias. -/
def bB : FVec 𝕀 ⟨2, ![1, 512]⟩ .f32 := k0_pay9 (F := 𝕀) (iblk m c 6 t) (iblk m c 7 t)

/-- Its weights of the projection up. -/
def pB : FVec 𝕀 ⟨2, ![512, 1024]⟩ .bf16 := k0_pay10 (F := 𝕀) (iblk m c 2 t) (iblk m c 3 t)

/-- Its gradient to the convolution's result. -/
def duB : ℕ → Fin 512 → EReal := duN (wB m c t) (bB m c t) (iblk m c 1 t) (iblk m c 8 t) (iblk m c 9 t)

/-- Its gradient to the convolution's argument. -/
def dupB : ℕ → Fin 512 → EReal := dupN (wB m c t) (bB m c t) (iblk m c 1 t) (iblk m c 8 t) (iblk m c 9 t)

theorem outs12 (q : Fin 256) (e : Fin 1024) :
    ((outsAt0 m c t.val t.isLt).2.2.1 (ix2 q e) : EReal)
      = ∑ r : Fin 2048, actN (wB m c t) (bB m c t) (iblk m c 1 t) r.val q * rows (φ := .bf16) (iblk m c 8 t) r.val e := by
  by_cases h : t.val % 11 = 0
  on_goal 1 => rw [outsAt0_A m c t h]
  on_goal 2 => rw [outsAt0_B m c t h]
  all_goals
    (frame_open
     simp (disch := decide) only [↓ View.readCov_skip, ↓ View.readCov_cons_toLoadRect, ↓ View.readCov_fill]
     frame_out)
    refine (gd_at _ _ q e).trans (Finset.sum_congr rfl fun r _ => congrArg₂ _ ?_ (rows_of (φ := .bf16) _ r.isLt e).symm)
    refine (Known.load (f := actN (wB m c t) (bB m c t) (iblk m c 1 t)) (z := 2048) ?_ _ _ (fun r hr => Or.inl (by omega)) r q).trans (by rw [zero_add])
    refine .step (by rfl) (.step (by rfl) (.step (by rfl) (.step (by rfl) (.step (by rfl) (.step (by rfl) (.step (by rfl) (.step (by rfl) (.nil _ le_rfl)
      (by exact act0_at _ _ _ _ _ _))
      (by exact act_at (a := 256) (b := 248) _ _ _ _ _ _ rfl (by norm_num)))
      (by exact act_at (a := 512) (b := 504) _ _ _ _ _ _ rfl (by norm_num)))
      (by exact act_at (a := 768) (b := 760) _ _ _ _ _ _ rfl (by norm_num)))
      (by exact act_at (a := 1024) (b := 1016) _ _ _ _ _ _ rfl (by norm_num)))
      (by exact act_at (a := 1280) (b := 1272) _ _ _ _ _ _ rfl (by norm_num)))
      (by exact act_at (a := 1536) (b := 1528) _ _ _ _ _ _ rfl (by norm_num)))
      (by exact act_at (a := 1792) (b := 1784) _ _ _ _ _ _ rfl (by norm_num))

theorem outs13 (k : Fin 3) (q : Fin 256) :
    ((outsAt0 m c t.val t.isLt).2.2.2.1 (ix2 k q) : EReal)
        = ∑ r : Fin 2048, duB m c t r.val ⟨q.val, by omega⟩ * tap (iblk m c 1 t) k r.val ⟨q.val, by omega⟩ ∧
      ((outsAt0 m c t.val t.isLt).2.2.2.2.1 (ix2 k q) : EReal)
        = ∑ r : Fin 2048, duB m c t r.val ⟨256 + q.val, by omega⟩ * tap (iblk m c 1 t) k r.val ⟨256 + q.val, by omega⟩ := by
  by_cases h : t.val % 11 = 0
  on_goal 1 => rw [outsAt0_A m c t h]
  on_goal 2 => rw [outsAt0_B m c t h]
  all_goals
    refine ⟨?_, ?_⟩
    all_goals
      frame_open
      simp (disch := decide) only [↓ View.readCov_skip, ↓ View.readCov_cons_toLoadRect, ↓ View.readCov_fill]
      frame_out
    on_goal 1 => refine (lo3_at _ k q).trans (Eq.trans ?_ (sum8 (fun r => duB m c t r _ * tap (iblk m c 1 t) k r _)).symm)
    on_goal 2 => refine (hi3_at _ k q).trans (Eq.trans ?_ (sum8 (fun r => duB m c t r _ * tap (iblk m c 1 t) k r _)).symm)
    all_goals
      refine add3_at ?_ ?h2
      case h2 => exact dw_at (a := 1792) (b := 1784) _ _ _ _ _ _ _ _ _ rfl (by norm_num) k _
      refine add3_at ?_ ?h2
      case h2 => exact dw_at (a := 1536) (b := 1528) _ _ _ _ _ _ _ _ _ rfl (by norm_num) k _
      refine add3_at ?_ ?h2
      case h2 => exact dw_at (a := 1280) (b := 1272) _ _ _ _ _ _ _ _ _ rfl (by norm_num) k _
      refine add3_at ?_ ?h2
      case h2 => exact dw_at (a := 1024) (b := 1016) _ _ _ _ _ _ _ _ _ rfl (by norm_num) k _
      refine add3_at ?_ ?h2
      case h2 => exact dw_at (a := 768) (b := 760) _ _ _ _ _ _ _ _ _ rfl (by norm_num) k _
      refine add3_at ?_ ?h2
      case h2 => exact dw_at (a := 512) (b := 504) _ _ _ _ _ _ _ _ _ rfl (by norm_num) k _
      refine add3_at ?_ ?h2
      case h2 => exact dw_at (a := 256) (b := 248) _ _ _ _ _ _ _ _ _ rfl (by norm_num) k _
      exact dw0_at _ _ _ _ _ _ _ _ _ k _

theorem outs15 (k : Fin 1) (q : Fin 256) :
    ((outsAt0 m c t.val t.isLt).2.2.2.2.2.1 (ix2 k q) : EReal) = ∑ r : Fin 2048, duB m c t r.val ⟨q.val, by omega⟩ ∧
      ((outsAt0 m c t.val t.isLt).2.2.2.2.2.2 (ix2 k q) : EReal) = ∑ r : Fin 2048, duB m c t r.val ⟨256 + q.val, by omega⟩ := by
  by_cases h : t.val % 11 = 0
  on_goal 1 => rw [outsAt0_A m c t h]
  on_goal 2 => rw [outsAt0_B m c t h]
  all_goals
    refine ⟨?_, ?_⟩
    all_goals
      frame_open
      simp (disch := decide) only [↓ View.readCov_skip, ↓ View.readCov_cons_toLoadRect, ↓ View.readCov_fill]
      frame_out
    on_goal 1 => refine (lo1_at _ k q).trans (Eq.trans ?_ (sum8 (fun r => duB m c t r _)).symm)
    on_goal 2 => refine (hi1_at _ k q).trans (Eq.trans ?_ (sum8 (fun r => duB m c t r _)).symm)
    all_goals
      refine add1_at ?_ ?h2
      case h2 => exact db_at (a := 1792) (b := 1784) _ _ _ _ _ _ _ _ _ rfl (by norm_num) k _
      refine add1_at ?_ ?h2
      case h2 => exact db_at (a := 1536) (b := 1528) _ _ _ _ _ _ _ _ _ rfl (by norm_num) k _
      refine add1_at ?_ ?h2
      case h2 => exact db_at (a := 1280) (b := 1272) _ _ _ _ _ _ _ _ _ rfl (by norm_num) k _
      refine add1_at ?_ ?h2
      case h2 => exact db_at (a := 1024) (b := 1016) _ _ _ _ _ _ _ _ _ rfl (by norm_num) k _
      refine add1_at ?_ ?h2
      case h2 => exact db_at (a := 768) (b := 760) _ _ _ _ _ _ _ _ _ rfl (by norm_num) k _
      refine add1_at ?_ ?h2
      case h2 => exact db_at (a := 512) (b := 504) _ _ _ _ _ _ _ _ _ rfl (by norm_num) k _
      refine add1_at ?_ ?h2
      case h2 => exact db_at (a := 256) (b := 248) _ _ _ _ _ _ _ _ _ rfl (by norm_num) k _
      exact db0_at _ _ _ _ _ _ _ _ _ k _

theorem outs11 (p : Fin 2) (q : Fin 256) (e : Fin 1024) :
    ((outsAt0 m c t.val t.isLt).2.1 (ix3 p q e) : EReal)
      = ∑ r : Fin 2048, dupB m c t r.val ⟨256 * p.val + q.val, by omega⟩ * rows (φ := .bf16) (iblk m c 0 t) r.val e := by
  by_cases h : t.val % 11 = 0
  on_goal 1 => rw [outsAt0_A m c t h]
  on_goal 2 => rw [outsAt0_B m c t h]
  all_goals
    (frame_open
     simp (disch := decide) only [↓ View.readCov_skip, ↓ View.readCov_cons_toLoadRect, ↓ View.readCov_fill]
     frame_out)
    refine (canon_halves _ _ _ _ p q e).trans ?_
    have key : ∀ (A : FVec 𝕀 ⟨2, ![2048, 512]⟩ .bf16) (H : FVec 𝕀 ⟨2, ![2048, 1024]⟩ .bf16), (∀ (r : Fin 2048) l, (A (ix2 r l) : EReal) = dupB m c t r.val l) →
        (if p.val = 0 then (k0_pay190 (F := 𝕀) A H (ix3 0 q e) : EReal) else k0_pay1 (F := 𝕀) (k0_pay189 A H) (ix3 0 q e))
          = ∑ r : Fin 2048, dupB m c t r.val ⟨256 * p.val + q.val, by omega⟩ * rows (φ := .bf16) H r.val e := fun A H hA => by
      split_ifs with h0
      · refine (gup_lo A H 0 q e).trans (Finset.sum_congr rfl fun r _ => ?_)
        rw [hA, rows_of H r.isLt]
        exact congrArg (fun x => dupB m c t r.val x * _) (Fin.ext (by dsimp only; omega))
      · refine (gup_hi A H 0 q e).trans (Finset.sum_congr rfl fun r _ => ?_)
        rw [hA, rows_of H r.isLt]
        exact congrArg (fun x => dupB m c t r.val x * _) (Fin.ext (by dsimp only; omega))
    refine key _ _ fun r l => ?_
    refine (Known.load (f := dupB m c t) (z := 2048) ?_ _ _ (fun r hr => Or.inl (by omega)) r l).trans (by rw [zero_add])
    refine .step (by rfl) (.step (by rfl) (.step (by rfl) (.step (by rfl) (.step (by rfl) (.step (by rfl) (.step (by rfl) (.step (by rfl) (.nil _ le_rfl)
      (by exact dup_at _ _ _ _ _ (duL1_known _ _ _ _ _) _ _ (fun r hr => by omega)))
      (by exact dup_at (a := 256) _ _ _ _ _ (duL2_known _ _ _ _ _) _ _ (fun r hr => by omega)))
      (by exact dup_at (a := 512) _ _ _ _ _ (duL3_known _ _ _ _ _) _ _ (fun r hr => by omega)))
      (by exact dup_at (a := 768) _ _ _ _ _ (duL4_known _ _ _ _ _) _ _ (fun r hr => by omega)))
      (by exact dup_at (a := 1024) _ _ _ _ _ (duL5_known _ _ _ _ _) _ _ (fun r hr => by omega)))
      (by exact dup_at (a := 1280) _ _ _ _ _ (duL6_known _ _ _ _ _) _ _ (fun r hr => by omega)))
      (by exact dup_at (a := 1536) _ _ _ _ _ (duL7_known _ _ _ _ _) _ _ (fun r hr => by omega)))
      (by exact dup_at (a := 1792) _ _ _ _ _ (duL7_known _ _ _ _ _) _ _ (fun r hr => by omega))

theorem outs10_A (h : t.val % 11 = 0) (q : Fin 2048) (e : Fin 1024) :
    ((outsAt0 m c t.val t.isLt).1 (ix2 q e) : EReal) = ∑ l : Fin 512, dupB m c t q.val l * pB m c t (ix2 l e) := by
  rw [outsAt0_A m c t h]
  frame_open
  simp (disch := decide) only [↓ View.readCov_skip, ↓ View.readCov_cons_toLoadRect, ↓ View.readCov_fill]
  frame_out
  have z : ∀ j, (k0_pay7 (F := 𝕀) j : EReal) = 0 := fun j => by pointwise [k0_pay7]
  generalize k0_pay7 (F := 𝕀) = P at z ⊢
  refine Eq.trans (b := rows (φ := .f32) P q.val e + ∑ l : Fin 512, dupB m c t q.val l * pB m c t (ix2 l e)) ?_ (by rw [rows_of P q.isLt, z, zero_add])
  refine Known.get (e := .f32) (f := fun r e => rows (φ := .f32) P r e + ∑ l : Fin 512, dupB m c t r l * pB m c t (ix2 l e)) (z := 2048) ?_ q e (Or.inl q.isLt)
  refine .step (by rfl) (.step (by rfl) (.step (by rfl) (.step (by rfl) (.step (by rfl) (.step (by rfl) (.step (by rfl) (.step (by rfl) (.none _ _ le_rfl)
      (by exact dh_at (a := 0) _ _ _ _ _ (duL1_known _ _ _ _ _) _ _ (fun r hr => by omega) _ _ (by norm_num) _))
      (by exact dh_at (a := 256) _ _ _ _ _ (duL2_known _ _ _ _ _) _ _ (fun r hr => by omega) _ _ (by norm_num) _))
      (by exact dh_at (a := 512) _ _ _ _ _ (duL3_known _ _ _ _ _) _ _ (fun r hr => by omega) _ _ (by norm_num) _))
      (by exact dh_at (a := 768) _ _ _ _ _ (duL4_known _ _ _ _ _) _ _ (fun r hr => by omega) _ _ (by norm_num) _))
      (by exact dh_at (a := 1024) _ _ _ _ _ (duL5_known _ _ _ _ _) _ _ (fun r hr => by omega) _ _ (by norm_num) _))
      (by exact dh_at (a := 1280) _ _ _ _ _ (duL6_known _ _ _ _ _) _ _ (fun r hr => by omega) _ _ (by norm_num) _))
      (by exact dh_at (a := 1536) _ _ _ _ _ (duL7_known _ _ _ _ _) _ _ (fun r hr => by omega) _ _ (by norm_num) _))
      (by exact dh_at (a := 1792) _ _ _ _ _ (duL7_known _ _ _ _ _) _ _ (fun r hr => by omega) _ _ (by norm_num) _)

theorem outs10_B (h : ¬ t.val % 11 = 0) (q : Fin 2048) (e : Fin 1024) :
    ((outsAt0 m c t.val t.isLt).1 (ix2 q e) : EReal)
      = (outsAt0 m c (t.val - 1) (by have := t.isLt; omega)).1 (ix2 q e) + ∑ l : Fin 512, dupB m c t q.val l * pB m c t (ix2 l e) := by
  rw [outsAt0_B m c t h]
  generalize outsAt0 m c (t.val - 1) _ = Q
  frame_open
  simp (disch := decide) only [↓ View.readCov_skip, ↓ View.readCov_cons_toLoadRect, ↓ View.readCov_fill]
  frame_out
  refine Eq.trans (b := rows (φ := .f32) Q.1 q.val e + ∑ l : Fin 512, dupB m c t q.val l * pB m c t (ix2 l e)) ?_ (congrArg (· + _) (rows_of _ q.isLt e))
  refine Known.get (e := .f32) (f := fun r e => rows (φ := .f32) Q.1 r e + ∑ l : Fin 512, dupB m c t r l * pB m c t (ix2 l e)) (z := 2048) ?_ q e (Or.inl q.isLt)
  refine .step (by rfl) (.step (by rfl) (.step (by rfl) (.step (by rfl) (.step (by rfl) (.step (by rfl) (.step (by rfl) (.step (by rfl) (.nil _ le_rfl)
      (by exact dh_at (a := 0) _ _ _ _ _ (duL1_known _ _ _ _ _) _ _ (fun r hr => by omega) _ _ (by norm_num) _))
      (by exact dh_at (a := 256) _ _ _ _ _ (duL2_known _ _ _ _ _) _ _ (fun r hr => by omega) _ _ (by norm_num) _))
      (by exact dh_at (a := 512) _ _ _ _ _ (duL3_known _ _ _ _ _) _ _ (fun r hr => by omega) _ _ (by norm_num) _))
      (by exact dh_at (a := 768) _ _ _ _ _ (duL4_known _ _ _ _ _) _ _ (fun r hr => by omega) _ _ (by norm_num) _))
      (by exact dh_at (a := 1024) _ _ _ _ _ (duL5_known _ _ _ _ _) _ _ (fun r hr => by omega) _ _ (by norm_num) _))
      (by exact dh_at (a := 1280) _ _ _ _ _ (duL6_known _ _ _ _ _) _ _ (fun r hr => by omega) _ _ (by norm_num) _))
      (by exact dh_at (a := 1536) _ _ _ _ _ (duL7_known _ _ _ _ _) _ _ (fun r hr => by omega) _ _ (by norm_num) _))
      (by exact dh_at (a := 1792) _ _ _ _ _ (duL7_known _ _ _ _ _) _ _ (fun r hr => by omega) _ _ (by norm_num) _)

end

end Cert.KernelFfnIdeal.Value

end
-- ==== Proof.FfnSpec.lean ====
/- The gated layer's backward call over whole arrays: the functions that both programs compute, and what one grid point has of them. -/
module

public import proofs.«01_k».proof.Proof.FfnOuts
public import Idealize.ShloMosaic.Lib.StableHlo.RunRead
public import Idealize.ShloMosaic.Lib.Pointwise
public import Idealize.ShloMosaic.Lib.Claim

@[expose] public section

set_option maxRecDepth 16384

noncomputable section

namespace Cert.Ffn

open Idealize.ShloMosaic
open Cert.KernelFfnIdeal.Value (back)

section
variable (H D : Fin 2048 → Fin 1024 → EReal) (WU : Fin 1024 → Fin 5632 → EReal) (WC : Fin 3 → Fin 5632 → EReal) (B : Fin 5632 → EReal)
  (WD : Fin 2816 → Fin 1024 → EReal)

/-- The projection up, zero after the last row. -/
def upF (r : ℕ) (ch : Fin 5632) : EReal := if h : r < 2048 then ∑ k, H ⟨r, h⟩ k * WU k ch else 0

/-- The convolution's result. -/
def uF (r : ℕ) (ch : Fin 5632) : EReal :=
  WC 2 ch * upF H WU r ch + WC 1 ch * back 1 (fun r => upF H WU r ch) r + WC 0 ch * back 2 (fun r => upF H WU r ch) r + B ch

/-- The gated product. -/
def actF (r : ℕ) (n : Fin 2816) : EReal := act (uF H WU WC B r ⟨n.val, by omega⟩) (uF H WU WC B r ⟨2816 + n.val, by omega⟩)

/-- Its cotangent. -/
def daF (r : ℕ) (n : Fin 2816) : EReal := if h : r < 2048 then ∑ e, D ⟨r, h⟩ e * WD n e else 0

/-- The gradient to the convolution's result, zero after the last row. -/
def duF (r : ℕ) (ch : Fin 5632) : EReal :=
  if r < 2048 then
    if h : ch.val < 2816 then dGate (daF D WD r ⟨ch.val, h⟩) (uF H WU WC B r ch) (uF H WU WC B r ⟨2816 + ch.val, by omega⟩)
    else dVal (daF D WD r ⟨ch.val - 2816, by omega⟩) (uF H WU WC B r ⟨ch.val - 2816, by omega⟩)
  else 0

/-- The gradient to the convolution's argument. -/
def dupF (r : ℕ) (ch : Fin 5632) : EReal :=
  WC 2 ch * duF H D WU WC B WD r ch + WC 1 ch * duF H D WU WC B WD (r + 1) ch + WC 0 ch * duF H D WU WC B WD (r + 2) ch

/-- What multiplies the gradient in the gradient of the convolution's weight `k`. -/
def tapF (k : Fin 3) (r : ℕ) (ch : Fin 5632) : EReal :=
  if k.val = 0 then back 2 (fun r => upF H WU r ch) r else if k.val = 1 then back 1 (fun r => upF H WU r ch) r else upF H WU r ch

end

/-- Channel `l` of the pairs of the `t`-th block: 256 of the gate's, then 256 of the value's. -/
def chn (t : ℕ) (l : Fin 512) (ht : t < 11 := by omega) : Fin 5632 :=
  if h : l.val < 256 then ⟨256 * t + l.val, by omega⟩ else ⟨2816 + 256 * t + (l.val - 256), by omega⟩

end Cert.Ffn

namespace Cert.KernelFfnIdeal.Value

open Idealize.ShloMosaic Idealize.ShloMosaic.TcCoe Idealize.SL.Sem
open Idealize.ShloMosaic.Pipeline (Dat)
open Cert.KernelFfnIdeal Cert.KernelFfnIdeal.Gen
open Cert.Ffn

local notation "𝕀" => Idealize.ShloMosaic.Ideal

section
variable (m : (ℓ : Loc nD τ sig) → Buf (Elt 𝕀) ℓ) (c : Dev nD)

abbrev AH : FVec 𝕀 S2048x1024 .f32 := m ((c, main_arg0) : Loc nD τ sig)
abbrev AD : FVec 𝕀 S2048x1024 .f32 := m ((c, main_arg1) : Loc nD τ sig)
abbrev AU : FVec 𝕀 S1024x5632 .f32 := m ((c, main_arg2) : Loc nD τ sig)
abbrev AC : FVec 𝕀 S3x5632 .f32 := m ((c, main_arg3) : Loc nD τ sig)
abbrev AB : FVec 𝕀 S1x5632 .f32 := m ((c, main_arg4) : Loc nD τ sig)
abbrev AW : FVec 𝕀 S2816x1024 .f32 := m ((c, main_arg5) : Loc nD τ sig)

/-- The arguments as functions of their coordinates. -/
def fH (r : Fin 2048) (k : Fin 1024) : EReal := AH m c (ix2 r k)
def fD (r : Fin 2048) (k : Fin 1024) : EReal := AD m c (ix2 r k)
def fU (k : Fin 1024) (ch : Fin 5632) : EReal := AU m c (ix2 k ch)
def fC (k : Fin 3) (ch : Fin 5632) : EReal := AC m c (ix2 k ch)
def fB (ch : Fin 5632) : EReal := AB m c (ix2 0 ch)
def fW (n : Fin 2816) (e : Fin 1024) : EReal := AW m c (ix2 n e)

theorem host6 (r : Fin 2048) (j : Fin 5632) :
    ((V m c main_v6 : FVec 𝕀 S2048x5632 .f32) (ix2 r j) : EReal) = ∑ k, fH m c r k * fU m c k ⟨j.val / 256 % 2 * 2816 + j.val / 512 * 256 + j.val % 256, by omega⟩ := by
  unfold V
  after_reads_simp
  pointwise [fH, fU]

theorem host0 (r : Fin 2048) (j : Fin 1024) : ((V m c main_v0 : FVec 𝕀 S2048x1024 .bf16) (ix2 r j) : EReal) = fH m c r j := by
  unfold V
  after_reads_simp
  pointwise [fH]

theorem host7 (r : Fin 2048) (j : Fin 1024) : ((V m c main_v7 : FVec 𝕀 S2048x1024 .bf16) (ix2 r j) : EReal) = fD m c r j := by
  unfold V
  after_reads_simp
  pointwise [fD]

theorem host8 (n : Fin 2816) (j : Fin 1024) : ((V m c main_v8 : FVec 𝕀 S2816x1024 .bf16) (ix2 n j) : EReal) = fW m c n j := by
  unfold V
  after_reads_simp
  pointwise [fW]

theorem host2 (ch : Fin 5632) (j : Fin 1024) : ((V m c main_v2 : FVec 𝕀 S5632x1024 .bf16) (ix2 ch j) : EReal) = fU m c j ch := by
  unfold V
  after_reads_simp
  pointwise [fU]

/-! ### The windows' blocks -/

section
variable (t : Fin cfg0.N)

theorem idx : win0_0.index t = ![0, 0] ∧ win0_1.index t = ![0, t.val] ∧ win0_2.index t = ![t.val, 0] ∧ win0_3.index t = ![t.val + 11, 0]
    ∧ win0_4.index t = ![0, t.val] ∧ win0_5.index t = ![0, t.val + 11] ∧ win0_6.index t = ![0, t.val] ∧ win0_7.index t = ![0, t.val + 11]
    ∧ win0_8.index t = ![0, 0] ∧ win0_9.index t = ![t.val, 0] ∧ win0_10.index t = ![0, 0] ∧ win0_11.index t = ![0, t.val, 0]
    ∧ win0_12.index t = ![t.val, 0] ∧ win0_13.index t = ![0, t.val] ∧ win0_14.index t = ![0, t.val] ∧ win0_15.index t = ![0, t.val]
    ∧ win0_16.index t = ![0, t.val] :=
  (by decide +kernel : ∀ t : Fin grid0.N, win0_0.index t = ![0, 0] ∧ win0_1.index t = ![0, t.val] ∧ win0_2.index t = ![t.val, 0] ∧ win0_3.index t = ![t.val + 11, 0]
    ∧ win0_4.index t = ![0, t.val] ∧ win0_5.index t = ![0, t.val + 11] ∧ win0_6.index t = ![0, t.val] ∧ win0_7.index t = ![0, t.val + 11]
    ∧ win0_8.index t = ![0, 0] ∧ win0_9.index t = ![t.val, 0] ∧ win0_10.index t = ![0, 0] ∧ win0_11.index t = ![0, t.val, 0]
    ∧ win0_12.index t = ![t.val, 0] ∧ win0_13.index t = ![0, t.val] ∧ win0_14.index t = ![0, t.val] ∧ win0_15.index t = ![0, t.val]
    ∧ win0_16.index t = ![0, t.val]) t

theorem lt11 : t.val < 11 := by have := t.isLt; have h : cfg0.N = 11 := N_0; omega

theorem blk0 (r : Fin 2048) (l : Fin 1024) : (iblk m c 0 t (ix2 r l) : EReal) = (V m c main_v0 : FVec 𝕀 S2048x1024 .bf16) (ix2 r l) := by
  blk_point [iblk, idx t]

theorem blk1 (r : Fin 2048) (l : Fin 512) :
    (iblk m c 1 t (ix2 r l) : EReal) = (V m c main_v6 : FVec 𝕀 S2048x5632 .f32) (ix2 r ⟨t.val * 512 + l.val, by have := lt11 t; omega⟩) := by
  blk_point [iblk, idx t]

theorem blk2 (l : Fin 256) (e : Fin 1024) :
    (iblk m c 2 t (ix2 l e) : EReal) = (V m c main_v2 : FVec 𝕀 S5632x1024 .bf16) (ix2 ⟨t.val * 256 + l.val, by have := lt11 t; omega⟩ e) := by
  blk_point [iblk, idx t]

theorem blk3 (l : Fin 256) (e : Fin 1024) :
    (iblk m c 3 t (ix2 l e) : EReal) = (V m c main_v2 : FVec 𝕀 S5632x1024 .bf16) (ix2 ⟨(t.val + 11) * 256 + l.val, by have := lt11 t; omega⟩ e) := by
  blk_point [iblk, idx t]

theorem blk4 (k : Fin 3) (l : Fin 256) : (iblk m c 4 t (ix2 k l) : EReal) = AC m c (ix2 k ⟨t.val * 256 + l.val, by have := lt11 t; omega⟩) := by
  blk_point [iblk, V, idx t]

theorem blk5 (k : Fin 3) (l : Fin 256) : (iblk m c 5 t (ix2 k l) : EReal) = AC m c (ix2 k ⟨(t.val + 11) * 256 + l.val, by have := lt11 t; omega⟩) := by
  blk_point [iblk, V, idx t]

theorem blk6 (k : Fin 1) (l : Fin 256) : (iblk m c 6 t (ix2 k l) : EReal) = AB m c (ix2 0 ⟨t.val * 256 + l.val, by have := lt11 t; omega⟩) := by
  blk_point [iblk, V, idx t]

theorem blk7 (k : Fin 1) (l : Fin 256) : (iblk m c 7 t (ix2 k l) : EReal) = AB m c (ix2 0 ⟨(t.val + 11) * 256 + l.val, by have := lt11 t; omega⟩) := by
  blk_point [iblk, V, idx t]

theorem blk8 (r : Fin 2048) (l : Fin 1024) : (iblk m c 8 t (ix2 r l) : EReal) = (V m c main_v7 : FVec 𝕀 S2048x1024 .bf16) (ix2 r l) := by
  blk_point [iblk, idx t]

theorem blk9 (n : Fin 256) (l : Fin 1024) :
    (iblk m c 9 t (ix2 n l) : EReal) = (V m c main_v8 : FVec 𝕀 S2816x1024 .bf16) (ix2 ⟨t.val * 256 + n.val, by have := lt11 t; omega⟩ l) := by
  blk_point [iblk, idx t]

/-! ### A grid point's operands and stages, by channel -/

theorem pay8_at (A C : FVec 𝕀 ⟨2, ![3, 256]⟩ .f32) (k : Fin 3) (l : Fin 512) :
    (k0_pay8 (F := 𝕀) A C (ix2 k l) : EReal) = if h : l.val < 256 then A (ix2 k ⟨l.val, h⟩) else C (ix2 k ⟨l.val - 256, by omega⟩) := by
  pointwise [k0_pay8]

theorem pay9_at (A C : FVec 𝕀 ⟨2, ![1, 256]⟩ .f32) (k : Fin 1) (l : Fin 512) :
    (k0_pay9 (F := 𝕀) A C (ix2 k l) : EReal) = if h : l.val < 256 then A (ix2 k ⟨l.val, h⟩) else C (ix2 k ⟨l.val - 256, by omega⟩) := by
  obtain rfl := Subsingleton.elim k 0
  pointwise [k0_pay9]

theorem pay10_at (A C : FVec 𝕀 ⟨2, ![256, 1024]⟩ .bf16) (l : Fin 512) (e : Fin 1024) :
    (k0_pay10 (F := 𝕀) A C (ix2 l e) : EReal) = if h : l.val < 256 then A (ix2 ⟨l.val, h⟩ e) else C (ix2 ⟨l.val - 256, by omega⟩ e) := by
  pointwise [k0_pay10]

theorem wB_at (k : Fin 3) (l : Fin 512) : (wB m c t (ix2 k l) : EReal) = fC m c k (chn t.val l (lt11 t)) := by
  unfold wB fC chn
  refine (pay8_at _ _ k l).trans ?_
  split_ifs
  · exact (blk4 m c t k _).trans (congrArg (fun x => AC m c (ix2 k x)) (Fin.ext (by dsimp only; omega)))
  · exact (blk5 m c t k _).trans (congrArg (fun x => AC m c (ix2 k x)) (Fin.ext (by dsimp only; omega)))

theorem bB_at (l : Fin 512) : (bB m c t (ix2 0 l) : EReal) = fB m c (chn t.val l (lt11 t)) := by
  unfold bB fB chn
  refine (pay9_at _ _ 0 l).trans ?_
  split_ifs
  · exact (blk6 m c t 0 _).trans (congrArg (fun x => AB m c (ix2 0 x)) (Fin.ext (by dsimp only; omega)))
  · exact (blk7 m c t 0 _).trans (congrArg (fun x => AB m c (ix2 0 x)) (Fin.ext (by dsimp only; omega)))

theorem pB_at (l : Fin 512) (e : Fin 1024) : (pB m c t (ix2 l e) : EReal) = fU m c e (chn t.val l (lt11 t)) := by
  unfold pB chn
  refine (pay10_at _ _ l e).trans ?_
  split_ifs
  · exact ((blk2 m c t _ e).trans (host2 m c _ e)).trans (congrArg (fU m c e) (Fin.ext (by dsimp only; omega)))
  · exact ((blk3 m c t _ e).trans (host2 m c _ e)).trans (congrArg (fU m c e) (Fin.ext (by dsimp only; omega)))

theorem x_at (r : ℕ) (l : Fin 512) : rows (φ := .f32) (iblk m c 1 t) r l = upF (fH m c) (fU m c) r (chn t.val l (lt11 t)) := by
  unfold rows upF
  split_ifs with hr
  · refine ((blk1 m c t _ l).trans (host6 m c _ _)).trans ?_
    have key : ∀ x y : Fin 5632, x = y → (∑ k, fH m c ⟨r, hr⟩ k * fU m c k x) = ∑ k, fH m c ⟨r, hr⟩ k * fU m c k y := fun x y e => by rw [e]
    refine key _ _ (Fin.ext ?_)
    unfold chn
    have := lt11 t
    split_ifs <;> dsimp only <;> omega
  · rfl

theorem h_at (r : Fin 2048) (e : Fin 1024) : rows (φ := .bf16) (iblk m c 0 t) r.val e = fH m c r e :=
  (rows_of (φ := .bf16) _ r.isLt e).trans ((blk0 m c t r e).trans (host0 m c r e))

theorem d_at (r : Fin 2048) (e : Fin 1024) : (iblk m c 8 t (ix2 r e) : EReal) = fD m c r e := (blk8 m c t r e).trans (host7 m c r e)

theorem u_at (r : ℕ) (l : Fin 512) : uN (wB m c t) (bB m c t) (iblk m c 1 t) r l = uF (fH m c) (fU m c) (fC m c) (fB m c) r (chn t.val l (lt11 t)) := by
  unfold uN uF
  simp only [x_at, wB_at, bB_at]

theorem actN_at (r : ℕ) (q : Fin 256) :
    actN (wB m c t) (bB m c t) (iblk m c 1 t) r q = actF (fH m c) (fU m c) (fC m c) (fB m c) r ⟨t.val * 256 + q.val, by have := lt11 t; omega⟩ := by
  unfold actN actF
  rw [u_at, u_at]
  refine congrArg₂ (fun x y => act (uF _ _ _ _ r x) (uF _ _ _ _ r y)) (Fin.ext ?_) (Fin.ext ?_)
  · unfold chn; rw [dif_pos q.isLt]; dsimp only; omega
  · unfold chn; rw [dif_neg (by dsimp only; omega)]; dsimp only; omega

theorem daN_at (r : ℕ) (q : Fin 256) :
    daN (iblk m c 8 t) (iblk m c 9 t) r q = daF (fD m c) (fW m c) r ⟨t.val * 256 + q.val, by have := lt11 t; omega⟩ := by
  unfold daN daF
  split_ifs with hr
  · exact Finset.sum_congr rfl fun e _ => congrArg₂ _ (d_at m c t _ e) ((blk9 m c t q e).trans (host8 m c _ e))
  · rfl

theorem duB_at (r : ℕ) (l : Fin 512) : duB m c t r l = duF (fH m c) (fD m c) (fU m c) (fC m c) (fB m c) (fW m c) r (chn t.val l (lt11 t)) := by
  unfold duB duN duF duC
  have ht := lt11 t
  by_cases hr : r < 2048
  · rw [if_pos hr, if_pos hr]
    by_cases hl : l.val < 256
    · have e1 : chn t.val l (lt11 t) = ⟨256 * t.val + l.val, by omega⟩ := dif_pos hl
      rw [dif_pos hl, e1, dif_pos (by dsimp only; omega), daN_at, u_at, u_at, e1]
      refine congrArg₂ (fun x y => dGate (daF _ _ r x) (uF _ _ _ _ r _) (uF _ _ _ _ r y)) (Fin.ext (by dsimp only; omega)) (Fin.ext ?_)
      unfold chn; rw [dif_neg (by dsimp only; omega)]; dsimp only; omega
    · have e1 : chn t.val l (lt11 t) = ⟨2816 + 256 * t.val + (l.val - 256), by omega⟩ := dif_neg hl
      rw [dif_neg hl, e1, dif_neg (by dsimp only; omega), daN_at, u_at]
      refine congrArg₂ (fun x y => dVal (daF _ _ r x) (uF _ _ _ _ r y)) (Fin.ext (by dsimp only; omega)) (Fin.ext ?_)
      unfold chn; rw [dif_pos (by dsimp only; omega)]; dsimp only; omega
  · rw [if_neg hr, if_neg hr]

theorem dupB_at (r : ℕ) (l : Fin 512) : dupB m c t r l = dupF (fH m c) (fD m c) (fU m c) (fC m c) (fB m c) (fW m c) r (chn t.val l (lt11 t)) := by
  have e1 : dupB m c t r l = wB m c t (ix2 2 l) * duB m c t r l + wB m c t (ix2 1 l) * duB m c t (r + 1) l + wB m c t (ix2 0 l) * duB m c t (r + 2) l := rfl
  rw [e1]
  simp only [duB_at, wB_at]
  rfl

theorem tap_at (k : Fin 3) (r : ℕ) (l : Fin 512) : tap (iblk m c 1 t) k r l = tapF (fH m c) (fU m c) k r (chn t.val l (lt11 t)) := by
  unfold tap tapF
  simp only [x_at]

end

end

end Cert.KernelFfnIdeal.Value

end
-- ==== Proof.FfnRef.lean ====
/- The gated layer's gradient, in the reference: its stages at one element. -/
module

public import proofs.«01_k».proof.Proof.FfnSpec
public import proofs.«01_k».proof.Proof.Gen.ReferenceFfnIdeal.Read

@[expose] public section

set_option maxRecDepth 16384

noncomputable section

namespace Cert.ReferenceFfnIdeal

open Idealize.ShloMosaic
open Cert.KernelFfnIdeal.Value (back)
open Cert.Ffn

local notation "𝕀" => Idealize.ShloMosaic.Ideal

/-- The gate's gradient as the reference writes it. -/
theorem gate_eq (a g v : ℝ) :
    (a : EReal) * v * sigm g + (g : EReal) * ((a : EReal) * v) * (sigm g * (1 - sigm g)) = dGate a g v := by
  have hs : sigm g = ((1 / (1 + Real.exp (-g)) : ℝ) : EReal) := by
    unfold sigm
    rw [← EReal.coe_neg, Ideal.exp_coe, ← EReal.coe_one, ← EReal.coe_add, Ideal.div_coe (by positivity)]
    norm_num
  unfold dGate
  rw [hs]
  norm_cast
  ring

section
variable (h : FVec 𝕀 S2048x1024 .f32) (d : FVec 𝕀 S2048x1024 .f32) (wu : FVec 𝕀 S1024x5632 .f32) (wc : FVec 𝕀 S3x5632 .f32) (b : FVec 𝕀 S1x5632 .f32)
  (wd : FVec 𝕀 S2816x1024 .f32)

/-- The arguments as functions of their coordinates. -/
def gH (r : Fin 2048) (k : Fin 1024) : EReal := h (ix2 r k)
def gU (k : Fin 1024) (ch : Fin 5632) : EReal := wu (ix2 k ch)
def gC (k : Fin 3) (ch : Fin 5632) : EReal := wc (ix2 k ch)
def gB (ch : Fin 5632) : EReal := b (ix2 0 ch)
def gW (n : Fin 2816) (e : Fin 1024) : EReal := wd (ix2 n e)

theorem ref_v3 (r : Fin 2050) (ch : Fin 5632) : (Read.val_main_v3 (F := 𝕀) h wu (ix2 r ch) : EReal) = back 2 (fun r => upF (gH h) (gU wu) r ch) r.val := by
  pointwise [Read.val_main_v0, Read.val_main_v1, Read.val_main_v2, Read.val_main_v3, Read.val_main_cst]
  unfold back
  by_cases h1 : r.val < 2
  · rw [dif_pos h1, if_neg (by omega)]
  · rw [dif_neg h1]
    refine Eq.trans (b := upF (gH h) (gU wu) (r.val - 2) ch) ?_ (if_pos (show 2 ≤ r.val by omega)).symm
    unfold upF
    rw [dif_pos (show r.val - 2 < 2048 by omega)]
    rfl

theorem ref_v27 (r : Fin 2048) (ch : Fin 5632) : (Read.val_main_v27 (F := 𝕀) h wu wc b (ix2 r ch) : EReal) = uF (gH h) (gU wu) (gC wc) (gB b) r.val ch := by
  pointwise [Read.val_main_v1, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_v24, Read.val_main_v25, Read.val_main_v26, Read.val_main_v27]
  simp only [ref_v3]
  unfold uF
  simp only [back, gC, gB]
  rw [if_pos (show 2 ≤ 2 + r.val by omega), show 1 + r.val - 2 = r.val - 1 by omega, show 2 + r.val - 2 = r.val by omega]
  have e4 : (if 2 ≤ 1 + r.val then upF (gH h) (gU wu) (r.val - 1) ch else 0) = if 1 ≤ r.val then upF (gH h) (gU wu) (r.val - 1) ch else 0 :=
    if_congr (by omega) rfl rfl
  rw [e4]
  simp only [mul_comm _ (wc _ : EReal)]
  abel

theorem ref_v30_2 (r : Fin 2048) (n : Fin 2816) :
    (Read.val_main_v30_2 (F := 𝕀) h wu wc b (ix2 r n) : EReal) = sigm (uF (gH h) (gU wu) (gC wc) (gB b) r.val ⟨n.val, by omega⟩) := by
  pointwise [Read.val_main_v28, Read.val_main_v29, Read.val_main_call0_v0, Read.val_main_call0_v1, Read.val_main_call0_cst, Read.val_main_call0_v2, Read.val_main_call0_v3, Read.val_main_call0_cst_0, Read.val_main_call0_v4, Read.val_main_v30_2]
  simp only [ref_v27]
  rfl

theorem ref_v30_0 (r : Fin 2048) (n : Fin 2816) :
    (Read.val_main_v30_0 (F := 𝕀) h wu wc b (ix2 r n) : EReal)
      = uF (gH h) (gU wu) (gC wc) (gB b) r.val ⟨n.val, by omega⟩ * sigm (uF (gH h) (gU wu) (gC wc) (gB b) r.val ⟨n.val, by omega⟩) := by
  pointwise [Read.val_main_v28, Read.val_main_v30_0]
  simp only [ref_v27, ref_v30_2]

theorem ref_v31 (r : Fin 2048) (n : Fin 2816) : (Read.val_main_v31 (F := 𝕀) h wu wc b (ix2 r n) : EReal) = actF (gH h) (gU wu) (gC wc) (gB b) r.val n := by
  pointwise [Read.val_main_v29, Read.val_main_v31]
  simp only [ref_v27, ref_v30_0]
  rfl

theorem ref_v35 (r : Fin 2048) (n : Fin 2816) : (Read.val_main_v35 (F := 𝕀) d wd (ix2 r n) : EReal) = daF (gH d) (gW wd) r.val n := by
  pointwise [Read.val_main_v35]
  unfold daF
  rw [dif_pos r.isLt]
  rfl

theorem ref_v36 (r : Fin 2048) (n : Fin 2816) : (Read.val_main_v36 (F := 𝕀) h d wu wc b wd (ix2 r n) : EReal)
    = dVal (daF (gH d) (gW wd) r.val n) (uF (gH h) (gU wu) (gC wc) (gB b) r.val ⟨n.val, by omega⟩) := by
  pointwise [Read.val_main_v36]
  simp only [ref_v35, ref_v30_0]
  exact mul_comm _ _

theorem ref_v38 (r : Fin 2048) (n : Fin 2816) : (Read.val_main_v38 (F := 𝕀) h d wu wc b wd (ix2 r n) : EReal)
    = daF (gH d) (gW wd) r.val n * uF (gH h) (gU wu) (gC wc) (gB b) r.val ⟨2816 + n.val, by omega⟩ * sigm (uF (gH h) (gU wu) (gC wc) (gB b) r.val ⟨n.val, by omega⟩)
      + uF (gH h) (gU wu) (gC wc) (gB b) r.val ⟨n.val, by omega⟩ * (daF (gH d) (gW wd) r.val n * uF (gH h) (gU wu) (gC wc) (gB b) r.val ⟨2816 + n.val, by omega⟩)
        * (sigm (uF (gH h) (gU wu) (gC wc) (gB b) r.val ⟨n.val, by omega⟩) * (1 - sigm (uF (gH h) (gU wu) (gC wc) (gB b) r.val ⟨n.val, by omega⟩))) := by
  pointwise [Read.val_main_v28, Read.val_main_v29, Read.val_main_v37, Read.val_main_v38, Read.val_main_call1_v0, Read.val_main_call1_v1, Read.val_main_call1_v2, Read.val_main_v30_1, Read.val_main_call0_v7, Read.val_main_call0_v6, Read.val_main_call0_cst_1]
  simp only [ref_v27, ref_v35, ref_v30_2]

variable (hda : ∀ r n, ∃ x : ℝ, daF (gH d) (gW wd) r n = x) (hu : ∀ r ch, ∃ x : ℝ, uF (gH h) (gU wu) (gC wc) (gB b) r ch = x)

include hda hu in
theorem ref_v39 (r : Fin 2048) (ch : Fin 5632) : (Read.val_main_v39 (F := 𝕀) h d wu wc b wd (ix2 r ch) : EReal) = duF (gH h) (gH d) (gU wu) (gC wc) (gB b) (gW wd) r.val ch := by
  pointwise [Read.val_main_v39]
  simp only [ref_v38, ref_v36]
  unfold duF
  rw [if_pos r.isLt]
  by_cases h1 : ch.val < 2816
  rw [dif_pos h1, dif_pos h1]
  · obtain ⟨a, ha⟩ := hda r.val ⟨ch.val, h1⟩
    obtain ⟨g, hg⟩ := hu r.val ⟨ch.val, by omega⟩
    obtain ⟨v, hv⟩ := hu r.val ⟨2816 + ch.val, by omega⟩
    have hg' : uF (gH h) (gU wu) (gC wc) (gB b) r.val ch = (g : EReal) := hg
    rw [ha, hv, hg]
    exact gate_eq a g v
  · rw [dif_neg h1, dif_neg h1]

include hda hu in
theorem ref_v75 (r : Fin 2048) (ch : Fin 5632) : (Read.val_main_v75 (F := 𝕀) h d wu wc b wd (ix2 r ch) : EReal) = dupF (gH h) (gH d) (gU wu) (gC wc) (gB b) (gW wd) r.val ch := by
  pointwise [Read.val_main_v75, Read.val_main_v73, Read.val_main_v72, Read.val_main_v59, Read.val_main_v58, Read.val_main_v48, Read.val_main_v67, Read.val_main_v66, Read.val_main_v8, Read.val_main_v7, Read.val_main_v6, Read.val_main_v53, Read.val_main_v52, Read.val_main_v17, Read.val_main_v16, Read.val_main_v15, Read.val_main_v44, Read.val_main_v43, Read.val_main_v24, Read.val_main_v23, Read.val_main_v22, Read.val_main_cst_4, Read.val_main_cst_8, Read.val_main_cst_14]
  simp only [ref_v39 h d wu wc b wd hda hu]
  unfold dupF gC
  have o1 : (if h1 : 1 ≤ 2 + r.val ∧ 2 + r.val - 1 < 2048 then duF (gH h) (gH d) (gU wu) (gC wc) (gB b) (gW wd) (2 + r.val - 1) ch * wc (ix2 1 ch) else 0)
      = wc (ix2 1 ch) * duF (gH h) (gH d) (gU wu) (gC wc) (gB b) (gW wd) (r.val + 1) ch := by
    have e : 2 + r.val - 1 = r.val + 1 := by omega
    rw [e]
    split_ifs with h1
    · exact mul_comm _ _
    · rw [show duF (gH h) (gH d) (gU wu) (gC wc) (gB b) (gW wd) (r.val + 1) ch = 0 from if_neg (by omega), mul_zero]
  have o2 : (if h1 : 2 + r.val < 2048 then duF (gH h) (gH d) (gU wu) (gC wc) (gB b) (gW wd) (2 + r.val) ch * wc (ix2 0 ch) else 0)
      = wc (ix2 0 ch) * duF (gH h) (gH d) (gU wu) (gC wc) (gB b) (gW wd) (r.val + 2) ch := by
    rw [Nat.add_comm 2 r.val]
    split_ifs with h1
    · exact mul_comm _ _
    · rw [show duF (gH h) (gH d) (gU wu) (gC wc) (gB b) (gW wd) (r.val + 2) ch = 0 from if_neg (by omega), mul_zero]
  exact congrArg₂ _ (congrArg₂ _ (mul_comm _ _) o1) o2

include hda hu in
theorem ref_v71 (k : Fin 3) (ch : Fin 5632) : (Read.val_main_v71 (F := 𝕀) h d wu wc b wd (ix2 k ch) : EReal)
    = ∑ r : Fin 2048, duF (gH h) (gH d) (gU wu) (gC wc) (gB b) (gW wd) r.val ch * tapF (gH h) (gU wu) k r.val ch := by
  pointwise [Read.val_main_v71, Read.val_main_v70, Read.val_main_v69, Read.val_main_v68, Read.val_main_v65, Read.val_main_v64, Read.val_main_v63, Read.val_main_v57, Read.val_main_v56, Read.val_main_v55, Read.val_main_v54, Read.val_main_v51, Read.val_main_v50, Read.val_main_v49, Read.val_main_v47, Read.val_main_v46, Read.val_main_v45, Read.val_main_v42, Read.val_main_v41, Read.val_main_v40, Read.val_main_v21, Read.val_main_v14, Read.val_main_v5, Read.val_main_cst_1, Read.val_main_cst_2, Read.val_main_cst_3, Read.val_main_cst_5, Read.val_main_cst_6, Read.val_main_cst_7, Read.val_main_cst_11, Read.val_main_cst_12, Read.val_main_cst_13]
  simp only [ref_v39 h d wu wc b wd hda hu, ref_v3]
  simp only [Fin.sum_univ_one]
  have e0 : ∀ x y z : EReal, x = 0 → y = 0 → x + y + z = z := fun x y z hx hy => by rw [hx, hy, zero_add, zero_add]
  have e1 : ∀ x y z : EReal, x = 0 → z = 0 → x + y + z = y := fun x y z hx hy => by rw [hx, hy, zero_add, add_zero]
  have e2 : ∀ x y z : EReal, y = 0 → z = 0 → x + y + z = x := fun x y z hx hy => by rw [hx, hy, add_zero, add_zero]
  have em : ∀ x y z : EReal, x = z → x * y = y * z := fun x y z h => by rw [h, mul_comm]
  have hk := k.isLt
  by_cases k0 : k.val = 0
  · refine (e0 _ _ _ (dif_neg (by omega)) (dif_neg (by omega))).trans ((dif_pos (by omega)).trans (Finset.sum_congr rfl fun r _ => em _ _ _ ?_))
    exact (if_pos k0).symm
  · by_cases k1 : k.val = 1
    · refine (e1 _ _ _ (dif_neg (by omega)) (dif_neg (by omega))).trans ((dif_pos (by omega)).trans (Finset.sum_congr rfl fun r _ => em _ _ _ ?_))
      refine Eq.trans ?_ ((if_neg k0).trans (if_pos k1)).symm
      unfold back
      rw [show 1 + r.val - 2 = r.val - 1 by omega]
      exact if_congr (by omega) rfl rfl
    · refine (e2 _ _ _ (dif_neg (by omega)) (dif_neg (by omega))).trans ((dif_pos (by omega)).trans (Finset.sum_congr rfl fun r _ => em _ _ _ ?_))
      refine Eq.trans ?_ ((if_neg k0).trans (if_neg k1)).symm
      unfold back
      rw [if_pos (by omega), show 2 + r.val - 2 = r.val by omega]

include hda hu in
theorem ref_v76 (k : Fin 1) (ch : Fin 5632) : (Read.val_main_v76 (F := 𝕀) h d wu wc b wd (ix2 k ch) : EReal) = ∑ r : Fin 2048, duF (gH h) (gH d) (gU wu) (gC wc) (gB b) (gW wd) r.val ch := by
  pointwise [Read.val_main_v76, Read.val_main_v62, Read.val_main_v61, Read.val_main_v60, Read.val_main_cst_9, Read.val_main_cst_10]
  simp only [ref_v39 h d wu wc b wd hda hu]
  exact Fin.sum_univ_one _

include hda hu in
theorem ref_v79 (r : Fin 2048) (e : Fin 1024) : (Read.val_main_v79 (F := 𝕀) h d wu wc b wd (ix2 r e) : EReal)
    = ∑ ch : Fin 5632, dupF (gH h) (gH d) (gU wu) (gC wc) (gB b) (gW wd) r.val ch * gU wu e ch := by
  pointwise [Read.val_main_v79]
  simp only [ref_v75 h d wu wc b wd hda hu]
  rfl

include hda hu in
theorem ref_v82 (p : Fin 2) (q : Fin 2816) (e : Fin 1024) : (Read.val_main_v82 (F := 𝕀) h d wu wc b wd (ix3 p q e) : EReal)
    = ∑ r : Fin 2048, dupF (gH h) (gH d) (gU wu) (gC wc) (gB b) (gW wd) r.val ⟨2816 * p.val + q.val, by omega⟩ * gH h r e := by
  pointwise [Read.val_main_v82, Read.val_main_v81, Read.val_main_v80, Read.val_main_v78, Read.val_main_v77]
  simp only [ref_v75 h d wu wc b wd hda hu]
  have e : (⟨p.val * 2816 + q.val, by omega⟩ : Fin 5632) = ⟨2816 * p.val + q.val, by omega⟩ := Fin.ext (by dsimp only; omega)
  rw [e]
  rfl

theorem ref_v83 (n : Fin 2816) (e : Fin 1024) : (Read.val_main_v83 (F := 𝕀) h d wu wc b (ix2 n e) : EReal)
    = ∑ r : Fin 2048, actF (gH h) (gU wu) (gC wc) (gB b) r.val n * gH d r e := by
  pointwise [Read.val_main_v83, Read.val_main_v34, Read.val_main_v33]
  simp only [ref_v31]
  exact Finset.sum_congr rfl fun r _ => mul_comm _ _

include hda hu in
theorem ref_v84 (k : Fin 3) (q : Fin 2816) : (Read.val_main_v84 (F := 𝕀) h d wu wc b wd (ix2 k q) : EReal)
    = ∑ r : Fin 2048, duF (gH h) (gH d) (gU wu) (gC wc) (gB b) (gW wd) r.val ⟨q.val, by omega⟩ * tapF (gH h) (gU wu) k r.val ⟨q.val, by omega⟩ := by
  pointwise [Read.val_main_v84]
  simp only [ref_v71 h d wu wc b wd hda hu]

include hda hu in
theorem ref_v85 (k : Fin 3) (q : Fin 2816) : (Read.val_main_v85 (F := 𝕀) h d wu wc b wd (ix2 k q) : EReal)
    = ∑ r : Fin 2048, duF (gH h) (gH d) (gU wu) (gC wc) (gB b) (gW wd) r.val ⟨2816 + q.val, by omega⟩ * tapF (gH h) (gU wu) k r.val ⟨2816 + q.val, by omega⟩ := by
  pointwise [Read.val_main_v85]
  simp only [ref_v71 h d wu wc b wd hda hu]

include hda hu in
theorem ref_v86 (k : Fin 1) (q : Fin 2816) : (Read.val_main_v86 (F := 𝕀) h d wu wc b wd (ix2 k q) : EReal)
    = ∑ r : Fin 2048, duF (gH h) (gH d) (gU wu) (gC wc) (gB b) (gW wd) r.val ⟨q.val, by omega⟩ := by
  pointwise [Read.val_main_v86]
  simp only [ref_v76 h d wu wc b wd hda hu]

include hda hu in
theorem ref_v87 (k : Fin 1) (q : Fin 2816) : (Read.val_main_v87 (F := 𝕀) h d wu wc b wd (ix2 k q) : EReal)
    = ∑ r : Fin 2048, duF (gH h) (gH d) (gU wu) (gC wc) (gB b) (gW wd) r.val ⟨2816 + q.val, by omega⟩ := by
  pointwise [Read.val_main_v87]
  simp only [ref_v76 h d wu wc b wd hda hu]

end

end Cert.ReferenceFfnIdeal

end
-- ==== Proof.Ffn.lean ====
/- The gated layer's backward call: the arrays that the call leaves are those that the reference returns. -/
module

public import proofs.«01_k».proof.Proof.FfnRef

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.Ffn

/-- A finite sum of real numbers is real. -/
theorem sum_real {n : ℕ} (f : Fin n → EReal) (h : ∀ k, ∃ x : ℝ, f k = x) : ∃ x : ℝ, (∑ k, f k) = x := by
  choose x hx using h
  refine ⟨∑ k, x k, ?_⟩
  simp only [hx]
  exact (map_sum (⟨⟨fun r : ℝ => (r : EReal), rfl⟩, fun a b => EReal.coe_add a b⟩ : ℝ →+ EReal) x Finset.univ).symm

theorem mul_real {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem add_real {a b : EReal} (ha : ∃ x : ℝ, a = x) (hb : ∃ x : ℝ, b = x) : ∃ x : ℝ, a + b = x := by
  obtain ⟨x, rfl⟩ := ha
  obtain ⟨y, rfl⟩ := hb
  exact ⟨x + y, (EReal.coe_add x y).symm⟩

/-- Summing the channels of every block is summing all channels. -/
theorem sum_chn (f : Fin 5632 → EReal) : (∑ t : Fin 11, ∑ l : Fin 512, f (chn t.val l t.isLt)) = ∑ ch, f ch := by
  rw [Fin.sum_univ_two_halves 2816 2816 (by norm_num) f, Fin.sum_univ_tiles 11 256 (by norm_num) (fun k : Fin 2816 => f ⟨k.val, by omega⟩),
    Fin.sum_univ_tiles 11 256 (by norm_num) (fun k : Fin 2816 => f ⟨2816 + k.val, by omega⟩), ← Finset.sum_add_distrib]
  refine Finset.sum_congr rfl fun t _ => ?_
  rw [Fin.sum_univ_two_halves 256 256 (by norm_num)]
  have ht := t.isLt
  refine congrArg₂ _ (Finset.sum_congr rfl fun l _ => congrArg f (Fin.ext ?_)) (Finset.sum_congr rfl fun l _ => congrArg f (Fin.ext ?_))
  · unfold chn; rw [dif_pos l.isLt]; dsimp only; omega
  · unfold chn; rw [dif_neg (by dsimp only; omega)]; dsimp only; omega

end Cert.Ffn

namespace Cert.KernelFfnIdeal.Value

open Cert.KernelFfnIdeal Cert.KernelFfnIdeal.Gen Cert.Ffn Cert.ReferenceFfnIdeal

section
variable (m : (ℓ : Loc nD τ sig) → Buf (Elt 𝕀) ℓ) (c : Dev nD)

/-- The arguments are real numbers. -/
structure Real6 : Prop where
  rh : ∀ k, ∃ x : ℝ, (AH m c k : EReal) = x
  rd : ∀ k, ∃ x : ℝ, (AD m c k : EReal) = x
  ru : ∀ k, ∃ x : ℝ, (AU m c k : EReal) = x
  rc : ∀ k, ∃ x : ℝ, (AC m c k : EReal) = x
  rb : ∀ k, ∃ x : ℝ, (AB m c k : EReal) = x
  rw : ∀ k, ∃ x : ℝ, (AW m c k : EReal) = x

variable (F : Real6 m c)
include F

theorem da_real (r : ℕ) (n : Fin 2816) : ∃ x : ℝ, daF (gH (AD m c)) (gW (AW m c)) r n = x := by
  unfold daF
  split_ifs
  · exact sum_real _ fun k => mul_real (F.rd _) (F.rw _)
  · exact ⟨0, rfl⟩

theorem up_real (r : ℕ) (ch : Fin 5632) : ∃ x : ℝ, upF (gH (AH m c)) (gU (AU m c)) r ch = x := by
  unfold upF
  split_ifs
  · exact sum_real _ fun k => mul_real (F.rh _) (F.ru _)
  · exact ⟨0, rfl⟩

theorem back_real (k r : ℕ) (ch : Fin 5632) : ∃ x : ℝ, back k (fun r => upF (gH (AH m c)) (gU (AU m c)) r ch) r = x := by
  unfold back
  split_ifs
  · exact up_real m c F _ _
  · exact ⟨0, rfl⟩

theorem u_real (r : ℕ) (ch : Fin 5632) : ∃ x : ℝ, uF (gH (AH m c)) (gU (AU m c)) (Cert.ReferenceFfnIdeal.gC (AC m c)) (gB (AB m c)) r ch = x :=
  add_real (add_real (add_real (mul_real (F.rc _) (up_real m c F _ _)) (mul_real (F.rc _) (back_real m c F _ _ _))) (mul_real (F.rc _) (back_real m c F _ _ _))) (F.rb _)

variable (t : Fin cfg0.N)

omit F in
theorem chn_lo (q : Fin 256) : chn t.val ⟨q.val, by omega⟩ (lt11 t) = ⟨t.val * 256 + q.val, by have := lt11 t; omega⟩ := by
  unfold chn; rw [dif_pos q.isLt]; exact Fin.ext (by dsimp only; omega)

omit F in
theorem chn_hi (q : Fin 256) : chn t.val ⟨256 + q.val, by omega⟩ (lt11 t) = ⟨2816 + (t.val * 256 + q.val), by have := lt11 t; omega⟩ := by
  unfold chn; rw [dif_neg (by dsimp only; omega)]; exact Fin.ext (by dsimp only; omega)

theorem at12 (q : Fin 256) (e : Fin 1024) : ((outsAt0 m c t.val t.isLt).2.2.1 (ix2 q e) : EReal)
    = Read.val_main_v83 (F := 𝕀) (AH m c) (AD m c) (AU m c) (AC m c) (AB m c) (ix2 ⟨t.val * 256 + q.val, by have := lt11 t; omega⟩ e) := by
  refine (outs12 m c t q e).trans (Eq.trans (Finset.sum_congr rfl fun r _ => ?_) (ref_v83 (AH m c) (AD m c) (AU m c) (AC m c) (AB m c) _ e).symm)
  refine congrArg₂ _ (actN_at m c t r.val q) ((rows_of (φ := .bf16) _ r.isLt e).trans (d_at m c t r e))

theorem at11 (p : Fin 2) (q : Fin 256) (e : Fin 1024) : ((outsAt0 m c t.val t.isLt).2.1 (ix3 p q e) : EReal)
    = Read.val_main_v82 (F := 𝕀) (AH m c) (AD m c) (AU m c) (AC m c) (AB m c) (AW m c) (ix3 p ⟨t.val * 256 + q.val, by have := lt11 t; omega⟩ e) := by
  refine (outs11 m c t p q e).trans (Eq.trans (Finset.sum_congr rfl fun r _ => ?_) (ref_v82 (AH m c) (AD m c) (AU m c) (AC m c) (AB m c) (AW m c) (da_real m c F) (u_real m c F) p _ e).symm)
  refine congrArg₂ _ ((dupB_at m c t r.val _).trans (congrArg (dupF _ _ _ _ _ _ r.val) ?_)) (h_at m c t r e)
  have ht := lt11 t
  have hp := p.isLt
  unfold chn
  split_ifs with hl <;> exact Fin.ext (by dsimp only at hl ⊢; omega)

theorem at13 (k : Fin 3) (q : Fin 256) : ((outsAt0 m c t.val t.isLt).2.2.2.1 (ix2 k q) : EReal)
    = Read.val_main_v84 (F := 𝕀) (AH m c) (AD m c) (AU m c) (AC m c) (AB m c) (AW m c) (ix2 k ⟨t.val * 256 + q.val, by have := lt11 t; omega⟩) := by
  refine ((outs13 m c t k q).1).trans (Eq.trans (Finset.sum_congr rfl fun r _ => ?_) (ref_v84 (AH m c) (AD m c) (AU m c) (AC m c) (AB m c) (AW m c) (da_real m c F) (u_real m c F) k _).symm)
  rw [duB_at, tap_at, chn_lo]
  rfl

theorem at14 (k : Fin 3) (q : Fin 256) : ((outsAt0 m c t.val t.isLt).2.2.2.2.1 (ix2 k q) : EReal)
    = Read.val_main_v85 (F := 𝕀) (AH m c) (AD m c) (AU m c) (AC m c) (AB m c) (AW m c) (ix2 k ⟨t.val * 256 + q.val, by have := lt11 t; omega⟩) := by
  refine ((outs13 m c t k q).2).trans (Eq.trans (Finset.sum_congr rfl fun r _ => ?_) (ref_v85 (AH m c) (AD m c) (AU m c) (AC m c) (AB m c) (AW m c) (da_real m c F) (u_real m c F) k _).symm)
  rw [duB_at, tap_at, chn_hi]
  rfl

theorem at15 (k : Fin 1) (q : Fin 256) : ((outsAt0 m c t.val t.isLt).2.2.2.2.2.1 (ix2 k q) : EReal)
    = Read.val_main_v86 (F := 𝕀) (AH m c) (AD m c) (AU m c) (AC m c) (AB m c) (AW m c) (ix2 k ⟨t.val * 256 + q.val, by have := lt11 t; omega⟩) := by
  refine ((outs15 m c t k q).1).trans (Eq.trans (Finset.sum_congr rfl fun r _ => ?_) (ref_v86 (AH m c) (AD m c) (AU m c) (AC m c) (AB m c) (AW m c) (da_real m c F) (u_real m c F) k _).symm)
  rw [duB_at, chn_lo]
  rfl

theorem at16 (k : Fin 1) (q : Fin 256) : ((outsAt0 m c t.val t.isLt).2.2.2.2.2.2 (ix2 k q) : EReal)
    = Read.val_main_v87 (F := 𝕀) (AH m c) (AD m c) (AU m c) (AC m c) (AB m c) (AW m c) (ix2 k ⟨t.val * 256 + q.val, by have := lt11 t; omega⟩) := by
  refine ((outs15 m c t k q).2).trans (Eq.trans (Finset.sum_congr rfl fun r _ => ?_) (ref_v87 (AH m c) (AD m c) (AU m c) (AC m c) (AB m c) (AW m c) (da_real m c F) (u_real m c F) k _).symm)
  rw [duB_at, chn_hi]
  rfl

omit t

/-- The gradient of the projection down. -/
theorem final12 : (dats m 0 c).arrAt 12 cfg0.N = Read.val_main_v83 (F := 𝕀) (AH m c) (AD m c) (AU m c) (AC m c) (AB m c) := by
  refine (dats m 0 c).arrAt_eq_of_covers 12 _ (by decide +kernel) fun t hf y => ?_
  blk_simp
  rw [after0_12]
  refine (congrArg _ (eq_ix2 (n0 := 256) (n1 := 1024) y)).trans ((at12 m c F t (y 0) (y 1)).trans ?_)
  blk_point [iblk, V, idx t]

/-- The gradient of the convolution's weights, the gate's half. -/
theorem final13 : (dats m 0 c).arrAt 13 cfg0.N = Read.val_main_v84 (F := 𝕀) (AH m c) (AD m c) (AU m c) (AC m c) (AB m c) (AW m c) := by
  refine (dats m 0 c).arrAt_eq_of_covers 13 _ (by decide +kernel) fun t hf y => ?_
  blk_simp
  rw [after0_13]
  refine (congrArg _ (eq_ix2 (n0 := 3) (n1 := 256) y)).trans ((at13 m c F t (y 0) (y 1)).trans ?_)
  blk_point [iblk, V, idx t]

/-- The value's half. -/
theorem final14 : (dats m 0 c).arrAt 14 cfg0.N = Read.val_main_v85 (F := 𝕀) (AH m c) (AD m c) (AU m c) (AC m c) (AB m c) (AW m c) := by
  refine (dats m 0 c).arrAt_eq_of_covers 14 _ (by decide +kernel) fun t hf y => ?_
  blk_simp
  rw [after0_14]
  refine (congrArg _ (eq_ix2 (n0 := 3) (n1 := 256) y)).trans ((at14 m c F t (y 0) (y 1)).trans ?_)
  blk_point [iblk, V, idx t]

/-- The gradient of the convolution's bias, the gate's half. -/
theorem final15 : (dats m 0 c).arrAt 15 cfg0.N = Read.val_main_v86 (F := 𝕀) (AH m c) (AD m c) (AU m c) (AC m c) (AB m c) (AW m c) := by
  refine (dats m 0 c).arrAt_eq_of_covers 15 _ (by decide +kernel) fun t hf y => ?_
  blk_simp
  rw [after0_15]
  refine (congrArg _ (eq_ix2 (n0 := 1) (n1 := 256) y)).trans ((at15 m c F t (y 0) (y 1)).trans ?_)
  blk_point [iblk, V, idx t]

/-- The value's half. -/
theorem final16 : (dats m 0 c).arrAt 16 cfg0.N = Read.val_main_v87 (F := 𝕀) (AH m c) (AD m c) (AU m c) (AC m c) (AB m c) (AW m c) := by
  refine (dats m 0 c).arrAt_eq_of_covers 16 _ (by decide +kernel) fun t hf y => ?_
  blk_simp
  rw [after0_16]
  refine (congrArg _ (eq_ix2 (n0 := 1) (n1 := 256) y)).trans ((at16 m c F t (y 0) (y 1)).trans ?_)
  blk_point [iblk, V, idx t]

/-- The gradient of the projection up. -/
theorem final11 : (dats m 0 c).arrAt 11 cfg0.N = Read.val_main_v82 (F := 𝕀) (AH m c) (AD m c) (AU m c) (AC m c) (AB m c) (AW m c) := by
  refine (dats m 0 c).arrAt_eq_of_covers 11 _ (by decide +kernel) fun t hf y => ?_
  blk_simp
  rw [after0_11]
  refine (congrArg _ (eq_ix3 (n0 := 2) (n1 := 256) (n2 := 1024) y)).trans ((at11 m c F t (y 0) (y 1) (y 2)).trans ?_)
  blk_point [iblk, V, idx t]

/-- The blocks' parts of the input's gradient, summed. -/
theorem dh_sum (q : Fin 2048) (e : Fin 1024) : (∑ p : Fin cfg0.N, ∑ l : Fin 512, dupB m c p q.val l * (pB m c p (ix2 l e) : EReal))
    = Read.val_main_v79 (F := 𝕀) (AH m c) (AD m c) (AU m c) (AC m c) (AB m c) (AW m c) (ix2 q e) := by
  refine Eq.trans ?_ ((sum_chn fun ch => dupF (fH m c) (fD m c) (fU m c) (fC m c) (fB m c) (fW m c) q.val ch * fU m c e ch).trans
    (ref_v79 (AH m c) (AD m c) (AU m c) (AC m c) (AB m c) (AW m c) (da_real m c F) (u_real m c F) q e).symm)
  refine Fin.sum_fin_congr fun p => Finset.sum_congr rfl fun l _ => ?_
  rw [dupB_at, pB_at]

/-- The gradient of the input. -/
theorem final10 : (dats m 0 c).arrAt 10 cfg0.N = Read.val_main_v79 (F := 𝕀) (AH m c) (AD m c) (AU m c) (AC m c) (AB m c) (AW m c) := by
  refine (dats m 0 c).arrAt_eq_of_after_last 10 t0_10 (by decide +kernel) _ fun j => ?_
  blk_simp
  rw [after0_10, Pipeline.eq_sum_fin_of_reset_step_apply_last (f := fun n h => (outsAt0 m c n h).1) 11 (fun _ => 0)
    (fun t j => ∑ l : Fin 512, dupB m c t (j 0).val l * (pB m c t (ix2 l (j 1)) : EReal))
    (fun t h j => ((congrArg _ (eq_ix2 (n0 := 2048) (n1 := 1024) j)).trans (outs10_A m c t h (j 0) (j 1))).trans (zero_add _).symm)
    (fun t h j => ((congrArg _ (eq_ix2 (n0 := 2048) (n1 := 1024) j)).trans (outs10_B m c t h (j 0) (j 1))).trans
      (congrArg (· + _) (congrArg _ (eq_ix2 (n0 := 2048) (n1 := 1024) j).symm))) (le_of_eq N_0) t0_10 rfl j, zero_add]
  exact (dh_sum m c F (j 0) (j 1)).trans (congrArg _ (eq_ix2 (n0 := 2048) (n1 := 1024) _)).symm

end

end Cert.KernelFfnIdeal.Value
-- ==== Proof.FfnClaim.lean ====
/- The gated layer's backward call: the claims. -/
module

public import proofs.«01_k».proof.Defs
public import proofs.«01_k».proof.Proof.Ffn
public import proofs.«01_k».proof.Proof.Gen.KernelFfn.Frame
public import proofs.«01_k».proof.Proof.Gen.ReferenceFfnIdeal.Run
public import proofs.«01_k».proof.Proof.Gen.Pre_finite_ffn
public import proofs.«01_k».proof.Proof.Reads
public import Idealize.ShloMosaic.Lib.Quiescent

@[expose] public section

noncomputable section

namespace Cert.Proof.Ffn

open Idealize.ShloMosaic Idealize.SL.Sem

/-- The reference runs and leaves its arguments. -/
theorem frame_reference : Cert.quiescent_ReferenceFfnIdeal := fun m ρ _ =>
  (θ_run Cert.ReferenceFfnIdeal.defs _ _).mono (fun r h => ⟨fun c => (h c).2.2.2.2.2.2.2, sem_eq_zero_of_no_sems (by decide) r.2⟩)
    (Cert.ReferenceFfnIdeal.Value.run (F := Ideal) m ρ)

/-- What the precondition says of the kernel's arguments. -/
theorem real (m) (hpre : Cert.Pre_KernelFfnIdeal_finite_ffn m) (c : Dev Cert.KernelFfnIdeal.nD) : Cert.KernelFfnIdeal.Value.Real6 m c := by
  have h := congrFun (hpre c) (fun i => i.elim0)
  obtain ⟨h, h5⟩ := Reads.and_one _ _ _ h
  obtain ⟨h, h4⟩ := Reads.and_one _ _ _ h
  obtain ⟨h, h3⟩ := Reads.and_one _ _ _ h
  obtain ⟨h, h2⟩ := Reads.and_one _ _ _ h
  obtain ⟨h0, h1⟩ := Reads.and_one _ _ _ h
  exact ⟨fun k => Reads.real_of_all _ _ _ _ _ _ _ h0 k, fun k => Reads.real_of_all _ _ _ _ _ _ _ h1 k, fun k => Reads.real_of_all _ _ _ _ _ _ _ h2 k, fun k => Reads.real_of_all _ _ _ _ _ _ _ h3 k, fun k => Reads.real_of_all _ _ _ _ _ _ _ h4 k, fun k => Reads.real_of_all _ _ _ _ _ _ _ h5 k⟩

/-- The same of the reference where the precondition is assumed. -/
theorem frame_reference_pre : Cert.quiescent_ReferenceFfnIdeal_pre_finite_ffn := fun m ρ _ => frame_reference m ρ trivial

set_option maxHeartbeats 2000000 in
/-- Kernel and reference compute the same arrays. -/
theorem value : Cert.algebraic_KernelFfnIdeal_ReferenceFfnIdeal_pre_finite_ffn := by
  intro m g m' g' hpre hagree
  refine ⟨_, _, _, _, _, _, _, Cert.KernelFfnIdeal.Value.run_blocks (F := Ideal) m g, ?_⟩
  refine (θ_run Cert.ReferenceFfnIdeal.defs _ _).mono (fun r h c => ?_)
    (Cert.ReferenceFfnIdeal.Value.run (F := Ideal) m' g')
  obtain ⟨h0, h1, h2, h3, h4, h5, h6, hargs⟩ := h c
  refine ⟨h0.trans ((Cert.ReferenceFfnIdeal.Read.val_main_v79_eq ..).trans (by
        rw [(hagree c).1, (hagree c).2.1, (hagree c).2.2.1, (hagree c).2.2.2.1, (hagree c).2.2.2.2.1, (hagree c).2.2.2.2.2]
        exact (Cert.KernelFfnIdeal.Value.final10 m c (real m hpre c)).symm)),
    h1.trans ((Cert.ReferenceFfnIdeal.Read.val_main_v82_eq ..).trans (by
        rw [(hagree c).1, (hagree c).2.1, (hagree c).2.2.1, (hagree c).2.2.2.1, (hagree c).2.2.2.2.1, (hagree c).2.2.2.2.2]
        exact (Cert.KernelFfnIdeal.Value.final11 m c (real m hpre c)).symm)),
    h2.trans ((Cert.ReferenceFfnIdeal.Read.val_main_v83_eq ..).trans (by
        rw [(hagree c).1, (hagree c).2.1, (hagree c).2.2.1, (hagree c).2.2.2.1, (hagree c).2.2.2.2.1]
        exact (Cert.KernelFfnIdeal.Value.final12 m c (real m hpre c)).symm)),
    h3.trans ((Cert.ReferenceFfnIdeal.Read.val_main_v84_eq ..).trans (by
        rw [(hagree c).1, (hagree c).2.1, (hagree c).2.2.1, (hagree c).2.2.2.1, (hagree c).2.2.2.2.1, (hagree c).2.2.2.2.2]
        exact (Cert.KernelFfnIdeal.Value.final13 m c (real m hpre c)).symm)),
    h4.trans ((Cert.ReferenceFfnIdeal.Read.val_main_v85_eq ..).trans (by
        rw [(hagree c).1, (hagree c).2.1, (hagree c).2.2.1, (hagree c).2.2.2.1, (hagree c).2.2.2.2.1, (hagree c).2.2.2.2.2]
        exact (Cert.KernelFfnIdeal.Value.final14 m c (real m hpre c)).symm)),
    h5.trans ((Cert.ReferenceFfnIdeal.Read.val_main_v86_eq ..).trans (by
        rw [(hagree c).1, (hagree c).2.1, (hagree c).2.2.1, (hagree c).2.2.2.1, (hagree c).2.2.2.2.1, (hagree c).2.2.2.2.2]
        exact (Cert.KernelFfnIdeal.Value.final15 m c (real m hpre c)).symm)),
    h6.trans ((Cert.ReferenceFfnIdeal.Read.val_main_v87_eq ..).trans (by
        rw [(hagree c).1, (hagree c).2.1, (hagree c).2.2.1, (hagree c).2.2.2.1, (hagree c).2.2.2.2.1, (hagree c).2.2.2.2.2]
        exact (Cert.KernelFfnIdeal.Value.final16 m c (real m hpre c)).symm)), hargs⟩

end Cert.Proof.Ffn

end
-- ==== Proof.QkRef.lean ====
/- Through the norms and the rotary embedding of the latent attention's heads: what the reference's arrays hold. -/
module

public import proofs.«01_k».proof.Proof.Gen.ReferenceQkIdeal.Read
public import proofs.«01_k».proof.Proof.Reals
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

local notation "𝕀" => Idealize.ShloMosaic.Ideal

namespace Cert.Qk

open Cert.Reals

theorem ofBits_64 : Ideal.ofBits .f32 0x42800000#32 = ((64 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ a : Fin n0, ∑ b : Fin n1, v (ix3 a b l) := by
  refine congrArg (init + ·) ((Finset.sum_filter_eq_sum_of_fiber _ (fun k : Fin n0 × Fin n1 => ix3 k.1 k.2 l)
    (fun _ _ e => Prod.ext (congrFun e 0) (congrFun e 1)) (fun i => ⟨fun e => ⟨(i 0, i 1), ?_⟩, ?_⟩) v).trans (Fintype.sum_prod_type _))
  · have e2 : (i 2).val = l.val := congrArg Fin.val (congrFun e 0)
    refine funext fun a => Fin.ext ?_
    match a with
    | ⟨0, _⟩ => rfl
    | ⟨1, _⟩ => rfl
    | ⟨2, _⟩ => exact e2.symm
  · rintro ⟨k, rfl⟩
    refine funext fun b => Fin.ext ?_
    match b with
    | ⟨0, _⟩ => rfl

theorem sitofp_zero : (FloatOps.sitofp (F := 𝕀) .f32 (0#32 : BitVec 32) : EReal) = 0 := by
  simp [FloatOps.sitofp]

/-- The mean of the squares of `c` lanes, plus the constant. -/
def gvar (c : ℝ) {n : ℕ} (x : Fin n → EReal) : EReal := Ideal.div (∑ k, x k * x k) (c : EReal) + Ideal.ofBits .f32 0x358637BD#32

theorem gvar_pos {c : ℝ} (hc : 0 < c) {n : ℕ} (x : Fin n → EReal) : 0 < gvar c x := meanSq_pos _ _ hc eps_pos

/-- The lanes, normalised. -/
def gn (c : ℝ) {n : ℕ} (x : Fin n → EReal) (l : Fin n) : EReal := x l * Ideal.rsqrt (gvar c x)

/-- Through the norm: `a` is the cotangent of the normalised lanes. -/
def gdx (c : ℝ) {n : ℕ} (x a : Fin n → EReal) (l : Fin n) : EReal :=
  Ideal.rsqrt (gvar c x) * (a l - gn c x l * Ideal.div (∑ k, a k * gn c x k) (c : EReal))

/-- The same as the chain rule writes it. -/
theorem gdx_eq {c : ℝ} (hc : 0 < c) {n : ℕ} (x a : Fin n → EReal) (l : Fin n) : gdx c x a l
    = a l * Ideal.rsqrt (gvar c x) + x l * Ideal.div ((∑ k, x k * a k) * (((-(1 / 2) : ℝ) : EReal) * Ideal.div (Ideal.rsqrt (gvar c x)) (gvar c x))) (c : EReal)
        + Ideal.div ((∑ k, x k * a k) * (((-(1 / 2) : ℝ) : EReal) * Ideal.div (Ideal.rsqrt (gvar c x)) (gvar c x))) (c : EReal) * x l := by
  unfold gdx gn
  exact norm_bwd (gvar_pos hc x) hc.ne' _ _ _ _ (sum_scaled _ _ _ (gvar_pos hc x))

/-- The angle of row `r` at the `k`-th frequency. -/
def ang (p : IVec ⟨2, ![1, 2048]⟩ 32) (r : Fin 2048) (k : ℕ) : EReal :=
  FloatOps.sitofp (F := 𝕀) .f32 (p (ix2 0 r)) * Ideal.pow (Ideal.ofBits .f32 0x461C4000#32)
    (Ideal.div (Ideal.ofBits .f32 0xC0000000#32 * FloatOps.sitofp (F := 𝕀) .f32 (BitVec.ofNat 32 k)) (Ideal.ofBits .f32 0x42000000#32))

/-- Back through the rotation of the 32 lanes `a`. -/
def drot (p : IVec ⟨2, ![1, 2048]⟩ 32) (r : Fin 2048) (a : Fin 32 → EReal) (l : Fin 32) : EReal :=
  if h : l.val < 16 then a l * Ideal.cos (ang p r l.val) + a ⟨l.val + 16, by omega⟩ * Ideal.sin (ang p r l.val)
  else a l * Ideal.cos (ang p r (l.val - 16)) + -(a ⟨l.val - 16, by omega⟩ * Ideal.sin (ang p r (l.val - 16)))

section
variable (y : FVec 𝕀 ⟨2, ![2048, 768]⟩ .f32) (z : FVec 𝕀 ⟨2, ![2048, 1024]⟩ .f32)

/-- The 64 lanes of a head that are not rotated, the 32 that are, and the key's and the value's 64. -/
def nope (r : Fin 2048) (h : Fin 8) (k : Fin 64) : EReal := y (ix2 r ⟨h.val * 96 + k.val, by omega⟩)
def pe (r : Fin 2048) (h : Fin 8) (k : Fin 32) : EReal := y (ix2 r ⟨h.val * 96 + (64 + k.val), by omega⟩)
def key (r : Fin 2048) (h : Fin 8) (k : Fin 64) : EReal := z (ix2 r ⟨h.val * 128 + k.val, by omega⟩)
def vlu (r : Fin 2048) (h : Fin 8) (k : Fin 64) : EReal := z (ix2 r ⟨h.val * 128 + (64 + k.val), by omega⟩)

end

/-- Padding two parts of a head and adding them is picking by the lane. -/
theorem pick96 (j : ℕ) (hj : j < 1024) (A : Fin 64 → EReal) (B : Fin 32 → EReal) {z : EReal} (hz : z = 0) :
    (if h : j / 128 < 8 ∧ j % 128 < 96 then
      (if h1 : j / 128 < 8 ∧ 64 ≤ j % 128 ∧ j % 128 - 64 < 32 then B ⟨j % 128 - 64, h1.2.2⟩ else 0)
        + (if h1 : j / 128 < 8 ∧ j % 128 < 64 then A ⟨j % 128, h1.2⟩ else 0)
      else z) = if h1 : j % 128 < 64 then A ⟨j % 128, h1⟩ else if h2 : j % 128 < 96 then B ⟨j % 128 - 64, by omega⟩ else 0 := by
  subst hz
  by_cases h1 : j % 128 < 64
  · have a : j / 128 < 8 ∧ j % 128 < 96 := by omega
    have b : ¬ (j / 128 < 8 ∧ 64 ≤ j % 128 ∧ j % 128 - 64 < 32) := by omega
    have c : j / 128 < 8 ∧ j % 128 < 64 := by omega
    rw [dif_pos a, dif_neg b, dif_pos c, dif_pos h1, zero_add]
  · by_cases h2 : j % 128 < 96
    · have a : j / 128 < 8 ∧ j % 128 < 96 := by omega
      have b : j / 128 < 8 ∧ 64 ≤ j % 128 ∧ j % 128 - 64 < 32 := by omega
      have c : ¬ (j / 128 < 8 ∧ j % 128 < 64) := by omega
      rw [dif_pos a, dif_pos b, dif_neg c, dif_neg h1, dif_pos h2, add_zero]
    · have a : ¬ (j / 128 < 8 ∧ j % 128 < 96) := by omega
      rw [dif_neg a, dif_neg h1, dif_neg h2]

theorem pick128 (j : ℕ) (hj : j < 1024) (A B : Fin 64 → EReal) :
    (if h1 : j / 128 < 8 ∧ 64 ≤ j % 128 ∧ j % 128 - 64 < 64 then B ⟨j % 128 - 64, h1.2.2⟩ else 0)
      + (if h1 : j / 128 < 8 ∧ j % 128 < 64 then A ⟨j % 128, h1.2⟩ else 0)
      = if h1 : j % 128 < 64 then A ⟨j % 128, h1⟩ else B ⟨j % 128 - 64, by omega⟩ := by
  by_cases h1 : j % 128 < 64
  · have b : ¬ (j / 128 < 8 ∧ 64 ≤ j % 128 ∧ j % 128 - 64 < 64) := by omega
    have c : j / 128 < 8 ∧ j % 128 < 64 := by omega
    rw [dif_neg b, dif_pos c, dif_pos h1, zero_add]
  · have b : j / 128 < 8 ∧ 64 ≤ j % 128 ∧ j % 128 - 64 < 64 := by omega
    have c : ¬ (j / 128 < 8 ∧ j % 128 < 64) := by omega
    rw [dif_pos b, dif_neg c, dif_neg h1, add_zero]

section
variable (x0 : FVec 𝕀 ⟨2, ![2048, 768]⟩ .f32) (x1 : FVec 𝕀 ⟨2, ![2048, 1024]⟩ .f32) (x2 : FVec 𝕀 ⟨2, ![2048, 768]⟩ .f32) (x3 : FVec 𝕀 ⟨2, ![2048, 1024]⟩ .f32)
  (x4 : IVec ⟨2, ![1, 2048]⟩ 32) (x5 : FVec 𝕀 ⟨2, ![1, 64]⟩ .f32) (x6 : FVec 𝕀 ⟨2, ![1, 32]⟩ .f32) (x7 : FVec 𝕀 ⟨2, ![1, 64]⟩ .f32)

/-- The gradient of q: head `h`, lane `l` of its 128. -/
def outQ (r : Fin 2048) (h : Fin 8) (l : Fin 128) : EReal :=
  if h1 : l.val < 64 then gdx 64 (nope x2 r h) (fun k => nope x0 r h k * x5 (ix2 0 k)) ⟨l.val, h1⟩
  else if h2 : l.val < 96 then gdx 32 (pe x2 r h) (fun k => drot x4 r (pe x0 r h) k * x6 (ix2 0 k)) ⟨l.val - 64, by omega⟩ else 0

/-- The gradient of kv. -/
def outK (r : Fin 2048) (h : Fin 8) (l : Fin 128) : EReal :=
  if h1 : l.val < 64 then gdx 64 (key x3 r h) (fun k => key x1 r h k * x7 (ix2 0 k)) ⟨l.val, h1⟩ else vlu x1 r h ⟨l.val - 64, by omega⟩

/-- What row `r` of head `h` adds to the gradients of the gains. -/
def gainQ (r : Fin 2048) (h : Fin 8) (l : Fin 128) : EReal :=
  if h1 : l.val < 64 then nope x0 r h ⟨l.val, h1⟩ * gn 64 (nope x2 r h) ⟨l.val, h1⟩
  else if h2 : l.val < 96 then drot x4 r (pe x0 r h) ⟨l.val - 64, by omega⟩ * gn 32 (pe x2 r h) ⟨l.val - 64, by omega⟩ else 0

def gainK (r : Fin 2048) (h : Fin 8) (l : Fin 128) : EReal :=
  if h1 : l.val < 64 then key x1 r h ⟨l.val, h1⟩ * gn 64 (key x3 r h) ⟨l.val, h1⟩ else 0

end

end Cert.Qk

namespace Cert.ReferenceQkIdeal

open Cert.ReferenceQkIdeal Cert.ReferenceQkIdeal.Gen Cert.Reals Cert.Qk

variable (x0 : FVec 𝕀 S2048x768 .f32) (x1 : FVec 𝕀 S2048x1024 .f32) (x2 : FVec 𝕀 S2048x768 .f32) (x3 : FVec 𝕀 S2048x1024 .f32)
  (x4 : IVec S1x2048 32) (x5 : FVec 𝕀 S1x64 .f32) (x6 : FVec 𝕀 S1x32 .f32) (x7 : FVec 𝕀 S1x64 .f32)

theorem ref_v2 (r : Fin 2048) (h : Fin 8) (l : Fin 64) : Read.val_main_v2 (F := 𝕀) x2 (ix3 r h l) = nope x2 r h l := by
  pointwise [Read.val_main_v1, Read.val_main_v2, nope]

theorem ref_v92 (r : Fin 2048) (h : Fin 8) (l : Fin 64) : Read.val_main_v92 (F := 𝕀) x0 (ix3 r h l) = nope x0 r h l := by
  pointwise [Read.val_main_v88, Read.val_main_v92, nope]

theorem ref_v20 (r : Fin 2048) (h : Fin 8) (l : Fin 32) : Read.val_main_v20 (F := 𝕀) x2 (ix3 r h l) = pe x2 r h l := by
  pointwise [Read.val_main_v1, Read.val_main_v20, pe]

theorem ref_v93 (r : Fin 2048) (h : Fin 8) (l : Fin 32) : Read.val_main_v93 (F := 𝕀) x0 (ix3 r h l) = pe x0 r h l := by
  pointwise [Read.val_main_v88, Read.val_main_v93, pe]

theorem ref_v68 (r : Fin 2048) (h : Fin 8) (l : Fin 64) : Read.val_main_v68 (F := 𝕀) x3 (ix3 r h l) = key x3 r h l := by
  pointwise [Read.val_main_v67, Read.val_main_v68, key]

theorem ref_v89 (r : Fin 2048) (h : Fin 8) (l : Fin 64) : Read.val_main_v89 (F := 𝕀) x1 (ix3 r h l) = key x1 r h l := by
  pointwise [Read.val_main_v0, Read.val_main_v89, key]

theorem ref_v90 (r : Fin 2048) (h : Fin 8) (l : Fin 64) : Read.val_main_v90 (F := 𝕀) x1 (ix3 r h l) = vlu x1 r h l := by
  pointwise [Read.val_main_v0, Read.val_main_v90, vlu]

theorem ref_v10 (r : Fin 2048) (h : Fin 8) (u : Fin 1) : Read.val_main_v10 (F := 𝕀) x2 (ix3 r h u) = gvar 64 (nope x2 r h) := by
  pointwise [Read.val_main_v4, Read.val_main_v5, Read.val_main_v6, Read.val_main_v7, Read.val_main_v8, Read.val_main_v9, Read.val_main_v10, Read.val_main_cst, Read.val_main_cst_0, Read.val_main_cst_1, gvar]
  simp only [ref_v2, ofBits_64]

theorem ref_v28 (r : Fin 2048) (h : Fin 8) (u : Fin 1) : Read.val_main_v28 (F := 𝕀) x2 (ix3 r h u) = gvar 32 (pe x2 r h) := by
  pointwise [Read.val_main_v22, Read.val_main_v23, Read.val_main_v24, Read.val_main_v25, Read.val_main_v26, Read.val_main_v27, Read.val_main_v28, Read.val_main_cst_3, Read.val_main_cst_4, Read.val_main_cst_5, gvar]
  simp only [ref_v20, ofBits_32]

theorem ref_v76 (r : Fin 2048) (h : Fin 8) (u : Fin 1) : Read.val_main_v76 (F := 𝕀) x3 (ix3 r h u) = gvar 64 (key x3 r h) := by
  pointwise [Read.val_main_v70, Read.val_main_v71, Read.val_main_v72, Read.val_main_v73, Read.val_main_v74, Read.val_main_v75, Read.val_main_v76, Read.val_main_cst_10, Read.val_main_cst_11, Read.val_main_cst_12, gvar]
  simp only [ref_v68, ofBits_64]

theorem ref_v16 (r : Fin 2048) (h : Fin 8) (l : Fin 64) : Read.val_main_v16 (F := 𝕀) x2 (ix3 r h l) = gn 64 (nope x2 r h) l := by
  pointwise [Read.val_main_v16, Read.val_main_v15, Read.val_main_v11, gn]
  simp only [ref_v2, ref_v10]

theorem ref_v34 (r : Fin 2048) (h : Fin 8) (l : Fin 32) : Read.val_main_v34 (F := 𝕀) x2 (ix3 r h l) = gn 32 (pe x2 r h) l := by
  pointwise [Read.val_main_v34, Read.val_main_v33, Read.val_main_v29, gn]
  simp only [ref_v20, ref_v28]

theorem ref_v82 (r : Fin 2048) (h : Fin 8) (l : Fin 64) : Read.val_main_v82 (F := 𝕀) x3 (ix3 r h l) = gn 64 (key x3 r h) l := by
  pointwise [Read.val_main_v82, Read.val_main_v81, Read.val_main_v77, gn]
  simp only [ref_v68, ref_v76]

theorem ref_v160 (r : Fin 2048) (h : Fin 8) (l : Fin 64) : Read.val_main_v160 (F := 𝕀) x0 x5 (ix3 r h l) = nope x0 r h l * x5 (ix2 0 l) := by
  pointwise [Read.val_main_v160, Read.val_main_v159, Read.val_main_v17, Read.val_main_v3]
  simp only [ref_v92]

theorem ref_v98 (r : Fin 2048) (h : Fin 8) (l : Fin 64) : Read.val_main_v98 (F := 𝕀) x1 x7 (ix3 r h l) = key x1 r h l * x7 (ix2 0 l) := by
  pointwise [Read.val_main_v98, Read.val_main_v97, Read.val_main_v83, Read.val_main_v69]
  simp only [ref_v89]

theorem ref_v52 (r : Fin 2048) (u : Fin 1) (k : Fin 16) : Read.val_main_v52 (F := 𝕀) x4 (ix3 r u k) = Ideal.cos (ang x4 r k.val) := by
  pointwise [Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_cst_7, Read.val_main_cst_8, Read.val_main_cst_9, ang]

theorem ref_v53 (r : Fin 2048) (u : Fin 1) (k : Fin 16) : Read.val_main_v53 (F := 𝕀) x4 (ix3 r u k) = Ideal.sin (ang x4 r k.val) := by
  pointwise [Read.val_main_v53, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_cst_7, Read.val_main_cst_8, Read.val_main_cst_9, ang]

theorem ref_v133 (r : Fin 2048) (h : Fin 8) (l : Fin 32) : Read.val_main_v133 (F := 𝕀) x0 x4 (ix3 r h l) = drot x4 r (pe x0 r h) l := by
  pointwise [Read.val_main_v133, Read.val_main_v132, Read.val_main_v131, Read.val_main_v130, Read.val_main_v129, Read.val_main_v128, Read.val_main_v127, Read.val_main_v126, Read.val_main_v125, Read.val_main_v124, Read.val_main_v123, Read.val_main_v122, Read.val_main_v121, Read.val_main_v120, Read.val_main_v119, Read.val_main_v118, Read.val_main_cst_21, Read.val_main_cst_22, drot]
  simp only [ref_v93, ref_v52, ref_v53]
  by_cases hl : l.val < 16
  · rw [dif_neg (by omega), dif_pos hl, dif_pos hl, zero_add, add_comm]
    exact congrArg (fun k => pe x0 r h l * Ideal.cos (ang x4 r l.val) + pe x0 r h k * Ideal.sin (ang x4 r l.val)) (Fin.ext (Nat.add_comm _ _))
  · rw [dif_pos (by omega), dif_neg hl, dif_neg hl, add_zero, EReal.neg_mul]
    exact congrArg (fun k => pe x0 r h k * Ideal.cos (ang x4 r (l.val - 16)) + _) (Fin.ext (by dsimp only; omega))

theorem ref_v138 (r : Fin 2048) (h : Fin 8) (l : Fin 32) : Read.val_main_v138 (F := 𝕀) x0 x4 x6 (ix3 r h l) = drot x4 r (pe x0 r h) l * x6 (ix2 0 l) := by
  pointwise [Read.val_main_v138, Read.val_main_v137, Read.val_main_v35, Read.val_main_v21]
  simp only [ref_v133]

/-- The gradient of a head's lanes that are not rotated. -/
theorem ref_v175 (r : Fin 2048) (h : Fin 8) (l : Fin 64) : Read.val_main_v175 (F := 𝕀) x0 x2 x5 (ix3 r h l)
    = gdx 64 (nope x2 r h) (fun k => nope x0 r h k * x5 (ix2 0 k)) l := by
  rw [gdx_eq (by norm_num)]
  pointwise [Read.val_main_v175, Read.val_main_v174, Read.val_main_v173, Read.val_main_v172, Read.val_main_v171, Read.val_main_v170, Read.val_main_v169, Read.val_main_v168, Read.val_main_v167, Read.val_main_v166, Read.val_main_v165, Read.val_main_v164, Read.val_main_v163, Read.val_main_v162, Read.val_main_v14, Read.val_main_v13, Read.val_main_v12, Read.val_main_v11, Read.val_main_cst_2, Read.val_main_cst_31, Read.val_main_cst_32, Read.val_main_cst_33]
  simp only [ref_v160, ref_v10, ref_v2, ofBits_64, ofBits_neg_half, Finset.univ_unique, Finset.sum_singleton]

/-- The gradient of a head's lanes that are rotated. -/
theorem ref_v153 (r : Fin 2048) (h : Fin 8) (l : Fin 32) : Read.val_main_v153 (F := 𝕀) x0 x2 x4 x6 (ix3 r h l)
    = gdx 32 (pe x2 r h) (fun k => drot x4 r (pe x0 r h) k * x6 (ix2 0 k)) l := by
  rw [gdx_eq (by norm_num)]
  pointwise [Read.val_main_v153, Read.val_main_v152, Read.val_main_v151, Read.val_main_v150, Read.val_main_v149, Read.val_main_v148, Read.val_main_v147, Read.val_main_v146, Read.val_main_v145, Read.val_main_v144, Read.val_main_v143, Read.val_main_v142, Read.val_main_v141, Read.val_main_v140, Read.val_main_v32, Read.val_main_v31, Read.val_main_v30, Read.val_main_v29, Read.val_main_cst_6, Read.val_main_cst_25, Read.val_main_cst_26, Read.val_main_cst_27]
  simp only [ref_v138, ref_v28, ref_v20, ofBits_32, ofBits_neg_half, Finset.univ_unique, Finset.sum_singleton]

/-- The gradient of a head's key. -/
theorem ref_v113 (r : Fin 2048) (h : Fin 8) (l : Fin 64) : Read.val_main_v113 (F := 𝕀) x1 x3 x7 (ix3 r h l)
    = gdx 64 (key x3 r h) (fun k => key x1 r h k * x7 (ix2 0 k)) l := by
  rw [gdx_eq (by norm_num)]
  pointwise [Read.val_main_v113, Read.val_main_v112, Read.val_main_v111, Read.val_main_v110, Read.val_main_v109, Read.val_main_v108, Read.val_main_v107, Read.val_main_v106, Read.val_main_v105, Read.val_main_v104, Read.val_main_v103, Read.val_main_v102, Read.val_main_v101, Read.val_main_v100, Read.val_main_v80, Read.val_main_v79, Read.val_main_v78, Read.val_main_v77, Read.val_main_cst_13, Read.val_main_cst_17, Read.val_main_cst_18, Read.val_main_cst_19]
  simp only [ref_v98, ref_v76, ref_v68, ofBits_64, ofBits_neg_half, Finset.univ_unique, Finset.sum_singleton]

theorem ref_v186 (r : Fin 2048) (j : Fin 1024) : (Read.val_main_v186 (F := 𝕀) x0 x2 x4 x5 x6 (ix2 r j) : EReal)
    = outQ x0 x2 x4 x5 x6 r ⟨j.val / 128, by omega⟩ ⟨j.val % 128, by omega⟩ := by
  pointwise [Read.val_main_v186, Read.val_main_v182, Read.val_main_v181, Read.val_main_v180, Read.val_main_v179, Read.val_main_v178, Read.val_main_v177, Read.val_main_v155, Read.val_main_c, Read.val_main_call0_v0, Read.val_main_cst_28, Read.val_main_cst_34, outQ]
  simp only [ref_v175, ref_v153]
  exact pick96 j.val j.isLt (gdx 64 (nope x2 r ⟨j.val / 128, by omega⟩) (fun k => nope x0 r ⟨j.val / 128, by omega⟩ k * x5 (ix2 0 k)))
    (gdx 32 (pe x2 r ⟨j.val / 128, by omega⟩) (fun k => drot x4 r (pe x0 r ⟨j.val / 128, by omega⟩) k * x6 (ix2 0 k))) sitofp_zero

theorem ref_v187 (r : Fin 2048) (j : Fin 1024) : (Read.val_main_v187 (F := 𝕀) x1 x3 x7 (ix2 r j) : EReal)
    = outK x1 x3 x7 r ⟨j.val / 128, by omega⟩ ⟨j.val % 128, by omega⟩ := by
  pointwise [Read.val_main_v187, Read.val_main_v117, Read.val_main_v116, Read.val_main_v115, Read.val_main_v91, Read.val_main_cst_14, Read.val_main_cst_20, outK]
  simp only [ref_v113, ref_v90]
  exact pick128 j.val j.isLt (gdx 64 (key x3 r ⟨j.val / 128, by omega⟩) (fun k => key x1 r ⟨j.val / 128, by omega⟩ k * x7 (ix2 0 k)))
    (vlu x1 r ⟨j.val / 128, by omega⟩)

theorem ref_v161 (l : Fin 64) : Read.val_main_v161 (F := 𝕀) x0 x2 (ix1 l) = ∑ r, ∑ h, nope x0 r h l * gn 64 (nope x2 r h) l := by
  pointwise [Read.val_main_v161, Read.val_main_v158, Read.val_main_v157, Read.val_main_v156, Read.val_main_cst_29, Read.val_main_cst_30, sum01]
  simp only [ref_v16, ref_v92, Finset.univ_unique, Finset.sum_singleton]
  exact Finset.sum_congr rfl fun _ _ => Finset.sum_congr rfl fun _ _ => mul_comm _ _

theorem ref_v139 (l : Fin 32) : Read.val_main_v139 (F := 𝕀) x0 x2 x4 (ix1 l) = ∑ r, ∑ h, drot x4 r (pe x0 r h) l * gn 32 (pe x2 r h) l := by
  pointwise [Read.val_main_v139, Read.val_main_v136, Read.val_main_v135, Read.val_main_v134, Read.val_main_cst_23, Read.val_main_cst_24, sum01]
  simp only [ref_v34, ref_v133, Finset.univ_unique, Finset.sum_singleton]
  exact Finset.sum_congr rfl fun _ _ => Finset.sum_congr rfl fun _ _ => mul_comm _ _

theorem ref_v99 (l : Fin 64) : Read.val_main_v99 (F := 𝕀) x1 x3 (ix1 l) = ∑ r, ∑ h, key x1 r h l * gn 64 (key x3 r h) l := by
  pointwise [Read.val_main_v99, Read.val_main_v96, Read.val_main_v95, Read.val_main_v94, Read.val_main_cst_15, Read.val_main_cst_16, sum01]
  simp only [ref_v82, ref_v89, Finset.univ_unique, Finset.sum_singleton]
  exact Finset.sum_congr rfl fun _ _ => Finset.sum_congr rfl fun _ _ => mul_comm _ _

theorem ref_v184 (l : Fin 128) : Read.val_main_v184 (F := 𝕀) x0 x2 x4 (ix2 0 l) = ∑ r, ∑ h, gainQ x0 x2 x4 r h l := by
  pointwise [Read.val_main_v184, Read.val_main_v183, Read.val_main_v176, Read.val_main_v154, Read.val_main_c_35, Read.val_main_call1_v0]
  simp only [ref_v161, ref_v139]
  unfold gainQ
  by_cases h1 : l.val < 64
  · rw [dif_pos (show l.val < 96 by omega), dif_pos h1]
    simp only [dif_pos h1]
  · by_cases h2 : l.val < 96
    · rw [dif_pos h2, dif_neg h1]
      simp only [dif_pos h2, dif_neg h1]
    · rw [dif_neg h2, sitofp_zero]
      simp only [dif_neg h2, dif_neg h1, Finset.sum_const_zero]

theorem ref_v185 (l : Fin 128) : Read.val_main_v185 (F := 𝕀) x1 x3 (ix2 0 l) = ∑ r, ∑ h, gainK x1 x3 r h l := by
  pointwise [Read.val_main_v185, Read.val_main_v114, Read.val_main_c_36, Read.val_main_call2_v0]
  simp only [ref_v99]
  unfold gainK
  by_cases h1 : l.val < 64
  · rw [dif_pos h1]
    simp only [dif_pos h1]
  · rw [dif_neg h1, sitofp_zero]
    simp only [dif_neg h1, Finset.sum_const_zero]

end Cert.ReferenceQkIdeal
-- ==== Proof.QkHead.lean ====
/- One head of the backward call through the latent attention's norms and rotary embedding: the kernel's operations on a block of
   256 rows and 128 lanes, and what they give at a lane. -/
module

public import proofs.«01_k».proof.Proof.Gen.KernelQkIdeal.Value
public import proofs.«01_k».proof.Proof.QkRef
public import Idealize.ShloMosaic.Lib.Claim

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.Qk

open Cert.Reals

theorem ofBits_inv64 : Ideal.ofBits .f32 0x3C800000#32 = ((1 / 64 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

/-- The weight of lane `k` in the mean at lane `l`, for the groups of 64 and 32 lanes, and for the group of 64 alone. -/
def wQ (k l : Fin 128) : EReal :=
  if 64 ≤ k.val ∧ k.val < 96 ∧ 64 ≤ l.val ∧ l.val < 96 then ((1 / 32 : ℝ) : EReal)
  else if k.val < 64 ∧ l.val < 64 then ((1 / 64 : ℝ) : EReal) else 0

def wK (k l : Fin 128) : EReal := if k.val < 64 ∧ l.val < 64 then ((1 / 64 : ℝ) : EReal) else 0

/-- The 64 lanes in front and the 32 behind them. -/
def lo (x : Fin 128 → EReal) (k : Fin 64) : EReal := x ⟨k.val, by omega⟩
def mi (x : Fin 128 → EReal) (k : Fin 32) : EReal := x ⟨64 + k.val, by omega⟩

theorem sum_lo (x : Fin 128 → EReal) (w : Fin 128 → EReal) (c : ℝ) (hc : 0 < c) (h1 : ∀ k : Fin 128, k.val < 64 → w k = ((1 / c : ℝ) : EReal))
    (h2 : ∀ k : Fin 128, 64 ≤ k.val → w k = 0) : ∑ k, x k * w k = Ideal.div (∑ k, lo x k) (c : EReal) := by
  rw [Fin.sum_univ_two_halves 64 64 (by norm_num), Ideal.div_coe hc.ne', sum_mul_coe (by positivity)]
  rw [Finset.sum_eq_zero (s := Finset.univ) (f := fun k : Fin 64 => x ⟨64 + k.val, _⟩ * w ⟨64 + k.val, _⟩)
    fun k _ => by rw [h2 _ (Nat.le_add_right _ _), mul_zero], add_zero]
  exact Finset.sum_congr rfl fun k _ => by rw [h1 _ k.isLt]; rfl

theorem sum_mi (x : Fin 128 → EReal) (w : Fin 128 → EReal) (c : ℝ) (hc : 0 < c)
    (h1 : ∀ k : Fin 128, 64 ≤ k.val → k.val < 96 → w k = ((1 / c : ℝ) : EReal)) (h2 : ∀ k : Fin 128, ¬ (64 ≤ k.val ∧ k.val < 96) → w k = 0) :
    ∑ k, x k * w k = Ideal.div (∑ k, mi x k) (c : EReal) := by
  rw [Fin.sum_univ_two_halves 64 64 (by norm_num), Ideal.div_coe hc.ne', sum_mul_coe (by positivity)]
  rw [Finset.sum_eq_zero (s := Finset.univ) (f := fun k : Fin 64 => x ⟨k.val, _⟩ * w ⟨k.val, _⟩)
    fun k _ => by rw [h2 _ (by dsimp only; omega), mul_zero], zero_add]
  rw [Fin.sum_univ_two_halves 32 32 (by norm_num)]
  rw [Finset.sum_eq_zero (s := Finset.univ) (f := fun k : Fin 32 => x ⟨64 + (32 + k.val), _⟩ * w ⟨64 + (32 + k.val), _⟩)
    fun k _ => by rw [h2 _ (by dsimp only; omega), mul_zero], add_zero]
  exact Finset.sum_congr rfl fun k _ => by rw [h1 _ (by dsimp only; omega) (by dsimp only; omega)]; rfl

theorem sum_wQ (x : Fin 128 → EReal) (l : Fin 128) : ∑ k, x k * wQ k l
    = if l.val < 64 then Ideal.div (∑ k, lo x k) ((64 : ℝ) : EReal) else if l.val < 96 then Ideal.div (∑ k, mi x k) ((32 : ℝ) : EReal) else 0 := by
  by_cases h1 : l.val < 64
  · rw [if_pos h1]
    refine sum_lo x (fun k => wQ k l) 64 (by norm_num) (fun k hk => ?_) (fun k hk => ?_)
    · show wQ k l = _
      unfold wQ; rw [if_neg (by omega), if_pos ⟨hk, h1⟩]
    · show wQ k l = _
      unfold wQ; rw [if_neg (by omega), if_neg (by omega)]
  · rw [if_neg h1]
    by_cases h2 : l.val < 96
    · rw [if_pos h2]
      refine sum_mi x (fun k => wQ k l) 32 (by norm_num) (fun k hk hk' => ?_) (fun k hk => ?_)
      · show wQ k l = _
        unfold wQ; rw [if_pos ⟨hk, hk', by omega, h2⟩]
      · show wQ k l = _
        unfold wQ; rw [if_neg (by omega), if_neg (by omega)]
    · rw [if_neg h2]
      refine Finset.sum_eq_zero fun k _ => ?_
      unfold wQ; rw [if_neg (by omega), if_neg (by omega), mul_zero]

theorem sum_wK (x : Fin 128 → EReal) (l : Fin 128) : ∑ k, x k * wK k l = if l.val < 64 then Ideal.div (∑ k, lo x k) ((64 : ℝ) : EReal) else 0 := by
  by_cases h1 : l.val < 64
  · rw [if_pos h1]
    refine sum_lo x (fun k => wK k l) 64 (by norm_num) (fun k hk => ?_) (fun k hk => ?_)
    · show wK k l = _
      unfold wK; rw [if_pos ⟨hk, h1⟩]
    · show wK k l = _
      unfold wK; rw [if_neg (by omega)]
  · rw [if_neg h1]
    refine Finset.sum_eq_zero fun k _ => ?_
    unfold wK; rw [if_neg (by omega), mul_zero]

end Cert.Qk

namespace Cert.KernelQkIdeal.Value

open Cert.KernelQkIdeal Cert.KernelQkIdeal.Gen Cert.Reals Cert.Qk

/-! ### The operations -/

/-- The lanes' numbers along the two axes of the matrix of weights, and those from `a` to `b` on both. -/
def both (a b : BitVec 32) : IVec S128x128 1 :=
  andi (andi (andi (cmpi .sge (iota .tc S128x128 32 [0] iota_S128x128_d0_w32) (broadcast S128x128 a))
      (cmpi .slt (iota .tc S128x128 32 [0] iota_S128x128_d0_w32) (broadcast S128x128 b)))
      (cmpi .sge (iota .tc S128x128 32 [1] iota_S128x128_d1_w32) (broadcast S128x128 a)))
    (cmpi .slt (iota .tc S128x128 32 [1] iota_S128x128_d1_w32) (broadcast S128x128 b))

def matK : FVec 𝕀 S128x128 .f32 :=
  select (both 0#32 64#32) (broadcast S128x128 (Scalar.ofBits .f32 0x3C800000#32)) (broadcast S128x128 (Scalar.ofBits .f32 0x00000000#32))

def matQ : FVec 𝕀 S128x128 .f32 := select (both 64#32 96#32) (broadcast S128x128 (Scalar.ofBits .f32 0x3D000000#32)) matK

/-- The means of the groups: the rounded values and what rounding them left, each times the weights. -/
def mean (G : FVec 𝕀 S128x128 .f32) (v : FVec 𝕀 S256x128 .f32) : FVec 𝕀 S256x128 .f32 :=
  addf (matmul dot_S256x128_S128x128_S256x128_1_0_0_1_n_n none (truncf .bf16 v bitsLt_bf16_f32) (truncf .bf16 G bitsLt_bf16_f32)
      (constant S256x128 .f32 0x00000000#32))
    (matmul dot_S256x128_S128x128_S256x128_1_0_0_1_n_n none (truncf .bf16 (subf v (extf .f32 (truncf .bf16 v bitsLt_bf16_f32) bitsLt_bf16_f32)) bitsLt_bf16_f32)
      (truncf .bf16 G bitsLt_bf16_f32) (constant S256x128 .f32 0x00000000#32))

def rstd (G : FVec 𝕀 S128x128 .f32) (x : FVec 𝕀 S256x128 .f32) : FVec 𝕀 S256x128 .f32 :=
  rsqrt (addf (mean G (mulf x x)) (broadcast S256x128 (Scalar.ofBits .f32 0x358637BD#32)))

/-- The lanes from `a` to `b`. -/
def lanes (a b : BitVec 32) : IVec S256x128 1 :=
  andi (cmpi .sge (iota .tc S256x128 32 [1] iota_S256x128_d1_w32) (broadcast S256x128 a))
    (cmpi .slt (iota .tc S256x128 32 [1] iota_S256x128_d1_w32) (broadcast S256x128 b))

def inK : IVec S256x128 1 := ori (broadcast S256x128 0#1) (lanes 0#32 64#32)
def inQ : IVec S256x128 1 := ori inK (lanes 64#32 96#32)

def norm (M : IVec S256x128 1) (G : FVec 𝕀 S128x128 .f32) (x : FVec 𝕀 S256x128 .f32) : FVec 𝕀 S256x128 .f32 :=
  select M (mulf x (rstd G x)) (broadcast S256x128 (Scalar.ofBits .f32 0x00000000#32))

/-- Back through the rotation. -/
def unrot (C S : FVec 𝕀 S256x128 .f32) (d : FVec 𝕀 S256x128 .f32) : FVec 𝕀 S256x128 .f32 :=
  addf (mulf d C) (select k0_pay47 (dynamicRotate 1 112#32 none (mulf d S) rotates_S256x128_d1)
    (subf (broadcast S256x128 (Scalar.ofBits .f32 0x00000000#32)) (dynamicRotate 1 16#32 none (mulf d S) rotates_S256x128_d1)))

/-- Back through the norm, and what the block adds to the gradient of the gains. -/
def back (M : IVec S256x128 1) (G : FVec 𝕀 S128x128 .f32) (g : FVec 𝕀 S1x128 .f32) (x d : FVec 𝕀 S256x128 .f32) : FVec 𝕀 S256x128 .f32 :=
  mulf (rstd G x) (subf (mulf d (broadcastTo S256x128 g broadcasts_S1x128_S256x128)) (mulf (norm M G x)
    (mean G (mulf (mulf d (broadcastTo S256x128 g broadcasts_S1x128_S256x128)) (norm M G x)))))

def cols (M : IVec S256x128 1) (G : FVec 𝕀 S128x128 .f32) (x d : FVec 𝕀 S256x128 .f32) : FVec 𝕀 S1x128 .f32 :=
  shapeCast S1x128 (multiReduction .add [0] S128 (mulf d (norm M G x)) 0x00000000#32 reduces_S256x128_S128 (.inl rfl) rfl) shapeCasts_S128_S1x128

/-! ### What they give at a lane -/

theorem matK_at (k l : Fin 128) : (matK (ix2 k l) : EReal) = wK k l := by
  pointwise [matK, both, wK]
  simp (disch := omega) only [WordCmp.cmpi_slt_ofNat, WordCmp.cmpi_sge_ofNat, WordCmp.andi_ofBool, Nat.zero_le, decide_true, Bool.true_and, Bool.and_true,
    ← Bool.decide_and, WordCmp.select_decide, ofBits_inv64]

theorem matQ_at (k l : Fin 128) : (matQ (ix2 k l) : EReal) = wQ k l := by
  have e := matK_at k l
  pointwise [matQ, both, wQ]
  simp (disch := omega) only [WordCmp.cmpi_slt_ofNat, WordCmp.cmpi_sge_ofNat, WordCmp.andi_ofBool, ← Bool.decide_and, WordCmp.select_decide, ofBits_inv32, e, wK]
  by_cases h : 64 ≤ k.val ∧ k.val < 96 ∧ 64 ≤ l.val ∧ l.val < 96
  · rw [if_pos h, if_pos (by omega)]
  · rw [if_neg h, if_neg (by omega)]

theorem first_at (r : Fin 256) (l : Fin 128) : k0_pay47 (ix2 r l) = BitVec.ofBool (decide (l.val % 32 < 16)) := by
  pointwise [k0_pay47]
  revert l
  decide +kernel

theorem inK_at (r : Fin 256) (l : Fin 128) : inK (ix2 r l) = BitVec.ofBool (decide (l.val < 64)) := by
  pointwise [inK, lanes]
  revert l
  decide +kernel

theorem inQ_at (r : Fin 256) (l : Fin 128) : inQ (ix2 r l) = BitVec.ofBool (decide (l.val < 96)) := by
  pointwise [inQ, inK, lanes]
  revert l
  decide +kernel

theorem mean_at (G : FVec 𝕀 S128x128 .f32) (v : FVec 𝕀 S256x128 .f32) (r : Fin 256) (l : Fin 128) (hv : ∀ k, ∃ x : ℝ, (v (ix2 r k) : EReal) = x) :
    (mean G v (ix2 r l) : EReal) = ∑ k : Fin 128, v (ix2 r k) * G (ix2 k l) := by
  pointwise [mean]
  have h : ∀ k : Fin 128, (v (ix2 r k) : EReal) - v (ix2 r k) = 0 := fun k => by
    obtain ⟨x, hx⟩ := hv k
    rw [hx, ← EReal.coe_sub, sub_self, EReal.coe_zero]
  simp only [h, zero_mul, Finset.sum_const_zero, add_zero]

/-- The lanes of row `r`. -/
def row (x : FVec 𝕀 S256x128 .f32) (r : Fin 256) (l : Fin 128) : EReal := x (ix2 r l)

theorem rstd_at (G : FVec 𝕀 S128x128 .f32) (x : FVec 𝕀 S256x128 .f32) (r : Fin 256) (l : Fin 128) (hx : ∀ k, ∃ y : ℝ, row x r k = y) :
    (rstd G x (ix2 r l) : EReal) = Ideal.rsqrt ((∑ k : Fin 128, row x r k * row x r k * G (ix2 k l)) + Ideal.ofBits .f32 0x358637BD#32) := by
  have e := mean_at G (mulf x x) r l fun k => by
    obtain ⟨y, hy⟩ := hx k
    refine ⟨y * y, ?_⟩
    show row x r k * row x r k = _
    rw [hy, EReal.coe_mul]
  pointwise [rstd]
  rw [e]
  rfl

theorem rstd_lo (x : FVec 𝕀 S256x128 .f32) (r : Fin 256) (l : Fin 128) (hx : ∀ k, ∃ y : ℝ, row x r k = y) (h : l.val < 64) :
    (rstd matQ x (ix2 r l) : EReal) = Ideal.rsqrt (gvar 64 (lo (row x r))) := by
  rw [rstd_at _ x r l hx]
  simp only [matQ_at]
  rw [sum_wQ (fun k => row x r k * row x r k), if_pos h]
  rfl

theorem rstd_mi (x : FVec 𝕀 S256x128 .f32) (r : Fin 256) (l : Fin 128) (hx : ∀ k, ∃ y : ℝ, row x r k = y) (h : ¬ l.val < 64) (h' : l.val < 96) :
    (rstd matQ x (ix2 r l) : EReal) = Ideal.rsqrt (gvar 32 (mi (row x r))) := by
  rw [rstd_at _ x r l hx]
  simp only [matQ_at]
  rw [sum_wQ (fun k => row x r k * row x r k), if_neg h, if_pos h']
  rfl

theorem rstd_key (x : FVec 𝕀 S256x128 .f32) (r : Fin 256) (l : Fin 128) (hx : ∀ k, ∃ y : ℝ, row x r k = y) (h : l.val < 64) :
    (rstd matK x (ix2 r l) : EReal) = Ideal.rsqrt (gvar 64 (lo (row x r))) := by
  rw [rstd_at _ x r l hx]
  simp only [matK_at]
  rw [sum_wK (fun k => row x r k * row x r k), if_pos h]
  rfl

/-- The normalised lanes of a query's row and of a key's. -/
theorem normQ_at (x : FVec 𝕀 S256x128 .f32) (r : Fin 256) (l : Fin 128) (hx : ∀ k, ∃ y : ℝ, row x r k = y) :
    (norm inQ matQ x (ix2 r l) : EReal) = if h : l.val < 64 then gn 64 (lo (row x r)) ⟨l.val, h⟩
      else if h' : l.val < 96 then gn 32 (mi (row x r)) ⟨l.val - 64, by omega⟩ else 0 := by
  pointwise [norm]
  rw [inQ_at, WordCmp.select_decide]
  by_cases h : l.val < 64
  · rw [if_pos (by omega), dif_pos h, rstd_lo x r l hx h]
    rfl
  · rw [dif_neg h]
    by_cases h' : l.val < 96
    · rw [if_pos h', dif_pos h', rstd_mi x r l hx h h']
      have el : l = (⟨64 + (l.val - 64), by omega⟩ : Fin 128) := Fin.ext (by dsimp only; omega)
      have e1 : row x r l = mi (row x r) ⟨l.val - 64, by omega⟩ := congrArg _ el
      exact congrArg (· * Ideal.rsqrt (gvar 32 (mi (row x r)))) e1
    · rw [if_neg h', dif_neg h']

theorem normK_at (x : FVec 𝕀 S256x128 .f32) (r : Fin 256) (l : Fin 128) (hx : ∀ k, ∃ y : ℝ, row x r k = y) :
    (norm inK matK x (ix2 r l) : EReal) = if h : l.val < 64 then gn 64 (lo (row x r)) ⟨l.val, h⟩ else 0 := by
  pointwise [norm]
  rw [inK_at, WordCmp.select_decide]
  by_cases h : l.val < 64
  · rw [if_pos h, dif_pos h, rstd_key x r l hx h]
    rfl
  · rw [if_neg h, dif_neg h]

/-- A normalised lane is a real number. -/
theorem gn_real {c : ℝ} (hc : 0 < c) {n : ℕ} (x : Fin n → EReal) (l : Fin n) (hx : ∃ y : ℝ, x l = y) : ∃ y : ℝ, gn c x l = y := by
  obtain ⟨y, hy⟩ := hx
  obtain ⟨s, -, hs, -⟩ := rsqrt_real (gvar_pos hc x)
  exact ⟨y * s, by unfold gn; rw [hy, hs, EReal.coe_mul]⟩

theorem normQ_real (x : FVec 𝕀 S256x128 .f32) (r : Fin 256) (l : Fin 128) (hx : ∀ k, ∃ y : ℝ, row x r k = y) :
    ∃ y : ℝ, (norm inQ matQ x (ix2 r l) : EReal) = y := by
  rw [normQ_at x r l hx]
  split_ifs with h h'
  · exact gn_real (by norm_num) _ _ (hx _)
  · exact gn_real (by norm_num) _ _ (hx _)
  · exact ⟨0, EReal.coe_zero.symm⟩

theorem normK_real (x : FVec 𝕀 S256x128 .f32) (r : Fin 256) (l : Fin 128) (hx : ∀ k, ∃ y : ℝ, row x r k = y) :
    ∃ y : ℝ, (norm inK matK x (ix2 r l) : EReal) = y := by
  rw [normK_at x r l hx]
  split_ifs with h
  · exact gn_real (by norm_num) _ _ (hx _)
  · exact ⟨0, EReal.coe_zero.symm⟩

theorem unrot_at (C S d : FVec 𝕀 S256x128 .f32) (r : Fin 256) (l : Fin 128) : (unrot C S d (ix2 r l) : EReal)
    = row d r l * row C r l + if l.val % 32 < 16 then row d r ⟨(l.val + 128 - 112) % 128, by omega⟩ * row S r ⟨(l.val + 128 - 112) % 128, by omega⟩
      else 0 - row d r ⟨(l.val + 128 - 16) % 128, by omega⟩ * row S r ⟨(l.val + 128 - 16) % 128, by omega⟩ := by
  pointwise [unrot]
  rw [first_at, WordCmp.select_decide]
  rfl

theorem unrot_real (C S d : FVec 𝕀 S256x128 .f32) (r : Fin 256) (l : Fin 128) (hC : ∀ k, ∃ y : ℝ, row C r k = y) (hS : ∀ k, ∃ y : ℝ, row S r k = y)
    (hd : ∀ k, ∃ y : ℝ, row d r k = y) : ∃ y : ℝ, row (unrot C S d) r l = y := by
  show ∃ y : ℝ, (unrot C S d (ix2 r l) : EReal) = y
  rw [unrot_at]
  choose c hc using hC
  choose s hs using hS
  choose e he using hd
  simp only [hc, hs, he]
  split_ifs
  · exact ⟨_, by rw [← EReal.coe_mul, ← EReal.coe_mul, ← EReal.coe_add]⟩
  · exact ⟨_, by rw [← EReal.coe_mul, ← EReal.coe_mul, ← EReal.coe_zero, ← EReal.coe_sub, ← EReal.coe_add]⟩

theorem cols_at (M : IVec S256x128 1) (G : FVec 𝕀 S128x128 .f32) (x d : FVec 𝕀 S256x128 .f32) (u : Fin 1) (l : Fin 128) :
    (cols M G x d (ix2 u l) : EReal) = ∑ r : Fin 256, row d r l * norm M G x (ix2 r l) := by
  pointwise [cols]
  rfl

theorem back_at (M : IVec S256x128 1) (G : FVec 𝕀 S128x128 .f32) (g : FVec 𝕀 S1x128 .f32) (x d : FVec 𝕀 S256x128 .f32) (r : Fin 256) (l : Fin 128)
    (hn : ∀ k, ∃ y : ℝ, (norm M G x (ix2 r k) : EReal) = y) (hd : ∀ k, ∃ y : ℝ, row d r k = y) (hg : ∀ k, ∃ y : ℝ, (g (ix2 0 k) : EReal) = y) :
    (back M G g x d (ix2 r l) : EReal) = rstd G x (ix2 r l) * (row d r l * g (ix2 0 l) - norm M G x (ix2 r l)
      * ∑ k : Fin 128, row d r k * g (ix2 0 k) * norm M G x (ix2 r k) * G (ix2 k l)) := by
  have e1 : ∀ k, ((mulf (mulf d (broadcastTo S256x128 g broadcasts_S1x128_S256x128)) (norm M G x)) (ix2 r k) : EReal)
      = row d r k * g (ix2 0 k) * norm M G x (ix2 r k) := fun k => by
    pointwise []
    rfl
  have e := mean_at G (mulf (mulf d (broadcastTo S256x128 g broadcasts_S1x128_S256x128)) (norm M G x)) r l fun k => by
    obtain ⟨a, ha⟩ := hn k
    obtain ⟨b, hb⟩ := hd k
    obtain ⟨c, hc⟩ := hg k
    exact ⟨b * c * a, by rw [e1, ha, hb, hc, ← EReal.coe_mul, ← EReal.coe_mul]⟩
  simp only [e1] at e
  pointwise [back]
  rw [e]
  rfl

/-- A query's row back through its two norms. -/
theorem backQ_at (g : FVec 𝕀 S1x128 .f32) (x d : FVec 𝕀 S256x128 .f32) (r : Fin 256) (l : Fin 128) (hx : ∀ k, ∃ y : ℝ, row x r k = y)
    (hd : ∀ k, ∃ y : ℝ, row d r k = y) (hg : ∀ k, ∃ y : ℝ, (g (ix2 0 k) : EReal) = y) (h0 : ∀ k : Fin 128, 96 ≤ k.val → (g (ix2 0 k) : EReal) = 0) :
    (back inQ matQ g x d (ix2 r l) : EReal)
      = if h : l.val < 64 then gdx 64 (lo (row x r)) (fun k => lo (row d r) k * lo (fun k => g (ix2 0 k)) k) ⟨l.val, h⟩
        else if h' : l.val < 96 then gdx 32 (mi (row x r)) (fun k => mi (row d r) k * mi (fun k => g (ix2 0 k)) k) ⟨l.val - 64, by omega⟩ else 0 := by
  rw [back_at _ _ g x d r l (fun k => normQ_real x r k hx) hd hg]
  simp only [matQ_at]
  rw [sum_wQ (fun k => row d r k * g (ix2 0 k) * norm inQ matQ x (ix2 r k)), normQ_at x r l hx]
  by_cases h : l.val < 64
  · rw [if_pos h, dif_pos h, dif_pos h, rstd_lo x r l hx h]
    unfold gdx
    have e : ∀ k : Fin 64, lo (fun k => row d r k * g (ix2 0 k) * norm inQ matQ x (ix2 r k)) k
        = lo (row d r) k * lo (fun k => g (ix2 0 k)) k * gn 64 (lo (row x r)) k := fun k => by
      show row d r _ * g (ix2 0 _) * norm inQ matQ x (ix2 r _) = _
      rw [normQ_at x r _ hx, dif_pos k.isLt]
      rfl
    simp only [e]
    rfl
  · rw [if_neg h, dif_neg h, dif_neg h]
    by_cases h' : l.val < 96
    · rw [if_pos h', dif_pos h', dif_pos h', rstd_mi x r l hx h h']
      unfold gdx
      have e : ∀ k : Fin 32, mi (fun k => row d r k * g (ix2 0 k) * norm inQ matQ x (ix2 r k)) k
          = mi (row d r) k * mi (fun k => g (ix2 0 k)) k * gn 32 (mi (row x r)) k := fun k => by
        show row d r _ * g (ix2 0 _) * norm inQ matQ x (ix2 r _) = _
        rw [normQ_at x r _ hx, dif_neg (by dsimp only; omega), dif_pos (by dsimp only; omega)]
        refine congrArg (_ * ·) (congrArg (gn 32 (mi (row x r))) (Fin.ext ?_))
        dsimp only; omega
      simp only [e]
      have el : l = (⟨64 + (l.val - 64), by omega⟩ : Fin 128) := Fin.ext (by dsimp only; omega)
      have e1 : row d r l = mi (row d r) ⟨l.val - 64, by omega⟩ := congrArg _ el
      have e2 : (g (ix2 0 l) : EReal) = mi (fun k => g (ix2 0 k)) ⟨l.val - 64, by omega⟩ := congrArg (fun l => g (ix2 0 l)) el
      rw [e1, e2]
    · rw [if_neg h', dif_neg h', dif_neg h', h0 l (by omega), mul_zero, zero_mul, sub_zero, mul_zero]

/-- A key's row back through its norm. -/
theorem backK_at (g : FVec 𝕀 S1x128 .f32) (x d : FVec 𝕀 S256x128 .f32) (r : Fin 256) (l : Fin 128) (hx : ∀ k, ∃ y : ℝ, row x r k = y)
    (hd : ∀ k, ∃ y : ℝ, row d r k = y) (hg : ∀ k, ∃ y : ℝ, (g (ix2 0 k) : EReal) = y) (h : l.val < 64) :
    (back inK matK g x d (ix2 r l) : EReal) = gdx 64 (lo (row x r)) (fun k => lo (row d r) k * lo (fun k => g (ix2 0 k)) k) ⟨l.val, h⟩ := by
  rw [back_at _ _ g x d r l (fun k => normK_real x r k hx) hd hg]
  simp only [matK_at]
  rw [sum_wK (fun k => row d r k * g (ix2 0 k) * norm inK matK x (ix2 r k)), normK_at x r l hx, if_pos h, dif_pos h, rstd_key x r l hx h]
  unfold gdx
  have e : ∀ k : Fin 64, lo (fun k => row d r k * g (ix2 0 k) * norm inK matK x (ix2 r k)) k
      = lo (row d r) k * lo (fun k => g (ix2 0 k)) k * gn 64 (lo (row x r)) k := fun k => by
    show row d r _ * g (ix2 0 _) * norm inK matK x (ix2 r _) = _
    rw [normK_at x r _ hx, dif_pos k.isLt]
    rfl
  simp only [e]
  rfl

end Cert.KernelQkIdeal.Value
-- ==== Proof.QkCuts.lean ====
/- One grid point of the backward call through the latent attention's norms and rotary embedding: its heads, each of which the body cuts into pieces of its own. -/
module

public import proofs.«01_k».proof.Proof.QkHead

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelQkIdeal.Value

open Cert.KernelQkIdeal Cert.KernelQkIdeal.Gen Cert.Reals Cert.Qk

variable (x d C S : FVec 𝕀 S256x128 .f32) (g a : FVec 𝕀 S1x128 .f32)

/-- A key's head: the 64 lanes of the key go back through the norm, those of the value pass. -/
def backKey : FVec 𝕀 S256x128 .f32 := select k0_pay9 (back inK matK g x d) d

/-- The sum over the heads starts at zero. -/
def start : FVec 𝕀 S1x128 .f32 := broadcast S1x128 (Scalar.ofBits .f32 0x00000000#32)

theorem headQ0 : (k0_pay52 g (k0_pay43 (k0_pay42 x) (Scalar.ofBits .f32 0x358637BD#32)) (k0_pay44 x (k0_pay42 x) (Scalar.ofBits .f32 0x358637BD#32)) (k0_pay45 C d) k0_pay47 (k0_pay48 S d) (k0_pay49 S d) k0_pay50)
    = back inQ matQ g x (unrot C S d) := rfl

theorem headK0 : (k0_pay56 g k0_pay9 d (k0_pay54 x) (k0_pay55 x))
    = backKey x d g := rfl

theorem colQ0 : k0_pay53 (k0_pay44 x (k0_pay42 x) (Scalar.ofBits .f32 0x358637BD#32)) (k0_pay51 (k0_pay45 C d) k0_pay47 (k0_pay48 S d) (k0_pay49 S d) k0_pay50)
    = addf start (cols inQ matQ x (unrot C S d)) := rfl

theorem colK0 : k0_pay57 d (k0_pay55 x)
    = addf start (cols inK matK x d) := rfl

theorem headQ1 : (k0_pay72 (k0_pay61 (k0_pay58 x) (iota .tc S128x128 32 [0] iota_S128x128_d0_w32) (iota .tc S128x128 32 [1] iota_S128x128_d1_w32) k0_pay59 k0_pay60 0#32) (k0_pay65 x (k0_pay61 (k0_pay58 x) (iota .tc S128x128 32 [0] iota_S128x128_d0_w32) (iota .tc S128x128 32 [1] iota_S128x128_d1_w32) k0_pay59 k0_pay60 0#32) k0_pay62 k0_pay63 k0_pay64) (k0_pay67 C S g d) (k0_pay68 C S g d x (k0_pay61 (k0_pay58 x) (iota .tc S128x128 32 [0] iota_S128x128_d0_w32) (iota .tc S128x128 32 [1] iota_S128x128_d1_w32) k0_pay59 k0_pay60 0#32) k0_pay62 k0_pay63 k0_pay64) (iota .tc S128x128 32 [0] iota_S128x128_d0_w32) (iota .tc S128x128 32 [1] iota_S128x128_d1_w32) k0_pay69 k0_pay70 k0_pay71)
    = back inQ matQ g x (unrot C S d) := rfl

theorem headK1 : (k0_pay84 k0_pay9 d (k0_pay78 (k0_pay74 x) (iota .tc S128x128 32 [1] iota_S128x128_d1_w32) k0_pay75 k0_pay76 k0_pay77) (k0_pay79 x (k0_pay74 x) (iota .tc S128x128 32 [1] iota_S128x128_d1_w32) k0_pay75 k0_pay76 k0_pay77) (k0_pay80 g d) (k0_pay81 g d x (k0_pay74 x) (iota .tc S128x128 32 [1] iota_S128x128_d1_w32) k0_pay75 k0_pay76 k0_pay77) k0_pay82 k0_pay83)
    = backKey x d g := rfl

theorem colQ1 : k0_pay73 a (k0_pay65 x (k0_pay61 (k0_pay58 x) (iota .tc S128x128 32 [0] iota_S128x128_d0_w32) (iota .tc S128x128 32 [1] iota_S128x128_d1_w32) k0_pay59 k0_pay60 0#32) k0_pay62 k0_pay63 k0_pay64) (k0_pay66 C S d)
    = addf a (cols inQ matQ x (unrot C S d)) := rfl

theorem colK1 : k0_pay85 d a (k0_pay79 x (k0_pay74 x) (iota .tc S128x128 32 [1] iota_S128x128_d1_w32) k0_pay75 k0_pay76 k0_pay77)
    = addf a (cols inK matK x d) := rfl

theorem headQ2 : (k0_pay102 (k0_pay90 (k0_pay86 x) k0_pay87 k0_pay88 k0_pay89) (k0_pay91 x (k0_pay86 x) k0_pay87 k0_pay88 k0_pay89) (k0_pay98 g (k0_pay92 C d) (k0_pay93 S d) 32#32 k0_pay94 k0_pay95 k0_pay96 0#1) (k0_pay99 g (k0_pay91 x (k0_pay86 x) k0_pay87 k0_pay88 k0_pay89) (k0_pay92 C d) (k0_pay93 S d) 32#32 k0_pay94 k0_pay95 k0_pay96 0#1) k0_pay100 k0_pay101 (Scalar.ofBits .f32 0x3D000000#32))
    = back inQ matQ g x (unrot C S d) := rfl

theorem headK2 : (k0_pay106 g k0_pay9 d x (k0_pay104 x) (iota .tc S256x128 32 [1] iota_S256x128_d1_w32))
    = backKey x d g := rfl

theorem colQ2 : k0_pay103 a (k0_pay91 x (k0_pay86 x) k0_pay87 k0_pay88 k0_pay89) (k0_pay97 (k0_pay92 C d) (k0_pay93 S d) 32#32 k0_pay94 k0_pay95 k0_pay96 0#1)
    = addf a (cols inQ matQ x (unrot C S d)) := rfl

theorem colK2 : k0_pay107 d x a (k0_pay104 x) (iota .tc S256x128 32 [1] iota_S256x128_d1_w32)
    = addf a (cols inK matK x d) := rfl

theorem headQ3 : (k0_pay116 (k0_pay109 (k0_pay108 x)) (k0_pay112 x (k0_pay109 (k0_pay108 x)) (iota .tc S256x128 32 [1] iota_S256x128_d1_w32) k0_pay110 k0_pay111) (k0_pay114 C S g d) (k0_pay115 C S g d x (k0_pay109 (k0_pay108 x)) (iota .tc S256x128 32 [1] iota_S256x128_d1_w32) k0_pay110 k0_pay111) (iota .tc S128x128 32 [0] iota_S128x128_d0_w32) (iota .tc S128x128 32 [1] iota_S128x128_d1_w32))
    = back inQ matQ g x (unrot C S d) := rfl

theorem headK3 : (k0_pay125 k0_pay9 d (k0_pay119 (k0_pay118 x) (iota .tc S128x128 32 [0] iota_S128x128_d0_w32) (iota .tc S128x128 32 [1] iota_S128x128_d1_w32)) (k0_pay120 x (k0_pay118 x) (iota .tc S128x128 32 [0] iota_S128x128_d0_w32) (iota .tc S128x128 32 [1] iota_S128x128_d1_w32)) (k0_pay121 g d) (k0_pay122 g d x (k0_pay118 x) (iota .tc S128x128 32 [0] iota_S128x128_d0_w32) (iota .tc S128x128 32 [1] iota_S128x128_d1_w32)) (iota .tc S128x128 32 [0] iota_S128x128_d0_w32) (iota .tc S128x128 32 [1] iota_S128x128_d1_w32) k0_pay123 k0_pay124)
    = backKey x d g := rfl

theorem colQ3 : k0_pay117 a (k0_pay112 x (k0_pay109 (k0_pay108 x)) (iota .tc S256x128 32 [1] iota_S256x128_d1_w32) k0_pay110 k0_pay111) (k0_pay113 C S d)
    = addf a (cols inQ matQ x (unrot C S d)) := rfl

theorem colK3 : k0_pay126 d a (k0_pay120 x (k0_pay118 x) (iota .tc S128x128 32 [0] iota_S128x128_d0_w32) (iota .tc S128x128 32 [1] iota_S128x128_d1_w32))
    = addf a (cols inK matK x d) := rfl

theorem headQ4 : (k0_pay139 (k0_pay130 (k0_pay127 x) (iota .tc S128x128 32 [0] iota_S128x128_d0_w32) (iota .tc S128x128 32 [1] iota_S128x128_d1_w32) k0_pay128 k0_pay129) (k0_pay131 x (k0_pay127 x) (iota .tc S128x128 32 [0] iota_S128x128_d0_w32) (iota .tc S128x128 32 [1] iota_S128x128_d1_w32) k0_pay128 k0_pay129) (k0_pay135 g (k0_pay132 C d) (k0_pay133 S d) (iota .tc S256x128 32 [1] iota_S256x128_d1_w32) 32#32 0#1) (k0_pay136 g (k0_pay131 x (k0_pay127 x) (iota .tc S128x128 32 [0] iota_S128x128_d0_w32) (iota .tc S128x128 32 [1] iota_S128x128_d1_w32) k0_pay128 k0_pay129) (k0_pay132 C d) (k0_pay133 S d) (iota .tc S256x128 32 [1] iota_S256x128_d1_w32) 32#32 0#1) (iota .tc S128x128 32 [0] iota_S128x128_d0_w32) (iota .tc S128x128 32 [1] iota_S128x128_d1_w32) k0_pay137 k0_pay138 96#32)
    = back inQ matQ g x (unrot C S d) := rfl

theorem headK4 : (k0_pay154 k0_pay9 d (k0_pay145 (k0_pay141 x) k0_pay142 (k0_pay143 x) (k0_pay144 x)) (k0_pay146 x (k0_pay141 x) k0_pay142 (k0_pay143 x) (k0_pay144 x)) (k0_pay147 g d) (k0_pay151 g d x (k0_pay141 x) k0_pay142 (k0_pay143 x) (k0_pay144 x)) (k0_pay152 g d x (k0_pay141 x) k0_pay142 (k0_pay143 x) (k0_pay144 x)) k0_pay153 (constant S256x128 .f32 0#32))
    = backKey x d g := rfl

theorem colQ4 : k0_pay140 a (k0_pay131 x (k0_pay127 x) (iota .tc S128x128 32 [0] iota_S128x128_d0_w32) (iota .tc S128x128 32 [1] iota_S128x128_d1_w32) k0_pay128 k0_pay129) (k0_pay134 (k0_pay132 C d) (k0_pay133 S d) (iota .tc S256x128 32 [1] iota_S256x128_d1_w32) 32#32 0#1)
    = addf a (cols inQ matQ x (unrot C S d)) := rfl

theorem colK4 : k0_pay155 d a (k0_pay146 x (k0_pay141 x) k0_pay142 (k0_pay143 x) (k0_pay144 x))
    = addf a (cols inK matK x d) := rfl

theorem headQ5 : (k0_pay175 (k0_pay162 (k0_pay159 x) (k0_pay160 x) k0_pay161) (k0_pay163 x (k0_pay159 x) (k0_pay160 x) k0_pay161) (k0_pay169 g (k0_pay164 C d) (k0_pay165 S d) k0_pay166 (k0_pay167 S d)) (k0_pay173 g (k0_pay163 x (k0_pay159 x) (k0_pay160 x) k0_pay161) (k0_pay164 C d) (k0_pay165 S d) k0_pay166 (k0_pay167 S d)) (k0_pay174 g (k0_pay163 x (k0_pay159 x) (k0_pay160 x) k0_pay161) (k0_pay164 C d) (k0_pay165 S d) k0_pay166 (k0_pay167 S d)))
    = back inQ matQ g x (unrot C S d) := rfl

theorem headK5 : (k0_pay181 g k0_pay9 d (k0_pay177 x) k0_pay178 (k0_pay179 x) (Scalar.ofBits .f32 0x00000000#32))
    = backKey x d g := rfl

theorem colQ5 : k0_pay176 a (k0_pay163 x (k0_pay159 x) (k0_pay160 x) k0_pay161) (k0_pay168 (k0_pay164 C d) (k0_pay165 S d) k0_pay166 (k0_pay167 S d))
    = addf a (cols inQ matQ x (unrot C S d)) := rfl

theorem colK5 : k0_pay182 d a k0_pay178 (k0_pay179 x) (Scalar.ofBits .f32 0x00000000#32)
    = addf a (cols inK matK x d) := rfl

theorem headQ6 : (k0_pay197 (k0_pay186 (k0_pay183 x) (iota .tc S128x128 32 [0] iota_S128x128_d0_w32) (iota .tc S128x128 32 [1] iota_S128x128_d1_w32) k0_pay184 k0_pay185 0#32) (k0_pay190 x (k0_pay186 (k0_pay183 x) (iota .tc S128x128 32 [0] iota_S128x128_d0_w32) (iota .tc S128x128 32 [1] iota_S128x128_d1_w32) k0_pay184 k0_pay185 0#32) k0_pay187 k0_pay188 k0_pay189) (k0_pay192 C S g d) (k0_pay193 C S g d x (k0_pay186 (k0_pay183 x) (iota .tc S128x128 32 [0] iota_S128x128_d0_w32) (iota .tc S128x128 32 [1] iota_S128x128_d1_w32) k0_pay184 k0_pay185 0#32) k0_pay187 k0_pay188 k0_pay189) (iota .tc S128x128 32 [0] iota_S128x128_d0_w32) (iota .tc S128x128 32 [1] iota_S128x128_d1_w32) k0_pay194 k0_pay195 k0_pay196)
    = back inQ matQ g x (unrot C S d) := rfl

theorem headK6 : (k0_pay209 k0_pay9 d (k0_pay203 (k0_pay199 x) (iota .tc S128x128 32 [1] iota_S128x128_d1_w32) k0_pay200 k0_pay201 k0_pay202) (k0_pay204 x (k0_pay199 x) (iota .tc S128x128 32 [1] iota_S128x128_d1_w32) k0_pay200 k0_pay201 k0_pay202) (k0_pay205 g d) (k0_pay206 g d x (k0_pay199 x) (iota .tc S128x128 32 [1] iota_S128x128_d1_w32) k0_pay200 k0_pay201 k0_pay202) k0_pay207 k0_pay208)
    = backKey x d g := rfl

theorem colQ6 : k0_pay198 a (k0_pay190 x (k0_pay186 (k0_pay183 x) (iota .tc S128x128 32 [0] iota_S128x128_d0_w32) (iota .tc S128x128 32 [1] iota_S128x128_d1_w32) k0_pay184 k0_pay185 0#32) k0_pay187 k0_pay188 k0_pay189) (k0_pay191 C S d)
    = addf a (cols inQ matQ x (unrot C S d)) := rfl

theorem colK6 : k0_pay210 d a (k0_pay204 x (k0_pay199 x) (iota .tc S128x128 32 [1] iota_S128x128_d1_w32) k0_pay200 k0_pay201 k0_pay202)
    = addf a (cols inK matK x d) := rfl

theorem headQ7 : (k0_pay227 (k0_pay215 (k0_pay211 x) k0_pay212 k0_pay213 k0_pay214) (k0_pay216 x (k0_pay211 x) k0_pay212 k0_pay213 k0_pay214) (k0_pay223 g (k0_pay217 C d) (k0_pay218 S d) 32#32 k0_pay219 k0_pay220 k0_pay221 0#1) (k0_pay224 g (k0_pay216 x (k0_pay211 x) k0_pay212 k0_pay213 k0_pay214) (k0_pay217 C d) (k0_pay218 S d) 32#32 k0_pay219 k0_pay220 k0_pay221 0#1) k0_pay225 k0_pay226 (Scalar.ofBits .f32 0x3D000000#32))
    = back inQ matQ g x (unrot C S d) := rfl

theorem headK7 : (k0_pay231 g k0_pay9 d x (k0_pay229 x) (iota .tc S256x128 32 [1] iota_S256x128_d1_w32))
    = backKey x d g := rfl

theorem colQ7 : k0_pay228 a (k0_pay216 x (k0_pay211 x) k0_pay212 k0_pay213 k0_pay214) (k0_pay222 (k0_pay217 C d) (k0_pay218 S d) 32#32 k0_pay219 k0_pay220 k0_pay221 0#1)
    = addf a (cols inQ matQ x (unrot C S d)) := rfl

theorem colK7 : k0_pay232 d x a (k0_pay229 x) (iota .tc S256x128 32 [1] iota_S256x128_d1_w32)
    = addf a (cols inK matK x d) := rfl

end Cert.KernelQkIdeal.Value
-- ==== Proof.QkOuts.lean ====
/- One grid point of the backward call through the latent attention's norms and rotary embedding: what it returns. -/
module

public import proofs.«01_k».proof.Proof.QkCuts

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelQkIdeal.Value

open Cert.KernelQkIdeal Cert.KernelQkIdeal.Gen Cert.Reals Cert.Qk

/-- The eight heads of a block of 256 rows. -/
def heads (v : FVec 𝕀 S256x1024 .f32) : Fin 8 → FVec 𝕀 S256x128 .f32 :=
  ![extractStridedSlice S256x128 ![0, 0] v slices_S256x1024_o0_0_S256x128, extractStridedSlice S256x128 ![0, 128] v slices_S256x1024_o0_128_S256x128,
    extractStridedSlice S256x128 ![0, 256] v slices_S256x1024_o0_256_S256x128, extractStridedSlice S256x128 ![0, 384] v slices_S256x1024_o0_384_S256x128,
    extractStridedSlice S256x128 ![0, 512] v slices_S256x1024_o0_512_S256x128, extractStridedSlice S256x128 ![0, 640] v slices_S256x1024_o0_640_S256x128,
    extractStridedSlice S256x128 ![0, 768] v slices_S256x1024_o0_768_S256x128, extractStridedSlice S256x128 ![0, 896] v slices_S256x1024_o0_896_S256x128]

theorem heads_at (v : FVec 𝕀 S256x1024 .f32) (h : Fin 8) (r : Fin 256) (l : Fin 128) :
    (heads v h (ix2 r l) : EReal) = v (ix2 r ⟨h.val * 128 + l.val, by omega⟩) := by
  match h with
  | 0 => show extractStridedSlice S256x128 ![0, 0] v slices_S256x1024_o0_0_S256x128 (ix2 r l) = _; pointwise []
  | 1 => show extractStridedSlice S256x128 ![0, 128] v slices_S256x1024_o0_128_S256x128 (ix2 r l) = _; pointwise []
  | 2 => show extractStridedSlice S256x128 ![0, 256] v slices_S256x1024_o0_256_S256x128 (ix2 r l) = _; pointwise []
  | 3 => show extractStridedSlice S256x128 ![0, 384] v slices_S256x1024_o0_384_S256x128 (ix2 r l) = _; pointwise []
  | 4 => show extractStridedSlice S256x128 ![0, 512] v slices_S256x1024_o0_512_S256x128 (ix2 r l) = _; pointwise []
  | 5 => show extractStridedSlice S256x128 ![0, 640] v slices_S256x1024_o0_640_S256x128 (ix2 r l) = _; pointwise []
  | 6 => show extractStridedSlice S256x128 ![0, 768] v slices_S256x1024_o0_768_S256x128 (ix2 r l) = _; pointwise []
  | 7 => show extractStridedSlice S256x128 ![0, 896] v slices_S256x1024_o0_896_S256x128 (ix2 r l) = _; pointwise []

/-- Casting a block to its own shape. -/
theorem cast_self {s : Shape} (v : FVec 𝕀 s .f32) (h : s.ShapeCasts s) : shapeCast s v h = v := shapeCast_self v h

theorem pay4_eq (v : Vec 𝕀 S256x1024 .f32) : k0_pay4 v = v := cast_self (s := S256x1024) v _

theorem pay34_eq (v : Vec 𝕀 S256x1024 .f32) : k0_pay34 v = heads v 0 := rfl
theorem pay35_eq (v : Vec 𝕀 S256x1024 .f32) : k0_pay35 v = heads v 1 := rfl
theorem pay36_eq (v : Vec 𝕀 S256x1024 .f32) : k0_pay36 v = heads v 2 := rfl
theorem pay37_eq (v : Vec 𝕀 S256x1024 .f32) : k0_pay37 v = heads v 3 := rfl
theorem pay38_eq (v : Vec 𝕀 S256x1024 .f32) : k0_pay38 v = heads v 4 := rfl
theorem pay39_eq (v : Vec 𝕀 S256x1024 .f32) : k0_pay39 v = heads v 5 := rfl
theorem pay40_eq (v : Vec 𝕀 S256x1024 .f32) : k0_pay40 v = heads v 6 := rfl
theorem pay41_eq (v : Vec 𝕀 S256x1024 .f32) : k0_pay41 v = heads v 7 := rfl
theorem slice0_eq (v : FVec 𝕀 S256x1024 .f32) : extractStridedSlice S256x128 ![0, 0] v slices_S256x1024_o0_0_S256x128 = heads v 0 := rfl
theorem slice1_eq (v : FVec 𝕀 S256x1024 .f32) : extractStridedSlice S256x128 ![0, 128] v slices_S256x1024_o0_128_S256x128 = heads v 1 := rfl
theorem slice2_eq (v : FVec 𝕀 S256x1024 .f32) : extractStridedSlice S256x128 ![0, 256] v slices_S256x1024_o0_256_S256x128 = heads v 2 := rfl
theorem slice3_eq (v : FVec 𝕀 S256x1024 .f32) : extractStridedSlice S256x128 ![0, 384] v slices_S256x1024_o0_384_S256x128 = heads v 3 := rfl
theorem slice4_eq (v : FVec 𝕀 S256x1024 .f32) : extractStridedSlice S256x128 ![0, 512] v slices_S256x1024_o0_512_S256x128 = heads v 4 := rfl
theorem slice5_eq (v : FVec 𝕀 S256x1024 .f32) : extractStridedSlice S256x128 ![0, 640] v slices_S256x1024_o0_640_S256x128 = heads v 5 := rfl
theorem slice6_eq (v : FVec 𝕀 S256x1024 .f32) : extractStridedSlice S256x128 ![0, 768] v slices_S256x1024_o0_768_S256x128 = heads v 6 := rfl
theorem slice7_eq (v : FVec 𝕀 S256x1024 .f32) : extractStridedSlice S256x128 ![0, 896] v slices_S256x1024_o0_896_S256x128 = heads v 7 := rfl

/-- A lane of eight heads side by side. -/
theorem pick8 {α : Type} (w : Fin 8 → Fin 128 → α) (j : ℕ) (hj : j < 1024) :
    (if h : j < 128 then w 0 ⟨j, h⟩ else if h : j - 128 < 128 then w 1 ⟨j - 128, h⟩ else if h : j - 128 - 128 < 128 then w 2 ⟨j - 128 - 128, h⟩
      else if h : j - 128 - 128 - 128 < 128 then w 3 ⟨j - 128 - 128 - 128, h⟩
      else if h : j - 128 - 128 - 128 - 128 < 128 then w 4 ⟨j - 128 - 128 - 128 - 128, h⟩
      else if h : j - 128 - 128 - 128 - 128 - 128 < 128 then w 5 ⟨j - 128 - 128 - 128 - 128 - 128, h⟩
      else if h : j - 128 - 128 - 128 - 128 - 128 - 128 < 128 then w 6 ⟨j - 128 - 128 - 128 - 128 - 128 - 128, h⟩
      else w 7 ⟨j - 128 - 128 - 128 - 128 - 128 - 128 - 128, by omega⟩) = w ⟨j / 128, by omega⟩ ⟨j % 128, by omega⟩ := by
  have key : ∀ (h : Fin 8) (l : Fin 128), h.val = j / 128 → l.val = j % 128 → w h l = w ⟨j / 128, by omega⟩ ⟨j % 128, by omega⟩ :=
    fun h l eh el => congrArg₂ w (Fin.ext eh) (Fin.ext el)
  split_ifs
  · exact key 0 _ (by show 0 = _; omega) (by dsimp only; omega)
  · exact key 1 _ (by show 1 = _; omega) (by dsimp only; omega)
  · exact key 2 _ (by show 2 = _; omega) (by dsimp only; omega)
  · exact key 3 _ (by show 3 = _; omega) (by dsimp only; omega)
  · exact key 4 _ (by show 4 = _; omega) (by dsimp only; omega)
  · exact key 5 _ (by show 5 = _; omega) (by dsimp only; omega)
  · exact key 6 _ (by show 6 = _; omega) (by dsimp only; omega)
  · exact key 7 _ (by show 7 = _; omega) (by dsimp only; omega)

theorem sideQ_at (w : Fin 8 → FVec 𝕀 S256x128 .f32) (r : Fin 256) (j : Fin 1024) :
    (k0_pay234 (k0_pay233 (w 0) (w 1) (w 2) (w 3) (w 4) (w 5) (w 6) (w 7)) (ix2 r j) : EReal) = w ⟨j.val / 128, by omega⟩ (ix2 r ⟨j.val % 128, by omega⟩) := by
  pointwise [k0_pay234, k0_pay233]
  exact pick8 (fun h l => w h (ix2 r l)) j.val j.isLt

theorem sideK_at (w : Fin 8 → FVec 𝕀 S256x128 .f32) (r : Fin 256) (j : Fin 1024) :
    (k0_pay235 (w 0) (w 1) (w 2) (w 3) (w 4) (w 5) (w 6) (w 7) (ix2 r j) : EReal) = w ⟨j.val / 128, by omega⟩ (ix2 r ⟨j.val % 128, by omega⟩) := by
  pointwise [k0_pay235]
  exact pick8 (fun h l => w h (ix2 r l)) j.val j.isLt

/-- The sum over the heads. -/
def total (w : Fin 8 → FVec 𝕀 S1x128 .f32) : FVec 𝕀 S1x128 .f32 :=
  addf (addf (addf (addf (addf (addf (addf (addf start (w 0)) (w 1)) (w 2)) (w 3)) (w 4)) (w 5)) (w 6)) (w 7)

theorem total_at (w : Fin 8 → FVec 𝕀 S1x128 .f32) (i : S1x128.Idx) : (total w i : EReal) = ∑ h, w h i := by
  rw [Fin.sum_univ_eight]
  show Ideal.ofBits .f32 0x00000000#32 + (w 0 i : EReal) + w 1 i + w 2 i + w 3 i + w 4 i + w 5 i + w 6 i + w 7 i = _
  rw [show Ideal.ofBits .f32 0x00000000#32 = 0 from by simp [Ideal.ofBits, Ideal.ieee], zero_add]

section
variable (m : (ℓ : Loc nD τ sig) → Buf (Elt 𝕀) ℓ) (c : Dev nD) (t : Fin cfg0.N)

/-- A head's cotangent before the rotation, its gradients, and what it adds to the gradients of the gains. -/
def dQ (h : Fin 8) : FVec 𝕀 S256x128 .f32 := unrot (iblk m c 4 t) (iblk m c 5 t) (heads (iblk m c 0 t) h)
def headsQ (h : Fin 8) : FVec 𝕀 S256x128 .f32 := back inQ matQ (iblk m c 6 t) (heads (iblk m c 2 t) h) (dQ m c t h)
def headsK (h : Fin 8) : FVec 𝕀 S256x128 .f32 := backKey (heads (iblk m c 3 t) h) (heads (iblk m c 1 t) h) (iblk m c 7 t)
def colsQ (h : Fin 8) : FVec 𝕀 S1x128 .f32 := cols inQ matQ (heads (iblk m c 2 t) h) (dQ m c t h)
def colsK (h : Fin 8) : FVec 𝕀 S1x128 .f32 := cols inK matK (heads (iblk m c 3 t) h) (heads (iblk m c 1 t) h)

theorem outs8 : (outsAt0 m c t.val t.isLt).1 = k0_pay234 (k0_pay233 (headsQ m c t 0) (headsQ m c t 1) (headsQ m c t 2) (headsQ m c t 3) (headsQ m c t 4)
    (headsQ m c t 5) (headsQ m c t 6) (headsQ m c t 7)) := by
  have hN : t.val < 8 := t.isLt
  by_cases h : t.val = 0
  · rw [outsAt0_A m c t (by omega) (by omega)]
    funext j
    frame_out
    simp only [cast_self, headQ0, headQ1, headQ2, headQ3, headQ4, headQ5, headQ6, headQ7, slice0_eq, slice1_eq, slice2_eq, slice3_eq, slice4_eq, slice5_eq, slice6_eq, slice7_eq]
    rfl
  · rw [outsAt0_B m c t (by omega) (by omega)]
    funext j
    frame_out
    simp only [cast_self, headQ0, headQ1, headQ2, headQ3, headQ4, headQ5, headQ6, headQ7, slice0_eq, slice1_eq, slice2_eq, slice3_eq, slice4_eq, slice5_eq, slice6_eq, slice7_eq]
    rfl

theorem outs9 : (outsAt0 m c t.val t.isLt).2.1 = k0_pay235 (headsK m c t 0) (headsK m c t 1) (headsK m c t 2) (headsK m c t 3) (headsK m c t 4)
    (headsK m c t 5) (headsK m c t 6) (headsK m c t 7) := by
  have hN : t.val < 8 := t.isLt
  by_cases h : t.val = 0
  · rw [outsAt0_A m c t (by omega) (by omega)]
    funext j
    frame_out
    simp only [cast_self, pay34_eq, pay35_eq, pay36_eq, pay37_eq, pay38_eq, pay39_eq, pay40_eq, pay41_eq, headK0, headK1, headK2, headK3, headK4, headK5, headK6, headK7, slice0_eq, slice1_eq, slice2_eq, slice3_eq, slice4_eq, slice5_eq, slice6_eq, slice7_eq]
    rfl
  · rw [outsAt0_B m c t (by omega) (by omega)]
    funext j
    frame_out
    simp only [cast_self, pay34_eq, pay35_eq, pay36_eq, pay37_eq, pay38_eq, pay39_eq, pay40_eq, pay41_eq, headK0, headK1, headK2, headK3, headK4, headK5, headK6, headK7, slice0_eq, slice1_eq, slice2_eq, slice3_eq, slice4_eq, slice5_eq, slice6_eq, slice7_eq]
    rfl

end

end Cert.KernelQkIdeal.Value
-- ==== Proof.QkCols.lean ====
/- One grid point of the backward call through the latent attention's norms and rotary embedding: what it adds to the gradients of the gains. -/
module

public import proofs.«01_k».proof.Proof.QkOuts

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelQkIdeal.Value

open Cert.KernelQkIdeal Cert.KernelQkIdeal.Gen Cert.Reals Cert.Qk

theorem pay1_at (s : FVec 𝕀 S1x128 .f32) (a : Vec 𝕀 S1x128 .f32) (u : Fin 1) (l : Fin 128) : (k0_pay1 s a (ix2 u l) : EReal) = a (ix2 u l) + s (ix2 u l) := by
  pointwise [k0_pay1]

theorem pay2_at (s : FVec 𝕀 S1x128 .f32) (a : Vec 𝕀 S1x128 .f32) (u : Fin 1) (l : Fin 128) : (k0_pay2 s a (ix2 u l) : EReal) = a (ix2 u l) + s (ix2 u l) := by
  pointwise [k0_pay2]

section
variable (m : (ℓ : Loc nD τ sig) → Buf (Elt 𝕀) ℓ) (c : Dev nD) (t : Fin cfg0.N)

theorem outs10_A (h0 : t.val % 8 = 0) (h1 : ¬ 1 ≤ t.val) (u : Fin 1) (l : Fin 128) :
    ((outsAt0 m c t.val t.isLt).2.2.1 (ix2 u l) : EReal) = total (colsQ m c t) (ix2 u l) := by
  rw [outsAt0_A m c t h0 h1]
  frame_out
  simp only [cast_self, colQ0, colQ1, colQ2, colQ3, colQ4, colQ5, colQ6, colQ7, slice0_eq, slice1_eq, slice2_eq, slice3_eq, slice4_eq, slice5_eq, slice6_eq, slice7_eq]
  rfl

theorem outs10_B (h0 : ¬ t.val % 8 = 0) (h1 : 1 ≤ t.val) (u : Fin 1) (l : Fin 128) :
    ((outsAt0 m c t.val t.isLt).2.2.1 (ix2 u l) : EReal) = (outsAt0 m c (t.val - 1) (by omega)).2.2.1 (ix2 u l) + total (colsQ m c t) (ix2 u l) := by
  rw [outsAt0_B m c t h0 h1]
  frame_out
  simp only [cast_self, colQ0, colQ1, colQ2, colQ3, colQ4, colQ5, colQ6, colQ7, slice0_eq, slice1_eq, slice2_eq, slice3_eq, slice4_eq, slice5_eq, slice6_eq, slice7_eq]
  exact pay1_at _ _ u l

theorem outs11_A (h0 : t.val % 8 = 0) (h1 : ¬ 1 ≤ t.val) (u : Fin 1) (l : Fin 128) :
    ((outsAt0 m c t.val t.isLt).2.2.2 (ix2 u l) : EReal) = total (colsK m c t) (ix2 u l) := by
  rw [outsAt0_A m c t h0 h1]
  frame_out
  simp only [cast_self, pay34_eq, pay35_eq, pay36_eq, pay37_eq, pay38_eq, pay39_eq, pay40_eq, pay41_eq, colK0, colK1, colK2, colK3, colK4, colK5, colK6, colK7, slice0_eq, slice1_eq, slice2_eq, slice3_eq, slice4_eq, slice5_eq, slice6_eq, slice7_eq]
  rfl

theorem outs11_B (h0 : ¬ t.val % 8 = 0) (h1 : 1 ≤ t.val) (u : Fin 1) (l : Fin 128) :
    ((outsAt0 m c t.val t.isLt).2.2.2 (ix2 u l) : EReal) = (outsAt0 m c (t.val - 1) (by omega)).2.2.2 (ix2 u l) + total (colsK m c t) (ix2 u l) := by
  rw [outsAt0_B m c t h0 h1]
  frame_out
  simp only [cast_self, pay34_eq, pay35_eq, pay36_eq, pay37_eq, pay38_eq, pay39_eq, pay40_eq, pay41_eq, colK0, colK1, colK2, colK3, colK4, colK5, colK6, colK7, slice0_eq, slice1_eq, slice2_eq, slice3_eq, slice4_eq, slice5_eq, slice6_eq, slice7_eq]
  exact pay2_at _ _ u l

end

end Cert.KernelQkIdeal.Value
-- ==== Proof.QkSpec.lean ====
/- A head of the latent attention: what the kernel's lines give where its 128 lanes hold the head's 96 or 128. -/
module

public import proofs.«01_k».proof.Proof.QkCuts
public import proofs.«01_k».proof.Proof.QkRef

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.Qk

open Cert.Reals

/-- A head's 96 lanes among 128, zeros behind. -/
def padq (y : FVec 𝕀 ⟨2, ![2048, 768]⟩ .f32) (r : Fin 2048) (h : Fin 8) (l : Fin 128) : EReal :=
  if hl : l.val < 96 then y (ix2 r ⟨h.val * 96 + l.val, by omega⟩) else 0

/-- A head's 128 lanes. -/
def padk (z : FVec 𝕀 ⟨2, ![2048, 1024]⟩ .f32) (r : Fin 2048) (h : Fin 8) (l : Fin 128) : EReal := z (ix2 r ⟨h.val * 128 + l.val, by omega⟩)

/-- The tables of cosines and sines. -/
def tabC (p : IVec ⟨2, ![1, 2048]⟩ 32) (r : Fin 2048) (l : Fin 128) : EReal :=
  if l.val < 64 then 1 else if l.val < 80 then Ideal.cos (ang p r (l.val - 64)) else if l.val < 96 then Ideal.cos (ang p r (l.val - 80)) else 1
def tabS (p : IVec ⟨2, ![1, 2048]⟩ 32) (r : Fin 2048) (l : Fin 128) : EReal :=
  if l.val < 64 then 0 else if l.val < 80 then Ideal.sin (ang p r (l.val - 64)) else if l.val < 96 then Ideal.sin (ang p r (l.val - 80)) else 0

/-- The gains of a query's lanes and of a key's. -/
def gq (a : FVec 𝕀 ⟨2, ![1, 64]⟩ .f32) (b : FVec 𝕀 ⟨2, ![1, 32]⟩ .f32) (l : Fin 128) : EReal :=
  if h : l.val < 64 then a (ix2 0 ⟨l.val, h⟩) else if h' : l.val < 96 then b (ix2 0 ⟨l.val - 64, by omega⟩) else 0
def gk (a : FVec 𝕀 ⟨2, ![1, 64]⟩ .f32) (l : Fin 128) : EReal := if h : l.val < 64 then a (ix2 0 ⟨l.val, h⟩) else 0

theorem ofBits_1e4 : Ideal.ofBits .f32 0x461C4000#32 = ((10000 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ang_real (p : IVec ⟨2, ![1, 2048]⟩ 32) (r : Fin 2048) (k : ℕ) : ∃ x : ℝ, ang p r k = x := by
  unfold ang
  rw [ofBits_1e4, ofBits_neg_two, ofBits_32]
  show ∃ x : ℝ, (((p (ix2 0 r)).toInt : ℝ) : EReal) * Ideal.pow ((10000 : ℝ) : EReal) (Ideal.div (((-2 : ℝ) : EReal) * (((BitVec.ofNat 32 k).toInt : ℝ) : EReal)) ((32 : ℝ) : EReal)) = x
  rw [Ideal.div_coe (by norm_num), ← EReal.coe_mul, ← EReal.coe_mul]
  refine ⟨_, Eq.trans (congrArg (_ * ·) (show Ideal.pow ((10000 : ℝ) : EReal) (_ : ℝ) = ((Real.rpow _ _ : ℝ) : EReal) from rfl)) (EReal.coe_mul _ _).symm⟩

theorem cos_real {x : EReal} (h : ∃ y : ℝ, x = y) : ∃ y : ℝ, Ideal.cos x = y := by
  obtain ⟨y, rfl⟩ := h
  exact ⟨Real.cos y, rfl⟩

theorem sin_real {x : EReal} (h : ∃ y : ℝ, x = y) : ∃ y : ℝ, Ideal.sin x = y := by
  obtain ⟨y, rfl⟩ := h
  exact ⟨Real.sin y, rfl⟩

theorem tabC_real (p r l) : ∃ y : ℝ, tabC p r l = y := by
  unfold tabC
  split_ifs
  · exact ⟨1, EReal.coe_one.symm⟩
  · exact cos_real (ang_real ..)
  · exact cos_real (ang_real ..)
  · exact ⟨1, EReal.coe_one.symm⟩

theorem tabS_real (p r l) : ∃ y : ℝ, tabS p r l = y := by
  unfold tabS
  split_ifs
  · exact ⟨0, EReal.coe_zero.symm⟩
  · exact sin_real (ang_real ..)
  · exact sin_real (ang_real ..)
  · exact ⟨0, EReal.coe_zero.symm⟩

theorem padq_real (y) (hy : ∀ k, ∃ x : ℝ, (y k : EReal) = x) (r h l) : ∃ x : ℝ, padq y r h l = x := by
  unfold padq
  split_ifs
  · exact hy _
  · exact ⟨0, EReal.coe_zero.symm⟩

theorem gq_real (a b) (ha : ∀ k, ∃ x : ℝ, (a k : EReal) = x) (hb : ∀ k, ∃ x : ℝ, (b k : EReal) = x) (l) : ∃ x : ℝ, gq a b l = x := by
  unfold gq
  split_ifs
  · exact ha _
  · exact hb _
  · exact ⟨0, EReal.coe_zero.symm⟩

theorem gk_real (a) (ha : ∀ k, ∃ x : ℝ, (a k : EReal) = x) (l) : ∃ x : ℝ, gk a l = x := by
  unfold gk
  split_ifs
  · exact ha _
  · exact ⟨0, EReal.coe_zero.symm⟩

theorem lo_padq (y r h) : lo (padq y r h) = nope y r h := funext fun k => by
  unfold lo padq nope
  rw [dif_pos (by dsimp only; omega)]

theorem mi_padq (y r h) : mi (padq y r h) = pe y r h := funext fun k => by
  unfold mi padq pe
  rw [dif_pos (by dsimp only; omega)]

theorem lo_gq (a b) : lo (gq a b) = fun k => (a (ix2 0 k) : EReal) := funext fun k => by
  unfold lo gq
  rw [dif_pos k.isLt]

theorem mi_gq (a b) : mi (gq a b) = fun k => (b (ix2 0 k) : EReal) := funext fun k => by
  unfold mi gq
  rw [dif_neg (by dsimp only; omega), dif_pos (by dsimp only; omega)]
  exact congrArg (fun k => (b (ix2 0 k) : EReal)) (Fin.ext (by dsimp only; omega))

theorem lo_padk (z r h) : lo (padk z r h) = key z r h := rfl

theorem lo_gk (a) : lo (gk a) = fun k => (a (ix2 0 k) : EReal) := funext fun k => by
  unfold lo gk
  rw [dif_pos k.isLt]

end Cert.Qk

namespace Cert.KernelQkIdeal.Value

open Cert.KernelQkIdeal Cert.KernelQkIdeal.Gen Cert.Reals Cert.Qk

section
variable (x0 : FVec 𝕀 ⟨2, ![2048, 768]⟩ .f32) (x1 : FVec 𝕀 ⟨2, ![2048, 1024]⟩ .f32) (x2 : FVec 𝕀 ⟨2, ![2048, 768]⟩ .f32) (x3 : FVec 𝕀 ⟨2, ![2048, 1024]⟩ .f32)
  (x4 : IVec ⟨2, ![1, 2048]⟩ 32) (x5 : FVec 𝕀 ⟨2, ![1, 64]⟩ .f32) (x6 : FVec 𝕀 ⟨2, ![1, 32]⟩ .f32) (x7 : FVec 𝕀 ⟨2, ![1, 64]⟩ .f32)
  (x d C S : FVec 𝕀 S256x128 .f32) (g : FVec 𝕀 S1x128 .f32) (r : Fin 256) (R : Fin 2048) (h : Fin 8)

theorem lo_unrot (hd : row d r = padq x0 R h) (hC : row C r = tabC x4 R) (hS : row S r = tabS x4 R) : lo (row (unrot C S d) r) = nope x0 R h := funext fun k => by
  refine (unrot_at C S d r ⟨k.val, by omega⟩).trans ?_
  rw [hd, hC, hS]
  have hk := k.isLt
  have e : tabC x4 R ⟨k.val, by omega⟩ = 1 := by unfold tabC; rw [if_pos hk]
  have e' : padq x0 R h ⟨k.val, by omega⟩ = nope x0 R h k := congrFun (lo_padq x0 R h) k
  rw [e, mul_one, e']
  by_cases c : k.val % 32 < 16
  · have s : tabS x4 R ⟨(k.val + 128 - 112) % 128, by omega⟩ = 0 := by unfold tabS; rw [if_pos (by dsimp only; omega)]
    rw [if_pos c, s, mul_zero, add_zero]
  · have s : tabS x4 R ⟨(k.val + 128 - 16) % 128, by omega⟩ = 0 := by unfold tabS; rw [if_pos (by dsimp only; omega)]
    rw [if_neg c, s, mul_zero, sub_zero, add_zero]

theorem mi_unrot (hd : row d r = padq x0 R h) (hC : row C r = tabC x4 R) (hS : row S r = tabS x4 R) : mi (row (unrot C S d) r) = drot x4 R (pe x0 R h) := funext fun k => by
  refine (unrot_at C S d r ⟨64 + k.val, by omega⟩).trans ?_
  rw [hd, hC, hS]
  have hk := k.isLt
  have p : ∀ (j : Fin 128) (i : Fin 32), j.val = 64 + i.val → padq x0 R h j = pe x0 R h i := fun j i e =>
    (congrArg _ (Fin.ext e : j = ⟨64 + i.val, by omega⟩)).trans (congrFun (mi_padq x0 R h) i)
  unfold drot
  rw [p ⟨64 + k.val, by omega⟩ k rfl]
  by_cases c : k.val < 16
  · have e : tabC x4 R ⟨64 + k.val, by omega⟩ = Ideal.cos (ang x4 R k.val) := by
      unfold tabC; rw [if_neg (by dsimp only; omega), if_pos (by dsimp only; omega)]
      exact congrArg (fun n => Ideal.cos (ang x4 R n)) (by dsimp only; omega)
    have s : tabS x4 R ⟨(64 + k.val + 128 - 112) % 128, by omega⟩ = Ideal.sin (ang x4 R k.val) := by
      unfold tabS; rw [if_neg (by dsimp only; omega), if_neg (by dsimp only; omega), if_pos (by dsimp only; omega)]
      exact congrArg (fun n => Ideal.sin (ang x4 R n)) (by dsimp only; omega)
    rw [if_pos (by dsimp only; omega), dif_pos c, e, s, p ⟨(64 + k.val + 128 - 112) % 128, by omega⟩ ⟨k.val + 16, by omega⟩ (by dsimp only; omega)]
  · have e : tabC x4 R ⟨64 + k.val, by omega⟩ = Ideal.cos (ang x4 R (k.val - 16)) := by
      unfold tabC; rw [if_neg (by dsimp only; omega), if_neg (by dsimp only; omega), if_pos (by dsimp only; omega)]
      exact congrArg (fun n => Ideal.cos (ang x4 R n)) (by dsimp only; omega)
    have s : tabS x4 R ⟨(64 + k.val + 128 - 16) % 128, by omega⟩ = Ideal.sin (ang x4 R (k.val - 16)) := by
      unfold tabS; rw [if_neg (by dsimp only; omega), if_pos (by dsimp only; omega)]
      exact congrArg (fun n => Ideal.sin (ang x4 R n)) (by dsimp only; omega)
    rw [if_neg (by dsimp only; omega), dif_neg c, e, s, p ⟨(64 + k.val + 128 - 16) % 128, by omega⟩ ⟨k.val - 16, by omega⟩ (by dsimp only; omega), zero_sub]

theorem real_unrot (hd : row d r = padq x0 R h) (hC : row C r = tabC x4 R) (hS : row S r = tabS x4 R) (h0 : ∀ k, ∃ y : ℝ, (x0 k : EReal) = y) (l : Fin 128) :
    ∃ y : ℝ, row (unrot C S d) r l = y :=
  unrot_real C S d r l (fun k => by rw [hC]; exact tabC_real ..) (fun k => by rw [hS]; exact tabS_real ..) (fun k => by rw [hd]; exact padq_real _ h0 ..)

/-- The gradient of a query's head. -/
theorem headQ_at (hx : row x r = padq x2 R h) (hd : row d r = padq x0 R h) (hC : row C r = tabC x4 R) (hS : row S r = tabS x4 R)
    (hg : ∀ k, (g (ix2 0 k) : EReal) = gq x5 x6 k) (h0 : ∀ k, ∃ y : ℝ, (x0 k : EReal) = y) (h2 : ∀ k, ∃ y : ℝ, (x2 k : EReal) = y)
    (h5 : ∀ k, ∃ y : ℝ, (x5 k : EReal) = y) (h6 : ∀ k, ∃ y : ℝ, (x6 k : EReal) = y) (l : Fin 128) :
    (back inQ matQ g x (unrot C S d) (ix2 r l) : EReal) = outQ x0 x2 x4 x5 x6 R h l := by
  rw [backQ_at g x (unrot C S d) r l (fun k => by rw [hx]; exact padq_real _ h2 ..) (real_unrot x0 x4 d C S r R h hd hC hS h0)
    (fun k => by rw [hg]; exact gq_real _ _ h5 h6 _) (fun k hk => by rw [hg]; unfold gq; rw [dif_neg (by omega), dif_neg (by omega)])]
  have eg : (fun k => (g (ix2 0 k) : EReal)) = gq x5 x6 := funext hg
  rw [lo_unrot x0 x4 d C S r R h hd hC hS, mi_unrot x0 x4 d C S r R h hd hC hS, hx, lo_padq, mi_padq, eg, lo_gq, mi_gq]
  rfl

/-- What a query's head adds to the gradient of the gains. -/
theorem gainQ_at (hx : row x r = padq x2 R h) (hd : row d r = padq x0 R h) (hC : row C r = tabC x4 R) (hS : row S r = tabS x4 R)
    (h2 : ∀ k, ∃ y : ℝ, (x2 k : EReal) = y) (l : Fin 128) :
    row (unrot C S d) r l * norm inQ matQ x (ix2 r l) = gainQ x0 x2 x4 R h l := by
  rw [normQ_at x r l (fun k => by rw [hx]; exact padq_real _ h2 ..), hx, lo_padq, mi_padq]
  unfold gainQ
  by_cases c : l.val < 64
  · rw [dif_pos c, dif_pos c]
    exact congrArg (· * _) (congrFun (lo_unrot x0 x4 d C S r R h hd hC hS) ⟨l.val, c⟩)
  · rw [dif_neg c, dif_neg c]
    by_cases c' : l.val < 96
    · rw [dif_pos c', dif_pos c']
      have el : l = ⟨64 + (l.val - 64), by omega⟩ := Fin.ext (by dsimp only; omega)
      have e1 : row (unrot C S d) r l = drot x4 R (pe x0 R h) ⟨l.val - 64, by omega⟩ :=
        (congrArg _ el).trans (congrFun (mi_unrot x0 x4 d C S r R h hd hC hS) ⟨l.val - 64, by omega⟩)
      rw [e1]
    · rw [dif_neg c', dif_neg c', mul_zero]

theorem front_at (l : Fin 128) : k0_pay9 (ix2 r l) = BitVec.ofBool (decide (l.val < 64)) := by
  pointwise [k0_pay9]
  revert l
  decide +kernel

/-- The gradient of a key's and value's head. -/
theorem headK_at (hx : row x r = padk x3 R h) (hd : row d r = padk x1 R h) (hg : ∀ k, (g (ix2 0 k) : EReal) = gk x7 k)
    (h1 : ∀ k, ∃ y : ℝ, (x1 k : EReal) = y) (h3 : ∀ k, ∃ y : ℝ, (x3 k : EReal) = y) (h7 : ∀ k, ∃ y : ℝ, (x7 k : EReal) = y) (l : Fin 128) :
    (backKey x d g (ix2 r l) : EReal) = outK x1 x3 x7 R h l := by
  have eg : (fun k => (g (ix2 0 k) : EReal)) = gk x7 := funext hg
  show (Scalar.select (k0_pay9 (ix2 r l)) (back inK matK g x d (ix2 r l)) (d (ix2 r l)) : EReal) = _
  rw [front_at, WordCmp.select_decide]
  unfold outK
  by_cases c : l.val < 64
  · rw [if_pos c, dif_pos c, backK_at g x d r l (fun k => by rw [hx]; exact h3 _) (fun k => by rw [hd]; exact h1 _) (fun k => by rw [hg]; exact gk_real _ h7 _) c,
      hx, hd, eg, lo_padk, lo_padk, lo_gk]
  · rw [if_neg c, dif_neg c]
    refine (congrFun hd l).trans ?_
    exact congrArg (fun k => (x1 (ix2 R k) : EReal)) (Fin.ext (by dsimp only; omega))

theorem gainK_at (hx : row x r = padk x3 R h) (hd : row d r = padk x1 R h) (h3 : ∀ k, ∃ y : ℝ, (x3 k : EReal) = y) (l : Fin 128) :
    row d r l * norm inK matK x (ix2 r l) = gainK x1 x3 R h l := by
  rw [normK_at x r l (fun k => by rw [hx]; exact h3 _), hx, hd, lo_padk]
  unfold gainK
  by_cases c : l.val < 64
  · rw [dif_pos c, dif_pos c]
    rfl
  · rw [dif_neg c, dif_neg c, mul_zero]

end

end Cert.KernelQkIdeal.Value
-- ==== Proof.QkHost.lean ====
/- The latent attention's norms and rotary embedding: what the host lines hand the call. -/
module

public import proofs.«01_k».proof.Proof.Gen.KernelQkIdeal.Value
public import proofs.«01_k».proof.Proof.QkSpec
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelQkIdeal.Value

open Cert.KernelQkIdeal Cert.KernelQkIdeal.Gen Cert.Qk

variable (m : (ℓ : Loc nD τ sig) → Buf (Elt 𝕀) ℓ) (c : Dev nD)

abbrev A0 : FVec 𝕀 S2048x768 .f32 := m ((c : Thread nD τ).loc main_arg0)
abbrev A1 : FVec 𝕀 S2048x1024 .f32 := m ((c : Thread nD τ).loc main_arg1)
abbrev A2 : FVec 𝕀 S2048x768 .f32 := m ((c : Thread nD τ).loc main_arg2)
abbrev A3 : FVec 𝕀 S2048x1024 .f32 := m ((c : Thread nD τ).loc main_arg3)
abbrev A4 : IVec S1x2048 32 := m ((c : Thread nD τ).loc main_arg4)
abbrev A5 : FVec 𝕀 S1x64 .f32 := m ((c : Thread nD τ).loc main_arg5)
abbrev A6 : FVec 𝕀 S1x32 .f32 := m ((c : Thread nD τ).loc main_arg6)
abbrev A7 : FVec 𝕀 S1x64 .f32 := m ((c : Thread nD τ).loc main_arg7)

/-- The host lines behind the tables. -/
abbrev lineB : List (HloOp τ sig (Elt 𝕀)) := List.flatten [hostOps0_1, hostOps0_2, hostOps0_3, hostOps0_4]

/-- The buffers after the tables. -/
def UA : Valuation τ sig (Elt 𝕀) := StableHlo.after hostOps0 fun b => m (c, b)

theorem V_eq (b : Ref sig .tc) : V m c b = StableHlo.after lineB (UA m c) b := by
  unfold UA
  rw [← StableHlo.after_append]
  rfl

theorem ofBits_one : Ideal.ofBits .f32 0x3F800000#32 = 1 := by
  rw [← EReal.coe_one]
  simp [Ideal.ofBits, Ideal.ieee, -EReal.coe_mul, ← EReal.coe_mul]
  try norm_num
theorem ofBits_zero : Ideal.ofBits .f32 0x00000000#32 = 0 := by simp [Ideal.ofBits, Ideal.ieee]

/-- Picking a padded lane. -/
theorem padq_pick (y : FVec 𝕀 S2048x768 .f32) (r : Fin 2048) (h : Fin 8) (l : Fin 128) {z : EReal} (hz : z = 0) :
    (if H : (h.val * 128 + l.val) / 128 < 8 ∧ (h.val * 128 + l.val) % 128 < 96 then
      (y (ix2 r ⟨(h.val * 128 + l.val) / 128 * 96 + (h.val * 128 + l.val) % 128, by omega⟩) : EReal) else z) = padq y r h l := by
  unfold padq
  by_cases c : l.val < 96
  · rw [dif_pos (by omega), dif_pos c]
    exact congrArg (fun k => (y (ix2 r k) : EReal)) (Fin.ext (by dsimp only; omega))
  · rw [dif_neg (by omega), dif_neg c, hz]

theorem h51 (r : Fin 2048) (h : Fin 8) (l : Fin 128) : ((V m c main_v51 : FVec 𝕀 S2048x1024 .f32) (ix2 r ⟨h.val * 128 + l.val, by omega⟩) : EReal) = padq (A0 m c) r h l := by
  rw [V_eq]
  after_reads_simp
  unfold UA
  after_reads_simp
  simp only [StableHlo.TRef.toBuf, StableHlo.TRef.ofBuf, StableHlo.TRef.of, cast_eq]
  pointwise []
  exact padq_pick (A0 m c) r h l sitofp_zero

theorem h56 (r : Fin 2048) (h : Fin 8) (l : Fin 128) : ((V m c main_v56 : FVec 𝕀 S2048x1024 .f32) (ix2 r ⟨h.val * 128 + l.val, by omega⟩) : EReal) = padq (A2 m c) r h l := by
  rw [V_eq]
  after_reads_simp
  unfold UA
  after_reads_simp
  simp only [StableHlo.TRef.toBuf, StableHlo.TRef.ofBuf, StableHlo.TRef.of, cast_eq]
  pointwise []
  exact padq_pick (A2 m c) r h l sitofp_zero

theorem h44 (u : Fin 1) (l : Fin 128) : ((V m c main_v44 : FVec 𝕀 S1x128 .f32) (ix2 u l) : EReal) = gq (A5 m c) (A6 m c) l := by
  obtain rfl := Subsingleton.elim u 0
  rw [V_eq]
  after_reads_simp
  unfold UA
  after_reads_simp
  pointwise [gq]
  after_reads_simp
  pointwise []
  by_cases a : l.val < 64
  · rw [dif_pos a, dif_pos a]
  · rw [dif_neg a, dif_neg a]
    by_cases b : l.val - 64 < 32
    · have b' : l.val < 96 := by omega
      rw [dif_pos b, dif_pos b']
    · have b' : ¬ l.val < 96 := by omega
      rw [dif_neg b, dif_neg b']

theorem h46 (u : Fin 1) (l : Fin 128) : ((V m c main_v46 : FVec 𝕀 S1x128 .f32) (ix2 u l) : EReal) = gk (A7 m c) l := by
  obtain rfl := Subsingleton.elim u 0
  rw [V_eq]
  after_reads_simp
  unfold UA
  after_reads_simp
  pointwise [gk]

theorem h33 (r : Fin 2048) (l : Fin 128) : ((V m c main_v33 : FVec 𝕀 S2048x128 .f32) (ix2 r l) : EReal) = tabC (A4 m c) r l := by
  rw [V_eq]
  after_reads_simp
  unfold UA
  after_reads_simp
  pointwise [tabC]
  after_reads_simp
  pointwise []
  after_reads_simp
  pointwise []
  by_cases a : l.val < 64
  · rw [dif_pos a, if_pos a]
  · rw [dif_neg a, if_neg a]
    by_cases b : l.val - 64 < 16
    · have b' : l.val < 80 := by omega
      rw [dif_pos b, dif_pos b, if_pos b']
      rfl
    · have b' : ¬ l.val < 80 := by omega
      rw [dif_neg b, if_neg b']
      by_cases d : l.val - 64 - 16 < 16
      · have d' : l.val < 96 := by omega
        have e : l.val - 80 = l.val - 64 - 16 := by omega
        rw [dif_pos d, dif_pos d, if_pos d', e]
        rfl
      · have d' : ¬ l.val < 96 := by omega
        rw [dif_neg d, if_neg d']

theorem h38 (r : Fin 2048) (l : Fin 128) : ((V m c main_v38 : FVec 𝕀 S2048x128 .f32) (ix2 r l) : EReal) = tabS (A4 m c) r l := by
  rw [V_eq]
  after_reads_simp
  unfold UA
  after_reads_simp
  pointwise [tabS]
  after_reads_simp
  pointwise []
  after_reads_simp
  pointwise []
  by_cases a : l.val < 64
  · rw [dif_pos a, if_pos a]
  · rw [dif_neg a, if_neg a]
    by_cases b : l.val - 64 < 16
    · have b' : l.val < 80 := by omega
      rw [dif_pos b, dif_pos b, if_pos b']
      rfl
    · have b' : ¬ l.val < 80 := by omega
      rw [dif_neg b, if_neg b']
      by_cases d : l.val - 64 - 16 < 16
      · have d' : l.val < 96 := by omega
        have e : l.val - 80 = l.val - 64 - 16 := by omega
        rw [dif_pos d, dif_pos d, if_pos d', e]
        rfl
      · have d' : ¬ l.val < 96 := by omega
        rw [dif_neg d, if_neg d']

end Cert.KernelQkIdeal.Value
-- ==== Proof.Qk.lean ====
/- Through the norms and the rotary embedding of the latent attention's heads: the arrays that the call leaves are those that the reference returns. -/
module

public import proofs.«01_k».proof.Proof.QkCols
public import proofs.«01_k».proof.Proof.QkHost

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelQkIdeal.Value

open Cert.KernelQkIdeal Cert.KernelQkIdeal.Gen Cert.Qk Cert.ReferenceQkIdeal

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![t.val, 0] ∧ win0_9.index t = ![t.val, 0] :=
  (by decide +kernel : ∀ t : Fin grid0.N, _)

theorem lt8 (t : Fin cfg0.N) : t.val < 8 := lt_of_lt_of_eq t.isLt N_0

/-- Row `r` of the `t`-th block of 256 rows. -/
def rowOf (t : Fin cfg0.N) (r : Fin 256) : Fin 2048 := ⟨t.val * 256 + r.val, by have := lt8 t; omega⟩

/-- Summing the blocks' sums over heads and rows is summing rows and heads. -/
theorem sum_rows (f : Fin 2048 → Fin 8 → EReal) : (∑ t : Fin cfg0.N, ∑ h : Fin 8, ∑ r : Fin 256, f (rowOf t r) h) = ∑ r : Fin 2048, ∑ h : Fin 8, f r h :=
  (Fin.sum_fin_congr fun t => Finset.sum_comm).trans (Fin.sum_mul_add_congr (S := 8) (n := 256) (L := 2048) (f := fun r => ∑ h : Fin 8, f r h) fun t r hl => by rfl)

section
variable (m : (ℓ : Loc nD τ sig) → Buf (Elt 𝕀) ℓ) (c : Dev nD)

/-- The arguments are real numbers, the positions apart. -/
structure Real7 : Prop where
  r0 : ∀ k, ∃ r : ℝ, (A0 m c k : EReal) = r
  r1 : ∀ k, ∃ r : ℝ, (A1 m c k : EReal) = r
  r2 : ∀ k, ∃ r : ℝ, (A2 m c k : EReal) = r
  r3 : ∀ k, ∃ r : ℝ, (A3 m c k : EReal) = r
  r5 : ∀ k, ∃ r : ℝ, (A5 m c k : EReal) = r
  r6 : ∀ k, ∃ r : ℝ, (A6 m c k : EReal) = r
  r7 : ∀ k, ∃ r : ℝ, (A7 m c k : EReal) = r

variable (F : Real7 m c) (t : Fin cfg0.N)

theorem blk0 (r : Fin 256) (h : Fin 8) : row (heads (iblk m c 0 t) h) r = padq (A0 m c) (rowOf t r) h := funext fun l => by
  have e : (iblk m c 0 t (ix2 r (⟨h.val * 128 + l.val, by omega⟩ : Fin 1024)) : EReal) = (V m c main_v51 : FVec 𝕀 S2048x1024 .f32) (ix2 (rowOf t r) ⟨h.val * 128 + l.val, by omega⟩) := by
    unfold rowOf; blk_point [iblk, idx t]
  exact (heads_at _ h r l).trans (e.trans (h51 m c (rowOf t r) h l))

theorem blk2 (r : Fin 256) (h : Fin 8) : row (heads (iblk m c 2 t) h) r = padq (A2 m c) (rowOf t r) h := funext fun l => by
  have e : (iblk m c 2 t (ix2 r (⟨h.val * 128 + l.val, by omega⟩ : Fin 1024)) : EReal) = (V m c main_v56 : FVec 𝕀 S2048x1024 .f32) (ix2 (rowOf t r) ⟨h.val * 128 + l.val, by omega⟩) := by
    unfold rowOf; blk_point [iblk, idx t]
  exact (heads_at _ h r l).trans (e.trans (h56 m c (rowOf t r) h l))

theorem blk1 (r : Fin 256) (h : Fin 8) : row (heads (iblk m c 1 t) h) r = padk (A1 m c) (rowOf t r) h := funext fun l => by
  have e : (iblk m c 1 t (ix2 r (⟨h.val * 128 + l.val, by omega⟩ : Fin 1024)) : EReal) = A1 m c (ix2 (rowOf t r) ⟨h.val * 128 + l.val, by omega⟩) := by
    unfold rowOf; blk_point [iblk, V, idx t]
  exact (heads_at _ h r l).trans e

theorem blk3 (r : Fin 256) (h : Fin 8) : row (heads (iblk m c 3 t) h) r = padk (A3 m c) (rowOf t r) h := funext fun l => by
  have e : (iblk m c 3 t (ix2 r (⟨h.val * 128 + l.val, by omega⟩ : Fin 1024)) : EReal) = A3 m c (ix2 (rowOf t r) ⟨h.val * 128 + l.val, by omega⟩) := by
    unfold rowOf; blk_point [iblk, V, idx t]
  exact (heads_at _ h r l).trans e

theorem blk4 (r : Fin 256) : row (iblk m c 4 t) r = tabC (A4 m c) (rowOf t r) := funext fun l => by
  have e : (iblk m c 4 t (ix2 r l) : EReal) = (V m c main_v33 : FVec 𝕀 S2048x128 .f32) (ix2 (rowOf t r) l) := by
    unfold rowOf; blk_point [iblk, idx t]
  exact e.trans (h33 m c (rowOf t r) l)

theorem blk5 (r : Fin 256) : row (iblk m c 5 t) r = tabS (A4 m c) (rowOf t r) := funext fun l => by
  have e : (iblk m c 5 t (ix2 r l) : EReal) = (V m c main_v38 : FVec 𝕀 S2048x128 .f32) (ix2 (rowOf t r) l) := by
    unfold rowOf; blk_point [iblk, idx t]
  exact e.trans (h38 m c (rowOf t r) l)

theorem blk6 (l : Fin 128) : (iblk m c 6 t (ix2 0 l) : EReal) = gq (A5 m c) (A6 m c) l := by
  have e : (iblk m c 6 t (ix2 (0 : Fin 1) l) : EReal) = (V m c main_v44 : FVec 𝕀 S1x128 .f32) (ix2 0 l) := by
    blk_point [iblk, idx t]
  exact e.trans (h44 m c 0 l)

theorem blk7 (l : Fin 128) : (iblk m c 7 t (ix2 0 l) : EReal) = gk (A7 m c) l := by
  have e : (iblk m c 7 t (ix2 (0 : Fin 1) l) : EReal) = (V m c main_v46 : FVec 𝕀 S1x128 .f32) (ix2 0 l) := by
    blk_point [iblk, idx t]
  exact e.trans (h46 m c 0 l)

include F

theorem colsQ_at (h : Fin 8) (u : Fin 1) (l : Fin 128) : (colsQ m c t h (ix2 u l) : EReal) = ∑ r : Fin 256, gainQ (A0 m c) (A2 m c) (A4 m c) (rowOf t r) h l :=
  (cols_at ..).trans (Finset.sum_congr rfl fun r _ => gainQ_at _ _ _ _ _ _ _ r _ h (blk2 m c t r h) (blk0 m c t r h) (blk4 m c t r) (blk5 m c t r) F.r2 l)

theorem colsK_at (h : Fin 8) (u : Fin 1) (l : Fin 128) : (colsK m c t h (ix2 u l) : EReal) = ∑ r : Fin 256, gainK (A1 m c) (A3 m c) (rowOf t r) h l :=
  (cols_at ..).trans (Finset.sum_congr rfl fun r _ => gainK_at _ _ _ _ r _ h (blk3 m c t r h) (blk1 m c t r h) F.r3 l)

theorem at8 (r : Fin 256) (j : Fin 1024) : ((outsAt0 m c t.val t.isLt).1 (ix2 r j) : EReal)
    = Read.val_main_v186 (F := 𝕀) (A0 m c) (A2 m c) (A4 m c) (A5 m c) (A6 m c) (ix2 (rowOf t r) j) := by
  rw [outs8, ref_v186]
  refine (sideQ_at (headsQ m c t) r j).trans ?_
  exact headQ_at _ _ _ _ _ _ _ _ _ _ r _ _ (blk2 m c t r _) (blk0 m c t r _) (blk4 m c t r) (blk5 m c t r) (blk6 m c t) F.r0 F.r2 F.r5 F.r6 _

theorem at9 (r : Fin 256) (j : Fin 1024) : ((outsAt0 m c t.val t.isLt).2.1 (ix2 r j) : EReal)
    = Read.val_main_v187 (F := 𝕀) (A1 m c) (A3 m c) (A7 m c) (ix2 (rowOf t r) j) := by
  rw [outs9, ref_v187]
  refine (sideK_at (headsK m c t) r j).trans ?_
  exact headK_at _ _ _ _ _ _ r _ _ (blk3 m c t r _) (blk1 m c t r _) (blk7 m c t) F.r1 F.r3 F.r7 _

/-- The gradient of q. -/
theorem final8 : (dats m 0 c).arrAt 8 cfg0.N = Read.val_main_v186 (F := 𝕀) (A0 m c) (A2 m c) (A4 m c) (A5 m c) (A6 m c) := by
  refine (dats m 0 c).arrAt_eq_of_covers 8 _ (by decide +kernel) fun t hf y => ?_
  blk_simp
  rw [after0_8]
  refine (congrArg _ (eq_ix2 (n0 := 256) (n1 := 1024) y)).trans ((at8 m c F t (y 0) (y 1)).trans ?_)
  unfold rowOf
  blk_point [iblk, V, idx t]

/-- The gradient of kv. -/
theorem final9 : (dats m 0 c).arrAt 9 cfg0.N = Read.val_main_v187 (F := 𝕀) (A1 m c) (A3 m c) (A7 m c) := by
  refine (dats m 0 c).arrAt_eq_of_covers 9 _ (by decide +kernel) fun t hf y => ?_
  blk_simp
  rw [after0_9]
  refine (congrArg _ (eq_ix2 (n0 := 256) (n1 := 1024) y)).trans ((at9 m c F t (y 0) (y 1)).trans ?_)
  unfold rowOf
  blk_point [iblk, V, idx t]

theorem sum_gainQ (u : Fin 1) (l : Fin 128) : (∑ p : Fin cfg0.N, (total (colsQ m c p) (ix2 u l) : EReal)) = Read.val_main_v184 (F := 𝕀) (A0 m c) (A2 m c) (A4 m c) (ix2 u l) := by
  obtain rfl := Subsingleton.elim u 0
  rw [ref_v184, ← sum_rows (fun r h => gainQ (A0 m c) (A2 m c) (A4 m c) r h l)]
  exact Fin.sum_fin_congr fun p => (total_at _ _).trans (Finset.sum_congr rfl fun h _ => colsQ_at m c F p h 0 l)

theorem sum_gainK (u : Fin 1) (l : Fin 128) : (∑ p : Fin cfg0.N, (total (colsK m c p) (ix2 u l) : EReal)) = Read.val_main_v185 (F := 𝕀) (A1 m c) (A3 m c) (ix2 u l) := by
  obtain rfl := Subsingleton.elim u 0
  rw [ref_v185, ← sum_rows (fun r h => gainK (A1 m c) (A3 m c) r h l)]
  exact Fin.sum_fin_congr fun p => (total_at _ _).trans (Finset.sum_congr rfl fun h _ => colsK_at m c F p h 0 l)

/-- The gradient of the gains of q. -/
theorem final10 : (dats m 0 c).arrAt 10 cfg0.N = Read.val_main_v184 (F := 𝕀) (A0 m c) (A2 m c) (A4 m c) := by
  refine (dats m 0 c).arrAt_eq_of_after_last 10 t0_7 (by decide +kernel) _ fun j => ?_
  blk_simp
  rw [after0_10, Pipeline.eq_sum_fin_of_reset_step_apply_last (f := fun n h => (outsAt0 m c n h).2.2.1) 8 (fun _ => 0)
    (fun t j => (total (colsQ m c t) (ix2 (j 0) (j 1)) : EReal))
    (fun t h j => by
      have hlt := lt8 t
      exact ((congrArg _ (eq_ix2 (n0 := 1) (n1 := 128) j)).trans (outs10_A m c t h (by omega) (j 0) (j 1))).trans (zero_add _).symm)
    (fun t h j => by
      have hlt := lt8 t
      exact ((congrArg _ (eq_ix2 (n0 := 1) (n1 := 128) j)).trans (outs10_B m c t h (by omega) (j 0) (j 1))).trans
        (congrArg (· + _) (congrArg _ (eq_ix2 (n0 := 1) (n1 := 128) j).symm))) (le_of_eq N_0) t0_7 rfl j, zero_add]
  exact (sum_gainQ m c F (j 0) (j 1)).trans (congrArg _ (eq_ix2 (n0 := 1) (n1 := 128) _).symm)

/-- The gradient of the gains of k. -/
theorem final11 : (dats m 0 c).arrAt 11 cfg0.N = Read.val_main_v185 (F := 𝕀) (A1 m c) (A3 m c) := by
  refine (dats m 0 c).arrAt_eq_of_after_last 11 t0_7 (by decide +kernel) _ fun j => ?_
  blk_simp
  rw [after0_11, Pipeline.eq_sum_fin_of_reset_step_apply_last (f := fun n h => (outsAt0 m c n h).2.2.2) 8 (fun _ => 0)
    (fun t j => (total (colsK m c t) (ix2 (j 0) (j 1)) : EReal))
    (fun t h j => by
      have hlt := lt8 t
      exact ((congrArg _ (eq_ix2 (n0 := 1) (n1 := 128) j)).trans (outs11_A m c t h (by omega) (j 0) (j 1))).trans (zero_add _).symm)
    (fun t h j => by
      have hlt := lt8 t
      exact ((congrArg _ (eq_ix2 (n0 := 1) (n1 := 128) j)).trans (outs11_B m c t h (by omega) (j 0) (j 1))).trans
        (congrArg (· + _) (congrArg _ (eq_ix2 (n0 := 1) (n1 := 128) j).symm))) (le_of_eq N_0) t0_7 rfl j, zero_add]
  exact (sum_gainK m c F (j 0) (j 1)).trans (congrArg _ (eq_ix2 (n0 := 1) (n1 := 128) _).symm)

end

end Cert.KernelQkIdeal.Value
-- ==== Proof.QkClaim.lean ====
/- Through the norms and the rotary embedding of the latent attention: the claims. -/
module

public import proofs.«01_k».proof.Defs
public import proofs.«01_k».proof.Proof.Qk
public import proofs.«01_k».proof.Proof.Gen.KernelQk.Frame
public import proofs.«01_k».proof.Proof.Gen.ReferenceQkIdeal.Run
public import proofs.«01_k».proof.Proof.Gen.Pre_finite_qk
public import proofs.«01_k».proof.Proof.Reads
public import Idealize.ShloMosaic.Lib.Quiescent

@[expose] public section

noncomputable section

namespace Cert.Proof.Qk

open Idealize.ShloMosaic Idealize.SL.Sem

/-- The reference runs and leaves its arguments. -/
theorem frame_reference : Cert.quiescent_ReferenceQkIdeal := fun m ρ _ =>
  (θ_run Cert.ReferenceQkIdeal.defs _ _).mono (fun r h => ⟨fun c => (h c).2.2.2.2, sem_eq_zero_of_no_sems (by decide) r.2⟩)
    (Cert.ReferenceQkIdeal.Value.run (F := Ideal) m ρ)

/-- What the precondition says of the kernel's arguments. -/
theorem real (m) (hpre : Cert.Pre_KernelQkIdeal_finite_qk m) (c : Dev Cert.KernelQkIdeal.nD) : Cert.KernelQkIdeal.Value.Real7 m c := by
  have h := congrFun (hpre c) (fun i => i.elim0)
  obtain ⟨h, h6⟩ := Reads.and_one _ _ _ h
  obtain ⟨h, h5⟩ := Reads.and_one _ _ _ h
  obtain ⟨h, h4⟩ := Reads.and_one _ _ _ h
  obtain ⟨h, h3⟩ := Reads.and_one _ _ _ h
  obtain ⟨h, h2⟩ := Reads.and_one _ _ _ h
  obtain ⟨h0, h1⟩ := Reads.and_one _ _ _ h
  exact ⟨fun k => Reads.real_of_all _ _ _ _ _ _ _ h0 k, fun k => Reads.real_of_all _ _ _ _ _ _ _ h1 k, fun k => Reads.real_of_all _ _ _ _ _ _ _ h2 k, fun k => Reads.real_of_all _ _ _ _ _ _ _ h3 k, fun k => Reads.real_of_all _ _ _ _ _ _ _ h4 k, fun k => Reads.real_of_all _ _ _ _ _ _ _ h5 k, fun k => Reads.real_of_all _ _ _ _ _ _ _ h6 k⟩

/-- The same of the reference where the precondition is assumed. -/
theorem frame_reference_pre : Cert.quiescent_ReferenceQkIdeal_pre_finite_qk := fun m ρ _ => frame_reference m ρ trivial

set_option maxHeartbeats 2000000 in
/-- Kernel and reference compute the same arrays. -/
theorem value : Cert.algebraic_KernelQkIdeal_ReferenceQkIdeal_pre_finite_qk := by
  intro m g m' g' hpre hagree
  refine ⟨_, _, _, _, Cert.KernelQkIdeal.Value.run_blocks (F := Ideal) m g, ?_⟩
  refine (θ_run Cert.ReferenceQkIdeal.defs _ _).mono (fun r h c => ?_)
    (Cert.ReferenceQkIdeal.Value.run (F := Ideal) m' g')
  obtain ⟨h0, h1, h2, h3, hargs⟩ := h c
  refine ⟨h0.trans ((Cert.ReferenceQkIdeal.Read.val_main_v186_eq ..).trans (by
        show Cert.ReferenceQkIdeal.Read.val_main_v186 (F := Ideal) (m' ((c.tc : Thread Cert.ReferenceQkIdeal.nD Cert.ReferenceQkIdeal.τ).loc Cert.ReferenceQkIdeal.main_arg0)) (m' ((c.tc : Thread Cert.ReferenceQkIdeal.nD Cert.ReferenceQkIdeal.τ).loc Cert.ReferenceQkIdeal.main_arg2)) (m' ((c.tc : Thread Cert.ReferenceQkIdeal.nD Cert.ReferenceQkIdeal.τ).loc Cert.ReferenceQkIdeal.main_arg4)) (m' ((c.tc : Thread Cert.ReferenceQkIdeal.nD Cert.ReferenceQkIdeal.τ).loc Cert.ReferenceQkIdeal.main_arg5)) (m' ((c.tc : Thread Cert.ReferenceQkIdeal.nD Cert.ReferenceQkIdeal.τ).loc Cert.ReferenceQkIdeal.main_arg6)) = _; rw [(hagree c).1, (hagree c).2.2.1, (hagree c).2.2.2.2.1, (hagree c).2.2.2.2.2.1, (hagree c).2.2.2.2.2.2.1]
        exact (Cert.KernelQkIdeal.Value.final8 m c (real m hpre c)).symm)),
    h1.trans ((Cert.ReferenceQkIdeal.Read.val_main_v187_eq ..).trans (by
        show Cert.ReferenceQkIdeal.Read.val_main_v187 (F := Ideal) (m' ((c.tc : Thread Cert.ReferenceQkIdeal.nD Cert.ReferenceQkIdeal.τ).loc Cert.ReferenceQkIdeal.main_arg1)) (m' ((c.tc : Thread Cert.ReferenceQkIdeal.nD Cert.ReferenceQkIdeal.τ).loc Cert.ReferenceQkIdeal.main_arg3)) (m' ((c.tc : Thread Cert.ReferenceQkIdeal.nD Cert.ReferenceQkIdeal.τ).loc Cert.ReferenceQkIdeal.main_arg7)) = _; rw [(hagree c).2.1, (hagree c).2.2.2.1, (hagree c).2.2.2.2.2.2.2]
        exact (Cert.KernelQkIdeal.Value.final9 m c (real m hpre c)).symm)),
    h2.trans ((Cert.ReferenceQkIdeal.Read.val_main_v184_eq ..).trans (by
        show Cert.ReferenceQkIdeal.Read.val_main_v184 (F := Ideal) (m' ((c.tc : Thread Cert.ReferenceQkIdeal.nD Cert.ReferenceQkIdeal.τ).loc Cert.ReferenceQkIdeal.main_arg0)) (m' ((c.tc : Thread Cert.ReferenceQkIdeal.nD Cert.ReferenceQkIdeal.τ).loc Cert.ReferenceQkIdeal.main_arg2)) (m' ((c.tc : Thread Cert.ReferenceQkIdeal.nD Cert.ReferenceQkIdeal.τ).loc Cert.ReferenceQkIdeal.main_arg4)) = _; rw [(hagree c).1, (hagree c).2.2.1, (hagree c).2.2.2.2.1]
        exact (Cert.KernelQkIdeal.Value.final10 m c (real m hpre c)).symm)),
    h3.trans ((Cert.ReferenceQkIdeal.Read.val_main_v185_eq ..).trans (by
        show Cert.ReferenceQkIdeal.Read.val_main_v185 (F := Ideal) (m' ((c.tc : Thread Cert.ReferenceQkIdeal.nD Cert.ReferenceQkIdeal.τ).loc Cert.ReferenceQkIdeal.main_arg1)) (m' ((c.tc : Thread Cert.ReferenceQkIdeal.nD Cert.ReferenceQkIdeal.τ).loc Cert.ReferenceQkIdeal.main_arg3)) = _; rw [(hagree c).2.1, (hagree c).2.2.2.1]
        exact (Cert.KernelQkIdeal.Value.final11 m c (real m hpre c)).symm)), hargs⟩

end Cert.Proof.Qk

end
-- ==== Proof.PreBody.lean ====
/- The body of the call, run once at a point of its grid: what it is handed is left as it was, and each of the six
   results' buffers holds what was stored in it last, over its whole extent. At the first point nothing of what
   the buffers held is read; at a later one the five accumulated results start from it. -/
module

public import proofs.«01_k».proof.Proof.Gen.KernelPreIdeal.Frame.Runs
public import Idealize.ShloMosaic.Lib.WritesUnit

@[expose] public section

set_option maxRecDepth 16384

noncomputable section

namespace Cert.KernelPreIdeal.Point

open Cert.KernelPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer that holds `X`, said of its cells. -/
def has (c : Dev nD) {sp : Space} {S : Shape} {e : EltTy} {M : Memref sig .tc sp S e} (h : M.IsWhole)
    (X : S.Idx → Elt F e) : sProp 𝕄 :=
  M.view.loc (c : Thread nD τ) ↦[M.view.set]{fullShare} h.unread X

theorem has_owns (c : Dev nD) {sp : Space} {S : Shape} {e : EltTy} {M : Memref sig .tc sp S e} (h : M.IsWhole)
    (X : S.Idx → Elt F e) : (has c h X : sProp 𝕄) ⊢ owns (c : Thread nD τ) M fullShare X := by
  unfold has owns
  iintro H
  iexists _
  isplitr
  · ipureintro; exact h.read_unread X
  iexact H

theorem owns_has (c : Dev nD) {sp : Space} {S : Shape} {e : EltTy} {M : Memref sig .tc sp S e} (h : M.IsWhole)
    (X : S.Idx → Elt F e) : (owns (c : Thread nD τ) M fullShare X : sProp 𝕄) ⊢ has c h X := by
  unfold has owns
  iintro ⟨%f, %hf, H⟩
  obtain rfl := h.eq_unread hf
  iexact H

/-- A buffer whose last store went over its whole extent holds what that store wrote. -/
theorem stored_owns (c : Dev nD) {sp : Space} {S : Shape} {e : EltTy} {M : Memref sig .tc sp S e}
    (f : M.view.ty.Contents (Elt F)) (off : Fin S.rank → ℕ) (inb : ∀ a, off a + S.size a ≤ S.size a)
    (X : S.Idx → Elt F e) (L : List (View.Piece (Elt F) S e)) (h : ∀ a, off a = 0) :
    ((M.view.loc (c : Thread nD τ) ↦[M.view.set]{fullShare}
        M.view.writes (Elt F) f (⟨Rect.unit off S.size inb, X⟩ :: L)) : sProp 𝕄)
      ⊢ owns (c : Thread nD τ) M fullShare X := by
  unfold owns
  iintro H
  iexists _
  isplitr
  · ipureintro
    exact funext fun y => View.read_writes_cons_unit_of_mem M.view f inb X L y y rfl fun a => by rw [h a, Nat.zero_add]
  iexact H

theorem zero2 : ∀ a : Fin 2, (![0, 0] : Fin 2 → ℕ) a = 0 := by decide

variable (m : (ℓ : Loc nD τ sig) → Buf (Elt F) ℓ) (c : Dev nD) (t : Fin cfg0.N)

/-- The operands' buffers at a point, each at its block. -/
def ins : sProp 𝕄 :=
  iprop(owns c (ms0_0 t) fullShare (iblk m c 0 t) ∗ owns c (ms0_1 t) fullShare (iblk m c 1 t) ∗ owns c (ms0_2 t)
    fullShare (iblk m c 2 t) ∗ owns c (ms0_3 t) fullShare (iblk m c 3 t) ∗ owns c (ms0_4 t) fullShare (iblk m c
    4 t) ∗ owns c (ms0_5 t) fullShare (iblk m c 5 t) ∗ owns c (ms0_6 t) fullShare (iblk m c 6 t) ∗ owns c (ms0_7
    t) fullShare (iblk m c 7 t) ∗ owns c (ms0_8 t) fullShare (iblk m c 8 t) ∗ owns c (ms0_9 t) fullShare (iblk m
    c 9 t) ∗ owns c (ms0_10 t) fullShare (iblk m c 10 t) ∗ owns c (ms0_11 t) fullShare (iblk m c 11 t) ∗ owns c
    (ms0_12 t) fullShare (iblk m c 12 t) ∗ owns c (ms0_13 t) fullShare (iblk m c 13 t) ∗ owns c (ms0_14 t)
    fullShare (iblk m c 14 t) ∗ owns c (ms0_15 t) fullShare (iblk m c 15 t) ∗ owns c (ms0_16 t) fullShare (iblk
    m c 16 t) ∗ owns c (ms0_17 t) fullShare (iblk m c 17 t))

/-- The same buffers, said of their cells. -/
def insAt : sProp 𝕄 :=
  iprop(has c (hs0_0 t) (iblk m c 0 t) ∗ has c (hs0_1 t) (iblk m c 1 t) ∗ has c (hs0_2 t) (iblk m c 2 t) ∗ has c
    (hs0_3 t) (iblk m c 3 t) ∗ has c (hs0_4 t) (iblk m c 4 t) ∗ has c (hs0_5 t) (iblk m c 5 t) ∗ has c (hs0_6 t)
    (iblk m c 6 t) ∗ has c (hs0_7 t) (iblk m c 7 t) ∗ has c (hs0_8 t) (iblk m c 8 t) ∗ has c (hs0_9 t) (iblk m c
    9 t) ∗ has c (hs0_10 t) (iblk m c 10 t) ∗ has c (hs0_11 t) (iblk m c 11 t) ∗ has c (hs0_12 t) (iblk m c 12
    t) ∗ has c (hs0_13 t) (iblk m c 13 t) ∗ has c (hs0_14 t) (iblk m c 14 t) ∗ has c (hs0_15 t) (iblk m c 15 t)
    ∗ has c (hs0_16 t) (iblk m c 16 t) ∗ has c (hs0_17 t) (iblk m c 17 t))

theorem ins_insAt : ins m c t ⊢ insAt m c t := by
  unfold ins insAt
  repeat' first | exact owns_has c _ _ | refine BIClass.sep_mono ?_ ?_

theorem insAt_ins : insAt m c t ⊢ ins m c t := by
  unfold ins insAt
  repeat' first | exact has_owns c _ _ | refine BIClass.sep_mono ?_ ?_

/-- What the six results' buffers hold at a point. -/
structure Held (F : FTy → Type) where
  dproj : Vec F S256x2432 .bf16
  dq : Vec F S1x512 .f32
  dkv : Vec F S1x256 .f32
  dgq : Vec F S1x128 .f32
  dgk : Vec F S1x128 .f32
  dgv : Vec F S1x128 .f32

/-- The results' buffers, holding `y`; and said of their cells. -/
def outs (y : Held F) : sProp 𝕄 :=
  iprop(owns c (ms0_18 t) fullShare y.dproj ∗ owns c (ms0_19 t) fullShare y.dq ∗ owns c (ms0_20 t) fullShare y.dkv ∗
    owns c (ms0_21 t) fullShare y.dgq ∗ owns c (ms0_22 t) fullShare y.dgk ∗ owns c (ms0_23 t) fullShare y.dgv)

def outsAt (y : Held F) : sProp 𝕄 :=
  iprop(has c (hs0_18 t) y.dproj ∗ has c (hs0_19 t) y.dq ∗ has c (hs0_20 t) y.dkv ∗ has c (hs0_21 t) y.dgq ∗ has c
    (hs0_22 t) y.dgk ∗ has c (hs0_23 t) y.dgv)

theorem outs_outsAt (y : Held F) : outs c t y ⊢ outsAt c t y := by
  unfold outs outsAt
  repeat' first | exact owns_has c _ _ | refine BIClass.sep_mono ?_ ?_

/-- The body, run at a point where the results' buffers hold `p`, leaves `y` in them. -/
def Leaves (p y : Held F) : Prop :=
  ∀ (E : Set ℕ) (K : PUnit → sProp 𝕄), iprop(ins m c t ∗ outs c t p ∗ (iprop(ins m c t ∗ outs c t y) -∗ K ⟨⟩))
    ⊢ wp frame (wpE (defs₀ (F := F)) Variants.none c none) E (bodyAt0 t) K

set_option maxHeartbeats 20000000 in
/-- What the first point leaves, whatever the results' buffers held. -/
def first (h0 : cond0_0 (grid0.coords t)) (h1 : ¬cond0_1 (grid0.coords t)) : { y : Held F // ∀ p, Leaves m c t p y } := by
  refine ⟨⟨?_, ?_, ?_, ?_, ?_, ?_⟩, ?run⟩
  case run =>
    intro p E K
    refine (BIClass.sep_mono (ins_insAt m c t) (BIClass.sep_mono (outs_outsAt c t _) .rfl)).trans ?_
    simp only [bodyAt0, cc0_proj_pre_bwd_eq_skeleton]
    unfold cc0_proj_pre_bwd_skel insAt outsAt has
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    iintro ⟨⟨H0, H1, H2, H3, H4, H5, H6, H7, H8, H9, H10, H11, H12, H13, H14, H15, H16, H17⟩, ⟨H18, H19, H20, H21, H22, H23⟩, Hk⟩
    sl_exec (disch := first | sl_exact h0 | sl_exact h1)
    sl_step
    iapply Hk
    isplitl [H0 H1 H2 H3 H4 H5 H6 H7 H8 H9 H10 H11 H12 H13 H14 H15 H16 H17]
    · iapply (insAt_ins m c t)
      unfold insAt has
      iframe
    unfold outs
    dsimp only
    isplitl [H18]
    · iapply (stored_owns c _ _ _ _ _ zero2); iexact H18
    isplitl [H19]
    · iapply (stored_owns c _ _ _ _ _ zero2); iexact H19
    isplitl [H20]
    · iapply (stored_owns c _ _ _ _ _ zero2); iexact H20
    isplitl [H21]
    · iapply (stored_owns c _ _ _ _ _ zero2); iexact H21
    isplitl [H22]
    · iapply (stored_owns c _ _ _ _ _ zero2); iexact H22
    iapply (stored_owns c _ _ _ _ _ zero2); iexact H23

set_option maxHeartbeats 20000000 in
/-- What a later point leaves: it depends on `p`, the widest result's buffer apart. -/
def later (h0 : ¬cond0_0 (grid0.coords t)) (h1 : cond0_1 (grid0.coords t)) (p : Held F) : { y : Held F // ∀ d, Leaves m c t { p with dproj := d } y } := by
  refine ⟨⟨?_, ?_, ?_, ?_, ?_, ?_⟩, ?run⟩
  case run =>
    intro d E K
    refine (BIClass.sep_mono (ins_insAt m c t) (BIClass.sep_mono (outs_outsAt c t _) .rfl)).trans ?_
    simp only [bodyAt0, cc0_proj_pre_bwd_eq_skeleton]
    unfold cc0_proj_pre_bwd_skel insAt outsAt has
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    iintro ⟨⟨H0, H1, H2, H3, H4, H5, H6, H7, H8, H9, H10, H11, H12, H13, H14, H15, H16, H17⟩, ⟨H18, H19, H20, H21, H22, H23⟩, Hk⟩
    sl_exec (disch := first | sl_exact h0 | sl_exact h1)
    sl_step
    iapply Hk
    isplitl [H0 H1 H2 H3 H4 H5 H6 H7 H8 H9 H10 H11 H12 H13 H14 H15 H16 H17]
    · iapply (insAt_ins m c t)
      unfold insAt has
      iframe
    unfold outs
    dsimp only
    isplitl [H18]
    · iapply (stored_owns c _ _ _ _ _ zero2); iexact H18
    isplitl [H19]
    · iapply (stored_owns c _ _ _ _ _ zero2); iexact H19
    isplitl [H20]
    · iapply (stored_owns c _ _ _ _ _ zero2); iexact H20
    isplitl [H21]
    · iapply (stored_owns c _ _ _ _ _ zero2); iexact H21
    isplitl [H22]
    · iapply (stored_owns c _ _ _ _ _ zero2); iexact H22
    iapply (stored_owns c _ _ _ _ _ zero2); iexact H23

end Cert.KernelPreIdeal.Point

end
-- ==== Proof.PreFrame.lean ====
/- The call run to its end: what each point of its grid leaves, one point from the one before, and from it that
   every argument is as launched and each result is what the points wrote back. -/
module

public import proofs.«01_k».proof.Defs
public import proofs.«01_k».proof.Proof.Gen.KernelPre
public import proofs.«01_k».proof.Proof.PreBody
public import Idealize.ShloMosaic.Lib.Claim

@[expose] public section

set_option maxRecDepth 16384

noncomputable section

namespace Cert.KernelPreIdeal.Point

open Cert.KernelPreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem at_first (h : 0 < cfg0.N) : cond0_0 (grid0.coords ⟨0, h⟩) ∧ ¬cond0_1 (grid0.coords ⟨0, h⟩) :=
  ⟨(hcond0_0 ⟨0, h⟩).2 rfl, fun h' => Nat.not_succ_le_zero 0 ((hcond0_1 ⟨0, h⟩).1 h')⟩

theorem at_later (n : ℕ) (h : n + 1 < cfg0.N) :
    ¬cond0_0 (grid0.coords ⟨n + 1, h⟩) ∧ cond0_1 (grid0.coords ⟨n + 1, h⟩) := by
  have h8 : n + 1 < 8 := h.trans_eq N_0
  refine ⟨fun h' => ?_, (hcond0_1 ⟨n + 1, h⟩).2 (Nat.le_add_left 1 n)⟩
  have := (hcond0_0 ⟨n + 1, h⟩).1 h'
  simp only at this
  omega

/-- What the results' buffers hold after each point. -/
def held : ∀ n, n < cfg0.N → Held F
  | 0, h => (first m c ⟨0, h⟩ (at_first h).1 (at_first h).2).1
  | n + 1, h => (later m c ⟨n + 1, h⟩ (at_later n h).1 (at_later n h).2 (held n (Nat.lt_of_succ_lt h))).1

/-- The call's proof data: an operand's buffer keeps its block, a result's holds what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (held m c t.val t.isLt).dproj
    | ⟨19, _⟩ => (held m c t.val t.isLt).dq
    | ⟨20, _⟩ => (held m c t.val t.isLt).dkv
    | ⟨21, _⟩ => (held m c t.val t.isLt).dgq
    | ⟨22, _⟩ => (held m c t.val t.isLt).dgk
    | ⟨23, _⟩ => (held m c t.val t.isLt).dgv
    | ⟨_ + 24, h⟩ => absurd h (Nat.not_lt.2 (Nat.le_add_left _ _))
  Φ _ := Pipeline.ΦA spec0 c
  q _ := fullShare
  owed _ := 0

theorem A_eq (w : Fin cfg0.W) : (dats m 0 c).A w = V m c (Pipeline.arrRef spec0 w) := by dsimp only [dats]

/-- Every window is stored in, or kept in place, at every point. -/
theorem live : ∀ (w : Fin cfg0.W) (t : Fin cfg0.N), cfg0.idle w (grid0.coords t) = false := by decide +kernel

theorem leaves_after (w : Fin cfg0.W) (t : Fin cfg0.N) : (dats m 0 c).leavesExact w t
    = owns (c : Thread nD τ) ((cfg0.win w).stage (cfg0.slots t w)) fullShare ((dats m 0 c).after w t) := by
  unfold Dat.leavesExact
  rw [live w t]

/-- A result's buffer that was not written back at the point before holds what that point left. -/
theorem before_carried (w : Fin cfg0.W) (hw : (cfg0.win w).isOut = true)
    (hc : ∀ (i : cfg0.grid.Coords) a, (cfg0.win w).clip i a = none) (n : ℕ) (h : n + 1 < cfg0.N)
    (hf : cfg0.fresh w (n + 1) = false) (d) :
    (dats m 0 c).before w ⟨n + 1, h⟩ d = (dats m 0 c).after w ⟨n, Nat.lt_of_succ_lt h⟩ := by
  rw [Dat.before_out_traj (dats m 0 c) w hw hc (fun t _ hi _ => absurd hi
    (by rw [show cfg0.idle w (cfg0.grid.coords t) = false from live w t]; exact Bool.false_ne_true)) (n + 1) ⟨n + 1, h⟩ rfl d,
    if_neg (by rw [hf]; exact Bool.false_ne_true)]
  rfl

/-- What the body at a point starts from, window by window, and what it ends in. -/
def pre (t : Fin cfg0.N) : sProp 𝕄 :=
  iprop((dats m 0 c).Φ t.castSucc ∗ (dats m 0 c).owesAt () t.castSucc ∗ (∃ d, owns (c : Thread nD τ) (ms0_0 t)
    fullShare ((dats m 0 c).before 0 t d)) ∗ (∃ d, owns (c : Thread nD τ) (ms0_1 t) fullShare ((dats m 0
    c).before 1 t d)) ∗ (∃ d, owns (c : Thread nD τ) (ms0_2 t) fullShare ((dats m 0 c).before 2 t d)) ∗ (∃ d,
    owns (c : Thread nD τ) (ms0_3 t) fullShare ((dats m 0 c).before 3 t d)) ∗ (∃ d, owns (c : Thread nD τ)
    (ms0_4 t) fullShare ((dats m 0 c).before 4 t d)) ∗ (∃ d, owns (c : Thread nD τ) (ms0_5 t) fullShare ((dats m
    0 c).before 5 t d)) ∗ (∃ d, owns (c : Thread nD τ) (ms0_6 t) fullShare ((dats m 0 c).before 6 t d)) ∗ (∃ d,
    owns (c : Thread nD τ) (ms0_7 t) fullShare ((dats m 0 c).before 7 t d)) ∗ (∃ d, owns (c : Thread nD τ)
    (ms0_8 t) fullShare ((dats m 0 c).before 8 t d)) ∗ (∃ d, owns (c : Thread nD τ) (ms0_9 t) fullShare ((dats m
    0 c).before 9 t d)) ∗ (∃ d, owns (c : Thread nD τ) (ms0_10 t) fullShare ((dats m 0 c).before 10 t d)) ∗ (∃
    d, owns (c : Thread nD τ) (ms0_11 t) fullShare ((dats m 0 c).before 11 t d)) ∗ (∃ d, owns (c : Thread nD τ)
    (ms0_12 t) fullShare ((dats m 0 c).before 12 t d)) ∗ (∃ d, owns (c : Thread nD τ) (ms0_13 t) fullShare
    ((dats m 0 c).before 13 t d)) ∗ (∃ d, owns (c : Thread nD τ) (ms0_14 t) fullShare ((dats m 0 c).before 14 t
    d)) ∗ (∃ d, owns (c : Thread nD τ) (ms0_15 t) fullShare ((dats m 0 c).before 15 t d)) ∗ (∃ d, owns (c :
    Thread nD τ) (ms0_16 t) fullShare ((dats m 0 c).before 16 t d)) ∗ (∃ d, owns (c : Thread nD τ) (ms0_17 t)
    fullShare ((dats m 0 c).before 17 t d)) ∗ (∃ d, owns (c : Thread nD τ) (ms0_18 t) fullShare ((dats m 0
    c).before 18 t d)) ∗ (∃ d, owns (c : Thread nD τ) (ms0_19 t) fullShare ((dats m 0 c).before 19 t d)) ∗ (∃ d,
    owns (c : Thread nD τ) (ms0_20 t) fullShare ((dats m 0 c).before 20 t d)) ∗ (∃ d, owns (c : Thread nD τ)
    (ms0_21 t) fullShare ((dats m 0 c).before 21 t d)) ∗ (∃ d, owns (c : Thread nD τ) (ms0_22 t) fullShare
    ((dats m 0 c).before 22 t d)) ∗ (∃ d, owns (c : Thread nD τ) (ms0_23 t) fullShare ((dats m 0 c).before 23 t
    d)))

def post (t : Fin cfg0.N) : sProp 𝕄 :=
  iprop((dats m 0 c).Φ t.succ ∗ (dats m 0 c).owesAt () t.succ ∗ (dats m 0 c).leavesExact 0 t ∗ (dats m 0
    c).leavesExact 1 t ∗ (dats m 0 c).leavesExact 2 t ∗ (dats m 0 c).leavesExact 3 t ∗ (dats m 0 c).leavesExact
    4 t ∗ (dats m 0 c).leavesExact 5 t ∗ (dats m 0 c).leavesExact 6 t ∗ (dats m 0 c).leavesExact 7 t ∗ (dats m 0
    c).leavesExact 8 t ∗ (dats m 0 c).leavesExact 9 t ∗ (dats m 0 c).leavesExact 10 t ∗ (dats m 0 c).leavesExact
    11 t ∗ (dats m 0 c).leavesExact 12 t ∗ (dats m 0 c).leavesExact 13 t ∗ (dats m 0 c).leavesExact 14 t ∗ (dats
    m 0 c).leavesExact 15 t ∗ (dats m 0 c).leavesExact 16 t ∗ (dats m 0 c).leavesExact 17 t ∗ (dats m 0
    c).leavesExact 18 t ∗ (dats m 0 c).leavesExact 19 t ∗ (dats m 0 c).leavesExact 20 t ∗ (dats m 0
    c).leavesExact 21 t ∗ (dats m 0 c).leavesExact 22 t ∗ (dats m 0 c).leavesExact 23 t)

set_option maxHeartbeats 4000000 in
theorem body (t : Fin cfg0.N) :
    pre m c t ⊢ wp frame (wpE (defs₀ (F := F)) Variants.none c none) Set.univ (bodyAt0 t) (fun _ => post m c t) := by
  unfold pre post
  simp only [before0_0_of m (dats m 0 c) (A_eq m c 0) (fun _ => by dsimp only [dats]), before0_1_of m (dats m 0 c) (A_eq
    m c 1) (fun _ => by dsimp only [dats]), before0_2_of m (dats m 0 c) (A_eq m c 2) (fun _ => by dsimp only
    [dats]), before0_3_of m (dats m 0 c) (A_eq m c 3) (fun _ => by dsimp only [dats]), before0_4_of m (dats m 0
    c) (A_eq m c 4) (fun _ => by dsimp only [dats]), before0_5_of m (dats m 0 c) (A_eq m c 5) (fun _ => by dsimp
    only [dats]), before0_6_of m (dats m 0 c) (A_eq m c 6) (fun _ => by dsimp only [dats]), before0_7_of m (dats
    m 0 c) (A_eq m c 7) (fun _ => by dsimp only [dats]), before0_8_of m (dats m 0 c) (A_eq m c 8) (fun _ => by
    dsimp only [dats]), before0_9_of m (dats m 0 c) (A_eq m c 9) (fun _ => by dsimp only [dats]), before0_10_of
    m (dats m 0 c) (A_eq m c 10) (fun _ => by dsimp only [dats]), before0_11_of m (dats m 0 c) (A_eq m c 11)
    (fun _ => by dsimp only [dats]), before0_12_of m (dats m 0 c) (A_eq m c 12) (fun _ => by dsimp only [dats]),
    before0_13_of m (dats m 0 c) (A_eq m c 13) (fun _ => by dsimp only [dats]), before0_14_of m (dats m 0 c)
    (A_eq m c 14) (fun _ => by dsimp only [dats]), before0_15_of m (dats m 0 c) (A_eq m c 15) (fun _ => by dsimp
    only [dats]), before0_16_of m (dats m 0 c) (A_eq m c 16) (fun _ => by dsimp only [dats]), before0_17_of m
    (dats m 0 c) (A_eq m c 17) (fun _ => by dsimp only [dats])]
  simp only [leaves_after]
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  obtain ⟨p, hp, hpo⟩ : ∃ p : Held F, Leaves m c t p (held m c t.val t.isLt) ∧
      (owns (c : Thread nD τ) (ms0_18 t) fullShare ((dats m 0 c).before 18 t d18) ∗ owns (c : Thread nD τ) (ms0_19 t) fullShare ((dats m 0 c).before 19 t d19) ∗ owns (c : Thread nD τ) (ms0_20 t) fullShare ((dats m 0 c).before 20 t d20) ∗ owns (c : Thread nD τ) (ms0_21 t) fullShare ((dats m 0 c).before 21 t d21) ∗ owns (c : Thread nD τ) (ms0_22 t) fullShare ((dats m 0 c).before 22 t d22) ∗ owns (c : Thread nD τ) (ms0_23 t) fullShare ((dats m 0 c).before 23 t d23)
        ⊢ outs c t p) := by
    obtain ⟨n, h⟩ := t
    cases n with
    | zero => exact ⟨⟨_, _, _, _, _, _⟩, (first m c ⟨0, h⟩ (at_first h).1 (at_first h).2).2 _, .rfl⟩
    | succ n =>
      refine ⟨_, (later m c ⟨n + 1, h⟩ (at_later n h).1 (at_later n h).2 (held m c n (Nat.lt_of_succ_lt h))).2
        ((dats m 0 c).before 18 ⟨n + 1, h⟩ d18), ?_⟩
      rw [before_carried m c 19 rfl (fun _ _ => rfl) n h (notFresh0_19_B _ (at_later n h).1 (at_later n h).2)]
      rw [before_carried m c 20 rfl (fun _ _ => rfl) n h (notFresh0_20_B _ (at_later n h).1 (at_later n h).2)]
      rw [before_carried m c 21 rfl (fun _ _ => rfl) n h (notFresh0_21_B _ (at_later n h).1 (at_later n h).2)]
      rw [before_carried m c 22 rfl (fun _ _ => rfl) n h (notFresh0_22_B _ (at_later n h).1 (at_later n h).2)]
      rw [before_carried m c 23 rfl (fun _ _ => rfl) n h (notFresh0_23_B _ (at_later n h).1 (at_later n h).2)]
      unfold outs
      dsimp only [dats]
      iintro H
      iexact H
  iapply (hp Set.univ _)
  isplitl [H0 H1 H2 H3 H4 H5 H6 H7 H8 H9 H10 H11 H12 H13 H14 H15 H16 H17]
  · unfold ins; iframe
  isplitl [H18 H19 H20 H21 H22 H23]
  · iapply hpo; iframe
  unfold ins outs
  iintro ⟨⟨H0, H1, H2, H3, H4, H5, H6, H7, H8, H9, H10, H11, H12, H13, H14, H15, H16, H17⟩, ⟨H18, H19, H20, H21, H22, H23⟩⟩
  dsimp only [dats]
  iframe

set_option maxHeartbeats 4000000 in
theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body m c t) rfl .rfl fun _ => .rfl

-- the implicit arguments are found in the conclusion
set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The results' and the arguments' arrays after the run, without the counters. -/
theorem run_main : θ_run defs (onTc (τ := τ) (main (F := F))) (s₀ m ρ) (Pipeline.FramePost cfgs (dats m) 0 (V m)) :=
  (θ_run defs _ _).mono (fun _ h => h.1) (run m ρ)

theorem counters : θ_run defs (onTc (τ := τ) (main (F := F))) (s₀ m ρ) (fun r => r.2.sem = fun _ => 0) :=
  (θ_run defs _ _).mono (fun _ h => h.2) (run m ρ)

/-- The call runs and leaves its arguments. -/
theorem frame_ideal : Cert.quiescent_KernelPreIdeal := fun m ρ _ =>
  θ_run_and (frame_of m ρ (dats m) (A_eq m) (run_main m ρ)) (counters m ρ)

/-- The same of the kernel as it is. -/
theorem frame_kernel : Cert.quiescent_KernelPre := fun m ρ _ => by
  have h := θ_run_and (frame_of (F := Bits) m ρ (dats m) (A_eq m) (run_main (F := Bits) m ρ)) (counters (F := Bits) m ρ)
  exact cast (by sl_kernel_rfl) h

end Cert.KernelPreIdeal.Point

end
-- ==== Proof.PreBase.lean ====
/- The latents' projections and norms: plain functions of the arguments. -/
module

public import proofs.«01_k».proof.Proof.Reals
public import Idealize.ShloMosaic.Lib.Pipeline.ValueKit

@[expose] public section

set_option maxRecDepth 16384

noncomputable section

open Idealize.ShloMosaic Idealize.ShloMosaic.TcCoe Idealize.SL.Sem

local notation "𝕀" => Idealize.ShloMosaic.Ideal

namespace Cert.Pre

open Cert.Reals

theorem ofBits_512 : Ideal.ofBits .f32 0x44000000#32 = ((512 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

/-- The mean of squares of a row's lanes, plus the constant. -/
def gvar (c : ℝ) {n : ℕ} (x : Fin n → EReal) : EReal := Ideal.div (∑ k, x k * x k) (c : EReal) + Ideal.ofBits .f32 0x358637BD#32

/-- The lanes, normalised. -/
def gn (c : ℝ) {n : ℕ} (x : Fin n → EReal) (l : Fin n) : EReal := x l * Ideal.rsqrt (gvar c x)

section
variable (x6 : FVec 𝕀 ⟨2, ![2048, 2336]⟩ .f32)

/-- The latents, as the projection's row has them. -/
def qlat (r : Fin 2048) (k : Fin 512) : EReal := x6 (ix2 r ⟨k.val, by omega⟩)
def kvlat (r : Fin 2048) (k : Fin 256) : EReal := x6 (ix2 r ⟨512 + k.val, by omega⟩)

end

section
variable (x0 : FVec 𝕀 ⟨2, ![2048, 768]⟩ .f32) (x1 : FVec 𝕀 ⟨2, ![2048, 1024]⟩ .f32) (x8 : FVec 𝕀 ⟨2, ![512, 768]⟩ .f32) (x9 : FVec 𝕀 ⟨2, ![256, 1024]⟩ .f32)

/-- The cotangents of the normalised latents. -/
def dql (r : Fin 2048) (k : Fin 512) : EReal := ∑ j : Fin 768, x0 (ix2 r j) * x8 (ix2 k j)
def dkvl (r : Fin 2048) (k : Fin 256) : EReal := ∑ j : Fin 1024, x1 (ix2 r j) * x9 (ix2 k j)

end

/-- Eight heads of 96, each among 128 places with zeros behind. -/
def padh (f : Fin 768 → EReal) (j : Fin 1024) : EReal := if h : j.val % 128 < 96 then f ⟨j.val / 128 * 96 + j.val % 128, by omega⟩ else 0

theorem sum_padh (f g : Fin 768 → EReal) : ∑ j, padh f j * padh g j = ∑ k, f k * g k := by
  rw [Fin.sum_univ_tiles 8 128 (by norm_num), Fin.sum_univ_tiles 8 96 (by norm_num) (fun k => f k * g k)]
  refine Finset.sum_congr rfl fun h _ => ?_
  rw [Fin.sum_univ_two_halves 96 32 (by norm_num)]
  refine (congrArg₂ (· + ·) (Finset.sum_congr rfl fun k _ => ?_) (Finset.sum_eq_zero fun k _ => ?_)).trans (add_zero _)
  · unfold padh
    have hh := h.isLt
    have hk := k.isLt
    rw [dif_pos (by dsimp only; omega), dif_pos (by dsimp only; omega)]
    have e : ∀ p q, (⟨(h.val * 128 + k.val) / 128 * 96 + (h.val * 128 + k.val) % 128, p⟩ : Fin 768) = ⟨h.val * 96 + k.val, q⟩ :=
      fun p q => Fin.ext (by dsimp only; omega)
    exact congrArg (fun k => f k * g k) (e _ _)
  · unfold padh
    have hh := h.isLt
    have hk := k.isLt
    rw [dif_neg (by dsimp only; omega), zero_mul]

end Cert.Pre
-- ==== Proof.PreHost.lean ====
/- The call through the latents, the shared key and the dilated heads: what the host lines hand it of the latents. -/
module

public import proofs.«01_k».proof.Proof.Gen.KernelPreIdeal.Frame.Runs
public import proofs.«01_k».proof.Proof.PreBase
public import proofs.«01_k».proof.Proof.Lay
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelPreIdeal.Value

open Cert.KernelPreIdeal Cert.KernelPreIdeal.Gen Cert.Pre

variable (m : (ℓ : Loc nD τ sig) → Buf (Elt 𝕀) ℓ) (c : Dev nD)

abbrev A0 : FVec 𝕀 S2048x768 .f32 := m ((c : Thread nD τ).loc main_arg0)
abbrev A1 : FVec 𝕀 S2048x1024 .f32 := m ((c : Thread nD τ).loc main_arg1)
abbrev A6 : FVec 𝕀 S2048x2336 .f32 := m ((c : Thread nD τ).loc main_arg6)
abbrev A8 : FVec 𝕀 S512x768 .f32 := m ((c : Thread nD τ).loc main_arg8)
abbrev A9 : FVec 𝕀 S256x1024 .f32 := m ((c : Thread nD τ).loc main_arg9)

/-- The host lines up to the layout of the projection, and those behind them. -/
abbrev lineA : List (HloOp τ sig (Elt 𝕀)) := List.flatten [hostOps0, hostOps0_1, hostOps0_2]
abbrev lineB : List (HloOp τ sig (Elt 𝕀)) := List.flatten [hostOps0_3, hostOps0_4, hostOps0_5, hostOps0_6]

def UA : Valuation τ sig (Elt 𝕀) := StableHlo.after lineA fun b => m (c, b)

theorem V_eq (b : Ref sig .tc) : V m c b = StableHlo.after lineB (UA m c) b := by
  unfold UA
  rw [← StableHlo.after_append]
  rfl

/-- Picking a padded lane. -/
theorem padh_pick (f : Fin 768 → EReal) (j : Fin 1024) {z : EReal} (hz : z = 0) :
    (if H : j.val / 128 < 8 ∧ j.val % 128 < 96 then f ⟨j.val / 128 * 96 + j.val % 128, by omega⟩ else z) = padh f j := by
  unfold padh
  by_cases c : j.val % 128 < 96
  · rw [dif_pos (by omega), dif_pos c]
  · rw [dif_neg (by omega), dif_neg c, hz]

theorem sitofp_zero : (FloatOps.sitofp (F := 𝕀) .f32 (0#32 : BitVec 32) : EReal) = 0 := by
  simp [FloatOps.sitofp]

theorem sitofp_zero16 : (FloatOps.sitofp (F := 𝕀) .bf16 (0#32 : BitVec 32) : EReal) = 0 := by
  simp [FloatOps.sitofp]

theorem h10 (r : Fin 2048) (j : Fin 1024) : ((V m c main_v10 : FVec 𝕀 S2048x1024 .bf16) (ix2 r j) : EReal) = padh (fun k => A0 m c (ix2 r k)) j := by
  rw [V_eq]
  after_reads_simp
  unfold UA
  after_reads_simp
  simp only [StableHlo.TRef.toBuf, StableHlo.TRef.ofBuf, StableHlo.TRef.of, cast_eq]
  pointwise []
  exact padh_pick (fun k => A0 m c (ix2 r k)) j sitofp_zero

theorem h15 (j : Fin 1024) (k : Fin 512) : ((V m c main_v15 : FVec 𝕀 S1024x512 .bf16) (ix2 j k) : EReal) = padh (fun i => A8 m c (ix2 k i)) j := by
  rw [V_eq]
  after_reads_simp
  unfold UA
  after_reads_simp
  simp only [StableHlo.TRef.toBuf, StableHlo.TRef.ofBuf, StableHlo.TRef.of, cast_eq]
  pointwise []
  exact padh_pick (fun i => A8 m c (ix2 k i)) j sitofp_zero16

theorem h25 (r : Fin 2048) (j : Fin 1024) : ((V m c main_v25 : FVec 𝕀 S2048x1024 .bf16) (ix2 r j) : EReal) = A1 m c (ix2 r j) := by
  rw [V_eq]
  after_reads_simp
  unfold UA
  after_reads_simp
  pointwise []

theorem h69 (k : Fin 256) (j : Fin 1024) : ((V m c main_v69 : FVec 𝕀 S256x1024 .bf16) (ix2 k j) : EReal) = A9 m c (ix2 k j) := by
  rw [V_eq]
  after_reads_simp
  unfold UA
  after_reads_simp
  pointwise []

theorem h23 (r : Fin 2048) (k : Fin 2432) : ((V m c main_v23 : FVec 𝕀 S2048x2432 .f32) (ix2 r k) : EReal) = Lay.lay (fun k => A6 m c (ix2 r k)) k := by
  rw [V_eq]
  after_reads_simp
  pointwise []
  after_reads_simp
  pointwise []
  unfold UA
  after_reads_simp
  rfl

end Cert.KernelPreIdeal.Value
-- ==== Proof.PreLatRef.lean ====
/- The latents' projections and norms: what the reference's arrays hold. -/
module

public import proofs.«01_k».proof.Proof.Gen.ReferencePreIdeal.Read
public import proofs.«01_k».proof.Proof.PreBase
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

local notation "𝕀" => Idealize.ShloMosaic.Ideal

namespace Cert.ReferencePreIdeal

open Cert.ReferencePreIdeal Cert.ReferencePreIdeal.Gen Cert.Reals Cert.Pre

variable (x0 : FVec 𝕀 S2048x768 .f32) (x1 : FVec 𝕀 S2048x1024 .f32) (x6 : FVec 𝕀 S2048x2336 .f32) (x8 : FVec 𝕀 S512x768 .f32) (x9 : FVec 𝕀 S256x1024 .f32)

theorem ref_v0 (r : Fin 2048) (k : Fin 512) : Read.val_main_v0 (F := 𝕀) x6 (ix2 r k) = qlat x6 r k := by
  pointwise [Read.val_main_v0, qlat]

theorem ref_v1 (r : Fin 2048) (k : Fin 256) : Read.val_main_v1 (F := 𝕀) x6 (ix2 r k) = kvlat x6 r k := by
  pointwise [Read.val_main_v1, kvlat]

theorem ref_v8 (r : Fin 2048) (u : Fin 1) : Read.val_main_v8 (F := 𝕀) x6 (ix2 r u) = gvar 512 (qlat x6 r) := by
  pointwise [Read.val_main_v2, Read.val_main_v3, Read.val_main_v4, Read.val_main_v5, Read.val_main_v6, Read.val_main_v7, Read.val_main_v8, Read.val_main_cst, Read.val_main_cst_0, Read.val_main_cst_1, gvar]
  simp only [ref_v0, ofBits_512]

theorem ref_v21 (r : Fin 2048) (u : Fin 1) : Read.val_main_v21 (F := 𝕀) x6 (ix2 r u) = gvar 256 (kvlat x6 r) := by
  pointwise [Read.val_main_v15, Read.val_main_v16, Read.val_main_v17, Read.val_main_v18, Read.val_main_v19, Read.val_main_v20, Read.val_main_v21, Read.val_main_cst_2, Read.val_main_cst_3, Read.val_main_cst_4, gvar]
  simp only [ref_v1, ofBits_256]

theorem ref_v11 (r : Fin 2048) (k : Fin 512) : Read.val_main_v11 (F := 𝕀) x6 (ix2 r k) = gn 512 (qlat x6 r) k := by
  pointwise [Read.val_main_v11, Read.val_main_v10, Read.val_main_v9, gn]
  simp only [ref_v0, ref_v8]

theorem ref_v24 (r : Fin 2048) (k : Fin 256) : Read.val_main_v24 (F := 𝕀) x6 (ix2 r k) = gn 256 (kvlat x6 r) k := by
  pointwise [Read.val_main_v24, Read.val_main_v23, Read.val_main_v22, gn]
  simp only [ref_v1, ref_v21]

theorem ref_v32 (r : Fin 2048) (k : Fin 512) : Read.val_main_v32 (F := 𝕀) x0 x8 (ix2 r k) = dql x0 x8 r k := by
  pointwise [Read.val_main_v32, dql]

theorem ref_v28 (r : Fin 2048) (k : Fin 256) : Read.val_main_v28 (F := 𝕀) x1 x9 (ix2 r k) = dkvl x1 x9 r k := by
  pointwise [Read.val_main_v28, dkvl]

theorem ref_v35 (u : Fin 1) (k : Fin 512) : Read.val_main_v35 (F := 𝕀) x0 x6 x8 (ix2 u k) = ∑ r, dql x0 x8 r k * gn 512 (qlat x6 r) k := by
  pointwise [Read.val_main_v35, Read.val_main_v34, Read.val_main_v33, Read.val_main_cst_6]
  simp only [ref_v11, ref_v32]
  exact Finset.sum_congr rfl fun _ _ => mul_comm _ _

theorem ref_v31 (u : Fin 1) (k : Fin 256) : Read.val_main_v31 (F := 𝕀) x1 x6 x9 (ix2 u k) = ∑ r, dkvl x1 x9 r k * gn 256 (kvlat x6 r) k := by
  pointwise [Read.val_main_v31, Read.val_main_v30, Read.val_main_v29, Read.val_main_cst_5]
  simp only [ref_v24, ref_v28]
  exact Finset.sum_congr rfl fun _ _ => mul_comm _ _

end Cert.ReferencePreIdeal
-- ==== Proof.Pre.lean ====
/- The call through the latents, the shared key and the dilated heads: what the run leaves in the gradients of the
   latents' two gains. -/
module

public import proofs.«01_k».proof.Proof.PreFrame
public import proofs.«01_k».proof.Proof.PreHost
public import proofs.«01_k».proof.Proof.PreLatRef
public import Idealize.ShloMosaic.Lib.Pipeline.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

local notation "𝕀" => Idealize.ShloMosaic.Ideal

namespace Cert.KernelPreIdeal.Value

open Cert.KernelPreIdeal Cert.KernelPreIdeal.Gen Cert.KernelPreIdeal.Point Cert.Reals Cert.Pre Cert.ReferencePreIdeal

variable (m : (ℓ : Loc nD τ sig) → Buf (Elt 𝕀) ℓ) (c : Dev nD) (t : Fin cfg0.N)

/-- One point's parts of the two gradients. -/
def partQ : FVec 𝕀 S1x512 .f32 := k0_pay26 (k0_pay8 (iblk m c 0 t)) (k0_pay11 (iblk m c 6 t)) (k0_pay16 (iblk m c 11 t))
def partKV : FVec 𝕀 S1x256 .f32 :=
  k0_pay32 (k0_pay31 (k0_pay9 (iblk m c 1 t)) (k0_pay11 (iblk m c 6 t)) (k0_pay17 (iblk m c 12 t)))

/-- The first point stores its parts; a later one adds them to what it finds. -/
theorem first_lat (h0 h1) : (first m c t h0 h1).1.dq = partQ m c t ∧ (first m c t h0 h1).1.dkv = partKV m c t := by
  unfold first
  simp (disch := decide) only [first.sl.r_8, first.sl.r_12, first.sl.r_13, first.sl.v1, first.sl.v3, first.sl.v10, first.sl.v20,
    first.sl.v22, View.ld_unit_lit', View.readAt_eq_ld, Memref.IsWhole.read_unread]
  exact ⟨rfl, rfl⟩

theorem later_lat (h0 h1) (p : Held 𝕀) :
    (later m c t h0 h1 p).1.dq = k0_pay3 (partQ m c t) p.dq ∧ (later m c t h0 h1 p).1.dkv = k0_pay4 (partKV m c t) p.dkv := by
  unfold later
  simp (disch := decide) only [later.sl.r_8, later.sl.r_12, later.sl.r_13, later.sl.v1, later.sl.v3, later.sl.v10, later.sl.v20,
    later.sl.v22, View.ld_unit_lit', View.readAt_eq_ld, Memref.IsWhole.read_unread]
  exact ⟨rfl, rfl⟩

theorem idx : ∀ t : Fin cfg0.N, win0_0.index t = ![t.val, 0] ∧ win0_1.index t = ![t.val, 0] ∧ win0_6.index t = ![t.val, 0]
    ∧ win0_11.index t = ![0, 0] ∧ win0_12.index t = ![0, 0] :=
  (by decide +kernel : ∀ t : Fin grid0.N, _)

theorem lt8 (t : Fin cfg0.N) : t.val < 8 := lt_of_lt_of_eq t.isLt N_0

/-- Row `r` of the `t`-th block of 256 rows. -/
def row (t : Fin cfg0.N) (r : Fin 256) : Fin 2048 := ⟨t.val * 256 + r.val, by have := lt8 t; omega⟩

theorem blk0 (r : Fin 256) (j : Fin 1024) : (iblk m c 0 t (ix2 r j) : EReal) = padh (fun k => A0 m c (ix2 (row t r) k)) j := by
  rw [← h10]; unfold row; blk_point [iblk, idx t]

theorem blk1 (r : Fin 256) (j : Fin 1024) : (iblk m c 1 t (ix2 r j) : EReal) = A1 m c (ix2 (row t r) j) := by
  rw [← h25]; unfold row; blk_point [iblk, idx t]

theorem blk6 (r : Fin 256) (k : Fin 2432) : (iblk m c 6 t (ix2 r k) : EReal) = Lay.lay (fun k => A6 m c (ix2 (row t r) k)) k := by
  rw [← h23]; unfold row; blk_point [iblk, idx t]

theorem blk11 (j : Fin 1024) (k : Fin 512) : (iblk m c 11 t (ix2 j k) : EReal) = padh (fun i => A8 m c (ix2 k i)) j := by
  rw [← h15]; blk_point [iblk, idx t]

theorem blk12 (k : Fin 256) (j : Fin 1024) : (iblk m c 12 t (ix2 k j) : EReal) = A9 m c (ix2 k j) := by
  rw [← h69]; blk_point [iblk, idx t]

theorem pay21_at (r : Fin 256) (k : Fin 512) :
    (k0_pay21 (F := 𝕀) (k0_pay8 (iblk m c 0 t)) (k0_pay16 (iblk m c 11 t)) (ix2 r k) : EReal) = dql (A0 m c) (A8 m c) (row t r) k := by
  pointwise [k0_pay21, k0_pay8, k0_pay16, dql]
  simp only [blk0, blk11]
  exact sum_padh _ _

theorem pay22_at (r : Fin 256) (k : Fin 256) :
    (k0_pay22 (F := 𝕀) (k0_pay9 (iblk m c 1 t)) (k0_pay17 (iblk m c 12 t)) (ix2 r k) : EReal) = dkvl (A1 m c) (A9 m c) (row t r) k := by
  pointwise [k0_pay22, k0_pay9, k0_pay17, dkvl]
  simp only [blk1, blk12]

/-- The latents stand in front of the projection's laid out row. -/
theorem pay23_at (r : Fin 256) (k : Fin 512) : (k0_pay23 (F := 𝕀) (k0_pay11 (iblk m c 6 t)) (ix2 r k) : EReal) = qlat (A6 m c) (row t r) k := by
  pointwise [k0_pay23, k0_pay11]
  rw [blk6]
  unfold Lay.lay qlat
  rw [dif_pos (by dsimp only; omega)]

theorem pay28_at (r : Fin 256) (k : Fin 256) : (k0_pay28 (F := 𝕀) (k0_pay11 (iblk m c 6 t)) (ix2 r k) : EReal) = kvlat (A6 m c) (row t r) k := by
  pointwise [k0_pay28, k0_pay11]
  rw [blk6]
  unfold Lay.lay kvlat
  rw [dif_pos (by dsimp only; omega)]

theorem pay24_at (r : Fin 256) (u : Fin 1) :
    (k0_pay24 (F := 𝕀) (k0_pay11 (iblk m c 6 t)) (ix2 r u) : EReal) = Ideal.rsqrt (gvar 512 (qlat (A6 m c) (row t r))) := by
  pointwise [k0_pay24, gvar]
  simp only [pay23_at, ofBits_512]

theorem pay29_at (r : Fin 256) (u : Fin 1) :
    (k0_pay29 (F := 𝕀) (k0_pay11 (iblk m c 6 t)) (ix2 r u) : EReal) = Ideal.rsqrt (gvar 256 (kvlat (A6 m c) (row t r))) := by
  pointwise [k0_pay29, gvar]
  simp only [pay28_at, ofBits_256]

theorem partQ_at (u : Fin 1) (k : Fin 512) : (partQ m c t (ix2 u k) : EReal)
    = ∑ r : Fin 256, dql (A0 m c) (A8 m c) (row t r) k * gn 512 (qlat (A6 m c) (row t r)) k := by
  unfold partQ
  pointwise [k0_pay26, k0_pay25, gn]
  simp only [pay21_at, pay23_at, pay24_at]

theorem partKV_at (u : Fin 1) (k : Fin 256) : (partKV m c t (ix2 u k) : EReal)
    = ∑ r : Fin 256, dkvl (A1 m c) (A9 m c) (row t r) k * gn 256 (kvlat (A6 m c) (row t r)) k := by
  unfold partKV
  pointwise [k0_pay32, k0_pay31, k0_pay30, gn]
  simp only [pay22_at, pay28_at, pay29_at]

/-- Summing the blocks' row sums is summing all rows. -/
theorem sum_rows (f : Fin 2048 → EReal) : (∑ t : Fin cfg0.N, ∑ r : Fin 256, f (row t r)) = ∑ r : Fin 2048, f r :=
  Fin.sum_mul_add_congr (S := 8) (n := 256) (L := 2048) fun t r hl => by rfl

theorem held_first (h : t.val % 8 = 0) : (held m c t.val t.isLt).dq = partQ m c t ∧ (held m c t.val t.isLt).dkv = partKV m c t := by
  have hlt := lt8 t
  obtain ⟨n, hn⟩ := t
  obtain rfl : n = 0 := by dsimp only at h hlt; omega
  exact first_lat m c ⟨0, hn⟩ _ _

theorem held_later (n : ℕ) (h : n + 1 < cfg0.N) : (held m c (n + 1) h).dq = k0_pay3 (partQ m c ⟨n + 1, h⟩) (held m c n (Nat.lt_of_succ_lt h)).dq
    ∧ (held m c (n + 1) h).dkv = k0_pay4 (partKV m c ⟨n + 1, h⟩) (held m c n (Nat.lt_of_succ_lt h)).dkv :=
  later_lat m c ⟨n + 1, h⟩ _ _ _

theorem held_step (h : ¬t.val % 8 = 0) :
    (held m c t.val t.isLt).dq = k0_pay3 (partQ m c t) (held m c (t.val - 1) (Nat.lt_of_le_of_lt (Nat.sub_le _ _) t.isLt)).dq
    ∧ (held m c t.val t.isLt).dkv = k0_pay4 (partKV m c t) (held m c (t.val - 1) (Nat.lt_of_le_of_lt (Nat.sub_le _ _) t.isLt)).dkv := by
  obtain ⟨n, hn⟩ := t
  cases n with
  | zero => exact absurd rfl h
  | succ n => exact held_later m c n hn

theorem final19 : (dats m 0 c).arrAt 19 cfg0.N = Read.val_main_v35 (F := 𝕀) (A0 m c) (A6 m c) (A8 m c) := by
  refine (dats m 0 c).arrAt_eq_of_after_last 19 t0_7 (by decide +kernel) _ fun j => ?_
  blk_simp
  rw [show (dats m 0 c).after 19 t0_7 = (held m c t0_7.val t0_7.isLt).dq by dsimp only [dats],
    Pipeline.eq_sum_fin_of_reset_step_apply_last (f := fun n h => (held m c n h).dq) 8 (fun _ => 0) (fun t j => partQ m c t j)
      (fun t h j => (congrFun (held_first m c t h).1 j).trans (zero_add _).symm)
      (fun t h j => (congrFun (held_step m c t h).1 j).trans (by pointwise [k0_pay3]))
      (le_of_eq N_0) t0_7 rfl j, zero_add]
  refine Eq.trans (Fin.sum_fin_congr fun p => (congrArg _ (eq_ix2 (n0 := 1) (n1 := 512) j)).trans (partQ_at m c p (j 0) (j 1))) ?_
  exact (sum_rows _).trans ((congrArg _ (eq_ix2 (n0 := 1) (n1 := 512) _)).trans (ref_v35 _ _ _ _ _)).symm

theorem final20 : (dats m 0 c).arrAt 20 cfg0.N = Read.val_main_v31 (F := 𝕀) (A1 m c) (A6 m c) (A9 m c) := by
  refine (dats m 0 c).arrAt_eq_of_after_last 20 t0_7 (by decide +kernel) _ fun j => ?_
  blk_simp
  rw [show (dats m 0 c).after 20 t0_7 = (held m c t0_7.val t0_7.isLt).dkv by dsimp only [dats],
    Pipeline.eq_sum_fin_of_reset_step_apply_last (f := fun n h => (held m c n h).dkv) 8 (fun _ => 0) (fun t j => partKV m c t j)
      (fun t h j => (congrFun (held_first m c t h).2 j).trans (zero_add _).symm)
      (fun t h j => (congrFun (held_step m c t h).2 j).trans (by pointwise [k0_pay4]))
      (le_of_eq N_0) t0_7 rfl j, zero_add]
  refine Eq.trans (Fin.sum_fin_congr fun p => (congrArg _ (eq_ix2 (n0 := 1) (n1 := 256) j)).trans (partKV_at m c p (j 0) (j 1))) ?_
  exact (sum_rows _).trans ((congrArg _ (eq_ix2 (n0 := 1) (n1 := 256) _)).trans (ref_v31 _ _ _ _ _)).symm

end Cert.KernelPreIdeal.Value

end
-- ==== Proof.PreClaim.lean ====
/- The call through the latents, the shared key and the dilated heads: two of its six results. Kernel and reference compute the same gradients of the latents' gains. -/
module

public import proofs.«01_k».proof.Defs
public import proofs.«01_k».proof.Proof.Pre
public import proofs.«01_k».proof.Proof.Gen.KernelPre
public import proofs.«01_k».proof.Proof.Gen.ReferencePreIdeal.Run
public import Idealize.ShloMosaic.Lib.Quiescent

@[expose] public section

noncomputable section

namespace Cert.Proof.Pre

open Idealize.ShloMosaic Idealize.SL.Sem

/-- The reference runs and leaves its arguments. -/
theorem frame_reference : Cert.quiescent_ReferencePreIdeal := fun m ρ _ =>
  (θ_run Cert.ReferencePreIdeal.defs _ _).mono (fun r h => ⟨fun c => (h c).2.2, sem_eq_zero_of_no_sems (by decide) r.2⟩)
    (Cert.ReferencePreIdeal.Value.run (F := Ideal) m ρ)

set_option maxHeartbeats 2000000 in
/-- Kernel and reference compute the same arrays. -/
theorem value : Cert.algebraic_KernelPreIdeal_ReferencePreIdeal := by
  intro m g m' g' _ hagree
  refine ⟨fun c => (Cert.KernelPreIdeal.Point.dats m 0 c).arrAt 19 Cert.KernelPreIdeal.cfg0.N,
    fun c => (Cert.KernelPreIdeal.Point.dats m 0 c).arrAt 20 Cert.KernelPreIdeal.cfg0.N, ?_, ?_⟩
  · have h := Cert.KernelPreIdeal.Point.run_main (F := Ideal) m g
    exact (θ_run _ _ _).mono (fun r h c => ⟨(h.1 c).1 19, (h.1 c).1 20, h.2 c⟩)
      (θ_run_and h (Cert.KernelPreIdeal.Gen.frame_of m g _ (Cert.KernelPreIdeal.Point.A_eq m) h))
  refine (θ_run Cert.ReferencePreIdeal.defs _ _).mono (fun r h c => ?_)
    (Cert.ReferencePreIdeal.Value.run (F := Ideal) m' g')
  obtain ⟨h0, h1, hargs⟩ := h c
  refine ⟨h0.trans ((Cert.ReferencePreIdeal.Read.val_main_v35_eq ..).trans (by
        show Cert.ReferencePreIdeal.Read.val_main_v35 (F := Ideal) (m' ((c.tc : Thread Cert.ReferencePreIdeal.nD Cert.ReferencePreIdeal.τ).loc Cert.ReferencePreIdeal.main_arg0)) (m' ((c.tc : Thread Cert.ReferencePreIdeal.nD Cert.ReferencePreIdeal.τ).loc Cert.ReferencePreIdeal.main_arg6)) (m' ((c.tc : Thread Cert.ReferencePreIdeal.nD Cert.ReferencePreIdeal.τ).loc Cert.ReferencePreIdeal.main_arg8)) = _
        rw [(hagree c).1, (hagree c).2.2.2.2.2.2.1, (hagree c).2.2.2.2.2.2.2.2.1]
        exact (Cert.KernelPreIdeal.Value.final19 m c).symm)),
    h1.trans ((Cert.ReferencePreIdeal.Read.val_main_v31_eq ..).trans (by
        show Cert.ReferencePreIdeal.Read.val_main_v31 (F := Ideal) (m' ((c.tc : Thread Cert.ReferencePreIdeal.nD Cert.ReferencePreIdeal.τ).loc Cert.ReferencePreIdeal.main_arg1)) (m' ((c.tc : Thread Cert.ReferencePreIdeal.nD Cert.ReferencePreIdeal.τ).loc Cert.ReferencePreIdeal.main_arg6)) (m' ((c.tc : Thread Cert.ReferencePreIdeal.nD Cert.ReferencePreIdeal.τ).loc Cert.ReferencePreIdeal.main_arg9)) = _
        rw [(hagree c).2.1, (hagree c).2.2.2.2.2.2.1, (hagree c).2.2.2.2.2.2.2.2.2.1]
        exact (Cert.KernelPreIdeal.Value.final20 m c).symm)), hargs⟩

end Cert.Proof.Pre

end
-- ==== Proof.lean ====
/- The claims of the statement, one call after the other: for each call the frames of the kernel, of the ideal kernel and of
   the reference, that the ideal kernel is the kernel, and that kernel and reference compute the same arrays. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.LossClaim
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.InClaim
public import proofs.«01_k».proof.Proof.Gen.KernelMid
public import proofs.«01_k».proof.Proof.Gen.KernelMid.Frame
public import proofs.«01_k».proof.Proof.Gen.KernelMidIdeal
public import proofs.«01_k».proof.Proof.Gen.KernelMidIdeal.Frame
public import proofs.«01_k».proof.Proof.Gen.ReferenceMidIdeal
public import proofs.«01_k».proof.Proof.MidClaim
public import proofs.«01_k».proof.Proof.Gen.KernelMla
public import proofs.«01_k».proof.Proof.Gen.KernelMla.Frame
public import proofs.«01_k».proof.Proof.Gen.KernelMlaIdeal
public import proofs.«01_k».proof.Proof.Gen.KernelMlaIdeal.Frame
public import proofs.«01_k».proof.Proof.Gen.ReferenceMlaIdeal
public import proofs.«01_k».proof.Proof.MlaClaim
public import proofs.«01_k».proof.Proof.Gen.Pre_finite_mla
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.ReferenceFfnIdeal
public import proofs.«01_k».proof.Proof.FfnClaim
public import proofs.«01_k».proof.Proof.Gen.Pre_finite_ffn
public import proofs.«01_k».proof.Proof.Gen.KernelQk
public import proofs.«01_k».proof.Proof.Gen.KernelQk.Frame
public import proofs.«01_k».proof.Proof.Gen.KernelQkIdeal
public import proofs.«01_k».proof.Proof.Gen.KernelQkIdeal.Frame
public import proofs.«01_k».proof.Proof.Gen.ReferenceQkIdeal
public import proofs.«01_k».proof.Proof.QkClaim
public import proofs.«01_k».proof.Proof.Gen.Pre_finite_qk
public import proofs.«01_k».proof.Proof.Gen.KernelPre
public import proofs.«01_k».proof.Proof.Gen.KernelPreIdeal
public import proofs.«01_k».proof.Proof.Gen.ReferencePreIdeal
public import proofs.«01_k».proof.Proof.PreClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.KernelIn.Gen.facts,
  Cert.KernelInIdeal.Gen.facts,
  Cert.ReferenceInIdeal.Gen.facts,
  Cert.KernelMid.Gen.facts,
  Cert.KernelMidIdeal.Gen.facts,
  Cert.ReferenceMidIdeal.Gen.facts,
  Cert.KernelMla.Gen.facts,
  Cert.KernelMlaIdeal.Gen.facts,
  Cert.ReferenceMlaIdeal.Gen.facts,
  Cert.KernelFfn.Gen.facts,
  Cert.KernelFfnIdeal.Gen.facts,
  Cert.ReferenceFfnIdeal.Gen.facts,
  Cert.KernelQk.Gen.facts,
  Cert.KernelQkIdeal.Gen.facts,
  Cert.ReferenceQkIdeal.Gen.facts,
  Cert.KernelPre.Gen.facts,
  Cert.KernelPreIdeal.Gen.facts,
  Cert.ReferencePreIdeal.Gen.facts,
  Cert.Pre_finite_mla.Gen.facts,
  Cert.Pre_finite_ffn.Gen.facts,
  Cert.Pre_finite_qk.Gen.facts,
  fun m ρ _ => Cert.Kernel.Gen.frame m ρ, fun m ρ _ => Cert.KernelIdeal.Gen.frame m ρ, Loss.frame_reference,
  fun m ρ _ => Cert.KernelIn.Gen.frame m ρ, fun m ρ _ => Cert.KernelInIdeal.Gen.frame m ρ, In.frame_reference,
  fun m ρ _ => Cert.KernelMid.Gen.frame m ρ, fun m ρ _ => Cert.KernelMidIdeal.Gen.frame m ρ, Mid.frame_reference,
  fun m ρ _ => Cert.KernelMla.Gen.frame m ρ, fun m ρ _ => Cert.KernelMlaIdeal.Gen.frame m ρ, fun m ρ _ => Cert.KernelMlaIdeal.Gen.frame m ρ, Mla.frame_reference, Mla.frame_reference_pre,
  fun m ρ _ => Cert.KernelFfn.Gen.frame m ρ, fun m ρ _ => Cert.KernelFfnIdeal.Gen.frame m ρ, fun m ρ _ => Cert.KernelFfnIdeal.Gen.frame m ρ, Ffn.frame_reference, Ffn.frame_reference_pre,
  fun m ρ _ => Cert.KernelQk.Gen.frame m ρ, fun m ρ _ => Cert.KernelQkIdeal.Gen.frame m ρ, fun m ρ _ => Cert.KernelQkIdeal.Gen.frame m ρ, Qk.frame_reference, Qk.frame_reference_pre,
  Cert.KernelPreIdeal.Point.frame_kernel, Cert.KernelPreIdeal.Point.frame_ideal, Pre.frame_reference,
  trivial, Loss.value,
  trivial, In.value,
  trivial, Mid.value,
  IdealRules.named_const.statement Cert.KernelMlaIdeal.κ "mask" .f32 0xF149F2CA#32 ⊥ rfl, Mla.value,
  trivial, Ffn.value,
  trivial, Qk.value,
  trivial, Pre.value⟩

end Cert.Proof

end
